-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)) →
    ∃ (v0 : (c : Dev Cert.KernelIdeal.nD) → Buf (Elt Ideal) ((c.tc : Thread Cert.KernelIdeal.nD Cert.KernelIdeal.τ).loc Cert.KernelIdeal.main_v180_0)) (v1 : (c : Dev Cert.KernelIdeal.nD) → Buf (Elt Ideal) ((c.tc : Thread Cert.KernelIdeal.nD Cert.KernelIdeal.τ).loc Cert.KernelIdeal.main_v180_1)) (v2 : (c : Dev Cert.KernelIdeal.nD) → Buf (Elt Ideal) ((c.tc : Thread Cert.KernelIdeal.nD Cert.KernelIdeal.τ).loc Cert.KernelIdeal.main_v182)) (v3 : (c : Dev Cert.KernelIdeal.nD) → Buf (Elt Ideal) ((c.tc : Thread Cert.KernelIdeal.nD Cert.KernelIdeal.τ).loc Cert.KernelIdeal.main_v45_2)) (v4 : (c : Dev Cert.KernelIdeal.nD) → Buf (Elt Ideal) ((c.tc : Thread Cert.KernelIdeal.nD Cert.KernelIdeal.τ).loc Cert.KernelIdeal.main_v184)) (v5 : (c : Dev Cert.KernelIdeal.nD) → Buf (Elt Ideal) ((c.tc : Thread Cert.KernelIdeal.nD Cert.KernelIdeal.τ).loc Cert.KernelIdeal.main_v45_1)) (v6 : (c : Dev Cert.KernelIdeal.nD) → Buf (Elt Ideal) ((c.tc : Thread Cert.KernelIdeal.nD Cert.KernelIdeal.τ).loc Cert.KernelIdeal.main_v186)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v180_0) = v0 c
          ∧ r.2.mem ((c.tc : Thread Cert.KernelIdeal.nD Cert.KernelIdeal.τ).loc Cert.KernelIdeal.main_v180_1) = v1 c
          ∧ r.2.mem ((c.tc : Thread Cert.KernelIdeal.nD Cert.KernelIdeal.τ).loc Cert.KernelIdeal.main_v182) = v2 c
          ∧ r.2.mem ((c.tc : Thread Cert.KernelIdeal.nD Cert.KernelIdeal.τ).loc Cert.KernelIdeal.main_v45_2) = v3 c
          ∧ r.2.mem ((c.tc : Thread Cert.KernelIdeal.nD Cert.KernelIdeal.τ).loc Cert.KernelIdeal.main_v184) = v4 c
          ∧ r.2.mem ((c.tc : Thread Cert.KernelIdeal.nD Cert.KernelIdeal.τ).loc Cert.KernelIdeal.main_v45_1) = v5 c
          ∧ r.2.mem ((c.tc : Thread Cert.KernelIdeal.nD Cert.KernelIdeal.τ).loc Cert.KernelIdeal.main_v186) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1_0) = v0 c
          ∧ r.2.mem ((c.tc : Thread Cert.ReferenceIdeal.nD Cert.ReferenceIdeal.τ).loc Cert.ReferenceIdeal.main_v1_1) = v1 c
          ∧ r.2.mem ((c.tc : Thread Cert.ReferenceIdeal.nD Cert.ReferenceIdeal.τ).loc Cert.ReferenceIdeal.main_v3) = v2 c
          ∧ r.2.mem ((c.tc : Thread Cert.ReferenceIdeal.nD Cert.ReferenceIdeal.τ).loc Cert.ReferenceIdeal.main_v1_2) = v3 c
          ∧ r.2.mem ((c.tc : Thread Cert.ReferenceIdeal.nD Cert.ReferenceIdeal.τ).loc Cert.ReferenceIdeal.main_v5) = v4 c
          ∧ r.2.mem ((c.tc : Thread Cert.ReferenceIdeal.nD Cert.ReferenceIdeal.τ).loc Cert.ReferenceIdeal.main_v1_3) = v5 c
          ∧ r.2.mem ((c.tc : Thread Cert.ReferenceIdeal.nD Cert.ReferenceIdeal.τ).loc Cert.ReferenceIdeal.main_v7) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x2048x768 : Shape := ⟨3, ![24, 2048, 768]⟩
abbrev S5 : Shape := ⟨1, ![5]⟩
abbrev S4 : Shape := ⟨1, ![4]⟩
abbrev S4x2x768x3072 : Shape := ⟨4, ![4, 2, 768, 3072]⟩
abbrev S4x3072 : Shape := ⟨2, ![4, 3072]⟩
abbrev S4x1536x768 : Shape := ⟨3, ![4, 1536, 768]⟩
abbrev S4x768 : Shape := ⟨2, ![4, 768]⟩
abbrev S4x1536x512 : Shape := ⟨3, ![4, 1536, 512]⟩
abbrev S4x512 : Shape := ⟨2, ![4, 512]⟩
abbrev S24x7x80 : Shape := ⟨3, ![24, 7, 80]⟩
abbrev S_ : Shape := ⟨0, ![]⟩
abbrev S4x80x3072 : Shape := ⟨3, ![4, 80, 3072]⟩
abbrev S24x16x80 : Shape := ⟨3, ![24, 16, 80]⟩
abbrev S24x1x768 : Shape := ⟨3, ![24, 1, 768]⟩
abbrev S24x2047x768 : Shape := ⟨3, ![24, 2047, 768]⟩
abbrev S1 : Shape := ⟨1, ![1]⟩
abbrev S3 : Shape := ⟨1, ![3]⟩
abbrev S1x80x3072 : Shape := ⟨3, ![1, 80, 3072]⟩
abbrev S80x3072 : Shape := ⟨2, ![80, 3072]⟩
abbrev S1x2x768x3072 : Shape := ⟨4, ![1, 2, 768, 3072]⟩
abbrev S2x768x3072 : Shape := ⟨3, ![2, 768, 3072]⟩
abbrev S1x1536x768 : Shape := ⟨3, ![1, 1536, 768]⟩
abbrev S1536x768 : Shape := ⟨2, ![1536, 768]⟩
abbrev S1x1536x512 : Shape := ⟨3, ![1, 1536, 512]⟩
abbrev S1536x512 : Shape := ⟨2, ![1536, 512]⟩
abbrev S1x3072 : Shape := ⟨2, ![1, 3072]⟩
abbrev S3072 : Shape := ⟨1, ![3072]⟩
abbrev S1x768 : Shape := ⟨2, ![1, 768]⟩
abbrev S768 : Shape := ⟨1, ![768]⟩
abbrev S1x512 : Shape := ⟨2, ![1, 512]⟩
abbrev S512 : Shape := ⟨1, ![512]⟩
abbrev S24x2048x512 : Shape := ⟨3, ![24, 2048, 512]⟩
abbrev S24x2048x1536 : Shape := ⟨3, ![24, 2048, 1536]⟩
abbrev S1x256x768 : Shape := ⟨3, ![1, 256, 768]⟩
abbrev S1x16x80 : Shape := ⟨3, ![1, 16, 80]⟩
abbrev S1x256x512 : Shape := ⟨3, ![1, 256, 512]⟩
abbrev S1x256x1536 : Shape := ⟨3, ![1, 256, 1536]⟩
abbrev S256x1536 : Shape := ⟨2, ![256, 1536]⟩
abbrev S16x3072 : Shape := ⟨2, ![16, 3072]⟩
abbrev S16x80 : Shape := ⟨2, ![16, 80]⟩
abbrev S256x256 : Shape := ⟨2, ![256, 256]⟩
abbrev S256x768 : Shape := ⟨2, ![256, 768]⟩
abbrev S1x768x256 : Shape := ⟨3, ![1, 768, 256]⟩
abbrev S768x256 : Shape := ⟨2, ![768, 256]⟩
abbrev S1x256 : Shape := ⟨2, ![1, 256]⟩
abbrev S1x256x256 : Shape := ⟨3, ![1, 256, 256]⟩
abbrev S1536x256 : Shape := ⟨2, ![1536, 256]⟩
abbrev S24x4x768 : Shape := ⟨3, ![24, 4, 768]⟩
abbrev S24x2044x768 : Shape := ⟨3, ![24, 2044, 768]⟩
abbrev S24x16x768 : Shape := ⟨3, ![24, 16, 768]⟩
abbrev S24x2032x768 : Shape := ⟨3, ![24, 2032, 768]⟩
abbrev S24x64x768 : Shape := ⟨3, ![24, 64, 768]⟩
abbrev S24x1984x768 : Shape := ⟨3, ![24, 1984, 768]⟩

abbrev nBuf : Space → Nat
  | .hbm => 214
  | .vmem => 100
  | .smem => 4
  | _ => 0

abbrev hbmTy0_0 (i : Nat) : BufTy := match i % 128 with
  | 0 => ⟨S24x2048x768, .i8⟩
  | 1 => ⟨S5, .f32⟩
  | 2 => ⟨S4, .f32⟩
  | 3 => ⟨S4x2x768x3072, .i8⟩
  | 4 => ⟨S4x3072, .f32⟩
  | 5 => ⟨S4x3072, .f32⟩
  | 6 => ⟨S4x1536x768, .i8⟩
  | 7 => ⟨S4x768, .f32⟩
  | 8 => ⟨S4x768, .f32⟩
  | 9 => ⟨S4x1536x512, .i8⟩
  | 10 => ⟨S4x512, .f32⟩
  | 11 => ⟨S4x512, .f32⟩
  | 12 => ⟨S24x7x80, .i8⟩
  | 13 => ⟨S_, .f32⟩
  | 14 => ⟨S4x80x3072, .i8⟩
  | 15 => ⟨S4x3072, .f32⟩
  | 16 => ⟨S_, .i32⟩
  | 17 => ⟨S_, .i8⟩
  | 18 => ⟨S24x16x80, .i8⟩
  | 19 => ⟨S_, .i8⟩
  | 20 => ⟨S24x1x768, .i8⟩
  | 21 => ⟨S24x2047x768, .i8⟩
  | 22 => ⟨S24x2048x768, .i8⟩
  | 23 => ⟨S1, .f32⟩
  | 24 => ⟨S_, .f32⟩
  | 25 => ⟨S1, .f32⟩
  | 26 => ⟨S_, .f32⟩
  | 27 => ⟨S1, .f32⟩
  | 28 => ⟨S_, .f32⟩
  | 29 => ⟨S1, .f32⟩
  | 30 => ⟨S1, .f32⟩
  | 31 => ⟨S1, .f32⟩
  | 32 => ⟨S3, .f32⟩
  | 33 => ⟨S1x80x3072, .i8⟩
  | 34 => ⟨S80x3072, .i8⟩
  | 35 => ⟨S1x2x768x3072, .i8⟩
  | 36 => ⟨S2x768x3072, .i8⟩
  | 37 => ⟨S1x1536x768, .i8⟩
  | 38 => ⟨S1536x768, .i8⟩
  | 39 => ⟨S1x1536x512, .i8⟩
  | 40 => ⟨S1536x512, .i8⟩
  | 41 => ⟨S1x3072, .f32⟩
  | 42 => ⟨S3072, .f32⟩
  | 43 => ⟨S1x3072, .f32⟩
  | 44 => ⟨S1x3072, .f32⟩
  | 45 => ⟨S3072, .f32⟩
  | 46 => ⟨S1x3072, .f32⟩
  | 47 => ⟨S1x3072, .f32⟩
  | 48 => ⟨S3072, .f32⟩
  | 49 => ⟨S3072, .f32⟩
  | 50 => ⟨S3072, .f32⟩
  | 51 => ⟨S1x3072, .f32⟩
  | 52 => ⟨S1x768, .f32⟩
  | 53 => ⟨S768, .f32⟩
  | 54 => ⟨S1x768, .f32⟩
  | 55 => ⟨S1x768, .f32⟩
  | 56 => ⟨S768, .f32⟩
  | 57 => ⟨S1x768, .f32⟩
  | 58 => ⟨S1x512, .f32⟩
  | 59 => ⟨S512, .f32⟩
  | 60 => ⟨S1x512, .f32⟩
  | 61 => ⟨S1x512, .f32⟩
  | 62 => ⟨S512, .f32⟩
  | 63 => ⟨S1x512, .f32⟩
  | 64 => ⟨S24x2048x512, .f32⟩
  | 65 => ⟨S24x2048x768, .i8⟩
  | 66 => ⟨S24x2048x1536, .i8⟩
  | 67 => ⟨S_, .i8⟩
  | 68 => ⟨S24x4x768, .i8⟩
  | 69 => ⟨S24x2044x768, .i8⟩
  | 70 => ⟨S24x2048x768, .i8⟩
  | 71 => ⟨S1, .f32⟩
  | 72 => ⟨S_, .f32⟩
  | 73 => ⟨S1, .f32⟩
  | 74 => ⟨S_, .f32⟩
  | 75 => ⟨S1, .f32⟩
  | 76 => ⟨S_, .f32⟩
  | 77 => ⟨S1, .f32⟩
  | 78 => ⟨S1, .f32⟩
  | 79 => ⟨S1, .f32⟩
  | 80 => ⟨S3, .f32⟩
  | 81 => ⟨S1x80x3072, .i8⟩
  | 82 => ⟨S80x3072, .i8⟩
  | 83 => ⟨S1x2x768x3072, .i8⟩
  | 84 => ⟨S2x768x3072, .i8⟩
  | 85 => ⟨S1x1536x768, .i8⟩
  | 86 => ⟨S1536x768, .i8⟩
  | 87 => ⟨S1x1536x512, .i8⟩
  | 88 => ⟨S1536x512, .i8⟩
  | 89 => ⟨S1x3072, .f32⟩
  | 90 => ⟨S3072, .f32⟩
  | 91 => ⟨S1x3072, .f32⟩
  | 92 => ⟨S1x3072, .f32⟩
  | 93 => ⟨S3072, .f32⟩
  | 94 => ⟨S1x3072, .f32⟩
  | 95 => ⟨S1x3072, .f32⟩
  | 96 => ⟨S3072, .f32⟩
  | 97 => ⟨S3072, .f32⟩
  | 98 => ⟨S3072, .f32⟩
  | 99 => ⟨S1x3072, .f32⟩
  | 100 => ⟨S1x768, .f32⟩
  | 101 => ⟨S768, .f32⟩
  | 102 => ⟨S1x768, .f32⟩
  | 103 => ⟨S1x768, .f32⟩
  | 104 => ⟨S768, .f32⟩
  | 105 => ⟨S1x768, .f32⟩
  | 106 => ⟨S1x512, .f32⟩
  | 107 => ⟨S512, .f32⟩
  | 108 => ⟨S1x512, .f32⟩
  | 109 => ⟨S1x512, .f32⟩
  | 110 => ⟨S512, .f32⟩
  | 111 => ⟨S1x512, .f32⟩
  | 112 => ⟨S24x2048x512, .f32⟩
  | 113 => ⟨S24x2048x768, .i8⟩
  | 114 => ⟨S_, .i8⟩
  | 115 => ⟨S24x16x768, .i8⟩
  | 116 => ⟨S24x2032x768, .i8⟩
  | 117 => ⟨S24x2048x768, .i8⟩
  | 118 => ⟨S1, .f32⟩
  | 119 => ⟨S_, .f32⟩
  | 120 => ⟨S1, .f32⟩
  | 121 => ⟨S_, .f32⟩
  | 122 => ⟨S1, .f32⟩
  | 123 => ⟨S_, .f32⟩
  | 124 => ⟨S1, .f32⟩
  | 125 => ⟨S1, .f32⟩
  | 126 => ⟨S1, .f32⟩
  | 127 => ⟨S3, .f32⟩
  | _ => ⟨S24x2048x768, .i8⟩

abbrev hbmTy0_1 (i : Nat) : BufTy := match i % 128 with
  | 0 => ⟨S1x80x3072, .i8⟩
  | 1 => ⟨S80x3072, .i8⟩
  | 2 => ⟨S1x2x768x3072, .i8⟩
  | 3 => ⟨S2x768x3072, .i8⟩
  | 4 => ⟨S1x1536x768, .i8⟩
  | 5 => ⟨S1536x768, .i8⟩
  | 6 => ⟨S1x1536x512, .i8⟩
  | 7 => ⟨S1536x512, .i8⟩
  | 8 => ⟨S1x3072, .f32⟩
  | 9 => ⟨S3072, .f32⟩
  | 10 => ⟨S1x3072, .f32⟩
  | 11 => ⟨S1x3072, .f32⟩
  | 12 => ⟨S3072, .f32⟩
  | 13 => ⟨S1x3072, .f32⟩
  | 14 => ⟨S1x3072, .f32⟩
  | 15 => ⟨S3072, .f32⟩
  | 16 => ⟨S3072, .f32⟩
  | 17 => ⟨S3072, .f32⟩
  | 18 => ⟨S1x3072, .f32⟩
  | 19 => ⟨S1x768, .f32⟩
  | 20 => ⟨S768, .f32⟩
  | 21 => ⟨S1x768, .f32⟩
  | 22 => ⟨S1x768, .f32⟩
  | 23 => ⟨S768, .f32⟩
  | 24 => ⟨S1x768, .f32⟩
  | 25 => ⟨S1x512, .f32⟩
  | 26 => ⟨S512, .f32⟩
  | 27 => ⟨S1x512, .f32⟩
  | 28 => ⟨S1x512, .f32⟩
  | 29 => ⟨S512, .f32⟩
  | 30 => ⟨S1x512, .f32⟩
  | 31 => ⟨S24x2048x512, .f32⟩
  | 32 => ⟨S24x2048x768, .i8⟩
  | 33 => ⟨S_, .i8⟩
  | 34 => ⟨S24x64x768, .i8⟩
  | 35 => ⟨S24x1984x768, .i8⟩
  | 36 => ⟨S24x2048x768, .i8⟩
  | 37 => ⟨S1, .f32⟩
  | 38 => ⟨S_, .f32⟩
  | 39 => ⟨S1, .f32⟩
  | 40 => ⟨S_, .f32⟩
  | 41 => ⟨S1, .f32⟩
  | 42 => ⟨S_, .f32⟩
  | 43 => ⟨S1, .f32⟩
  | 44 => ⟨S1, .f32⟩
  | 45 => ⟨S1, .f32⟩
  | 46 => ⟨S3, .f32⟩
  | 47 => ⟨S1x80x3072, .i8⟩
  | 48 => ⟨S80x3072, .i8⟩
  | 49 => ⟨S1x2x768x3072, .i8⟩
  | 50 => ⟨S2x768x3072, .i8⟩
  | 51 => ⟨S1x1536x768, .i8⟩
  | 52 => ⟨S1536x768, .i8⟩
  | 53 => ⟨S1x1536x512, .i8⟩
  | 54 => ⟨S1536x512, .i8⟩
  | 55 => ⟨S1x3072, .f32⟩
  | 56 => ⟨S3072, .f32⟩
  | 57 => ⟨S1x3072, .f32⟩
  | 58 => ⟨S1x3072, .f32⟩
  | 59 => ⟨S3072, .f32⟩
  | 60 => ⟨S1x3072, .f32⟩
  | 61 => ⟨S1x3072, .f32⟩
  | 62 => ⟨S3072, .f32⟩
  | 63 => ⟨S3072, .f32⟩
  | 64 => ⟨S3072, .f32⟩
  | 65 => ⟨S1x3072, .f32⟩
  | 66 => ⟨S1x768, .f32⟩
  | 67 => ⟨S768, .f32⟩
  | 68 => ⟨S1x768, .f32⟩
  | 69 => ⟨S1x768, .f32⟩
  | 70 => ⟨S768, .f32⟩
  | 71 => ⟨S1x768, .f32⟩
  | 72 => ⟨S1x512, .f32⟩
  | 73 => ⟨S512, .f32⟩
  | 74 => ⟨S1x512, .f32⟩
  | 75 => ⟨S1x512, .f32⟩
  | 76 => ⟨S512, .f32⟩
  | 77 => ⟨S1x512, .f32⟩
  | 78 => ⟨S24x2048x512, .f32⟩
  | 79 => ⟨S24x2048x768, .i8⟩
  | 80 => ⟨S1, .f32⟩
  | 81 => ⟨S_, .f32⟩
  | 82 => ⟨S1, .f32⟩
  | 83 => ⟨S_, .f32⟩
  | 84 => ⟨S1, .f32⟩
  | 85 => ⟨S_, .f32⟩
  | _ => ⟨S24x2048x768, .i8⟩

abbrev hbmTy (i : Nat) : BufTy := match i / 128 with
  | 0 => hbmTy0_0 i
  | 1 => hbmTy0_1 i
  | _ => ⟨S24x2048x768, .i8⟩

abbrev bufTy : (tb : Table) → Fin (tcTables nBuf tb) → BufTy
  | .hbm, ⟨i, _⟩ => hbmTy i
  | .local _ .vmem, ⟨0, _⟩ => ⟨S1x256x768, .i8⟩
  | .local _ .vmem, ⟨1, _⟩ => ⟨S1x256x768, .i8⟩
  | .local _ .vmem, ⟨2, _⟩ => ⟨S1x256x768, .i8⟩
  | .local _ .vmem, ⟨3, _⟩ => ⟨S1x256x768, .i8⟩
  | .local _ .vmem, ⟨4, _⟩ => ⟨S1x16x80, .i8⟩
  | .local _ .vmem, ⟨5, _⟩ => ⟨S1x16x80, .i8⟩
  | .local _ .vmem, ⟨6, _⟩ => ⟨S80x3072, .i8⟩
  | .local _ .vmem, ⟨7, _⟩ => ⟨S2x768x3072, .i8⟩
  | .local _ .vmem, ⟨8, _⟩ => ⟨S1536x768, .i8⟩
  | .local _ .vmem, ⟨9, _⟩ => ⟨S1536x512, .i8⟩
  | .local _ .vmem, ⟨10, _⟩ => ⟨S1x3072, .f32⟩
  | .local _ .vmem, ⟨11, _⟩ => ⟨S1x3072, .f32⟩
  | .local _ .vmem, ⟨12, _⟩ => ⟨S1x3072, .f32⟩
  | .local _ .vmem, ⟨13, _⟩ => ⟨S1x768, .f32⟩
  | .local _ .vmem, ⟨14, _⟩ => ⟨S1x768, .f32⟩
  | .local _ .vmem, ⟨15, _⟩ => ⟨S1x512, .f32⟩
  | .local _ .vmem, ⟨16, _⟩ => ⟨S1x512, .f32⟩
  | .local _ .vmem, ⟨17, _⟩ => ⟨S1x256x512, .f32⟩
  | .local _ .vmem, ⟨18, _⟩ => ⟨S1x256x512, .f32⟩
  | .local _ .vmem, ⟨19, _⟩ => ⟨S1x256x768, .i8⟩
  | .local _ .vmem, ⟨20, _⟩ => ⟨S1x256x768, .i8⟩
  | .local _ .vmem, ⟨21, _⟩ => ⟨S1x256x1536, .i8⟩
  | .local _ .vmem, ⟨22, _⟩ => ⟨S1x256x1536, .i8⟩
  | .local _ .vmem, ⟨23, _⟩ => ⟨S256x1536, .bf16⟩
  | .local _ .vmem, ⟨24, _⟩ => ⟨S16x3072, .f32⟩
  | .local _ .vmem, ⟨25, _⟩ => ⟨S1x256x768, .i8⟩
  | .local _ .vmem, ⟨26, _⟩ => ⟨S1x256x768, .i8⟩
  | .local _ .vmem, ⟨27, _⟩ => ⟨S1x256x768, .i8⟩
  | .local _ .vmem, ⟨28, _⟩ => ⟨S1x256x768, .i8⟩
  | .local _ .vmem, ⟨29, _⟩ => ⟨S1x16x80, .i8⟩
  | .local _ .vmem, ⟨30, _⟩ => ⟨S1x16x80, .i8⟩
  | .local _ .vmem, ⟨31, _⟩ => ⟨S80x3072, .i8⟩
  | .local _ .vmem, ⟨32, _⟩ => ⟨S2x768x3072, .i8⟩
  | .local _ .vmem, ⟨33, _⟩ => ⟨S1536x768, .i8⟩
  | .local _ .vmem, ⟨34, _⟩ => ⟨S1536x512, .i8⟩
  | .local _ .vmem, ⟨35, _⟩ => ⟨S1x3072, .f32⟩
  | .local _ .vmem, ⟨36, _⟩ => ⟨S1x3072, .f32⟩
  | .local _ .vmem, ⟨37, _⟩ => ⟨S1x3072, .f32⟩
  | .local _ .vmem, ⟨38, _⟩ => ⟨S1x768, .f32⟩
  | .local _ .vmem, ⟨39, _⟩ => ⟨S1x768, .f32⟩
  | .local _ .vmem, ⟨40, _⟩ => ⟨S1x512, .f32⟩
  | .local _ .vmem, ⟨41, _⟩ => ⟨S1x512, .f32⟩
  | .local _ .vmem, ⟨42, _⟩ => ⟨S1x256x512, .f32⟩
  | .local _ .vmem, ⟨43, _⟩ => ⟨S1x256x512, .f32⟩
  | .local _ .vmem, ⟨44, _⟩ => ⟨S1x256x512, .f32⟩
  | .local _ .vmem, ⟨45, _⟩ => ⟨S1x256x512, .f32⟩
  | .local _ .vmem, ⟨46, _⟩ => ⟨S1x256x768, .i8⟩
  | .local _ .vmem, ⟨47, _⟩ => ⟨S1x256x768, .i8⟩
  | .local _ .vmem, ⟨48, _⟩ => ⟨S256x1536, .bf16⟩
  | .local _ .vmem, ⟨49, _⟩ => ⟨S16x3072, .f32⟩
  | .local _ .vmem, ⟨50, _⟩ => ⟨S1x256x768, .i8⟩
  | .local _ .vmem, ⟨51, _⟩ => ⟨S1x256x768, .i8⟩
  | .local _ .vmem, ⟨52, _⟩ => ⟨S1x256x768, .i8⟩
  | .local _ .vmem, ⟨53, _⟩ => ⟨S1x256x768, .i8⟩
  | .local _ .vmem, ⟨54, _⟩ => ⟨S1x16x80, .i8⟩
  | .local _ .vmem, ⟨55, _⟩ => ⟨S1x16x80, .i8⟩
  | .local _ .vmem, ⟨56, _⟩ => ⟨S80x3072, .i8⟩
  | .local _ .vmem, ⟨57, _⟩ => ⟨S2x768x3072, .i8⟩
  | .local _ .vmem, ⟨58, _⟩ => ⟨S1536x768, .i8⟩
  | .local _ .vmem, ⟨59, _⟩ => ⟨S1536x512, .i8⟩
  | .local _ .vmem, ⟨60, _⟩ => ⟨S1x3072, .f32⟩
  | .local _ .vmem, ⟨61, _⟩ => ⟨S1x3072, .f32⟩
  | .local _ .vmem, ⟨62, _⟩ => ⟨S1x3072, .f32⟩
  | .local _ .vmem, ⟨63, _⟩ => ⟨S1x768, .f32⟩
  | .local _ .vmem, ⟨64, _⟩ => ⟨S1x768, .f32⟩
  | .local _ .vmem, ⟨65, _⟩ => ⟨S1x512, .f32⟩
  | .local _ .vmem, ⟨66, _⟩ => ⟨S1x512, .f32⟩
  | .local _ .vmem, ⟨67, _⟩ => ⟨S1x256x512, .f32⟩
  | .local _ .vmem, ⟨68, _⟩ => ⟨S1x256x512, .f32⟩
  | .local _ .vmem, ⟨69, _⟩ => ⟨S1x256x512, .f32⟩
  | .local _ .vmem, ⟨70, _⟩ => ⟨S1x256x512, .f32⟩
  | .local _ .vmem, ⟨71, _⟩ => ⟨S1x256x768, .i8⟩
  | .local _ .vmem, ⟨72, _⟩ => ⟨S1x256x768, .i8⟩
  | .local _ .vmem, ⟨73, _⟩ => ⟨S256x1536, .bf16⟩
  | .local _ .vmem, ⟨74, _⟩ => ⟨S16x3072, .f32⟩
  | .local _ .vmem, ⟨75, _⟩ => ⟨S1x256x768, .i8⟩
  | .local _ .vmem, ⟨76, _⟩ => ⟨S1x256x768, .i8⟩
  | .local _ .vmem, ⟨77, _⟩ => ⟨S1x256x768, .i8⟩
  | .local _ .vmem, ⟨78, _⟩ => ⟨S1x256x768, .i8⟩
  | .local _ .vmem, ⟨79, _⟩ => ⟨S1x16x80, .i8⟩
  | .local _ .vmem, ⟨80, _⟩ => ⟨S1x16x80, .i8⟩
  | .local _ .vmem, ⟨81, _⟩ => ⟨S80x3072, .i8⟩
  | .local _ .vmem, ⟨82, _⟩ => ⟨S2x768x3072, .i8⟩
  | .local _ .vmem, ⟨83, _⟩ => ⟨S1536x768, .i8⟩
  | .local _ .vmem, ⟨84, _⟩ => ⟨S1536x512, .i8⟩
  | .local _ .vmem, ⟨85, _⟩ => ⟨S1x3072, .f32⟩
  | .local _ .vmem, ⟨86, _⟩ => ⟨S1x3072, .f32⟩
  | .local _ .vmem, ⟨87, _⟩ => ⟨S1x3072, .f32⟩
  | .local _ .vmem, ⟨88, _⟩ => ⟨S1x768, .f32⟩
  | .local _ .vmem, ⟨89, _⟩ => ⟨S1x768, .f32⟩
  | .local _ .vmem, ⟨90, _⟩ => ⟨S1x512, .f32⟩
  | .local _ .vmem, ⟨91, _⟩ => ⟨S1x512, .f32⟩
  | .local _ .vmem, ⟨92, _⟩ => ⟨S1x256x512, .f32⟩
  | .local _ .vmem, ⟨93, _⟩ => ⟨S1x256x512, .f32⟩
  | .local _ .vmem, ⟨94, _⟩ => ⟨S1x256x512, .f32⟩
  | .local _ .vmem, ⟨95, _⟩ => ⟨S1x256x512, .f32⟩
  | .local _ .vmem, ⟨96, _⟩ => ⟨S1x256x768, .i8⟩
  | .local _ .vmem, ⟨97, _⟩ => ⟨S1x256x768, .i8⟩
  | .local _ .vmem, ⟨98, _⟩ => ⟨S256x1536, .bf16⟩
  | .local _ .vmem, ⟨99, _⟩ => ⟨S16x3072, .f32⟩
  | .local _ .smem, ⟨0, _⟩ => ⟨S3, .f32⟩
  | .local _ .smem, ⟨1, _⟩ => ⟨S3, .f32⟩
  | .local _ .smem, ⟨2, _⟩ => ⟨S3, .f32⟩
  | .local _ .smem, ⟨3, _⟩ => ⟨S3, .f32⟩
  | _, _ => ⟨S24x2048x768, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 96 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | _ => false

abbrev sig : RefSig :=
  ofTc nBuf bufTy 0 96 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_c : Ref sig .tc := ⟨.hbm, 16, rfl⟩
abbrev main_call0_v0 : Ref sig .tc := ⟨.hbm, 17, rfl⟩
abbrev main_v0 : Ref sig .tc := ⟨.hbm, 18, rfl⟩
abbrev main_c_0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45_0 : Ref sig .tc := ⟨.hbm, 64, rfl⟩
abbrev main_v45_1 : Ref sig .tc := ⟨.hbm, 65, rfl⟩
abbrev main_v45_2 : Ref sig .tc := ⟨.hbm, 66, rfl⟩
abbrev main_c_1 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90_0 : Ref sig .tc := ⟨.hbm, 112, rfl⟩
abbrev main_v90_1 : Ref sig .tc := ⟨.hbm, 113, rfl⟩
abbrev main_c_2 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_v118 : Ref sig .tc := ⟨.hbm, 142, rfl⟩
abbrev main_v119 : Ref sig .tc := ⟨.hbm, 143, rfl⟩
abbrev main_v120 : Ref sig .tc := ⟨.hbm, 144, rfl⟩
abbrev main_v121 : Ref sig .tc := ⟨.hbm, 145, rfl⟩
abbrev main_v122 : Ref sig .tc := ⟨.hbm, 146, rfl⟩
abbrev main_v123 : Ref sig .tc := ⟨.hbm, 147, rfl⟩
abbrev main_v124 : Ref sig .tc := ⟨.hbm, 148, rfl⟩
abbrev main_v125 : Ref sig .tc := ⟨.hbm, 149, rfl⟩
abbrev main_v126 : Ref sig .tc := ⟨.hbm, 150, rfl⟩
abbrev main_v127 : Ref sig .tc := ⟨.hbm, 151, rfl⟩
abbrev main_v128 : Ref sig .tc := ⟨.hbm, 152, rfl⟩
abbrev main_v129 : Ref sig .tc := ⟨.hbm, 153, rfl⟩
abbrev main_v130 : Ref sig .tc := ⟨.hbm, 154, rfl⟩
abbrev main_v131 : Ref sig .tc := ⟨.hbm, 155, rfl⟩
abbrev main_v132 : Ref sig .tc := ⟨.hbm, 156, rfl⟩
abbrev main_v133 : Ref sig .tc := ⟨.hbm, 157, rfl⟩
abbrev main_v134 : Ref sig .tc := ⟨.hbm, 158, rfl⟩
abbrev main_v135_0 : Ref sig .tc := ⟨.hbm, 159, rfl⟩
abbrev main_v135_1 : Ref sig .tc := ⟨.hbm, 160, rfl⟩
abbrev main_c_3 : Ref sig .tc := ⟨.hbm, 161, rfl⟩
abbrev main_v136 : Ref sig .tc := ⟨.hbm, 162, rfl⟩
abbrev main_v137 : Ref sig .tc := ⟨.hbm, 163, rfl⟩
abbrev main_v138 : Ref sig .tc := ⟨.hbm, 164, rfl⟩
abbrev main_v139 : Ref sig .tc := ⟨.hbm, 165, rfl⟩
abbrev main_v140 : Ref sig .tc := ⟨.hbm, 166, rfl⟩
abbrev main_v141 : Ref sig .tc := ⟨.hbm, 167, rfl⟩
abbrev main_v142 : Ref sig .tc := ⟨.hbm, 168, rfl⟩
abbrev main_v143 : Ref sig .tc := ⟨.hbm, 169, rfl⟩
abbrev main_v144 : Ref sig .tc := ⟨.hbm, 170, rfl⟩
abbrev main_v145 : Ref sig .tc := ⟨.hbm, 171, rfl⟩
abbrev main_v146 : Ref sig .tc := ⟨.hbm, 172, rfl⟩
abbrev main_v147 : Ref sig .tc := ⟨.hbm, 173, rfl⟩
abbrev main_v148 : Ref sig .tc := ⟨.hbm, 174, rfl⟩
abbrev main_v149 : Ref sig .tc := ⟨.hbm, 175, rfl⟩
abbrev main_v150 : Ref sig .tc := ⟨.hbm, 176, rfl⟩
abbrev main_v151 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_v178 : Ref sig .tc := ⟨.hbm, 204, rfl⟩
abbrev main_v179 : Ref sig .tc := ⟨.hbm, 205, rfl⟩
abbrev main_v180_0 : Ref sig .tc := ⟨.hbm, 206, rfl⟩
abbrev main_v180_1 : Ref sig .tc := ⟨.hbm, 207, rfl⟩
abbrev main_v181 : Ref sig .tc := ⟨.hbm, 208, rfl⟩
abbrev main_v182 : Ref sig .tc := ⟨.hbm, 209, rfl⟩
abbrev main_v183 : Ref sig .tc := ⟨.hbm, 210, rfl⟩
abbrev main_v184 : Ref sig .tc := ⟨.hbm, 211, rfl⟩
abbrev main_v185 : Ref sig .tc := ⟨.hbm, 212, rfl⟩
abbrev main_v186 : Ref sig .tc := ⟨.hbm, 213, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_scratch0 : Ref sig .tc := ⟨.vmem, 23, rfl⟩
abbrev cc0_scratch1 : Ref sig .tc := ⟨.vmem, 24, rfl⟩
abbrev cc1_stg1_0 : Ref sig .tc := ⟨.vmem, 25, rfl⟩
abbrev cc1_stg1_1 : Ref sig .tc := ⟨.vmem, 26, rfl⟩
abbrev cc1_stg2_0 : Ref sig .tc := ⟨.vmem, 27, rfl⟩
abbrev cc1_stg2_1 : Ref sig .tc := ⟨.vmem, 28, rfl⟩
abbrev cc1_stg3_0 : Ref sig .tc := ⟨.vmem, 29, rfl⟩
abbrev cc1_stg3_1 : Ref sig .tc := ⟨.vmem, 30, rfl⟩
abbrev cc1_stg4_0 : Ref sig .tc := ⟨.vmem, 31, rfl⟩
abbrev cc1_stg5_0 : Ref sig .tc := ⟨.vmem, 32, rfl⟩
abbrev cc1_stg6_0 : Ref sig .tc := ⟨.vmem, 33, rfl⟩
abbrev cc1_stg7_0 : Ref sig .tc := ⟨.vmem, 34, rfl⟩
abbrev cc1_stg8_0 : Ref sig .tc := ⟨.vmem, 35, rfl⟩
abbrev cc1_stg9_0 : Ref sig .tc := ⟨.vmem, 36, rfl⟩
abbrev cc1_stg10_0 : Ref sig .tc := ⟨.vmem, 37, rfl⟩
abbrev cc1_stg11_0 : Ref sig .tc := ⟨.vmem, 38, rfl⟩
abbrev cc1_stg12_0 : Ref sig .tc := ⟨.vmem, 39, rfl⟩
abbrev cc1_stg13_0 : Ref sig .tc := ⟨.vmem, 40, rfl⟩
abbrev cc1_stg14_0 : Ref sig .tc := ⟨.vmem, 41, rfl⟩
abbrev cc1_stg15_0 : Ref sig .tc := ⟨.vmem, 42, rfl⟩
abbrev cc1_stg15_1 : Ref sig .tc := ⟨.vmem, 43, rfl⟩
abbrev cc1_stg16_0 : Ref sig .tc := ⟨.vmem, 44, rfl⟩
abbrev cc1_stg16_1 : Ref sig .tc := ⟨.vmem, 45, rfl⟩
abbrev cc1_stg17_0 : Ref sig .tc := ⟨.vmem, 46, rfl⟩
abbrev cc1_stg17_1 : Ref sig .tc := ⟨.vmem, 47, rfl⟩
abbrev cc1_scratch0 : Ref sig .tc := ⟨.vmem, 48, rfl⟩
abbrev cc1_scratch1 : Ref sig .tc := ⟨.vmem, 49, rfl⟩
abbrev cc2_stg1_0 : Ref sig .tc := ⟨.vmem, 50, rfl⟩
abbrev cc2_stg1_1 : Ref sig .tc := ⟨.vmem, 51, rfl⟩
abbrev cc2_stg2_0 : Ref sig .tc := ⟨.vmem, 52, rfl⟩
abbrev cc2_stg2_1 : Ref sig .tc := ⟨.vmem, 53, rfl⟩
abbrev cc2_stg3_0 : Ref sig .tc := ⟨.vmem, 54, rfl⟩
abbrev cc2_stg3_1 : Ref sig .tc := ⟨.vmem, 55, rfl⟩
abbrev cc2_stg4_0 : Ref sig .tc := ⟨.vmem, 56, rfl⟩
abbrev cc2_stg5_0 : Ref sig .tc := ⟨.vmem, 57, rfl⟩
abbrev cc2_stg6_0 : Ref sig .tc := ⟨.vmem, 58, rfl⟩
abbrev cc2_stg7_0 : Ref sig .tc := ⟨.vmem, 59, rfl⟩
abbrev cc2_stg8_0 : Ref sig .tc := ⟨.vmem, 60, rfl⟩
abbrev cc2_stg9_0 : Ref sig .tc := ⟨.vmem, 61, rfl⟩
abbrev cc2_stg10_0 : Ref sig .tc := ⟨.vmem, 62, rfl⟩
abbrev cc2_stg11_0 : Ref sig .tc := ⟨.vmem, 63, rfl⟩
abbrev cc2_stg12_0 : Ref sig .tc := ⟨.vmem, 64, rfl⟩
abbrev cc2_stg13_0 : Ref sig .tc := ⟨.vmem, 65, rfl⟩
abbrev cc2_stg14_0 : Ref sig .tc := ⟨.vmem, 66, rfl⟩
abbrev cc2_stg15_0 : Ref sig .tc := ⟨.vmem, 67, rfl⟩
abbrev cc2_stg15_1 : Ref sig .tc := ⟨.vmem, 68, rfl⟩
abbrev cc2_stg16_0 : Ref sig .tc := ⟨.vmem, 69, rfl⟩
abbrev cc2_stg16_1 : Ref sig .tc := ⟨.vmem, 70, rfl⟩
abbrev cc2_stg17_0 : Ref sig .tc := ⟨.vmem, 71, rfl⟩
abbrev cc2_stg17_1 : Ref sig .tc := ⟨.vmem, 72, rfl⟩
abbrev cc2_scratch0 : Ref sig .tc := ⟨.vmem, 73, rfl⟩
abbrev cc2_scratch1 : Ref sig .tc := ⟨.vmem, 74, rfl⟩
abbrev cc3_stg1_0 : Ref sig .tc := ⟨.vmem, 75, rfl⟩
abbrev cc3_stg1_1 : Ref sig .tc := ⟨.vmem, 76, rfl⟩
abbrev cc3_stg2_0 : Ref sig .tc := ⟨.vmem, 77, rfl⟩
abbrev cc3_stg2_1 : Ref sig .tc := ⟨.vmem, 78, rfl⟩
abbrev cc3_stg3_0 : Ref sig .tc := ⟨.vmem, 79, rfl⟩
abbrev cc3_stg3_1 : Ref sig .tc := ⟨.vmem, 80, rfl⟩
abbrev cc3_stg4_0 : Ref sig .tc := ⟨.vmem, 81, rfl⟩
abbrev cc3_stg5_0 : Ref sig .tc := ⟨.vmem, 82, rfl⟩
abbrev cc3_stg6_0 : Ref sig .tc := ⟨.vmem, 83, rfl⟩
abbrev cc3_stg7_0 : Ref sig .tc := ⟨.vmem, 84, rfl⟩
abbrev cc3_stg8_0 : Ref sig .tc := ⟨.vmem, 85, rfl⟩
abbrev cc3_stg9_0 : Ref sig .tc := ⟨.vmem, 86, rfl⟩
abbrev cc3_stg10_0 : Ref sig .tc := ⟨.vmem, 87, rfl⟩
abbrev cc3_stg11_0 : Ref sig .tc := ⟨.vmem, 88, rfl⟩
abbrev cc3_stg12_0 : Ref sig .tc := ⟨.vmem, 89, rfl⟩
abbrev cc3_stg13_0 : Ref sig .tc := ⟨.vmem, 90, rfl⟩
abbrev cc3_stg14_0 : Ref sig .tc := ⟨.vmem, 91, rfl⟩
abbrev cc3_stg15_0 : Ref sig .tc := ⟨.vmem, 92, rfl⟩
abbrev cc3_stg15_1 : Ref sig .tc := ⟨.vmem, 93, rfl⟩
abbrev cc3_stg16_0 : Ref sig .tc := ⟨.vmem, 94, rfl⟩
abbrev cc3_stg16_1 : Ref sig .tc := ⟨.vmem, 95, rfl⟩
abbrev cc3_stg17_0 : Ref sig .tc := ⟨.vmem, 96, rfl⟩
abbrev cc3_stg17_1 : Ref sig .tc := ⟨.vmem, 97, rfl⟩
abbrev cc3_scratch0 : Ref sig .tc := ⟨.vmem, 98, rfl⟩
abbrev cc3_scratch1 : Ref sig .tc := ⟨.vmem, 99, rfl⟩
abbrev cc0_stg0_0 : Ref sig .tc := ⟨.smem, 0, rfl⟩
abbrev cc1_stg0_0 : Ref sig .tc := ⟨.smem, 1, rfl⟩
abbrev cc2_stg0_0 : Ref sig .tc := ⟨.smem, 2, rfl⟩
abbrev cc3_stg0_0 : Ref sig .tc := ⟨.smem, 3, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc1_sem0_0 : DmaSem sig := 24
abbrev cc1_sem1_0 : DmaSem sig := 25
abbrev cc1_sem1_1 : DmaSem sig := 26
abbrev cc1_sem2_0 : DmaSem sig := 27
abbrev cc1_sem2_1 : DmaSem sig := 28
abbrev cc1_sem3_0 : DmaSem sig := 29
abbrev cc1_sem3_1 : DmaSem sig := 30
abbrev cc1_sem4_0 : DmaSem sig := 31
abbrev cc1_sem5_0 : DmaSem sig := 32
abbrev cc1_sem6_0 : DmaSem sig := 33
abbrev cc1_sem7_0 : DmaSem sig := 34
abbrev cc1_sem8_0 : DmaSem sig := 35
abbrev cc1_sem9_0 : DmaSem sig := 36
abbrev cc1_sem10_0 : DmaSem sig := 37
abbrev cc1_sem11_0 : DmaSem sig := 38
abbrev cc1_sem12_0 : DmaSem sig := 39
abbrev cc1_sem13_0 : DmaSem sig := 40
abbrev cc1_sem14_0 : DmaSem sig := 41
abbrev cc1_sem15_0 : DmaSem sig := 42
abbrev cc1_sem15_1 : DmaSem sig := 43
abbrev cc1_sem16_0 : DmaSem sig := 44
abbrev cc1_sem16_1 : DmaSem sig := 45
abbrev cc1_sem17_0 : DmaSem sig := 46
abbrev cc1_sem17_1 : DmaSem sig := 47
abbrev cc2_sem0_0 : DmaSem sig := 48
abbrev cc2_sem1_0 : DmaSem sig := 49
abbrev cc2_sem1_1 : DmaSem sig := 50
abbrev cc2_sem2_0 : DmaSem sig := 51
abbrev cc2_sem2_1 : DmaSem sig := 52
abbrev cc2_sem3_0 : DmaSem sig := 53
abbrev cc2_sem3_1 : DmaSem sig := 54
abbrev cc2_sem4_0 : DmaSem sig := 55
abbrev cc2_sem5_0 : DmaSem sig := 56
abbrev cc2_sem6_0 : DmaSem sig := 57
abbrev cc2_sem7_0 : DmaSem sig := 58
abbrev cc2_sem8_0 : DmaSem sig := 59
abbrev cc2_sem9_0 : DmaSem sig := 60
abbrev cc2_sem10_0 : DmaSem sig := 61
abbrev cc2_sem11_0 : DmaSem sig := 62
abbrev cc2_sem12_0 : DmaSem sig := 63
abbrev cc2_sem13_0 : DmaSem sig := 64
abbrev cc2_sem14_0 : DmaSem sig := 65
abbrev cc2_sem15_0 : DmaSem sig := 66
abbrev cc2_sem15_1 : DmaSem sig := 67
abbrev cc2_sem16_0 : DmaSem sig := 68
abbrev cc2_sem16_1 : DmaSem sig := 69
abbrev cc2_sem17_0 : DmaSem sig := 70
abbrev cc2_sem17_1 : DmaSem sig := 71
abbrev cc3_sem0_0 : DmaSem sig := 72
abbrev cc3_sem1_0 : DmaSem sig := 73
abbrev cc3_sem1_1 : DmaSem sig := 74
abbrev cc3_sem2_0 : DmaSem sig := 75
abbrev cc3_sem2_1 : DmaSem sig := 76
abbrev cc3_sem3_0 : DmaSem sig := 77
abbrev cc3_sem3_1 : DmaSem sig := 78
abbrev cc3_sem4_0 : DmaSem sig := 79
abbrev cc3_sem5_0 : DmaSem sig := 80
abbrev cc3_sem6_0 : DmaSem sig := 81
abbrev cc3_sem7_0 : DmaSem sig := 82
abbrev cc3_sem8_0 : DmaSem sig := 83
abbrev cc3_sem9_0 : DmaSem sig := 84
abbrev cc3_sem10_0 : DmaSem sig := 85
abbrev cc3_sem11_0 : DmaSem sig := 86
abbrev cc3_sem12_0 : DmaSem sig := 87
abbrev cc3_sem13_0 : DmaSem sig := 88
abbrev cc3_sem14_0 : DmaSem sig := 89
abbrev cc3_sem15_0 : DmaSem sig := 90
abbrev cc3_sem15_1 : DmaSem sig := 91
abbrev cc3_sem16_0 : DmaSem sig := 92
abbrev cc3_sem16_1 : DmaSem sig := 93
abbrev cc3_sem17_0 : DmaSem sig := 94
abbrev cc3_sem17_1 : DmaSem sig := 95

abbrev nD : Nat := 1
abbrev τ : Topo := Topo.v7x

variable {F : FTy → Type} [FloatOps F]

abbrev grid0 : Pipeline.Grid := ⟨2, ![24, 8], ![false, false]⟩

def k0_off1 (i : grid0.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v45 : Index := Scalar.indexCast v23
  let c0_21 : Index := 0#32
  ![v45.toNat, 0]
def k0_off2 (i : grid0.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_22 : BitVec 32 := 1#32
  let v47 : BitVec 32 := Scalar.addi v23 c1_i32_22
  let v48 : Index := Scalar.indexCast v47
  let c0_23 : Index := 0#32
  ![v48.toNat, 0]
def k0_off3 (i : grid0.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v72 : Index := Scalar.indexCast v23
  let c1536_33 : Index := 1536#32
  ![v72.toNat, 1536]
def k0_off4 (i : grid0.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_34 : BitVec 32 := 1#32
  let v74 : BitVec 32 := Scalar.addi v23 c1_i32_34
  let v75 : Index := Scalar.indexCast v74
  let c1536_35 : Index := 1536#32
  ![v75.toNat, 1536]
def k0_off5 (i : grid0.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v117 : Index := Scalar.indexCast v23
  let c256_50 : Index := 256#32
  ![v117.toNat, 256]
def k0_off6 (i : grid0.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_51 : BitVec 32 := 1#32
  let v119 : BitVec 32 := Scalar.addi v23 c1_i32_51
  let v120 : Index := Scalar.indexCast v119
  let c256_52 : Index := 256#32
  ![v120.toNat, 256]
def k0_off7 (i : grid0.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v144 : Index := Scalar.indexCast v23
  let c1792_62 : Index := 1792#32
  ![v144.toNat, 1792]
def k0_off8 (i : grid0.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_63 : BitVec 32 := 1#32
  let v146 : BitVec 32 := Scalar.addi v23 c1_i32_63
  let v147 : Index := Scalar.indexCast v146
  let c1792_64 : Index := 1792#32
  ![v147.toNat, 1792]
def k0_off9 (i : grid0.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v189 : Index := Scalar.indexCast v23
  let c512_81 : Index := 512#32
  ![v189.toNat, 512]
def k0_off10 (i : grid0.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_82 : BitVec 32 := 1#32
  let v191 : BitVec 32 := Scalar.addi v23 c1_i32_82
  let v192 : Index := Scalar.indexCast v191
  let c512_83 : Index := 512#32
  ![v192.toNat, 512]
def k0_off11 (i : grid0.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v216 : Index := Scalar.indexCast v23
  let c2048_93 : Index := 2048#32
  ![v216.toNat, 2048]
def k0_off12 (i : grid0.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_94 : BitVec 32 := 1#32
  let v218 : BitVec 32 := Scalar.addi v23 c1_i32_94
  let v219 : Index := Scalar.indexCast v218
  let c2048_95 : Index := 2048#32
  ![v219.toNat, 2048]
def k0_off13 (i : grid0.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v261 : Index := Scalar.indexCast v23
  let c768_112 : Index := 768#32
  ![v261.toNat, 768]
def k0_off14 (i : grid0.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_113 : BitVec 32 := 1#32
  let v263 : BitVec 32 := Scalar.addi v23 c1_i32_113
  let v264 : Index := Scalar.indexCast v263
  let c768_114 : Index := 768#32
  ![v264.toNat, 768]
def k0_off15 (i : grid0.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v288 : Index := Scalar.indexCast v23
  let c2304_124 : Index := 2304#32
  ![v288.toNat, 2304]
def k0_off16 (i : grid0.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_125 : BitVec 32 := 1#32
  let v290 : BitVec 32 := Scalar.addi v23 c1_i32_125
  let v291 : Index := Scalar.indexCast v290
  let c2304_126 : Index := 2304#32
  ![v291.toNat, 2304]
def k0_off17 (i : grid0.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v333 : Index := Scalar.indexCast v23
  let c1024_143 : Index := 1024#32
  ![v333.toNat, 1024]
def k0_off18 (i : grid0.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_144 : BitVec 32 := 1#32
  let v335 : BitVec 32 := Scalar.addi v23 c1_i32_144
  let v336 : Index := Scalar.indexCast v335
  let c1024_145 : Index := 1024#32
  ![v336.toNat, 1024]
def k0_off19 (i : grid0.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v360 : Index := Scalar.indexCast v23
  let c2560_155 : Index := 2560#32
  ![v360.toNat, 2560]
def k0_off20 (i : grid0.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_156 : BitVec 32 := 1#32
  let v362 : BitVec 32 := Scalar.addi v23 c1_i32_156
  let v363 : Index := Scalar.indexCast v362
  let c2560_157 : Index := 2560#32
  ![v363.toNat, 2560]
def k0_off21 (i : grid0.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v405 : Index := Scalar.indexCast v23
  let c1280_174 : Index := 1280#32
  ![v405.toNat, 1280]
def k0_off22 (i : grid0.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_175 : BitVec 32 := 1#32
  let v407 : BitVec 32 := Scalar.addi v23 c1_i32_175
  let v408 : Index := Scalar.indexCast v407
  let c1280_176 : Index := 1280#32
  ![v408.toNat, 1280]
def k0_off23 (i : grid0.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v432 : Index := Scalar.indexCast v23
  let c2816_186 : Index := 2816#32
  ![v432.toNat, 2816]
def k0_off24 (i : grid0.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_187 : BitVec 32 := 1#32
  let v434 : BitVec 32 := Scalar.addi v23 c1_i32_187
  let v435 : Index := Scalar.indexCast v434
  let c2816_188 : Index := 2816#32
  ![v435.toNat, 2816]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S3 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x256x768 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x768 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x80 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S80x3072 .i8 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2x768x3072 .i8 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1536x768 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1536x512 .i8 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x3072 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x3072 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x768 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1x768 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S1x256x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x256x768 .i8 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x256x1536 .i8 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev grid1 : Pipeline.Grid := ⟨2, ![24, 8], ![false, false]⟩

def k1_off1 (i : grid1.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v45 : Index := Scalar.indexCast v23
  let c0_21 : Index := 0#32
  ![v45.toNat, 0]
def k1_off2 (i : grid1.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_22 : BitVec 32 := 1#32
  let v47 : BitVec 32 := Scalar.addi v23 c1_i32_22
  let v48 : Index := Scalar.indexCast v47
  let c0_23 : Index := 0#32
  ![v48.toNat, 0]
def k1_off3 (i : grid1.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v72 : Index := Scalar.indexCast v23
  let c1536_33 : Index := 1536#32
  ![v72.toNat, 1536]
def k1_off4 (i : grid1.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_34 : BitVec 32 := 1#32
  let v74 : BitVec 32 := Scalar.addi v23 c1_i32_34
  let v75 : Index := Scalar.indexCast v74
  let c1536_35 : Index := 1536#32
  ![v75.toNat, 1536]
def k1_off5 (i : grid1.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v113 : Index := Scalar.indexCast v23
  let c256_47 : Index := 256#32
  ![v113.toNat, 256]
def k1_off6 (i : grid1.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_48 : BitVec 32 := 1#32
  let v115 : BitVec 32 := Scalar.addi v23 c1_i32_48
  let v116 : Index := Scalar.indexCast v115
  let c256_49 : Index := 256#32
  ![v116.toNat, 256]
def k1_off7 (i : grid1.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v140 : Index := Scalar.indexCast v23
  let c1792_59 : Index := 1792#32
  ![v140.toNat, 1792]
def k1_off8 (i : grid1.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_60 : BitVec 32 := 1#32
  let v142 : BitVec 32 := Scalar.addi v23 c1_i32_60
  let v143 : Index := Scalar.indexCast v142
  let c1792_61 : Index := 1792#32
  ![v143.toNat, 1792]
def k1_off9 (i : grid1.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v181 : Index := Scalar.indexCast v23
  let c512_75 : Index := 512#32
  ![v181.toNat, 512]
def k1_off10 (i : grid1.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_76 : BitVec 32 := 1#32
  let v183 : BitVec 32 := Scalar.addi v23 c1_i32_76
  let v184 : Index := Scalar.indexCast v183
  let c512_77 : Index := 512#32
  ![v184.toNat, 512]
def k1_off11 (i : grid1.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v208 : Index := Scalar.indexCast v23
  let c2048_87 : Index := 2048#32
  ![v208.toNat, 2048]
def k1_off12 (i : grid1.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_88 : BitVec 32 := 1#32
  let v210 : BitVec 32 := Scalar.addi v23 c1_i32_88
  let v211 : Index := Scalar.indexCast v210
  let c2048_89 : Index := 2048#32
  ![v211.toNat, 2048]
def k1_off13 (i : grid1.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v249 : Index := Scalar.indexCast v23
  let c768_103 : Index := 768#32
  ![v249.toNat, 768]
def k1_off14 (i : grid1.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_104 : BitVec 32 := 1#32
  let v251 : BitVec 32 := Scalar.addi v23 c1_i32_104
  let v252 : Index := Scalar.indexCast v251
  let c768_105 : Index := 768#32
  ![v252.toNat, 768]
def k1_off15 (i : grid1.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v276 : Index := Scalar.indexCast v23
  let c2304_115 : Index := 2304#32
  ![v276.toNat, 2304]
def k1_off16 (i : grid1.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_116 : BitVec 32 := 1#32
  let v278 : BitVec 32 := Scalar.addi v23 c1_i32_116
  let v279 : Index := Scalar.indexCast v278
  let c2304_117 : Index := 2304#32
  ![v279.toNat, 2304]
def k1_off17 (i : grid1.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v317 : Index := Scalar.indexCast v23
  let c1024_131 : Index := 1024#32
  ![v317.toNat, 1024]
def k1_off18 (i : grid1.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_132 : BitVec 32 := 1#32
  let v319 : BitVec 32 := Scalar.addi v23 c1_i32_132
  let v320 : Index := Scalar.indexCast v319
  let c1024_133 : Index := 1024#32
  ![v320.toNat, 1024]
def k1_off19 (i : grid1.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v344 : Index := Scalar.indexCast v23
  let c2560_143 : Index := 2560#32
  ![v344.toNat, 2560]
def k1_off20 (i : grid1.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_144 : BitVec 32 := 1#32
  let v346 : BitVec 32 := Scalar.addi v23 c1_i32_144
  let v347 : Index := Scalar.indexCast v346
  let c2560_145 : Index := 2560#32
  ![v347.toNat, 2560]
def k1_off21 (i : grid1.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v385 : Index := Scalar.indexCast v23
  let c1280_159 : Index := 1280#32
  ![v385.toNat, 1280]
def k1_off22 (i : grid1.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_160 : BitVec 32 := 1#32
  let v387 : BitVec 32 := Scalar.addi v23 c1_i32_160
  let v388 : Index := Scalar.indexCast v387
  let c1280_161 : Index := 1280#32
  ![v388.toNat, 1280]
def k1_off23 (i : grid1.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v412 : Index := Scalar.indexCast v23
  let c2816_171 : Index := 2816#32
  ![v412.toNat, 2816]
def k1_off24 (i : grid1.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_172 : BitVec 32 := 1#32
  let v414 : BitVec 32 := Scalar.addi v23 c1_i32_172
  let v415 : Index := Scalar.indexCast v414
  let c2816_173 : Index := 2816#32
  ![v415.toNat, 2816]
def cc1_transform_0 (i : grid1.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_16 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_17 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 1 → Memref sig .tc .smem S3 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 2 → Memref sig .tc .vmem S1x256x768 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x256x768 .i8 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x16x80 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S80x3072 .i8 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S2x768x3072 .i8 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1536x768 .i8 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S1536x512 .i8 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S1x3072 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S1x3072 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x3072 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S1x768 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S1x768 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S1x512 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 1 → Memref sig .tc .vmem S1x512 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false]

abbrev stage1_15 : Fin 2 → Memref sig .tc .vmem S1x256x512 .f32 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true, true]

abbrev stage1_16 : Fin 2 → Memref sig .tc .vmem S1x256x512 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, true]

abbrev stage1_17 : Fin 2 → Memref sig .tc .vmem S1x256x768 .i8 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true, true]

abbrev grid2 : Pipeline.Grid := ⟨2, ![24, 8], ![false, false]⟩

def k2_off1 (i : grid2.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v45 : Index := Scalar.indexCast v23
  let c0_21 : Index := 0#32
  ![v45.toNat, 0]
def k2_off2 (i : grid2.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_22 : BitVec 32 := 1#32
  let v47 : BitVec 32 := Scalar.addi v23 c1_i32_22
  let v48 : Index := Scalar.indexCast v47
  let c0_23 : Index := 0#32
  ![v48.toNat, 0]
def k2_off3 (i : grid2.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v72 : Index := Scalar.indexCast v23
  let c1536_33 : Index := 1536#32
  ![v72.toNat, 1536]
def k2_off4 (i : grid2.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_34 : BitVec 32 := 1#32
  let v74 : BitVec 32 := Scalar.addi v23 c1_i32_34
  let v75 : Index := Scalar.indexCast v74
  let c1536_35 : Index := 1536#32
  ![v75.toNat, 1536]
def k2_off5 (i : grid2.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v113 : Index := Scalar.indexCast v23
  let c256_47 : Index := 256#32
  ![v113.toNat, 256]
def k2_off6 (i : grid2.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_48 : BitVec 32 := 1#32
  let v115 : BitVec 32 := Scalar.addi v23 c1_i32_48
  let v116 : Index := Scalar.indexCast v115
  let c256_49 : Index := 256#32
  ![v116.toNat, 256]
def k2_off7 (i : grid2.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v140 : Index := Scalar.indexCast v23
  let c1792_59 : Index := 1792#32
  ![v140.toNat, 1792]
def k2_off8 (i : grid2.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_60 : BitVec 32 := 1#32
  let v142 : BitVec 32 := Scalar.addi v23 c1_i32_60
  let v143 : Index := Scalar.indexCast v142
  let c1792_61 : Index := 1792#32
  ![v143.toNat, 1792]
def k2_off9 (i : grid2.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v181 : Index := Scalar.indexCast v23
  let c512_75 : Index := 512#32
  ![v181.toNat, 512]
def k2_off10 (i : grid2.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_76 : BitVec 32 := 1#32
  let v183 : BitVec 32 := Scalar.addi v23 c1_i32_76
  let v184 : Index := Scalar.indexCast v183
  let c512_77 : Index := 512#32
  ![v184.toNat, 512]
def k2_off11 (i : grid2.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v208 : Index := Scalar.indexCast v23
  let c2048_87 : Index := 2048#32
  ![v208.toNat, 2048]
def k2_off12 (i : grid2.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_88 : BitVec 32 := 1#32
  let v210 : BitVec 32 := Scalar.addi v23 c1_i32_88
  let v211 : Index := Scalar.indexCast v210
  let c2048_89 : Index := 2048#32
  ![v211.toNat, 2048]
def k2_off13 (i : grid2.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v249 : Index := Scalar.indexCast v23
  let c768_103 : Index := 768#32
  ![v249.toNat, 768]
def k2_off14 (i : grid2.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_104 : BitVec 32 := 1#32
  let v251 : BitVec 32 := Scalar.addi v23 c1_i32_104
  let v252 : Index := Scalar.indexCast v251
  let c768_105 : Index := 768#32
  ![v252.toNat, 768]
def k2_off15 (i : grid2.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v276 : Index := Scalar.indexCast v23
  let c2304_115 : Index := 2304#32
  ![v276.toNat, 2304]
def k2_off16 (i : grid2.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_116 : BitVec 32 := 1#32
  let v278 : BitVec 32 := Scalar.addi v23 c1_i32_116
  let v279 : Index := Scalar.indexCast v278
  let c2304_117 : Index := 2304#32
  ![v279.toNat, 2304]
def k2_off17 (i : grid2.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v317 : Index := Scalar.indexCast v23
  let c1024_131 : Index := 1024#32
  ![v317.toNat, 1024]
def k2_off18 (i : grid2.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_132 : BitVec 32 := 1#32
  let v319 : BitVec 32 := Scalar.addi v23 c1_i32_132
  let v320 : Index := Scalar.indexCast v319
  let c1024_133 : Index := 1024#32
  ![v320.toNat, 1024]
def k2_off19 (i : grid2.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v344 : Index := Scalar.indexCast v23
  let c2560_143 : Index := 2560#32
  ![v344.toNat, 2560]
def k2_off20 (i : grid2.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_144 : BitVec 32 := 1#32
  let v346 : BitVec 32 := Scalar.addi v23 c1_i32_144
  let v347 : Index := Scalar.indexCast v346
  let c2560_145 : Index := 2560#32
  ![v347.toNat, 2560]
def k2_off21 (i : grid2.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v385 : Index := Scalar.indexCast v23
  let c1280_159 : Index := 1280#32
  ![v385.toNat, 1280]
def k2_off22 (i : grid2.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_160 : BitVec 32 := 1#32
  let v387 : BitVec 32 := Scalar.addi v23 c1_i32_160
  let v388 : Index := Scalar.indexCast v387
  let c1280_161 : Index := 1280#32
  ![v388.toNat, 1280]
def k2_off23 (i : grid2.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v412 : Index := Scalar.indexCast v23
  let c2816_171 : Index := 2816#32
  ![v412.toNat, 2816]
def k2_off24 (i : grid2.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_172 : BitVec 32 := 1#32
  let v414 : BitVec 32 := Scalar.addi v23 c1_i32_172
  let v415 : Index := Scalar.indexCast v414
  let c2816_173 : Index := 2816#32
  ![v415.toNat, 2816]
def cc2_transform_0 (i : grid2.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_11 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_12 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_13 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_14 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_15 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_16 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_17 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 1 → Memref sig .tc .smem S3 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false, false]

abbrev stage2_1 : Fin 2 → Memref sig .tc .vmem S1x256x768 .i8 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S1x256x768 .i8 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x16x80 .i8 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 1 → Memref sig .tc .vmem S80x3072 .i8 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 1 → Memref sig .tc .vmem S2x768x3072 .i8 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false, false]

abbrev stage2_6 : Fin 1 → Memref sig .tc .vmem S1536x768 .i8 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false, false]

abbrev stage2_7 : Fin 1 → Memref sig .tc .vmem S1536x512 .i8 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false, false]

abbrev stage2_8 : Fin 1 → Memref sig .tc .vmem S1x3072 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false, false]

abbrev stage2_9 : Fin 1 → Memref sig .tc .vmem S1x3072 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false, false]

abbrev stage2_10 : Fin 1 → Memref sig .tc .vmem S1x3072 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false, false]

abbrev stage2_11 : Fin 1 → Memref sig .tc .vmem S1x768 .f32 := fun | 0 => Memref.whole cc2_stg11_0 | ⟨_ + 1, h⟩ => absurd h (Nat.not_lt.2 (Nat.le_add_left _ _))
abbrev sem2_11 : Fin 1 → DmaSem sig := fun | 0 => cc2_sem11_0 | ⟨_ + 1, h⟩ => absurd h (Nat.not_lt.2 (Nat.le_add_left _ _))
abbrev reads2_11 : Fin grid2.rank → Bool := ![false, false]

abbrev stage2_12 : Fin 1 → Memref sig .tc .vmem S1x768 .f32 := fun | 0 => Memref.whole cc2_stg12_0 | ⟨_ + 1, h⟩ => absurd h (Nat.not_lt.2 (Nat.le_add_left _ _))
abbrev sem2_12 : Fin 1 → DmaSem sig := fun | 0 => cc2_sem12_0 | ⟨_ + 1, h⟩ => absurd h (Nat.not_lt.2 (Nat.le_add_left _ _))
abbrev reads2_12 : Fin grid2.rank → Bool := ![false, false]

abbrev stage2_13 : Fin 1 → Memref sig .tc .vmem S1x512 .f32 := fun | 0 => Memref.whole cc2_stg13_0 | ⟨_ + 1, h⟩ => absurd h (Nat.not_lt.2 (Nat.le_add_left _ _))
abbrev sem2_13 : Fin 1 → DmaSem sig := fun | 0 => cc2_sem13_0 | ⟨_ + 1, h⟩ => absurd h (Nat.not_lt.2 (Nat.le_add_left _ _))
abbrev reads2_13 : Fin grid2.rank → Bool := ![false, false]

abbrev stage2_14 : Fin 1 → Memref sig .tc .vmem S1x512 .f32 := fun | 0 => Memref.whole cc2_stg14_0 | ⟨_ + 1, h⟩ => absurd h (Nat.not_lt.2 (Nat.le_add_left _ _))
abbrev sem2_14 : Fin 1 → DmaSem sig := fun | 0 => cc2_sem14_0 | ⟨_ + 1, h⟩ => absurd h (Nat.not_lt.2 (Nat.le_add_left _ _))
abbrev reads2_14 : Fin grid2.rank → Bool := ![false, false]

abbrev stage2_15 : Fin 2 → Memref sig .tc .vmem S1x256x512 .f32 := fun | 0 => Memref.whole cc2_stg15_0 | 1 => Memref.whole cc2_stg15_1 | ⟨_ + 2, h⟩ => absurd h (Nat.not_lt.2 (Nat.le_add_left _ _))
abbrev sem2_15 : Fin 2 → DmaSem sig := fun | 0 => cc2_sem15_0 | 1 => cc2_sem15_1 | ⟨_ + 2, h⟩ => absurd h (Nat.not_lt.2 (Nat.le_add_left _ _))
abbrev reads2_15 : Fin grid2.rank → Bool := ![true, true]

abbrev stage2_16 : Fin 2 → Memref sig .tc .vmem S1x256x512 .f32 := fun | 0 => Memref.whole cc2_stg16_0 | 1 => Memref.whole cc2_stg16_1 | ⟨_ + 2, h⟩ => absurd h (Nat.not_lt.2 (Nat.le_add_left _ _))
abbrev sem2_16 : Fin 2 → DmaSem sig := fun | 0 => cc2_sem16_0 | 1 => cc2_sem16_1 | ⟨_ + 2, h⟩ => absurd h (Nat.not_lt.2 (Nat.le_add_left _ _))
abbrev reads2_16 : Fin grid2.rank → Bool := ![true, true]

abbrev stage2_17 : Fin 2 → Memref sig .tc .vmem S1x256x768 .i8 := fun | 0 => Memref.whole cc2_stg17_0 | 1 => Memref.whole cc2_stg17_1 | ⟨_ + 2, h⟩ => absurd h (Nat.not_lt.2 (Nat.le_add_left _ _))
abbrev sem2_17 : Fin 2 → DmaSem sig := fun | 0 => cc2_sem17_0 | 1 => cc2_sem17_1 | ⟨_ + 2, h⟩ => absurd h (Nat.not_lt.2 (Nat.le_add_left _ _))
abbrev reads2_17 : Fin grid2.rank → Bool := ![true, true]

abbrev grid3 : Pipeline.Grid := ⟨2, ![24, 8], ![false, false]⟩

def k3_off1 (i : grid3.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v45 : Index := Scalar.indexCast v23
  let c0_21 : Index := 0#32
  ![v45.toNat, 0]
def k3_off2 (i : grid3.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_22 : BitVec 32 := 1#32
  let v47 : BitVec 32 := Scalar.addi v23 c1_i32_22
  let v48 : Index := Scalar.indexCast v47
  let c0_23 : Index := 0#32
  ![v48.toNat, 0]
def k3_off3 (i : grid3.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v72 : Index := Scalar.indexCast v23
  let c1536_33 : Index := 1536#32
  ![v72.toNat, 1536]
def k3_off4 (i : grid3.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_34 : BitVec 32 := 1#32
  let v74 : BitVec 32 := Scalar.addi v23 c1_i32_34
  let v75 : Index := Scalar.indexCast v74
  let c1536_35 : Index := 1536#32
  ![v75.toNat, 1536]
def k3_off5 (i : grid3.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v113 : Index := Scalar.indexCast v23
  let c256_47 : Index := 256#32
  ![v113.toNat, 256]
def k3_off6 (i : grid3.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_48 : BitVec 32 := 1#32
  let v115 : BitVec 32 := Scalar.addi v23 c1_i32_48
  let v116 : Index := Scalar.indexCast v115
  let c256_49 : Index := 256#32
  ![v116.toNat, 256]
def k3_off7 (i : grid3.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v140 : Index := Scalar.indexCast v23
  let c1792_59 : Index := 1792#32
  ![v140.toNat, 1792]
def k3_off8 (i : grid3.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_60 : BitVec 32 := 1#32
  let v142 : BitVec 32 := Scalar.addi v23 c1_i32_60
  let v143 : Index := Scalar.indexCast v142
  let c1792_61 : Index := 1792#32
  ![v143.toNat, 1792]
def k3_off9 (i : grid3.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v181 : Index := Scalar.indexCast v23
  let c512_75 : Index := 512#32
  ![v181.toNat, 512]
def k3_off10 (i : grid3.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_76 : BitVec 32 := 1#32
  let v183 : BitVec 32 := Scalar.addi v23 c1_i32_76
  let v184 : Index := Scalar.indexCast v183
  let c512_77 : Index := 512#32
  ![v184.toNat, 512]
def k3_off11 (i : grid3.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v208 : Index := Scalar.indexCast v23
  let c2048_87 : Index := 2048#32
  ![v208.toNat, 2048]
def k3_off12 (i : grid3.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_88 : BitVec 32 := 1#32
  let v210 : BitVec 32 := Scalar.addi v23 c1_i32_88
  let v211 : Index := Scalar.indexCast v210
  let c2048_89 : Index := 2048#32
  ![v211.toNat, 2048]
def k3_off13 (i : grid3.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v249 : Index := Scalar.indexCast v23
  let c768_103 : Index := 768#32
  ![v249.toNat, 768]
def k3_off14 (i : grid3.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_104 : BitVec 32 := 1#32
  let v251 : BitVec 32 := Scalar.addi v23 c1_i32_104
  let v252 : Index := Scalar.indexCast v251
  let c768_105 : Index := 768#32
  ![v252.toNat, 768]
def k3_off15 (i : grid3.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v276 : Index := Scalar.indexCast v23
  let c2304_115 : Index := 2304#32
  ![v276.toNat, 2304]
def k3_off16 (i : grid3.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_116 : BitVec 32 := 1#32
  let v278 : BitVec 32 := Scalar.addi v23 c1_i32_116
  let v279 : Index := Scalar.indexCast v278
  let c2304_117 : Index := 2304#32
  ![v279.toNat, 2304]
def k3_off17 (i : grid3.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v317 : Index := Scalar.indexCast v23
  let c1024_131 : Index := 1024#32
  ![v317.toNat, 1024]
def k3_off18 (i : grid3.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_132 : BitVec 32 := 1#32
  let v319 : BitVec 32 := Scalar.addi v23 c1_i32_132
  let v320 : Index := Scalar.indexCast v319
  let c1024_133 : Index := 1024#32
  ![v320.toNat, 1024]
def k3_off19 (i : grid3.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v344 : Index := Scalar.indexCast v23
  let c2560_143 : Index := 2560#32
  ![v344.toNat, 2560]
def k3_off20 (i : grid3.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_144 : BitVec 32 := 1#32
  let v346 : BitVec 32 := Scalar.addi v23 c1_i32_144
  let v347 : Index := Scalar.indexCast v346
  let c2560_145 : Index := 2560#32
  ![v347.toNat, 2560]
def k3_off21 (i : grid3.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v385 : Index := Scalar.indexCast v23
  let c1280_159 : Index := 1280#32
  ![v385.toNat, 1280]
def k3_off22 (i : grid3.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_160 : BitVec 32 := 1#32
  let v387 : BitVec 32 := Scalar.addi v23 c1_i32_160
  let v388 : Index := Scalar.indexCast v387
  let c1280_161 : Index := 1280#32
  ![v388.toNat, 1280]
def k3_off23 (i : grid3.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let v412 : Index := Scalar.indexCast v23
  let c2816_171 : Index := 2816#32
  ![v412.toNat, 2816]
def k3_off24 (i : grid3.Coords) : Fin 2 → Nat :=
  let arg1 : BitVec 32 := BitVec.ofNat 32 (i 1).val
  let c256_i32 : BitVec 32 := 256#32
  let v6 : BitVec 32 := Scalar.muli arg1 c256_i32
  let c0_i32_1 : BitVec 32 := 0#32
  let v8 : BitVec 1 := Scalar.cmpi .sgt v6 c0_i32_1
  let v9 : BitVec 32 := Scalar.extui v8
  let c0_i32_2 : BitVec 32 := 0#32
  let v10 : BitVec 1 := Scalar.cmpi .slt v6 c0_i32_2
  let v11 : BitVec 32 := Scalar.extui v10
  let v12 : BitVec 32 := Scalar.subi v9 v11
  let c300_i32 : BitVec 32 := 300#32
  let c0_i32_3 : BitVec 32 := 0#32
  let v13 : BitVec 1 := Scalar.cmpi .sgt c300_i32 c0_i32_3
  let v14 : BitVec 32 := Scalar.extui v13
  let c0_i32_4 : BitVec 32 := 0#32
  let v15 : BitVec 1 := Scalar.cmpi .slt c300_i32 c0_i32_4
  let v16 : BitVec 32 := Scalar.extui v15
  let v17 : BitVec 32 := Scalar.subi v14 v16
  let v18 : BitVec 1 := Scalar.cmpi .ne v12 v17
  let v19 : BitVec 32 := Scalar.remsi v6 c300_i32
  let c0_i32_5 : BitVec 32 := 0#32
  let v20 : BitVec 1 := Scalar.cmpi .ne v19 c0_i32_5
  let v21 : BitVec 1 := Scalar.andi v18 v20
  let v7 : BitVec 32 := Scalar.divsi v6 c300_i32
  let c1_i32 : BitVec 32 := 1#32
  let v22 : BitVec 32 := Scalar.subi v7 c1_i32
  let v23 : BitVec 32 := Scalar.select v21 v22 v7
  let c1_i32_172 : BitVec 32 := 1#32
  let v414 : BitVec 32 := Scalar.addi v23 c1_i32_172
  let v415 : Index := Scalar.indexCast v414
  let c2816_173 : Index := 2816#32
  ![v415.toNat, 2816]
def cc3_transform_0 (i : grid3.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_2 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_3 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc3_transform_6 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_15 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_16 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_17 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 1 → Memref sig .tc .smem S3 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false, false]

abbrev stage3_1 : Fin 2 → Memref sig .tc .vmem S1x256x768 .i8 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 2 → Memref sig .tc .vmem S1x256x768 .i8 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1x16x80 .i8 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, false]

abbrev stage3_4 : Fin 1 → Memref sig .tc .vmem S80x3072 .i8 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false, false]

abbrev stage3_5 : Fin 1 → Memref sig .tc .vmem S2x768x3072 .i8 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false, false]

abbrev stage3_6 : Fin 1 → Memref sig .tc .vmem S1536x768 .i8 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S1536x512 .i8 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 1 → Memref sig .tc .vmem S1x3072 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 1 → Memref sig .tc .vmem S1x3072 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false, false]

abbrev stage3_10 : Fin 1 → Memref sig .tc .vmem S1x3072 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false, false]

abbrev stage3_11 : Fin 1 → Memref sig .tc .vmem S1x768 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false, false]

abbrev stage3_12 : Fin 1 → Memref sig .tc .vmem S1x768 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false, false]

abbrev stage3_13 : Fin 1 → Memref sig .tc .vmem S1x512 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false, false]

abbrev stage3_14 : Fin 1 → Memref sig .tc .vmem S1x512 .f32 := fun | 0 => Memref.whole cc3_stg14_0 | ⟨_ + 1, h⟩ => absurd h (Nat.not_lt.2 (Nat.le_add_left _ _))
abbrev sem3_14 : Fin 1 → DmaSem sig := fun | 0 => cc3_sem14_0 | ⟨_ + 1, h⟩ => absurd h (Nat.not_lt.2 (Nat.le_add_left _ _))
abbrev reads3_14 : Fin grid3.rank → Bool := ![false, false]

abbrev stage3_15 : Fin 2 → Memref sig .tc .vmem S1x256x512 .f32 := fun | 0 => Memref.whole cc3_stg15_0 | 1 => Memref.whole cc3_stg15_1 | ⟨_ + 2, h⟩ => absurd h (Nat.not_lt.2 (Nat.le_add_left _ _))
abbrev sem3_15 : Fin 2 → DmaSem sig := fun | 0 => cc3_sem15_0 | 1 => cc3_sem15_1 | ⟨_ + 2, h⟩ => absurd h (Nat.not_lt.2 (Nat.le_add_left _ _))
abbrev reads3_15 : Fin grid3.rank → Bool := ![true, true]

abbrev stage3_16 : Fin 2 → Memref sig .tc .vmem S1x256x512 .f32 := fun | 0 => Memref.whole cc3_stg16_0 | 1 => Memref.whole cc3_stg16_1 | ⟨_ + 2, h⟩ => absurd h (Nat.not_lt.2 (Nat.le_add_left _ _))
abbrev sem3_16 : Fin 2 → DmaSem sig := fun | 0 => cc3_sem16_0 | 1 => cc3_sem16_1 | ⟨_ + 2, h⟩ => absurd h (Nat.not_lt.2 (Nat.le_add_left _ _))
abbrev reads3_16 : Fin grid3.rank → Bool := ![true, true]

abbrev stage3_17 : Fin 2 → Memref sig .tc .vmem S1x256x768 .i8 := fun | 0 => Memref.whole cc3_stg17_0 | 1 => Memref.whole cc3_stg17_1 | ⟨_ + 2, h⟩ => absurd h (Nat.not_lt.2 (Nat.le_add_left _ _))
abbrev sem3_17 : Fin 2 → DmaSem sig := fun | 0 => cc3_sem17_0 | 1 => cc3_sem17_1 | ⟨_ + 2, h⟩ => absurd h (Nat.not_lt.2 (Nat.le_add_left _ _))
abbrev reads3_17 : Fin grid3.rank → Bool := ![true, true]
-- ==== ReferenceIdeal.lean ====
abbrev S24x2048x768 : Shape := ⟨3, ![24, 2048, 768]⟩
abbrev S5 : Shape := ⟨1, ![5]⟩
abbrev S4 : Shape := ⟨1, ![4]⟩
abbrev S4x2x768x3072 : Shape := ⟨4, ![4, 2, 768, 3072]⟩
abbrev S4x3072 : Shape := ⟨2, ![4, 3072]⟩
abbrev S4x1536x768 : Shape := ⟨3, ![4, 1536, 768]⟩
abbrev S4x768 : Shape := ⟨2, ![4, 768]⟩
abbrev S4x1536x512 : Shape := ⟨3, ![4, 1536, 512]⟩
abbrev S4x512 : Shape := ⟨2, ![4, 512]⟩
abbrev S24x7x80 : Shape := ⟨3, ![24, 7, 80]⟩
abbrev S_ : Shape := ⟨0, ![]⟩
abbrev S4x80x3072 : Shape := ⟨3, ![4, 80, 3072]⟩
abbrev S1 : Shape := ⟨1, ![1]⟩
abbrev S24x2048x512 : Shape := ⟨3, ![24, 2048, 512]⟩
abbrev S24x2048x1536 : Shape := ⟨3, ![24, 2048, 1536]⟩
abbrev S24x1x768 : Shape := ⟨3, ![24, 1, 768]⟩
abbrev S24x2047x768 : Shape := ⟨3, ![24, 2047, 768]⟩
abbrev S1x1x768x3072 : Shape := ⟨4, ![1, 1, 768, 3072]⟩
abbrev S768x3072 : Shape := ⟨2, ![768, 3072]⟩
abbrev S24x2048x3072 : Shape := ⟨3, ![24, 2048, 3072]⟩
abbrev S1x80x3072 : Shape := ⟨3, ![1, 80, 3072]⟩
abbrev S80x3072 : Shape := ⟨2, ![80, 3072]⟩
abbrev S24x7x3072 : Shape := ⟨3, ![24, 7, 3072]⟩
abbrev S1x3072 : Shape := ⟨2, ![1, 3072]⟩
abbrev S3072 : Shape := ⟨1, ![3072]⟩
abbrev S1x1x3072 : Shape := ⟨3, ![1, 1, 3072]⟩
abbrev S24x7x1x3072 : Shape := ⟨4, ![24, 7, 1, 3072]⟩
abbrev S24x7x300x3072 : Shape := ⟨4, ![24, 7, 300, 3072]⟩
abbrev S24x2100x3072 : Shape := ⟨3, ![24, 2100, 3072]⟩
abbrev S1x1x1 : Shape := ⟨3, ![1, 1, 1]⟩
abbrev S1x1536x768 : Shape := ⟨3, ![1, 1536, 768]⟩
abbrev S1536x768 : Shape := ⟨2, ![1536, 768]⟩
abbrev S1x768 : Shape := ⟨2, ![1, 768]⟩
abbrev S768 : Shape := ⟨1, ![768]⟩
abbrev S1x1x768 : Shape := ⟨3, ![1, 1, 768]⟩
abbrev S1x1536x512 : Shape := ⟨3, ![1, 1536, 512]⟩
abbrev S1536x512 : Shape := ⟨2, ![1536, 512]⟩
abbrev S1x512 : Shape := ⟨2, ![1, 512]⟩
abbrev S512 : Shape := ⟨1, ![512]⟩
abbrev S1x1x512 : Shape := ⟨3, ![1, 1, 512]⟩
abbrev S24x4x768 : Shape := ⟨3, ![24, 4, 768]⟩
abbrev S24x2044x768 : Shape := ⟨3, ![24, 2044, 768]⟩
abbrev S24x16x768 : Shape := ⟨3, ![24, 16, 768]⟩
abbrev S24x2032x768 : Shape := ⟨3, ![24, 2032, 768]⟩
abbrev S24x64x768 : Shape := ⟨3, ![24, 64, 768]⟩
abbrev S24x1984x768 : Shape := ⟨3, ![24, 1984, 768]⟩

abbrev nBuf : Space → Nat
  | .hbm => 27
  | .vmem => 20
  | .smem => 0
  | _ => 0

abbrev bufTy : (tb : Table) → Fin (tcTables nBuf tb) → BufTy
  | .hbm, ⟨0, _⟩ => ⟨S24x2048x768, .i8⟩
  | .hbm, ⟨1, _⟩ => ⟨S5, .f32⟩
  | .hbm, ⟨2, _⟩ => ⟨S4, .f32⟩
  | .hbm, ⟨3, _⟩ => ⟨S4x2x768x3072, .i8⟩
  | .hbm, ⟨4, _⟩ => ⟨S4x3072, .f32⟩
  | .hbm, ⟨5, _⟩ => ⟨S4x3072, .f32⟩
  | .hbm, ⟨6, _⟩ => ⟨S4x1536x768, .i8⟩
  | .hbm, ⟨7, _⟩ => ⟨S4x768, .f32⟩
  | .hbm, ⟨8, _⟩ => ⟨S4x768, .f32⟩
  | .hbm, ⟨9, _⟩ => ⟨S4x1536x512, .i8⟩
  | .hbm, ⟨10, _⟩ => ⟨S4x512, .f32⟩
  | .hbm, ⟨11, _⟩ => ⟨S4x512, .f32⟩
  | .hbm, ⟨12, _⟩ => ⟨S24x7x80, .i8⟩
  | .hbm, ⟨13, _⟩ => ⟨S_, .f32⟩
  | .hbm, ⟨14, _⟩ => ⟨S4x80x3072, .i8⟩
  | .hbm, ⟨15, _⟩ => ⟨S4x3072, .f32⟩
  | .hbm, ⟨16, _⟩ => ⟨S1, .f32⟩
  | .hbm, ⟨17, _⟩ => ⟨S24x2048x512, .f32⟩
  | .hbm, ⟨18, _⟩ => ⟨S24x2048x768, .i8⟩
  | .hbm, ⟨19, _⟩ => ⟨S24x2048x1536, .i8⟩
  | .hbm, ⟨20, _⟩ => ⟨S24x2048x768, .i8⟩
  | .hbm, ⟨21, _⟩ => ⟨S1, .f32⟩
  | .hbm, ⟨22, _⟩ => ⟨S_, .f32⟩
  | .hbm, ⟨23, _⟩ => ⟨S1, .f32⟩
  | .hbm, ⟨24, _⟩ => ⟨S_, .f32⟩
  | .hbm, ⟨25, _⟩ => ⟨S1, .f32⟩
  | .hbm, ⟨26, _⟩ => ⟨S_, .f32⟩
  | .local _ .vmem, ⟨0, _⟩ => ⟨S24x2048x768, .i8⟩
  | .local _ .vmem, ⟨1, _⟩ => ⟨S5, .f32⟩
  | .local _ .vmem, ⟨2, _⟩ => ⟨S4, .f32⟩
  | .local _ .vmem, ⟨3, _⟩ => ⟨S4x2x768x3072, .i8⟩
  | .local _ .vmem, ⟨4, _⟩ => ⟨S4x3072, .f32⟩
  | .local _ .vmem, ⟨5, _⟩ => ⟨S4x3072, .f32⟩
  | .local _ .vmem, ⟨6, _⟩ => ⟨S4x1536x768, .i8⟩
  | .local _ .vmem, ⟨7, _⟩ => ⟨S4x768, .f32⟩
  | .local _ .vmem, ⟨8, _⟩ => ⟨S4x768, .f32⟩
  | .local _ .vmem, ⟨9, _⟩ => ⟨S4x1536x512, .i8⟩
  | .local _ .vmem, ⟨10, _⟩ => ⟨S4x512, .f32⟩
  | .local _ .vmem, ⟨11, _⟩ => ⟨S4x512, .f32⟩
  | .local _ .vmem, ⟨12, _⟩ => ⟨S24x7x80, .i8⟩
  | .local _ .vmem, ⟨13, _⟩ => ⟨S1, .f32⟩
  | .local _ .vmem, ⟨14, _⟩ => ⟨S4x80x3072, .i8⟩
  | .local _ .vmem, ⟨15, _⟩ => ⟨S4x3072, .f32⟩
  | .local _ .vmem, ⟨16, _⟩ => ⟨S24x2048x512, .f32⟩
  | .local _ .vmem, ⟨17, _⟩ => ⟨S24x2048x768, .i8⟩
  | .local _ .vmem, ⟨18, _⟩ => ⟨S24x2048x1536, .i8⟩
  | .local _ .vmem, ⟨19, _⟩ => ⟨S24x2048x768, .i8⟩
  | _, _ => ⟨S24x2048x768, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1_0 : Ref sig .tc := ⟨.hbm, 17, rfl⟩
abbrev main_v1_1 : Ref sig .tc := ⟨.hbm, 18, rfl⟩
abbrev main_v1_2 : Ref sig .tc := ⟨.hbm, 19, rfl⟩
abbrev main_v1_3 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19

abbrev nD : Nat := 1
abbrev τ : Topo := Topo.v7x

variable {F : FTy → Type} [FloatOps F]

abbrev grid0 : Pipeline.Grid := .none

abbrev stage0_0 : Fin 1 → Memref sig .tc .vmem S24x2048x768 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2x768x3072 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x3072 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x3072 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4x1536x768 .i8 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x768 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x1536x512 .i8 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S24x7x80 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4x80x3072 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S4x3072 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S24x2048x512 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S24x2048x768 .i8 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S24x2048x1536 .i8 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S24x2048x768 .i8 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
-- ==== Proof.Run0.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.ValueIdx
public import Idealize.ShloMosaic.Lib.Pipeline.ValueKit

@[expose] public section

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid0.Coords)
  (arg2 : Memref sig .tc .smem S3 .f32) (harg2 : arg2.IsWhole)
  (arg3 : Memref sig .tc .vmem S1x256x768 .i8) (harg3 : arg3.IsWhole)
  (arg4 : Memref sig .tc .vmem S1x256x768 .i8) (harg4 : arg4.IsWhole)
  (arg5 : Memref sig .tc .vmem S1x16x80 .i8) (harg5 : arg5.IsWhole)
  (arg6 : Memref sig .tc .vmem S80x3072 .i8) (harg6 : arg6.IsWhole)
  (arg7 : Memref sig .tc .vmem S2x768x3072 .i8) (harg7 : arg7.IsWhole)
  (arg8 : Memref sig .tc .vmem S1536x768 .i8) (harg8 : arg8.IsWhole)
  (arg9 : Memref sig .tc .vmem S1536x512 .i8) (harg9 : arg9.IsWhole)
  (arg10 : Memref sig .tc .vmem S1x3072 .f32) (harg10 : arg10.IsWhole)
  (arg11 : Memref sig .tc .vmem S1x3072 .f32) (harg11 : arg11.IsWhole)
  (arg12 : Memref sig .tc .vmem S1x3072 .f32) (harg12 : arg12.IsWhole)
  (arg13 : Memref sig .tc .vmem S1x768 .f32) (harg13 : arg13.IsWhole)
  (arg14 : Memref sig .tc .vmem S1x768 .f32) (harg14 : arg14.IsWhole)
  (arg15 : Memref sig .tc .vmem S1x512 .f32) (harg15 : arg15.IsWhole)
  (arg16 : Memref sig .tc .vmem S1x512 .f32) (harg16 : arg16.IsWhole)
  (arg17 : Memref sig .tc .vmem S1x256x512 .f32) (harg17 : arg17.IsWhole)
  (arg18 : Memref sig .tc .vmem S1x256x768 .i8) (harg18 : arg18.IsWhole)
  (arg19 : Memref sig .tc .vmem S1x256x1536 .i8) (harg19 : arg19.IsWhole)
  (arg20 : Memref sig .tc .vmem S256x1536 .bf16) (harg20 : arg20.IsWhole)
  (arg21 : Memref sig .tc .vmem S16x3072 .f32) (harg21 : arg21.IsWhole)
  (x0 : Vec F S3 .f32)
  (x1 : Vec F S1x256x768 .i8)
  (x2 : Vec F S1x256x768 .i8)
  (x3 : Vec F S1x16x80 .i8)
  (x4 : Vec F S80x3072 .i8)
  (x5 : Vec F S2x768x3072 .i8)
  (x6 : Vec F S1536x768 .i8)
  (x7 : Vec F S1536x512 .i8)
  (x8 : Vec F S1x3072 .f32)
  (x9 : Vec F S1x3072 .f32)
  (x10 : Vec F S1x3072 .f32)
  (x11 : Vec F S1x768 .f32)
  (x12 : Vec F S1x768 .f32)
  (x13 : Vec F S1x512 .f32)
  (x14 : Vec F S1x512 .f32)

/-- The body's branch: the grid coordinate along the sequence is zero. -/
abbrev cond0 : Prop := (Scalar.cmpi .ne (Scalar.extui (Scalar.cmpi .eq (BitVec.ofNat 32 (i 1).val) 0#32)) 0#32) = 1#1

/-- It holds at the first of the eight points of each batch row. -/
theorem cond0_iff : ∀ t : Fin cfg0.N, cond0 (grid0.coords t) ↔ t.val % 8 = 0 :=
  (fun t => by
    have ht : t.val < 192 := Nat.lt_of_lt_of_eq t.isLt N_0
    have e0 : (grid0.coords t 0).val = t.val / 8 % 24 := Pipeline.Grid.coords_val t 0 (by decide) rfl
    have e1 : (grid0.coords t 1).val = t.val / 1 % 8 := Pipeline.Grid.coords_val t 1 (by decide) rfl
    simp only [cond0, e0, e1]
    word_cmp
   : ∀ t : Fin grid0.N, cond0 (grid0.coords t) ↔ t.val % 8 = 0)

/-- The table of the conditioning projection, one row per frame, as the body's branch computes it from the conditioning
    block, its weights, the row of scales and the row of biases. -/
abbrev table0 (x3 : Vec F S1x16x80 .i8) (x4 : Vec F S80x3072 .i8) (x9 x10 : Vec F S1x3072 .f32) : Vec F S16x3072 .f32 :=
  k0_pay2 x3 x4 x10 x9

/-- The scalar a load of one word of the row of scales reads. -/
theorem scale0_ld (x : Vec F S3 .f32) (n : Fin 3) (inb : ∀ a, ![n.val] a + ![1] a ≤ S3.size a)
    (j : (⟨1, ![1]⟩ : Shape).Idx) : View.ld x (Rect.unit (s := S3) ![n.val] ![1] inb) j = x (ix1 n) := by
  refine congrArg x (funext fun b => ?_)
  obtain rfl : b = 0 := Subsingleton.elim _ _
  refine Fin.ext ?_
  have hj : (j 0).val = 0 := by have := (j 0).isLt; change (j 0).val < 1 at this; omega
  show n.val + 1 * (j 0).val = n.val
  omega

set_option maxHeartbeats 1000000 in
/-- The body's first stretch, whichever way its branch goes: afterwards the carried scratch holds the table `cv` — either
    because this point is the first of its batch row and stores it, or because it already held it. -/
def start0 : { v23 : BitVec 32 // ∀ (cv d : Vec F S16x3072 .f32) (hcv : cond0 i → cv = table0 x3 x4 x9 x10) (hd : ¬cond0 i → d = cv)
    (E : Set ℕ) (K : _ → sProp 𝕄),
    iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg11.view.loc (c : Thread nD τ) ↦[arg11.view.set]{fullShare} harg11.unread x9) ∗ (arg12.view.loc (c : Thread nD τ) ↦[arg12.view.set]{fullShare} harg12.unread x10) ∗ (arg21.view.loc (c : Thread nD τ) ↦[arg21.view.set]{fullShare} harg21.unread d)
        ∗ (iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg11.view.loc (c : Thread nD τ) ↦[arg11.view.set]{fullShare} harg11.unread x9) ∗ (arg12.view.loc (c : Thread nD τ) ↦[arg12.view.set]{fullShare} harg12.unread x10) ∗ (arg21.view.loc (c : Thread nD τ) ↦[arg21.view.set]{fullShare} harg21.unread cv)) -∗ K ⟨x0 (ix1 0), x0 (ix1 1), x0 (ix1 2), v23, k0_pay3 i, k0_pay4 x1, k0_pay5 x1, k0_pay6 x2⟩))
      ⊢ wp frame (wpE (defs₀ (F := F)) Variants.none c none) E (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, fun cv d hcv hd E K => ?run⟩
  case run =>
  simp only [k0_part1_eq_skeleton]; unfold k0_part1_skel
  by_cases hc : cond0 i
  · obtain rfl := hcv hc
    iintro ⟨H0, H1, H2, H3, H4, H9, H10, HS1, Hk⟩
    sl_exec (disch := first | sl_exact hc)
    sl_step
    frame_open
    simp (disch := decide) only [View.readAt_eq_ld, Memref.IsWhole.read_unread, View.ld_unit_lit']
    have s0 : ∀ inb j, View.ld x0 (Rect.unit (s := S3) ![0] ![1] inb) j = x0 (ix1 0) := fun inb j => scale0_ld x0 0 inb j
    have s1 : ∀ inb j, View.ld x0 (Rect.unit (s := S3) ![1] ![1] inb) j = x0 (ix1 1) := fun inb j => scale0_ld x0 1 inb j
    have s2 : ∀ inb j, View.ld x0 (Rect.unit (s := S3) ![2] ![1] inb) j = x0 (ix1 2) := fun inb j => scale0_ld x0 2 inb j
    simp only [s0, s1, s2]
    have e : ∀ (f : arg21.view.ty.Contents (Elt F)) (w : Vec F S16x3072 .f32), arg21.view.writes (Elt F) f [⟨Rect.unit (s := S16x3072) ![0, 0] S16x3072.size inb_S16x3072_S16x3072_0_0, w⟩] = harg21.unread w := fun f w =>
      harg21.eq_unread ((View.read_writes_eq_canon _ _ _ fun y => ⟨_, List.mem_singleton_self _, View.mem_set_unit_zero (by decide) inb_S16x3072_S16x3072_0_0 y⟩).trans (View.canon_cons_unit_lit inb_S16x3072_S16x3072_0_0 _ _ (by decide)))
    rw [e]
    iapply Hk
    isplitl [H0]; · iexact H0
    isplitl [H1]; · iexact H1
    isplitl [H2]; · iexact H2
    isplitl [H3]; · iexact H3
    isplitl [H4]; · iexact H4
    isplitl [H9]; · iexact H9
    isplitl [H10]; · iexact H10
    iexact HS1
  · obtain rfl := hd hc
    iintro ⟨H0, H1, H2, H3, H4, H9, H10, HS1, Hk⟩
    sl_exec (disch := first | sl_exact hc)
    sl_step
    frame_open
    simp (disch := decide) only [View.readAt_eq_ld, Memref.IsWhole.read_unread, View.ld_unit_lit']
    have s0 : ∀ inb j, View.ld x0 (Rect.unit (s := S3) ![0] ![1] inb) j = x0 (ix1 0) := fun inb j => scale0_ld x0 0 inb j
    have s1 : ∀ inb j, View.ld x0 (Rect.unit (s := S3) ![1] ![1] inb) j = x0 (ix1 1) := fun inb j => scale0_ld x0 1 inb j
    have s2 : ∀ inb j, View.ld x0 (Rect.unit (s := S3) ![2] ![1] inb) j = x0 (ix1 2) := fun inb j => scale0_ld x0 2 inb j
    simp only [s0, s1, s2]
    iapply Hk
    isplitl [H0]; · iexact H0
    isplitl [H1]; · iexact H1
    isplitl [H2]; · iexact H2
    isplitl [H3]; · iexact H3
    isplitl [H4]; · iexact H4
    isplitl [H9]; · iexact H9
    isplitl [H10]; · iexact H10
    iexact HS1

set_option maxHeartbeats 2000000 in
/-- The whole body at one grid point: what its stores leave in each output's staging buffer, as pieces (the last store
    first), with the proof that it runs to a state holding its inputs as they were, the carried scratch at the table `cv`
    and every buffer it stores into with those pieces written. -/
def run0 (cv : Vec F S16x3072 .f32) :
    Σ' (L15 : List (View.Piece (Elt F) S1x256x512 .f32)), Σ' (L16 : List (View.Piece (Elt F) S1x256x768 .i8)), Σ' (L17 : List (View.Piece (Elt F) S1x256x1536 .i8)), { L18 : List (View.Piece (Elt F) S256x1536 .bf16) //
      ∀ (d : Vec F S16x3072 .f32) (hcv : cond0 i → cv = table0 x3 x4 x9 x10) (hd : ¬cond0 i → d = cv)
        (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare d
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ owns (c : Thread nD τ) arg21 fullShare cv) -∗ K ⟨⟩))
          ⊢ wp frame (wpE (defs₀ (F := F)) Variants.none c none) E (cc0_wavenet_layer (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, fun d hcv hd E K => ?run⟩
  case run =>
    simp only [cc0_wavenet_layer_eq_skeleton]; unfold cc0_wavenet_layer_skel
    simp only [k0_part15_eq_skeleton]; unfold k0_part15_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%fs, %hfs, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg21.eq_unread hfs
    simp only [Prog.bind_assoc]
    rw [wp_bind]
    iapply ((start0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x9 x10).2 cv d hcv hd E _)
    isplitl [H0]; · iexact H0
    isplitl [H1]; · iexact H1
    isplitl [H2]; · iexact H2
    isplitl [H3]; · iexact H3
    isplitl [H4]; · iexact H4
    isplitl [H9]; · iexact H9
    isplitl [H10]; · iexact H10
    isplitl [HS1]; · iexact HS1
    iintro ⟨H0, H1, H2, H3, H4, H9, H10, HS1⟩
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    isplitl [H16]; · iexists _; iexact H16
    isplitl [H17]; · iexists _; iexact H17
    isplitl [H18]; · iexists _; iexact H18
    iexists _; isplitr; · ipureintro; exact harg21.read_unread _
    iexact HS1

end Cert.KernelIdeal.Layer

end
-- ==== Proof.Frame0.lean ====
module

public import proofs.«01_k».proof.Proof.Run0
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.ValueIdx
public import Idealize.ShloMosaic.Lib.Pipeline.ValueKit

@[expose] public section

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : Dev nD → Valuation τ sig (Elt F))

/-! ## What the windows read -/

/-- Window `w`'s block of its array at grid point `t`, the arrays holding `V` when the region is entered. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two scratch buffers: the gate's values, and the carried table. -/
abbrev sz0 : Memref sig .tc .vmem S256x1536 .bf16 := Memref.whole cc0_scratch0
abbrev sc0 : Memref sig .tc .vmem S16x3072 .f32 := Memref.whole cc0_scratch1

/-- The table of the conditioning projection at point `t`'s blocks. -/
def tab0 (c : Dev nD) (t : Fin cfg0.N) : Vec F S16x3072 .f32 :=
  table0 (blk0 V c 3 t) (blk0 V c 4 t) (blk0 V c 9 t) (blk0 V c 10 t)

/-- The pieces the body's stores at point `t` write into window 15's staging buffer. -/
abbrev pcs0_15 (c : Dev nD) (t : Fin cfg0.N) : List (View.Piece (Elt F) S1x256x512 .f32) :=
  (run0 (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) sz0 (Memref.isWhole_whole _) sc0 (Memref.isWhole_whole _)
    (blk0 V c 0 t) (blk0 V c 1 t) (blk0 V c 2 t) (blk0 V c 3 t) (blk0 V c 4 t) (blk0 V c 5 t) (blk0 V c 6 t) (blk0 V c 7 t) (blk0 V c 8 t) (blk0 V c 9 t) (blk0 V c 10 t) (blk0 V c 11 t) (blk0 V c 12 t) (blk0 V c 13 t) (blk0 V c 14 t) (tab0 V c t)).1

/-- What the body at point `t` leaves in window 15's staging buffer. -/
def out0_15 (c : Dev nD) (t : Fin cfg0.N) : Vec F S1x256x512 .f32 :=
  (Memref.whole cc0_stg15_0 : Memref sig .tc .vmem S1x256x512 .f32).view.read (Elt F) ((Memref.whole cc0_stg15_0 : Memref sig .tc .vmem S1x256x512 .f32).view.writes (Elt F) (Memref.whole cc0_stg15_0 : Memref sig .tc .vmem S1x256x512 .f32).view.junk (pcs0_15 V c t))

/-- The body's stores tile that buffer. -/
theorem cover0_15 (c : Dev nD) (t : Fin cfg0.N) (y : S1x256x512.Idx) :
    ∃ pc ∈ pcs0_15 V c t, y ∈ pc.1.set :=
  View.cover_of_tiledL (pcs0_15 V c t) S1x256x256.size (by sl_kernel_rfl) y

/-- The pieces the body's stores at point `t` write into window 16's staging buffer. -/
abbrev pcs0_16 (c : Dev nD) (t : Fin cfg0.N) : List (View.Piece (Elt F) S1x256x768 .i8) :=
  (run0 (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) sz0 (Memref.isWhole_whole _) sc0 (Memref.isWhole_whole _)
    (blk0 V c 0 t) (blk0 V c 1 t) (blk0 V c 2 t) (blk0 V c 3 t) (blk0 V c 4 t) (blk0 V c 5 t) (blk0 V c 6 t) (blk0 V c 7 t) (blk0 V c 8 t) (blk0 V c 9 t) (blk0 V c 10 t) (blk0 V c 11 t) (blk0 V c 12 t) (blk0 V c 13 t) (blk0 V c 14 t) (tab0 V c t)).2.1

/-- What the body at point `t` leaves in window 16's staging buffer. -/
def out0_16 (c : Dev nD) (t : Fin cfg0.N) : Vec F S1x256x768 .i8 :=
  (Memref.whole cc0_stg16_0 : Memref sig .tc .vmem S1x256x768 .i8).view.read (Elt F) ((Memref.whole cc0_stg16_0 : Memref sig .tc .vmem S1x256x768 .i8).view.writes (Elt F) (Memref.whole cc0_stg16_0 : Memref sig .tc .vmem S1x256x768 .i8).view.junk (pcs0_16 V c t))

/-- The body's stores tile that buffer. -/
theorem cover0_16 (c : Dev nD) (t : Fin cfg0.N) (y : S1x256x768.Idx) :
    ∃ pc ∈ pcs0_16 V c t, y ∈ pc.1.set :=
  View.cover_of_tiledL (pcs0_16 V c t) S1x256x256.size (by sl_kernel_rfl) y

/-- The pieces the body's stores at point `t` write into window 17's staging buffer. -/
abbrev pcs0_17 (c : Dev nD) (t : Fin cfg0.N) : List (View.Piece (Elt F) S1x256x1536 .i8) :=
  (run0 (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) sz0 (Memref.isWhole_whole _) sc0 (Memref.isWhole_whole _)
    (blk0 V c 0 t) (blk0 V c 1 t) (blk0 V c 2 t) (blk0 V c 3 t) (blk0 V c 4 t) (blk0 V c 5 t) (blk0 V c 6 t) (blk0 V c 7 t) (blk0 V c 8 t) (blk0 V c 9 t) (blk0 V c 10 t) (blk0 V c 11 t) (blk0 V c 12 t) (blk0 V c 13 t) (blk0 V c 14 t) (tab0 V c t)).2.2.1

/-- What the body at point `t` leaves in window 17's staging buffer. -/
def out0_17 (c : Dev nD) (t : Fin cfg0.N) : Vec F S1x256x1536 .i8 :=
  (Memref.whole cc0_stg17_0 : Memref sig .tc .vmem S1x256x1536 .i8).view.read (Elt F) ((Memref.whole cc0_stg17_0 : Memref sig .tc .vmem S1x256x1536 .i8).view.writes (Elt F) (Memref.whole cc0_stg17_0 : Memref sig .tc .vmem S1x256x1536 .i8).view.junk (pcs0_17 V c t))

/-- The body's stores tile that buffer. -/
theorem cover0_17 (c : Dev nD) (t : Fin cfg0.N) (y : S1x256x1536.Idx) :
    ∃ pc ∈ pcs0_17 V c t, y ∈ pc.1.set :=
  View.cover_of_tiledL (pcs0_17 V c t) S1x256x256.size (by sl_kernel_rfl) y

/-! ## The invariant and the pipeline's data -/

/-- Before point `n` the gate scratch holds anything; the carried scratch holds the table of point `n`'s batch row, unless
    `n` is the first point of its row, which fills it. -/
def Phi0 (c : Dev nD) (n : ℕ) : sProp 𝕄 :=
  iprop((∃ d, owns (c : Thread nD τ) sz0 fullShare d) ∗ (∃ d, ⌜∀ h : n < cfg0.N, ¬n % 8 = 0 → d = tab0 V c ⟨n, h⟩⌝ ∗ owns (c : Thread nD τ) sc0 fullShare d) ∗ Pipeline.scopedRestBut (Ix := Unit) (Name := ℕ) (U := UR sig nD τ) (Lvl := ℕ) (Val := Elt F) spec0 c [cc0_scratch0, cc0_scratch1])

/-- The proof data: the arrays as found; after a point each input's buffer at its block, each output's at what the body
    leaves; nothing owed; full shares. -/
def dats0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blk0 V c 7 t
    | ⟨8, _⟩ => blk0 V c 8 t
    | ⟨9, _⟩ => blk0 V c 9 t
    | ⟨10, _⟩ => blk0 V c 10 t
    | ⟨11, _⟩ => blk0 V c 11 t
    | ⟨12, _⟩ => blk0 V c 12 t
    | ⟨13, _⟩ => blk0 V c 13 t
    | ⟨14, _⟩ => blk0 V c 14 t
    | ⟨15, _⟩ => out0_15 V c t
    | ⟨16, _⟩ => out0_16 V c t
    | ⟨17, _⟩ => out0_17 V c t
    | ⟨_ + 18, h⟩ => absurd h (Nat.not_lt.2 (Nat.le_add_left _ _))
  Φ t := Phi0 V c t.val
  q _ := fullShare
  owed _ := 0

theorem A0_eq (c : Dev nD) (w : Fin cfg0.W) : (dats0 V c).A w = V c (Pipeline.arrRef spec0 w) := by
  dsimp only [dats0]

theorem after0_0 (c : Dev nD) (t : Fin cfg0.N) : (dats0 V c).after 0 t = blk0 V c 0 t := by dsimp only [dats0]
theorem after0_1 (c : Dev nD) (t : Fin cfg0.N) : (dats0 V c).after 1 t = blk0 V c 1 t := by dsimp only [dats0]
theorem after0_2 (c : Dev nD) (t : Fin cfg0.N) : (dats0 V c).after 2 t = blk0 V c 2 t := by dsimp only [dats0]
theorem after0_3 (c : Dev nD) (t : Fin cfg0.N) : (dats0 V c).after 3 t = blk0 V c 3 t := by dsimp only [dats0]
theorem after0_4 (c : Dev nD) (t : Fin cfg0.N) : (dats0 V c).after 4 t = blk0 V c 4 t := by dsimp only [dats0]
theorem after0_5 (c : Dev nD) (t : Fin cfg0.N) : (dats0 V c).after 5 t = blk0 V c 5 t := by dsimp only [dats0]
theorem after0_6 (c : Dev nD) (t : Fin cfg0.N) : (dats0 V c).after 6 t = blk0 V c 6 t := by dsimp only [dats0]
theorem after0_7 (c : Dev nD) (t : Fin cfg0.N) : (dats0 V c).after 7 t = blk0 V c 7 t := by dsimp only [dats0]
theorem after0_8 (c : Dev nD) (t : Fin cfg0.N) : (dats0 V c).after 8 t = blk0 V c 8 t := by dsimp only [dats0]
theorem after0_9 (c : Dev nD) (t : Fin cfg0.N) : (dats0 V c).after 9 t = blk0 V c 9 t := by dsimp only [dats0]
theorem after0_10 (c : Dev nD) (t : Fin cfg0.N) : (dats0 V c).after 10 t = blk0 V c 10 t := by dsimp only [dats0]
theorem after0_11 (c : Dev nD) (t : Fin cfg0.N) : (dats0 V c).after 11 t = blk0 V c 11 t := by dsimp only [dats0]
theorem after0_12 (c : Dev nD) (t : Fin cfg0.N) : (dats0 V c).after 12 t = blk0 V c 12 t := by dsimp only [dats0]
theorem after0_13 (c : Dev nD) (t : Fin cfg0.N) : (dats0 V c).after 13 t = blk0 V c 13 t := by dsimp only [dats0]
theorem after0_14 (c : Dev nD) (t : Fin cfg0.N) : (dats0 V c).after 14 t = blk0 V c 14 t := by dsimp only [dats0]
theorem after0_15 (c : Dev nD) (t : Fin cfg0.N) : (dats0 V c).after 15 t = out0_15 V c t := by dsimp only [dats0]
theorem after0_16 (c : Dev nD) (t : Fin cfg0.N) : (dats0 V c).after 16 t = out0_16 V c t := by dsimp only [dats0]
theorem after0_17 (c : Dev nD) (t : Fin cfg0.N) : (dats0 V c).after 17 t = out0_17 V c t := by dsimp only [dats0]

/-- What a fetch at a point stages of an input is its block there. -/
theorem fetched0_0 (c : Dev nD) (t : Fin cfg0.N) (d) : (dats0 V c).fetched 0 t d = blk0 V c 0 t := by
  unfold Dat.fetched Dat.blockOf blk0; rw [A0_eq]; try rfl
theorem fetched0_1 (c : Dev nD) (t : Fin cfg0.N) (d) : (dats0 V c).fetched 1 t d = blk0 V c 1 t := by
  unfold Dat.fetched Dat.blockOf blk0; rw [A0_eq]; try rfl
theorem fetched0_2 (c : Dev nD) (t : Fin cfg0.N) (d) : (dats0 V c).fetched 2 t d = blk0 V c 2 t := by
  unfold Dat.fetched Dat.blockOf blk0; rw [A0_eq]; try rfl
theorem fetched0_3 (c : Dev nD) (t : Fin cfg0.N) (d) : (dats0 V c).fetched 3 t d = blk0 V c 3 t := by
  unfold Dat.fetched Dat.blockOf blk0; rw [A0_eq]; try rfl
theorem fetched0_4 (c : Dev nD) (t : Fin cfg0.N) (d) : (dats0 V c).fetched 4 t d = blk0 V c 4 t := by
  unfold Dat.fetched Dat.blockOf blk0; rw [A0_eq]; try rfl
theorem fetched0_5 (c : Dev nD) (t : Fin cfg0.N) (d) : (dats0 V c).fetched 5 t d = blk0 V c 5 t := by
  unfold Dat.fetched Dat.blockOf blk0; rw [A0_eq]; try rfl
theorem fetched0_6 (c : Dev nD) (t : Fin cfg0.N) (d) : (dats0 V c).fetched 6 t d = blk0 V c 6 t := by
  unfold Dat.fetched Dat.blockOf blk0; rw [A0_eq]; try rfl
theorem fetched0_7 (c : Dev nD) (t : Fin cfg0.N) (d) : (dats0 V c).fetched 7 t d = blk0 V c 7 t := by
  unfold Dat.fetched Dat.blockOf blk0; rw [A0_eq]; try rfl
theorem fetched0_8 (c : Dev nD) (t : Fin cfg0.N) (d) : (dats0 V c).fetched 8 t d = blk0 V c 8 t := by
  unfold Dat.fetched Dat.blockOf blk0; rw [A0_eq]; try rfl
theorem fetched0_9 (c : Dev nD) (t : Fin cfg0.N) (d) : (dats0 V c).fetched 9 t d = blk0 V c 9 t := by
  unfold Dat.fetched Dat.blockOf blk0; rw [A0_eq]; try rfl
theorem fetched0_10 (c : Dev nD) (t : Fin cfg0.N) (d) : (dats0 V c).fetched 10 t d = blk0 V c 10 t := by
  unfold Dat.fetched Dat.blockOf blk0; rw [A0_eq]; try rfl
theorem fetched0_11 (c : Dev nD) (t : Fin cfg0.N) (d) : (dats0 V c).fetched 11 t d = blk0 V c 11 t := by
  unfold Dat.fetched Dat.blockOf blk0; rw [A0_eq]; try rfl
theorem fetched0_12 (c : Dev nD) (t : Fin cfg0.N) (d) : (dats0 V c).fetched 12 t d = blk0 V c 12 t := by
  unfold Dat.fetched Dat.blockOf blk0; rw [A0_eq]; try rfl
theorem fetched0_13 (c : Dev nD) (t : Fin cfg0.N) (d) : (dats0 V c).fetched 13 t d = blk0 V c 13 t := by
  unfold Dat.fetched Dat.blockOf blk0; rw [A0_eq]; try rfl
theorem fetched0_14 (c : Dev nD) (t : Fin cfg0.N) (d) : (dats0 V c).fetched 14 t d = blk0 V c 14 t := by
  unfold Dat.fetched Dat.blockOf blk0; rw [A0_eq]; try rfl

/-- An input's staging buffer holds its block at every point, fetched there or not. -/
theorem before0_0 (c : Dev nD) (t : Fin cfg0.N) (d) : (dats0 V c).before 0 t d = blk0 V c 0 t :=
  ((dats0 V c).before_in_eq_fetched 0 rfl (fun _ => rfl) (fun _ _ _ => rfl) (fun t => by rw [after0_0]; unfold Dat.blockOf blk0; rw [A0_eq]; try rfl) t d).trans
    (fetched0_0 V c t d)
theorem before0_1 (c : Dev nD) (t : Fin cfg0.N) (d) : (dats0 V c).before 1 t d = blk0 V c 1 t :=
  ((dats0 V c).before_in_eq_fetched 1 rfl (fun _ => rfl) (fun _ _ _ => rfl) (fun t => by rw [after0_1]; unfold Dat.blockOf blk0; rw [A0_eq]; try rfl) t d).trans
    (fetched0_1 V c t d)
theorem before0_2 (c : Dev nD) (t : Fin cfg0.N) (d) : (dats0 V c).before 2 t d = blk0 V c 2 t :=
  ((dats0 V c).before_in_eq_fetched 2 rfl (fun _ => rfl) (fun _ _ _ => rfl) (fun t => by rw [after0_2]; unfold Dat.blockOf blk0; rw [A0_eq]; try rfl) t d).trans
    (fetched0_2 V c t d)
theorem before0_3 (c : Dev nD) (t : Fin cfg0.N) (d) : (dats0 V c).before 3 t d = blk0 V c 3 t :=
  ((dats0 V c).before_in_eq_fetched 3 rfl (fun _ => rfl) (fun _ _ _ => rfl) (fun t => by rw [after0_3]; unfold Dat.blockOf blk0; rw [A0_eq]; try rfl) t d).trans
    (fetched0_3 V c t d)
theorem before0_4 (c : Dev nD) (t : Fin cfg0.N) (d) : (dats0 V c).before 4 t d = blk0 V c 4 t :=
  ((dats0 V c).before_in_eq_fetched 4 rfl (fun _ => rfl) (fun _ _ _ => rfl) (fun t => by rw [after0_4]; unfold Dat.blockOf blk0; rw [A0_eq]; try rfl) t d).trans
    (fetched0_4 V c t d)
theorem before0_5 (c : Dev nD) (t : Fin cfg0.N) (d) : (dats0 V c).before 5 t d = blk0 V c 5 t :=
  ((dats0 V c).before_in_eq_fetched 5 rfl (fun _ => rfl) (fun _ _ _ => rfl) (fun t => by rw [after0_5]; unfold Dat.blockOf blk0; rw [A0_eq]; try rfl) t d).trans
    (fetched0_5 V c t d)
theorem before0_6 (c : Dev nD) (t : Fin cfg0.N) (d) : (dats0 V c).before 6 t d = blk0 V c 6 t :=
  ((dats0 V c).before_in_eq_fetched 6 rfl (fun _ => rfl) (fun _ _ _ => rfl) (fun t => by rw [after0_6]; unfold Dat.blockOf blk0; rw [A0_eq]; try rfl) t d).trans
    (fetched0_6 V c t d)
theorem before0_7 (c : Dev nD) (t : Fin cfg0.N) (d) : (dats0 V c).before 7 t d = blk0 V c 7 t :=
  ((dats0 V c).before_in_eq_fetched 7 rfl (fun _ => rfl) (fun _ _ _ => rfl) (fun t => by rw [after0_7]; unfold Dat.blockOf blk0; rw [A0_eq]; try rfl) t d).trans
    (fetched0_7 V c t d)
theorem before0_8 (c : Dev nD) (t : Fin cfg0.N) (d) : (dats0 V c).before 8 t d = blk0 V c 8 t :=
  ((dats0 V c).before_in_eq_fetched 8 rfl (fun _ => rfl) (fun _ _ _ => rfl) (fun t => by rw [after0_8]; unfold Dat.blockOf blk0; rw [A0_eq]; try rfl) t d).trans
    (fetched0_8 V c t d)
theorem before0_9 (c : Dev nD) (t : Fin cfg0.N) (d) : (dats0 V c).before 9 t d = blk0 V c 9 t :=
  ((dats0 V c).before_in_eq_fetched 9 rfl (fun _ => rfl) (fun _ _ _ => rfl) (fun t => by rw [after0_9]; unfold Dat.blockOf blk0; rw [A0_eq]; try rfl) t d).trans
    (fetched0_9 V c t d)
theorem before0_10 (c : Dev nD) (t : Fin cfg0.N) (d) : (dats0 V c).before 10 t d = blk0 V c 10 t :=
  ((dats0 V c).before_in_eq_fetched 10 rfl (fun _ => rfl) (fun _ _ _ => rfl) (fun t => by rw [after0_10]; unfold Dat.blockOf blk0; rw [A0_eq]; try rfl) t d).trans
    (fetched0_10 V c t d)
theorem before0_11 (c : Dev nD) (t : Fin cfg0.N) (d) : (dats0 V c).before 11 t d = blk0 V c 11 t :=
  ((dats0 V c).before_in_eq_fetched 11 rfl (fun _ => rfl) (fun _ _ _ => rfl) (fun t => by rw [after0_11]; unfold Dat.blockOf blk0; rw [A0_eq]; try rfl) t d).trans
    (fetched0_11 V c t d)
theorem before0_12 (c : Dev nD) (t : Fin cfg0.N) (d) : (dats0 V c).before 12 t d = blk0 V c 12 t :=
  ((dats0 V c).before_in_eq_fetched 12 rfl (fun _ => rfl) (fun _ _ _ => rfl) (fun t => by rw [after0_12]; unfold Dat.blockOf blk0; rw [A0_eq]; try rfl) t d).trans
    (fetched0_12 V c t d)
theorem before0_13 (c : Dev nD) (t : Fin cfg0.N) (d) : (dats0 V c).before 13 t d = blk0 V c 13 t :=
  ((dats0 V c).before_in_eq_fetched 13 rfl (fun _ => rfl) (fun _ _ _ => rfl) (fun t => by rw [after0_13]; unfold Dat.blockOf blk0; rw [A0_eq]; try rfl) t d).trans
    (fetched0_13 V c t d)
theorem before0_14 (c : Dev nD) (t : Fin cfg0.N) (d) : (dats0 V c).before 14 t d = blk0 V c 14 t :=
  ((dats0 V c).before_in_eq_fetched 14 rfl (fun _ => rfl) (fun _ _ _ => rfl) (fun t => by rw [after0_14]; unfold Dat.blockOf blk0; rw [A0_eq]; try rfl) t d).trans
    (fetched0_14 V c t d)

/-- The inputs the table is made of are not fetched inside a batch row, so it does not change there. -/
theorem tab0_succ (c : Dev nD) (n : ℕ) (h : n + 1 < cfg0.N) (hn : ¬(n + 1) % 8 = 0) :
    tab0 V c ⟨n, Nat.lt_of_succ_lt h⟩ = tab0 V c ⟨n + 1, h⟩ := by
  have e3 : blk0 V c 3 ⟨n, Nat.lt_of_succ_lt h⟩ = blk0 V c 3 ⟨n + 1, h⟩ :=
    ((fetched0_3 V c _ (blk0 V c 3 ⟨n, Nat.lt_of_succ_lt h⟩)).symm.trans (Dat.fetched_congr _ 3
      ((cfg0.win 3).index_eq_of_fetch rfl ⟨n + 1, h⟩ (by rw [← Bool.not_eq_true, fetch0_3]; show ¬(n + 1) % _ = 0; omega)).2.symm rfl _)).trans
      (fetched0_3 V c _ _)
  have e4 : blk0 V c 4 ⟨n, Nat.lt_of_succ_lt h⟩ = blk0 V c 4 ⟨n + 1, h⟩ :=
    ((fetched0_4 V c _ (blk0 V c 4 ⟨n, Nat.lt_of_succ_lt h⟩)).symm.trans (Dat.fetched_congr _ 4
      ((cfg0.win 4).index_eq_of_fetch rfl ⟨n + 1, h⟩ (by rw [← Bool.not_eq_true, fetch0_4]; show ¬(n + 1) % _ = 0; omega)).2.symm rfl _)).trans
      (fetched0_4 V c _ _)
  have e9 : blk0 V c 9 ⟨n, Nat.lt_of_succ_lt h⟩ = blk0 V c 9 ⟨n + 1, h⟩ :=
    ((fetched0_9 V c _ (blk0 V c 9 ⟨n, Nat.lt_of_succ_lt h⟩)).symm.trans (Dat.fetched_congr _ 9
      ((cfg0.win 9).index_eq_of_fetch rfl ⟨n + 1, h⟩ (by rw [← Bool.not_eq_true, fetch0_9]; show ¬(n + 1) % _ = 0; omega)).2.symm rfl _)).trans
      (fetched0_9 V c _ _)
  have e10 : blk0 V c 10 ⟨n, Nat.lt_of_succ_lt h⟩ = blk0 V c 10 ⟨n + 1, h⟩ :=
    ((fetched0_10 V c _ (blk0 V c 10 ⟨n, Nat.lt_of_succ_lt h⟩)).symm.trans (Dat.fetched_congr _ 10
      ((cfg0.win 10).index_eq_of_fetch rfl ⟨n + 1, h⟩ (by rw [← Bool.not_eq_true, fetch0_10]; show ¬(n + 1) % _ = 0; omega)).2.symm rfl _)).trans
      (fetched0_10 V c _ _)
  unfold tab0
  exact congr (congr (congr (congrArg (fun a b d e => table0 a b d e) e3) e4) e9) e10

/-! ## The body obligation -/

/-- The body's branch is taken at the first point of each batch row. -/
theorem cond0_at (t : Fin cfg0.N) : cond0 (grid0.coords t) ↔ t.val % 8 = 0 := cond0_iff t

/-- What the body is called with at point `t`, window by window, -/
def pre0 (c : Dev nD) (t : Fin cfg0.N) : sProp 𝕄 :=
  iprop(Phi0 V c t.val ∗ (dats0 V c).owesAt () t.castSucc
    ∗ (∃ d, owns (c : Thread nD τ) (win0_0.stage (cfg0.slots t 0)) fullShare ((dats0 V c).before 0 t d))
    ∗ (∃ d, owns (c : Thread nD τ) (win0_1.stage (cfg0.slots t 1)) fullShare ((dats0 V c).before 1 t d))
    ∗ (∃ d, owns (c : Thread nD τ) (win0_2.stage (cfg0.slots t 2)) fullShare ((dats0 V c).before 2 t d))
    ∗ (∃ d, owns (c : Thread nD τ) (win0_3.stage (cfg0.slots t 3)) fullShare ((dats0 V c).before 3 t d))
    ∗ (∃ d, owns (c : Thread nD τ) (win0_4.stage (cfg0.slots t 4)) fullShare ((dats0 V c).before 4 t d))
    ∗ (∃ d, owns (c : Thread nD τ) (win0_5.stage (cfg0.slots t 5)) fullShare ((dats0 V c).before 5 t d))
    ∗ (∃ d, owns (c : Thread nD τ) (win0_6.stage (cfg0.slots t 6)) fullShare ((dats0 V c).before 6 t d))
    ∗ (∃ d, owns (c : Thread nD τ) (win0_7.stage (cfg0.slots t 7)) fullShare ((dats0 V c).before 7 t d))
    ∗ (∃ d, owns (c : Thread nD τ) (win0_8.stage (cfg0.slots t 8)) fullShare ((dats0 V c).before 8 t d))
    ∗ (∃ d, owns (c : Thread nD τ) (win0_9.stage (cfg0.slots t 9)) fullShare ((dats0 V c).before 9 t d))
    ∗ (∃ d, owns (c : Thread nD τ) (win0_10.stage (cfg0.slots t 10)) fullShare ((dats0 V c).before 10 t d))
    ∗ (∃ d, owns (c : Thread nD τ) (win0_11.stage (cfg0.slots t 11)) fullShare ((dats0 V c).before 11 t d))
    ∗ (∃ d, owns (c : Thread nD τ) (win0_12.stage (cfg0.slots t 12)) fullShare ((dats0 V c).before 12 t d))
    ∗ (∃ d, owns (c : Thread nD τ) (win0_13.stage (cfg0.slots t 13)) fullShare ((dats0 V c).before 13 t d))
    ∗ (∃ d, owns (c : Thread nD τ) (win0_14.stage (cfg0.slots t 14)) fullShare ((dats0 V c).before 14 t d))
    ∗ (∃ d, owns (c : Thread nD τ) (win0_15.stage (cfg0.slots t 15)) fullShare ((dats0 V c).before 15 t d))
    ∗ (∃ d, owns (c : Thread nD τ) (win0_16.stage (cfg0.slots t 16)) fullShare ((dats0 V c).before 16 t d))
    ∗ (∃ d, owns (c : Thread nD τ) (win0_17.stage (cfg0.slots t 17)) fullShare ((dats0 V c).before 17 t d)))

/-- and what it returns. -/
def post0 (c : Dev nD) (t : Fin cfg0.N) : sProp 𝕄 :=
  iprop(Phi0 V c (t.val + 1) ∗ (dats0 V c).owesAt () t.succ
    ∗ owns (c : Thread nD τ) (win0_0.stage (cfg0.slots t 0)) fullShare ((dats0 V c).after 0 t)
    ∗ owns (c : Thread nD τ) (win0_1.stage (cfg0.slots t 1)) fullShare ((dats0 V c).after 1 t)
    ∗ owns (c : Thread nD τ) (win0_2.stage (cfg0.slots t 2)) fullShare ((dats0 V c).after 2 t)
    ∗ owns (c : Thread nD τ) (win0_3.stage (cfg0.slots t 3)) fullShare ((dats0 V c).after 3 t)
    ∗ owns (c : Thread nD τ) (win0_4.stage (cfg0.slots t 4)) fullShare ((dats0 V c).after 4 t)
    ∗ owns (c : Thread nD τ) (win0_5.stage (cfg0.slots t 5)) fullShare ((dats0 V c).after 5 t)
    ∗ owns (c : Thread nD τ) (win0_6.stage (cfg0.slots t 6)) fullShare ((dats0 V c).after 6 t)
    ∗ owns (c : Thread nD τ) (win0_7.stage (cfg0.slots t 7)) fullShare ((dats0 V c).after 7 t)
    ∗ owns (c : Thread nD τ) (win0_8.stage (cfg0.slots t 8)) fullShare ((dats0 V c).after 8 t)
    ∗ owns (c : Thread nD τ) (win0_9.stage (cfg0.slots t 9)) fullShare ((dats0 V c).after 9 t)
    ∗ owns (c : Thread nD τ) (win0_10.stage (cfg0.slots t 10)) fullShare ((dats0 V c).after 10 t)
    ∗ owns (c : Thread nD τ) (win0_11.stage (cfg0.slots t 11)) fullShare ((dats0 V c).after 11 t)
    ∗ owns (c : Thread nD τ) (win0_12.stage (cfg0.slots t 12)) fullShare ((dats0 V c).after 12 t)
    ∗ owns (c : Thread nD τ) (win0_13.stage (cfg0.slots t 13)) fullShare ((dats0 V c).after 13 t)
    ∗ owns (c : Thread nD τ) (win0_14.stage (cfg0.slots t 14)) fullShare ((dats0 V c).after 14 t)
    ∗ owns (c : Thread nD τ) (win0_15.stage (cfg0.slots t 15)) fullShare ((dats0 V c).after 15 t)
    ∗ owns (c : Thread nD τ) (win0_16.stage (cfg0.slots t 16)) fullShare ((dats0 V c).after 16 t)
    ∗ owns (c : Thread nD τ) (win0_17.stage (cfg0.slots t 17)) fullShare ((dats0 V c).after 17 t))

set_option maxHeartbeats 4000000 in
/-- The body at any point, from what the pipeline hands it to what it takes back. -/
theorem sound0 (c : Dev nD) (t : Fin cfg0.N) :
    pre0 V c t ⊢ wp frame (wpE (defs₀ (F := F)) Variants.none c none) Set.univ (bodyAt0 t) (fun _ => post0 V c t) := by
  unfold pre0 post0 bodyAt0 Phi0

  simp only [before0_0, before0_1, before0_2, before0_3, before0_4, before0_5, before0_6, before0_7, before0_8, before0_9, before0_10, before0_11, before0_12, before0_13, before0_14]
  rw [show (dats0 V c).owesAt () t.succ = (dats0 V c).owesAt () t.castSucc from rfl,
    after0_0, after0_1, after0_2, after0_3, after0_4, after0_5, after0_6, after0_7, after0_8, after0_9, after0_10, after0_11, after0_12, after0_13, after0_14, after0_15, after0_16, after0_17]
  iintro ⟨⟨HS0, ⟨%dc, %hdc, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((run0 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) sz0 (Memref.isWhole_whole _) sc0 (Memref.isWhole_whole _)
    (blk0 V c 0 t) (blk0 V c 1 t) (blk0 V c 2 t) (blk0 V c 3 t) (blk0 V c 4 t) (blk0 V c 5 t) (blk0 V c 6 t) (blk0 V c 7 t) (blk0 V c 8 t) (blk0 V c 9 t) (blk0 V c 10 t) (blk0 V c 11 t) (blk0 V c 12 t) (blk0 V c 13 t) (blk0 V c 14 t) (tab0 V c t)).2.2.2.2 dc (fun _ => rfl) (fun hc => hdc t.isLt fun h0 => hc ((cond0_at t).mpr h0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [HS0]; · iexact HS0
  isplitl [HS1]; · iexact HS1
  iintro ⟨H0, H1, H2, H3, H4, H5, H6, H7, H8, H9, H10, H11, H12, H13, H14, ⟨%e15, H15⟩, ⟨%e16, H16⟩, ⟨%e17, H17⟩, ⟨%ez, HS0⟩, HS1⟩
  isplitl [HS0 HS1 Hr]
  · isplitl [HS0]
    · iexists _; unfold owns; iexists _; isplitr
      swap; · iexact HS0
      ipureintro; rfl
    isplitl [HS1]
    · iexists _; isplitr
      swap; · iexact HS1
      ipureintro; exact fun h hn => tab0_succ V c t.val h hn
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · unfold owns; iexists _; isplitr
    swap; · iexact H15
    ipureintro; exact View.read_writes_of_cover _ _ _ _ _ (cover0_15 V c t)
  isplitl [H16]
  · unfold owns; iexists _; isplitr
    swap; · iexact H16
    ipureintro; exact View.read_writes_of_cover _ _ _ _ _ (cover0_16 V c t)
  unfold owns; iexists _; isplitr
  swap; · iexact H17
  ipureintro; exact View.read_writes_of_cover _ _ _ _ _ (cover0_17 V c t)

theorem row0 (t : Fin cfg0.N) :
    defs₀ (F := F) .tc cfg0.body (cfg0.bodyArgs t (cfg0.slots t)) = bodyAt0 t := by
  unfold defs₀; rw [Defs.onTc_tc]

/-- The pipeline's body obligation. -/
theorem body_obligation0 (c : Dev nD) : BodyObligation (dats0 V c) (defs₀ (F := F)) Variants.none () Set.univ := fun t => by
  rw [bigSep_W0, bigSep_W0, row0]
  exact triple_restated (sound0 V c t) rfl .rfl fun _ => .rfl

/-- The scratch at anything is the invariant before the first point, -/
theorem hin0 (c : Dev nD) : Pipeline.scopedRest spec0 c ⊢ (dats0 V c).Φ 0 := by
  rw [scopedRest0_split, show (dats0 V c).Φ 0 = Phi0 V c 0 from rfl]; unfold Phi0
  simp only [owns_whole]
  iintro ⟨⟨HS0, ⟨%d, HS1⟩⟩, Hr⟩
  isplitl [HS0]; · iexact HS0
  isplitl [HS1]
  · iexists d; isplitr; · ipureintro; exact fun _ h => absurd trivial h
    iexact HS1
  iexact Hr

/-- and the invariant after the last gives it back. -/
theorem hout0 (c : Dev nD) : (dats0 V c).Φ (Fin.last cfg0.N) ⊢ Pipeline.scopedRest spec0 c := by
  rw [scopedRest0_split, show (dats0 V c).Φ (Fin.last cfg0.N) = Phi0 V c cfg0.N from rfl]; unfold Phi0
  simp only [owns_whole]
  iintro ⟨HS0, ⟨%d, -, HS1⟩, Hr⟩
  isplitl [HS0 HS1]
  · isplitl [HS0]; · iexact HS0
    iexists d; iexact HS1
  iexact Hr

end Cert.KernelIdeal.Layer

end
-- ==== Proof.Run1.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.ValueIdx
public import Idealize.ShloMosaic.Lib.Pipeline.ValueKit

@[expose] public section

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (c : Dev nD) (i : grid1.Coords)
  (arg2 : Memref sig .tc .smem S3 .f32) (harg2 : arg2.IsWhole)
  (arg3 : Memref sig .tc .vmem S1x256x768 .i8) (harg3 : arg3.IsWhole)
  (arg4 : Memref sig .tc .vmem S1x256x768 .i8) (harg4 : arg4.IsWhole)
  (arg5 : Memref sig .tc .vmem S1x16x80 .i8) (harg5 : arg5.IsWhole)
  (arg6 : Memref sig .tc .vmem S80x3072 .i8) (harg6 : arg6.IsWhole)
  (arg7 : Memref sig .tc .vmem S2x768x3072 .i8) (harg7 : arg7.IsWhole)
  (arg8 : Memref sig .tc .vmem S1536x768 .i8) (harg8 : arg8.IsWhole)
  (arg9 : Memref sig .tc .vmem S1536x512 .i8) (harg9 : arg9.IsWhole)
  (arg10 : Memref sig .tc .vmem S1x3072 .f32) (harg10 : arg10.IsWhole)
  (arg11 : Memref sig .tc .vmem S1x3072 .f32) (harg11 : arg11.IsWhole)
  (arg12 : Memref sig .tc .vmem S1x3072 .f32) (harg12 : arg12.IsWhole)
  (arg13 : Memref sig .tc .vmem S1x768 .f32) (harg13 : arg13.IsWhole)
  (arg14 : Memref sig .tc .vmem S1x768 .f32) (harg14 : arg14.IsWhole)
  (arg15 : Memref sig .tc .vmem S1x512 .f32) (harg15 : arg15.IsWhole)
  (arg16 : Memref sig .tc .vmem S1x512 .f32) (harg16 : arg16.IsWhole)
  (arg17 : Memref sig .tc .vmem S1x256x512 .f32) (harg17 : arg17.IsWhole)
  (arg18 : Memref sig .tc .vmem S1x256x512 .f32) (harg18 : arg18.IsWhole)
  (arg19 : Memref sig .tc .vmem S1x256x768 .i8) (harg19 : arg19.IsWhole)
  (arg20 : Memref sig .tc .vmem S256x1536 .bf16) (harg20 : arg20.IsWhole)
  (arg21 : Memref sig .tc .vmem S16x3072 .f32) (harg21 : arg21.IsWhole)
  (x0 : Vec F S3 .f32)
  (x1 : Vec F S1x256x768 .i8)
  (x2 : Vec F S1x256x768 .i8)
  (x3 : Vec F S1x16x80 .i8)
  (x4 : Vec F S80x3072 .i8)
  (x5 : Vec F S2x768x3072 .i8)
  (x6 : Vec F S1536x768 .i8)
  (x7 : Vec F S1536x512 .i8)
  (x8 : Vec F S1x3072 .f32)
  (x9 : Vec F S1x3072 .f32)
  (x10 : Vec F S1x3072 .f32)
  (x11 : Vec F S1x768 .f32)
  (x12 : Vec F S1x768 .f32)
  (x13 : Vec F S1x512 .f32)
  (x14 : Vec F S1x512 .f32)
  (x15 : Vec F S1x256x512 .f32)

/-- The body's branch: the grid coordinate along the sequence is zero. -/
abbrev cond1 : Prop := (Scalar.cmpi .ne (Scalar.extui (Scalar.cmpi .eq (BitVec.ofNat 32 (i 1).val) 0#32)) 0#32) = 1#1

/-- It holds at the first of the eight points of each batch row. -/
theorem cond1_iff : ∀ t : Fin cfg1.N, cond1 (grid1.coords t) ↔ t.val % 8 = 0 :=
  (fun t => by
    have ht : t.val < 192 := Nat.lt_of_lt_of_eq t.isLt N_1
    have e0 : (grid1.coords t 0).val = t.val / 8 % 24 := Pipeline.Grid.coords_val t 0 (by decide) rfl
    have e1 : (grid1.coords t 1).val = t.val / 1 % 8 := Pipeline.Grid.coords_val t 1 (by decide) rfl
    simp only [cond1, e0, e1]
    word_cmp
   : ∀ t : Fin grid1.N, cond1 (grid1.coords t) ↔ t.val % 8 = 0)

/-- The table of the conditioning projection, one row per frame, as the body's branch computes it from the conditioning
    block, its weights, the row of scales and the row of biases. -/
abbrev table1 (x3 : Vec F S1x16x80 .i8) (x4 : Vec F S80x3072 .i8) (x9 x10 : Vec F S1x3072 .f32) : Vec F S16x3072 .f32 :=
  k1_pay2 x3 x4 x10 x9

/-- The scalar a load of one word of the row of scales reads. -/
theorem scale1_ld (x : Vec F S3 .f32) (n : Fin 3) (inb : ∀ a, ![n.val] a + ![1] a ≤ S3.size a)
    (j : (⟨1, ![1]⟩ : Shape).Idx) : View.ld x (Rect.unit (s := S3) ![n.val] ![1] inb) j = x (ix1 n) := by
  refine congrArg x (funext fun b => ?_)
  obtain rfl : b = 0 := Subsingleton.elim _ _
  refine Fin.ext ?_
  have hj : (j 0).val = 0 := by have := (j 0).isLt; change (j 0).val < 1 at this; omega
  show n.val + 1 * (j 0).val = n.val
  omega

set_option maxHeartbeats 1000000 in
/-- The body's first stretch, whichever way its branch goes: afterwards the carried scratch holds the table `cv` — either
    because this point is the first of its batch row and stores it, or because it already held it. -/
def start1 : { v23 : BitVec 32 // ∀ (cv d : Vec F S16x3072 .f32) (hcv : cond1 i → cv = table1 x3 x4 x9 x10) (hd : ¬cond1 i → d = cv)
    (E : Set ℕ) (K : _ → sProp 𝕄),
    iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg11.view.loc (c : Thread nD τ) ↦[arg11.view.set]{fullShare} harg11.unread x9) ∗ (arg12.view.loc (c : Thread nD τ) ↦[arg12.view.set]{fullShare} harg12.unread x10) ∗ (arg21.view.loc (c : Thread nD τ) ↦[arg21.view.set]{fullShare} harg21.unread d)
        ∗ (iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg11.view.loc (c : Thread nD τ) ↦[arg11.view.set]{fullShare} harg11.unread x9) ∗ (arg12.view.loc (c : Thread nD τ) ↦[arg12.view.set]{fullShare} harg12.unread x10) ∗ (arg21.view.loc (c : Thread nD τ) ↦[arg21.view.set]{fullShare} harg21.unread cv)) -∗ K ⟨x0 (ix1 0), x0 (ix1 1), x0 (ix1 2), v23, k1_pay3 i, k1_pay4 x1, k1_pay5 x1, k1_pay6 x2⟩))
      ⊢ wp frame (wpE (defs₀ (F := F)) Variants.none c none) E (k1_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, fun cv d hcv hd E K => ?run⟩
  case run =>
  simp only [k1_part1_eq_skeleton]; unfold k1_part1_skel
  by_cases hc : cond1 i
  · obtain rfl := hcv hc
    iintro ⟨H0, H1, H2, H3, H4, H9, H10, HS1, Hk⟩
    sl_exec (disch := first | sl_exact hc)
    sl_step
    frame_open
    simp (disch := decide) only [View.readAt_eq_ld, Memref.IsWhole.read_unread, View.ld_unit_lit']
    have s0 : ∀ inb j, View.ld x0 (Rect.unit (s := S3) ![0] ![1] inb) j = x0 (ix1 0) := fun inb j => scale1_ld x0 0 inb j
    have s1 : ∀ inb j, View.ld x0 (Rect.unit (s := S3) ![1] ![1] inb) j = x0 (ix1 1) := fun inb j => scale1_ld x0 1 inb j
    have s2 : ∀ inb j, View.ld x0 (Rect.unit (s := S3) ![2] ![1] inb) j = x0 (ix1 2) := fun inb j => scale1_ld x0 2 inb j
    simp only [s0, s1, s2]
    have e : ∀ (f : arg21.view.ty.Contents (Elt F)) (w : Vec F S16x3072 .f32), arg21.view.writes (Elt F) f [⟨Rect.unit (s := S16x3072) ![0, 0] S16x3072.size inb_S16x3072_S16x3072_0_0, w⟩] = harg21.unread w := fun f w =>
      harg21.eq_unread ((View.read_writes_eq_canon _ _ _ fun y => ⟨_, List.mem_singleton_self _, View.mem_set_unit_zero (by decide) inb_S16x3072_S16x3072_0_0 y⟩).trans (View.canon_cons_unit_lit inb_S16x3072_S16x3072_0_0 _ _ (by decide)))
    rw [e]
    iapply Hk
    isplitl [H0]; · iexact H0
    isplitl [H1]; · iexact H1
    isplitl [H2]; · iexact H2
    isplitl [H3]; · iexact H3
    isplitl [H4]; · iexact H4
    isplitl [H9]; · iexact H9
    isplitl [H10]; · iexact H10
    iexact HS1
  · obtain rfl := hd hc
    iintro ⟨H0, H1, H2, H3, H4, H9, H10, HS1, Hk⟩
    sl_exec (disch := first | sl_exact hc)
    sl_step
    frame_open
    simp (disch := decide) only [View.readAt_eq_ld, Memref.IsWhole.read_unread, View.ld_unit_lit']
    have s0 : ∀ inb j, View.ld x0 (Rect.unit (s := S3) ![0] ![1] inb) j = x0 (ix1 0) := fun inb j => scale1_ld x0 0 inb j
    have s1 : ∀ inb j, View.ld x0 (Rect.unit (s := S3) ![1] ![1] inb) j = x0 (ix1 1) := fun inb j => scale1_ld x0 1 inb j
    have s2 : ∀ inb j, View.ld x0 (Rect.unit (s := S3) ![2] ![1] inb) j = x0 (ix1 2) := fun inb j => scale1_ld x0 2 inb j
    simp only [s0, s1, s2]
    iapply Hk
    isplitl [H0]; · iexact H0
    isplitl [H1]; · iexact H1
    isplitl [H2]; · iexact H2
    isplitl [H3]; · iexact H3
    isplitl [H4]; · iexact H4
    isplitl [H9]; · iexact H9
    isplitl [H10]; · iexact H10
    iexact HS1

set_option maxHeartbeats 2000000 in
/-- The whole body at one grid point: what its stores leave in each output's staging buffer, as pieces (the last store
    first), with the proof that it runs to a state holding its inputs as they were, the carried scratch at the table `cv`
    and every buffer it stores into with those pieces written. -/
def run1 (cv : Vec F S16x3072 .f32) :
    Σ' (L16 : List (View.Piece (Elt F) S1x256x512 .f32)), Σ' (L17 : List (View.Piece (Elt F) S1x256x768 .i8)), { L18 : List (View.Piece (Elt F) S256x1536 .bf16) //
      ∀ (d : Vec F S16x3072 .f32) (hcv : cond1 i → cv = table1 x3 x4 x9 x10) (hd : ¬cond1 i → d = cv)
        (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ owns (c : Thread nD τ) arg21 fullShare d
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ owns (c : Thread nD τ) arg21 fullShare cv) -∗ K ⟨⟩))
          ⊢ wp frame (wpE (defs₀ (F := F)) Variants.none c none) E (cc1_wavenet_layer (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, fun d hcv hd E K => ?run⟩
  case run =>
    simp only [cc1_wavenet_layer_eq_skeleton]; unfold cc1_wavenet_layer_skel

    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%fs, %hfs, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg21.eq_unread hfs

    rw [wp_bind]
    iapply ((start1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x9 x10).2 cv d hcv hd E _)
    isplitl [H0]; · iexact H0
    isplitl [H1]; · iexact H1
    isplitl [H2]; · iexact H2
    isplitl [H3]; · iexact H3
    isplitl [H4]; · iexact H4
    isplitl [H9]; · iexact H9
    isplitl [H10]; · iexact H10
    isplitl [HS1]; · iexact HS1
    iintro ⟨H0, H1, H2, H3, H4, H9, H10, HS1⟩
    simp only [k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton]
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]; · iexists _; iexact H18
    iexists _; isplitr; · ipureintro; exact harg21.read_unread _
    iexact HS1

end Cert.KernelIdeal.Layer

end
-- ==== Proof.Frame1.lean ====
module

public import proofs.«01_k».proof.Proof.Run1
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.ValueIdx
public import Idealize.ShloMosaic.Lib.Pipeline.ValueKit

@[expose] public section

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : Dev nD → Valuation τ sig (Elt F))

/-! ## What the windows read -/

/-- Window `w`'s block of its array at grid point `t`, the arrays holding `V` when the region is entered. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two scratch buffers: the gate's values, and the carried table. -/
abbrev sz1 : Memref sig .tc .vmem S256x1536 .bf16 := Memref.whole cc1_scratch0
abbrev sc1 : Memref sig .tc .vmem S16x3072 .f32 := Memref.whole cc1_scratch1

/-- The table of the conditioning projection at point `t`'s blocks. -/
def tab1 (c : Dev nD) (t : Fin cfg1.N) : Vec F S16x3072 .f32 :=
  table1 (blk1 V c 3 t) (blk1 V c 4 t) (blk1 V c 9 t) (blk1 V c 10 t)

/-- The pieces the body's stores at point `t` write into window 16's staging buffer. -/
abbrev pcs1_16 (c : Dev nD) (t : Fin cfg1.N) : List (View.Piece (Elt F) S1x256x512 .f32) :=
  (run1 (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (win1_14.stage (cfg1.slots t 14)) (hstage1_14 ((cfg1.slots t 14).cast nbuf1_14)) (win1_15.stage (cfg1.slots t 15)) (hstage1_15 ((cfg1.slots t 15).cast nbuf1_15)) (win1_16.stage (cfg1.slots t 16)) (hstage1_16 ((cfg1.slots t 16).cast nbuf1_16)) (win1_17.stage (cfg1.slots t 17)) (hstage1_17 ((cfg1.slots t 17).cast nbuf1_17)) sz1 (Memref.isWhole_whole _) sc1 (Memref.isWhole_whole _)
    (blk1 V c 0 t) (blk1 V c 1 t) (blk1 V c 2 t) (blk1 V c 3 t) (blk1 V c 4 t) (blk1 V c 5 t) (blk1 V c 6 t) (blk1 V c 7 t) (blk1 V c 8 t) (blk1 V c 9 t) (blk1 V c 10 t) (blk1 V c 11 t) (blk1 V c 12 t) (blk1 V c 13 t) (blk1 V c 14 t) (blk1 V c 15 t) (tab1 V c t)).1

/-- What the body at point `t` leaves in window 16's staging buffer. -/
def out1_16 (c : Dev nD) (t : Fin cfg1.N) : Vec F S1x256x512 .f32 :=
  (Memref.whole cc1_stg16_0 : Memref sig .tc .vmem S1x256x512 .f32).view.read (Elt F) ((Memref.whole cc1_stg16_0 : Memref sig .tc .vmem S1x256x512 .f32).view.writes (Elt F) (Memref.whole cc1_stg16_0 : Memref sig .tc .vmem S1x256x512 .f32).view.junk (pcs1_16 V c t))

/-- The body's stores tile that buffer. -/
theorem cover1_16 (c : Dev nD) (t : Fin cfg1.N) (y : S1x256x512.Idx) :
    ∃ pc ∈ pcs1_16 V c t, y ∈ pc.1.set :=
  View.cover_of_tiledL (pcs1_16 V c t) S1x256x256.size (by sl_kernel_rfl) y

/-- The pieces the body's stores at point `t` write into window 17's staging buffer. -/
abbrev pcs1_17 (c : Dev nD) (t : Fin cfg1.N) : List (View.Piece (Elt F) S1x256x768 .i8) :=
  (run1 (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (win1_14.stage (cfg1.slots t 14)) (hstage1_14 ((cfg1.slots t 14).cast nbuf1_14)) (win1_15.stage (cfg1.slots t 15)) (hstage1_15 ((cfg1.slots t 15).cast nbuf1_15)) (win1_16.stage (cfg1.slots t 16)) (hstage1_16 ((cfg1.slots t 16).cast nbuf1_16)) (win1_17.stage (cfg1.slots t 17)) (hstage1_17 ((cfg1.slots t 17).cast nbuf1_17)) sz1 (Memref.isWhole_whole _) sc1 (Memref.isWhole_whole _)
    (blk1 V c 0 t) (blk1 V c 1 t) (blk1 V c 2 t) (blk1 V c 3 t) (blk1 V c 4 t) (blk1 V c 5 t) (blk1 V c 6 t) (blk1 V c 7 t) (blk1 V c 8 t) (blk1 V c 9 t) (blk1 V c 10 t) (blk1 V c 11 t) (blk1 V c 12 t) (blk1 V c 13 t) (blk1 V c 14 t) (blk1 V c 15 t) (tab1 V c t)).2.1

/-- What the body at point `t` leaves in window 17's staging buffer. -/
def out1_17 (c : Dev nD) (t : Fin cfg1.N) : Vec F S1x256x768 .i8 :=
  (Memref.whole cc1_stg17_0 : Memref sig .tc .vmem S1x256x768 .i8).view.read (Elt F) ((Memref.whole cc1_stg17_0 : Memref sig .tc .vmem S1x256x768 .i8).view.writes (Elt F) (Memref.whole cc1_stg17_0 : Memref sig .tc .vmem S1x256x768 .i8).view.junk (pcs1_17 V c t))

/-- The body's stores tile that buffer. -/
theorem cover1_17 (c : Dev nD) (t : Fin cfg1.N) (y : S1x256x768.Idx) :
    ∃ pc ∈ pcs1_17 V c t, y ∈ pc.1.set :=
  View.cover_of_tiledL (pcs1_17 V c t) S1x256x256.size (by sl_kernel_rfl) y

/-! ## The invariant and the pipeline's data -/

/-- Before point `n` the gate scratch holds anything; the carried scratch holds the table of point `n`'s batch row, unless
    `n` is the first point of its row, which fills it. -/
def Phi1 (c : Dev nD) (n : ℕ) : sProp 𝕄 :=
  iprop((∃ d, owns (c : Thread nD τ) sz1 fullShare d) ∗ (∃ d, ⌜∀ h : n < cfg1.N, ¬n % 8 = 0 → d = tab1 V c ⟨n, h⟩⌝ ∗ owns (c : Thread nD τ) sc1 fullShare d) ∗ Pipeline.scopedRestBut (Ix := Unit) (Name := ℕ) (U := UR sig nD τ) (Lvl := ℕ) (Val := Elt F) spec1 c [cc1_scratch0, cc1_scratch1])

/-- The proof data: the arrays as found; after a point each input's buffer at its block, each output's at what the body
    leaves; nothing owed; full shares. -/
def dats1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => blk1 V c 9 t
    | ⟨10, _⟩ => blk1 V c 10 t
    | ⟨11, _⟩ => blk1 V c 11 t
    | ⟨12, _⟩ => blk1 V c 12 t
    | ⟨13, _⟩ => blk1 V c 13 t
    | ⟨14, _⟩ => blk1 V c 14 t
    | ⟨15, _⟩ => blk1 V c 15 t
    | ⟨16, _⟩ => out1_16 V c t
    | ⟨17, _⟩ => out1_17 V c t
    | ⟨_ + 18, h⟩ => absurd h (Nat.not_lt.2 (Nat.le_add_left _ _))
  Φ t := Phi1 V c t.val
  q _ := fullShare
  owed _ := 0

theorem A1_eq (c : Dev nD) (w : Fin cfg1.W) : (dats1 V c).A w = V c (Pipeline.arrRef spec1 w) := by
  dsimp only [dats1]

theorem after1_0 (c : Dev nD) (t : Fin cfg1.N) : (dats1 V c).after 0 t = blk1 V c 0 t := by dsimp only [dats1]
theorem after1_1 (c : Dev nD) (t : Fin cfg1.N) : (dats1 V c).after 1 t = blk1 V c 1 t := by dsimp only [dats1]
theorem after1_2 (c : Dev nD) (t : Fin cfg1.N) : (dats1 V c).after 2 t = blk1 V c 2 t := by dsimp only [dats1]
theorem after1_3 (c : Dev nD) (t : Fin cfg1.N) : (dats1 V c).after 3 t = blk1 V c 3 t := by dsimp only [dats1]
theorem after1_4 (c : Dev nD) (t : Fin cfg1.N) : (dats1 V c).after 4 t = blk1 V c 4 t := by dsimp only [dats1]
theorem after1_5 (c : Dev nD) (t : Fin cfg1.N) : (dats1 V c).after 5 t = blk1 V c 5 t := by dsimp only [dats1]
theorem after1_6 (c : Dev nD) (t : Fin cfg1.N) : (dats1 V c).after 6 t = blk1 V c 6 t := by dsimp only [dats1]
theorem after1_7 (c : Dev nD) (t : Fin cfg1.N) : (dats1 V c).after 7 t = blk1 V c 7 t := by dsimp only [dats1]
theorem after1_8 (c : Dev nD) (t : Fin cfg1.N) : (dats1 V c).after 8 t = blk1 V c 8 t := by dsimp only [dats1]
theorem after1_9 (c : Dev nD) (t : Fin cfg1.N) : (dats1 V c).after 9 t = blk1 V c 9 t := by dsimp only [dats1]
theorem after1_10 (c : Dev nD) (t : Fin cfg1.N) : (dats1 V c).after 10 t = blk1 V c 10 t := by dsimp only [dats1]
theorem after1_11 (c : Dev nD) (t : Fin cfg1.N) : (dats1 V c).after 11 t = blk1 V c 11 t := by dsimp only [dats1]
theorem after1_12 (c : Dev nD) (t : Fin cfg1.N) : (dats1 V c).after 12 t = blk1 V c 12 t := by dsimp only [dats1]
theorem after1_13 (c : Dev nD) (t : Fin cfg1.N) : (dats1 V c).after 13 t = blk1 V c 13 t := by dsimp only [dats1]
theorem after1_14 (c : Dev nD) (t : Fin cfg1.N) : (dats1 V c).after 14 t = blk1 V c 14 t := by dsimp only [dats1]
theorem after1_15 (c : Dev nD) (t : Fin cfg1.N) : (dats1 V c).after 15 t = blk1 V c 15 t := by dsimp only [dats1]
theorem after1_16 (c : Dev nD) (t : Fin cfg1.N) : (dats1 V c).after 16 t = out1_16 V c t := by dsimp only [dats1]
theorem after1_17 (c : Dev nD) (t : Fin cfg1.N) : (dats1 V c).after 17 t = out1_17 V c t := by dsimp only [dats1]

/-- What a fetch at a point stages of an input is its block there. -/
theorem fetched1_0 (c : Dev nD) (t : Fin cfg1.N) (d) : (dats1 V c).fetched 0 t d = blk1 V c 0 t := by
  unfold Dat.fetched Dat.blockOf blk1; rw [A1_eq]; try rfl
theorem fetched1_1 (c : Dev nD) (t : Fin cfg1.N) (d) : (dats1 V c).fetched 1 t d = blk1 V c 1 t := by
  unfold Dat.fetched Dat.blockOf blk1; rw [A1_eq]; try rfl
theorem fetched1_2 (c : Dev nD) (t : Fin cfg1.N) (d) : (dats1 V c).fetched 2 t d = blk1 V c 2 t := by
  unfold Dat.fetched Dat.blockOf blk1; rw [A1_eq]; try rfl
theorem fetched1_3 (c : Dev nD) (t : Fin cfg1.N) (d) : (dats1 V c).fetched 3 t d = blk1 V c 3 t := by
  unfold Dat.fetched Dat.blockOf blk1; rw [A1_eq]; try rfl
theorem fetched1_4 (c : Dev nD) (t : Fin cfg1.N) (d) : (dats1 V c).fetched 4 t d = blk1 V c 4 t := by
  unfold Dat.fetched Dat.blockOf blk1; rw [A1_eq]; try rfl
theorem fetched1_5 (c : Dev nD) (t : Fin cfg1.N) (d) : (dats1 V c).fetched 5 t d = blk1 V c 5 t := by
  unfold Dat.fetched Dat.blockOf blk1; rw [A1_eq]; try rfl
theorem fetched1_6 (c : Dev nD) (t : Fin cfg1.N) (d) : (dats1 V c).fetched 6 t d = blk1 V c 6 t := by
  unfold Dat.fetched Dat.blockOf blk1; rw [A1_eq]; try rfl
theorem fetched1_7 (c : Dev nD) (t : Fin cfg1.N) (d) : (dats1 V c).fetched 7 t d = blk1 V c 7 t := by
  unfold Dat.fetched Dat.blockOf blk1; rw [A1_eq]; try rfl
theorem fetched1_8 (c : Dev nD) (t : Fin cfg1.N) (d) : (dats1 V c).fetched 8 t d = blk1 V c 8 t := by
  unfold Dat.fetched Dat.blockOf blk1; rw [A1_eq]; try rfl
theorem fetched1_9 (c : Dev nD) (t : Fin cfg1.N) (d) : (dats1 V c).fetched 9 t d = blk1 V c 9 t := by
  unfold Dat.fetched Dat.blockOf blk1; rw [A1_eq]; try rfl
theorem fetched1_10 (c : Dev nD) (t : Fin cfg1.N) (d) : (dats1 V c).fetched 10 t d = blk1 V c 10 t := by
  unfold Dat.fetched Dat.blockOf blk1; rw [A1_eq]; try rfl
theorem fetched1_11 (c : Dev nD) (t : Fin cfg1.N) (d) : (dats1 V c).fetched 11 t d = blk1 V c 11 t := by
  unfold Dat.fetched Dat.blockOf blk1; rw [A1_eq]; try rfl
theorem fetched1_12 (c : Dev nD) (t : Fin cfg1.N) (d) : (dats1 V c).fetched 12 t d = blk1 V c 12 t := by
  unfold Dat.fetched Dat.blockOf blk1; rw [A1_eq]; try rfl
theorem fetched1_13 (c : Dev nD) (t : Fin cfg1.N) (d) : (dats1 V c).fetched 13 t d = blk1 V c 13 t := by
  unfold Dat.fetched Dat.blockOf blk1; rw [A1_eq]; try rfl
theorem fetched1_14 (c : Dev nD) (t : Fin cfg1.N) (d) : (dats1 V c).fetched 14 t d = blk1 V c 14 t := by
  unfold Dat.fetched Dat.blockOf blk1; rw [A1_eq]; try rfl
theorem fetched1_15 (c : Dev nD) (t : Fin cfg1.N) (d) : (dats1 V c).fetched 15 t d = blk1 V c 15 t := by
  unfold Dat.fetched Dat.blockOf blk1; rw [A1_eq]; try rfl

/-- An input's staging buffer holds its block at every point, fetched there or not. -/
theorem before1_0 (c : Dev nD) (t : Fin cfg1.N) (d) : (dats1 V c).before 0 t d = blk1 V c 0 t :=
  ((dats1 V c).before_in_eq_fetched 0 rfl (fun _ => rfl) (fun _ _ _ => rfl) (fun t => by rw [after1_0]; unfold Dat.blockOf blk1; rw [A1_eq]; try rfl) t d).trans
    (fetched1_0 V c t d)
theorem before1_1 (c : Dev nD) (t : Fin cfg1.N) (d) : (dats1 V c).before 1 t d = blk1 V c 1 t :=
  ((dats1 V c).before_in_eq_fetched 1 rfl (fun _ => rfl) (fun _ _ _ => rfl) (fun t => by rw [after1_1]; unfold Dat.blockOf blk1; rw [A1_eq]; try rfl) t d).trans
    (fetched1_1 V c t d)
theorem before1_2 (c : Dev nD) (t : Fin cfg1.N) (d) : (dats1 V c).before 2 t d = blk1 V c 2 t :=
  ((dats1 V c).before_in_eq_fetched 2 rfl (fun _ => rfl) (fun _ _ _ => rfl) (fun t => by rw [after1_2]; unfold Dat.blockOf blk1; rw [A1_eq]; try rfl) t d).trans
    (fetched1_2 V c t d)
theorem before1_3 (c : Dev nD) (t : Fin cfg1.N) (d) : (dats1 V c).before 3 t d = blk1 V c 3 t :=
  ((dats1 V c).before_in_eq_fetched 3 rfl (fun _ => rfl) (fun _ _ _ => rfl) (fun t => by rw [after1_3]; unfold Dat.blockOf blk1; rw [A1_eq]; try rfl) t d).trans
    (fetched1_3 V c t d)
theorem before1_4 (c : Dev nD) (t : Fin cfg1.N) (d) : (dats1 V c).before 4 t d = blk1 V c 4 t :=
  ((dats1 V c).before_in_eq_fetched 4 rfl (fun _ => rfl) (fun _ _ _ => rfl) (fun t => by rw [after1_4]; unfold Dat.blockOf blk1; rw [A1_eq]; try rfl) t d).trans
    (fetched1_4 V c t d)
theorem before1_5 (c : Dev nD) (t : Fin cfg1.N) (d) : (dats1 V c).before 5 t d = blk1 V c 5 t :=
  ((dats1 V c).before_in_eq_fetched 5 rfl (fun _ => rfl) (fun _ _ _ => rfl) (fun t => by rw [after1_5]; unfold Dat.blockOf blk1; rw [A1_eq]; try rfl) t d).trans
    (fetched1_5 V c t d)
theorem before1_6 (c : Dev nD) (t : Fin cfg1.N) (d) : (dats1 V c).before 6 t d = blk1 V c 6 t :=
  ((dats1 V c).before_in_eq_fetched 6 rfl (fun _ => rfl) (fun _ _ _ => rfl) (fun t => by rw [after1_6]; unfold Dat.blockOf blk1; rw [A1_eq]; try rfl) t d).trans
    (fetched1_6 V c t d)
theorem before1_7 (c : Dev nD) (t : Fin cfg1.N) (d) : (dats1 V c).before 7 t d = blk1 V c 7 t :=
  ((dats1 V c).before_in_eq_fetched 7 rfl (fun _ => rfl) (fun _ _ _ => rfl) (fun t => by rw [after1_7]; unfold Dat.blockOf blk1; rw [A1_eq]; try rfl) t d).trans
    (fetched1_7 V c t d)
theorem before1_8 (c : Dev nD) (t : Fin cfg1.N) (d) : (dats1 V c).before 8 t d = blk1 V c 8 t :=
  ((dats1 V c).before_in_eq_fetched 8 rfl (fun _ => rfl) (fun _ _ _ => rfl) (fun t => by rw [after1_8]; unfold Dat.blockOf blk1; rw [A1_eq]; try rfl) t d).trans
    (fetched1_8 V c t d)
theorem before1_9 (c : Dev nD) (t : Fin cfg1.N) (d) : (dats1 V c).before 9 t d = blk1 V c 9 t :=
  ((dats1 V c).before_in_eq_fetched 9 rfl (fun _ => rfl) (fun _ _ _ => rfl) (fun t => by rw [after1_9]; unfold Dat.blockOf blk1; rw [A1_eq]; try rfl) t d).trans
    (fetched1_9 V c t d)
theorem before1_10 (c : Dev nD) (t : Fin cfg1.N) (d) : (dats1 V c).before 10 t d = blk1 V c 10 t :=
  ((dats1 V c).before_in_eq_fetched 10 rfl (fun _ => rfl) (fun _ _ _ => rfl) (fun t => by rw [after1_10]; unfold Dat.blockOf blk1; rw [A1_eq]; try rfl) t d).trans
    (fetched1_10 V c t d)
theorem before1_11 (c : Dev nD) (t : Fin cfg1.N) (d) : (dats1 V c).before 11 t d = blk1 V c 11 t :=
  ((dats1 V c).before_in_eq_fetched 11 rfl (fun _ => rfl) (fun _ _ _ => rfl) (fun t => by rw [after1_11]; unfold Dat.blockOf blk1; rw [A1_eq]; try rfl) t d).trans
    (fetched1_11 V c t d)
theorem before1_12 (c : Dev nD) (t : Fin cfg1.N) (d) : (dats1 V c).before 12 t d = blk1 V c 12 t :=
  ((dats1 V c).before_in_eq_fetched 12 rfl (fun _ => rfl) (fun _ _ _ => rfl) (fun t => by rw [after1_12]; unfold Dat.blockOf blk1; rw [A1_eq]; try rfl) t d).trans
    (fetched1_12 V c t d)
theorem before1_13 (c : Dev nD) (t : Fin cfg1.N) (d) : (dats1 V c).before 13 t d = blk1 V c 13 t :=
  ((dats1 V c).before_in_eq_fetched 13 rfl (fun _ => rfl) (fun _ _ _ => rfl) (fun t => by rw [after1_13]; unfold Dat.blockOf blk1; rw [A1_eq]; try rfl) t d).trans
    (fetched1_13 V c t d)
theorem before1_14 (c : Dev nD) (t : Fin cfg1.N) (d) : (dats1 V c).before 14 t d = blk1 V c 14 t :=
  ((dats1 V c).before_in_eq_fetched 14 rfl (fun _ => rfl) (fun _ _ _ => rfl) (fun t => by rw [after1_14]; unfold Dat.blockOf blk1; rw [A1_eq]; try rfl) t d).trans
    (fetched1_14 V c t d)
theorem before1_15 (c : Dev nD) (t : Fin cfg1.N) (d) : (dats1 V c).before 15 t d = blk1 V c 15 t :=
  ((dats1 V c).before_in_eq_fetched 15 rfl (fun _ => rfl) (fun _ _ _ => rfl) (fun t => by rw [after1_15]; unfold Dat.blockOf blk1; rw [A1_eq]; try rfl) t d).trans
    (fetched1_15 V c t d)

/-- The inputs the table is made of are not fetched inside a batch row, so it does not change there. -/
theorem tab1_succ (c : Dev nD) (n : ℕ) (h : n + 1 < cfg1.N) (hn : ¬(n + 1) % 8 = 0) :
    tab1 V c ⟨n, Nat.lt_of_succ_lt h⟩ = tab1 V c ⟨n + 1, h⟩ := by
  have e3 : blk1 V c 3 ⟨n, Nat.lt_of_succ_lt h⟩ = blk1 V c 3 ⟨n + 1, h⟩ :=
    ((fetched1_3 V c _ (blk1 V c 3 ⟨n, Nat.lt_of_succ_lt h⟩)).symm.trans (Dat.fetched_congr _ 3
      ((cfg1.win 3).index_eq_of_fetch rfl ⟨n + 1, h⟩ (by rw [← Bool.not_eq_true, fetch1_3]; show ¬(n + 1) % _ = 0; omega)).2.symm rfl _)).trans
      (fetched1_3 V c _ _)
  have e4 : blk1 V c 4 ⟨n, Nat.lt_of_succ_lt h⟩ = blk1 V c 4 ⟨n + 1, h⟩ :=
    ((fetched1_4 V c _ (blk1 V c 4 ⟨n, Nat.lt_of_succ_lt h⟩)).symm.trans (Dat.fetched_congr _ 4
      ((cfg1.win 4).index_eq_of_fetch rfl ⟨n + 1, h⟩ (by rw [← Bool.not_eq_true, fetch1_4]; show ¬(n + 1) % _ = 0; omega)).2.symm rfl _)).trans
      (fetched1_4 V c _ _)
  have e9 : blk1 V c 9 ⟨n, Nat.lt_of_succ_lt h⟩ = blk1 V c 9 ⟨n + 1, h⟩ :=
    ((fetched1_9 V c _ (blk1 V c 9 ⟨n, Nat.lt_of_succ_lt h⟩)).symm.trans (Dat.fetched_congr _ 9
      ((cfg1.win 9).index_eq_of_fetch rfl ⟨n + 1, h⟩ (by rw [← Bool.not_eq_true, fetch1_9]; show ¬(n + 1) % _ = 0; omega)).2.symm rfl _)).trans
      (fetched1_9 V c _ _)
  have e10 : blk1 V c 10 ⟨n, Nat.lt_of_succ_lt h⟩ = blk1 V c 10 ⟨n + 1, h⟩ :=
    ((fetched1_10 V c _ (blk1 V c 10 ⟨n, Nat.lt_of_succ_lt h⟩)).symm.trans (Dat.fetched_congr _ 10
      ((cfg1.win 10).index_eq_of_fetch rfl ⟨n + 1, h⟩ (by rw [← Bool.not_eq_true, fetch1_10]; show ¬(n + 1) % _ = 0; omega)).2.symm rfl _)).trans
      (fetched1_10 V c _ _)
  unfold tab1
  exact congr (congr (congr (congrArg (fun a b d e => table1 a b d e) e3) e4) e9) e10

/-! ## The body obligation -/

/-- The body's branch is taken at the first point of each batch row. -/
theorem cond1_at (t : Fin cfg1.N) : cond1 (grid1.coords t) ↔ t.val % 8 = 0 := cond1_iff t

/-- What the body is called with at point `t`, window by window, -/
def pre1 (c : Dev nD) (t : Fin cfg1.N) : sProp 𝕄 :=
  iprop(Phi1 V c t.val ∗ (dats1 V c).owesAt () t.castSucc
    ∗ (∃ d, owns (c : Thread nD τ) (win1_0.stage (cfg1.slots t 0)) fullShare ((dats1 V c).before 0 t d))
    ∗ (∃ d, owns (c : Thread nD τ) (win1_1.stage (cfg1.slots t 1)) fullShare ((dats1 V c).before 1 t d))
    ∗ (∃ d, owns (c : Thread nD τ) (win1_2.stage (cfg1.slots t 2)) fullShare ((dats1 V c).before 2 t d))
    ∗ (∃ d, owns (c : Thread nD τ) (win1_3.stage (cfg1.slots t 3)) fullShare ((dats1 V c).before 3 t d))
    ∗ (∃ d, owns (c : Thread nD τ) (win1_4.stage (cfg1.slots t 4)) fullShare ((dats1 V c).before 4 t d))
    ∗ (∃ d, owns (c : Thread nD τ) (win1_5.stage (cfg1.slots t 5)) fullShare ((dats1 V c).before 5 t d))
    ∗ (∃ d, owns (c : Thread nD τ) (win1_6.stage (cfg1.slots t 6)) fullShare ((dats1 V c).before 6 t d))
    ∗ (∃ d, owns (c : Thread nD τ) (win1_7.stage (cfg1.slots t 7)) fullShare ((dats1 V c).before 7 t d))
    ∗ (∃ d, owns (c : Thread nD τ) (win1_8.stage (cfg1.slots t 8)) fullShare ((dats1 V c).before 8 t d))
    ∗ (∃ d, owns (c : Thread nD τ) (win1_9.stage (cfg1.slots t 9)) fullShare ((dats1 V c).before 9 t d))
    ∗ (∃ d, owns (c : Thread nD τ) (win1_10.stage (cfg1.slots t 10)) fullShare ((dats1 V c).before 10 t d))
    ∗ (∃ d, owns (c : Thread nD τ) (win1_11.stage (cfg1.slots t 11)) fullShare ((dats1 V c).before 11 t d))
    ∗ (∃ d, owns (c : Thread nD τ) (win1_12.stage (cfg1.slots t 12)) fullShare ((dats1 V c).before 12 t d))
    ∗ (∃ d, owns (c : Thread nD τ) (win1_13.stage (cfg1.slots t 13)) fullShare ((dats1 V c).before 13 t d))
    ∗ (∃ d, owns (c : Thread nD τ) (win1_14.stage (cfg1.slots t 14)) fullShare ((dats1 V c).before 14 t d))
    ∗ (∃ d, owns (c : Thread nD τ) (win1_15.stage (cfg1.slots t 15)) fullShare ((dats1 V c).before 15 t d))
    ∗ (∃ d, owns (c : Thread nD τ) (win1_16.stage (cfg1.slots t 16)) fullShare ((dats1 V c).before 16 t d))
    ∗ (∃ d, owns (c : Thread nD τ) (win1_17.stage (cfg1.slots t 17)) fullShare ((dats1 V c).before 17 t d)))

/-- and what it returns. -/
def post1 (c : Dev nD) (t : Fin cfg1.N) : sProp 𝕄 :=
  iprop(Phi1 V c (t.val + 1) ∗ (dats1 V c).owesAt () t.succ
    ∗ owns (c : Thread nD τ) (win1_0.stage (cfg1.slots t 0)) fullShare ((dats1 V c).after 0 t)
    ∗ owns (c : Thread nD τ) (win1_1.stage (cfg1.slots t 1)) fullShare ((dats1 V c).after 1 t)
    ∗ owns (c : Thread nD τ) (win1_2.stage (cfg1.slots t 2)) fullShare ((dats1 V c).after 2 t)
    ∗ owns (c : Thread nD τ) (win1_3.stage (cfg1.slots t 3)) fullShare ((dats1 V c).after 3 t)
    ∗ owns (c : Thread nD τ) (win1_4.stage (cfg1.slots t 4)) fullShare ((dats1 V c).after 4 t)
    ∗ owns (c : Thread nD τ) (win1_5.stage (cfg1.slots t 5)) fullShare ((dats1 V c).after 5 t)
    ∗ owns (c : Thread nD τ) (win1_6.stage (cfg1.slots t 6)) fullShare ((dats1 V c).after 6 t)
    ∗ owns (c : Thread nD τ) (win1_7.stage (cfg1.slots t 7)) fullShare ((dats1 V c).after 7 t)
    ∗ owns (c : Thread nD τ) (win1_8.stage (cfg1.slots t 8)) fullShare ((dats1 V c).after 8 t)
    ∗ owns (c : Thread nD τ) (win1_9.stage (cfg1.slots t 9)) fullShare ((dats1 V c).after 9 t)
    ∗ owns (c : Thread nD τ) (win1_10.stage (cfg1.slots t 10)) fullShare ((dats1 V c).after 10 t)
    ∗ owns (c : Thread nD τ) (win1_11.stage (cfg1.slots t 11)) fullShare ((dats1 V c).after 11 t)
    ∗ owns (c : Thread nD τ) (win1_12.stage (cfg1.slots t 12)) fullShare ((dats1 V c).after 12 t)
    ∗ owns (c : Thread nD τ) (win1_13.stage (cfg1.slots t 13)) fullShare ((dats1 V c).after 13 t)
    ∗ owns (c : Thread nD τ) (win1_14.stage (cfg1.slots t 14)) fullShare ((dats1 V c).after 14 t)
    ∗ owns (c : Thread nD τ) (win1_15.stage (cfg1.slots t 15)) fullShare ((dats1 V c).after 15 t)
    ∗ owns (c : Thread nD τ) (win1_16.stage (cfg1.slots t 16)) fullShare ((dats1 V c).after 16 t)
    ∗ owns (c : Thread nD τ) (win1_17.stage (cfg1.slots t 17)) fullShare ((dats1 V c).after 17 t))

set_option maxHeartbeats 4000000 in
/-- The body at any point, from what the pipeline hands it to what it takes back. -/
theorem sound1 (c : Dev nD) (t : Fin cfg1.N) :
    pre1 V c t ⊢ wp frame (wpE (defs₀ (F := F)) Variants.none c none) Set.univ (bodyAt1 t) (fun _ => post1 V c t) := by
  unfold pre1 post1 bodyAt1 Phi1

  simp only [before1_0, before1_1, before1_2, before1_3, before1_4, before1_5, before1_6, before1_7, before1_8, before1_9, before1_10, before1_11, before1_12, before1_13, before1_14, before1_15]
  rw [show (dats1 V c).owesAt () t.succ = (dats1 V c).owesAt () t.castSucc from rfl,
    after1_0, after1_1, after1_2, after1_3, after1_4, after1_5, after1_6, after1_7, after1_8, after1_9, after1_10, after1_11, after1_12, after1_13, after1_14, after1_15, after1_16, after1_17]
  iintro ⟨⟨HS0, ⟨%dc, %hdc, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((run1 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (win1_14.stage (cfg1.slots t 14)) (hstage1_14 ((cfg1.slots t 14).cast nbuf1_14)) (win1_15.stage (cfg1.slots t 15)) (hstage1_15 ((cfg1.slots t 15).cast nbuf1_15)) (win1_16.stage (cfg1.slots t 16)) (hstage1_16 ((cfg1.slots t 16).cast nbuf1_16)) (win1_17.stage (cfg1.slots t 17)) (hstage1_17 ((cfg1.slots t 17).cast nbuf1_17)) sz1 (Memref.isWhole_whole _) sc1 (Memref.isWhole_whole _)
    (blk1 V c 0 t) (blk1 V c 1 t) (blk1 V c 2 t) (blk1 V c 3 t) (blk1 V c 4 t) (blk1 V c 5 t) (blk1 V c 6 t) (blk1 V c 7 t) (blk1 V c 8 t) (blk1 V c 9 t) (blk1 V c 10 t) (blk1 V c 11 t) (blk1 V c 12 t) (blk1 V c 13 t) (blk1 V c 14 t) (blk1 V c 15 t) (tab1 V c t)).2.2.2 dc (fun _ => rfl) (fun hc => hdc t.isLt fun h0 => hc ((cond1_at t).mpr h0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [HS0]; · iexact HS0
  isplitl [HS1]; · iexact HS1
  iintro ⟨H0, H1, H2, H3, H4, H5, H6, H7, H8, H9, H10, H11, H12, H13, H14, H15, ⟨%e16, H16⟩, ⟨%e17, H17⟩, ⟨%ez, HS0⟩, HS1⟩
  isplitl [HS0 HS1 Hr]
  · isplitl [HS0]
    · iexists _; unfold owns; iexists _; isplitr
      swap; · iexact HS0
      ipureintro; rfl
    isplitl [HS1]
    · iexists _; isplitr
      swap; · iexact HS1
      ipureintro; exact fun h hn => tab1_succ V c t.val h hn
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_of_cover _ _ _ _ _ (cover1_16 V c t)
  unfold owns; iexists _; isplitr
  swap; · iexact H17
  ipureintro; exact View.read_writes_of_cover _ _ _ _ _ (cover1_17 V c t)

theorem row1 (t : Fin cfg1.N) :
    defs₀ (F := F) .tc cfg1.body (cfg1.bodyArgs t (cfg1.slots t)) = bodyAt1 t := by
  unfold defs₀; rw [Defs.onTc_tc]

/-- The pipeline's body obligation. -/
theorem body_obligation1 (c : Dev nD) : BodyObligation (dats1 V c) (defs₀ (F := F)) Variants.none () Set.univ := fun t => by
  rw [bigSep_W1, bigSep_W1, row1]
  exact triple_restated (sound1 V c t) rfl .rfl fun _ => .rfl

/-- The scratch at anything is the invariant before the first point, -/
theorem hin1 (c : Dev nD) : Pipeline.scopedRest spec1 c ⊢ (dats1 V c).Φ 0 := by
  rw [scopedRest1_split, show (dats1 V c).Φ 0 = Phi1 V c 0 from rfl]; unfold Phi1
  simp only [owns_whole]
  iintro ⟨⟨HS0, ⟨%d, HS1⟩⟩, Hr⟩
  isplitl [HS0]; · iexact HS0
  isplitl [HS1]
  · iexists d; isplitr; · ipureintro; exact fun _ h => absurd trivial h
    iexact HS1
  iexact Hr

/-- and the invariant after the last gives it back. -/
theorem hout1 (c : Dev nD) : (dats1 V c).Φ (Fin.last cfg1.N) ⊢ Pipeline.scopedRest spec1 c := by
  rw [scopedRest1_split, show (dats1 V c).Φ (Fin.last cfg1.N) = Phi1 V c cfg1.N from rfl]; unfold Phi1
  simp only [owns_whole]
  iintro ⟨HS0, ⟨%d, -, HS1⟩, Hr⟩
  isplitl [HS0 HS1]
  · isplitl [HS0]; · iexact HS0
    iexists d; iexact HS1
  iexact Hr

end Cert.KernelIdeal.Layer

end
-- ==== Proof.Frame2.lean ====
module

public import proofs.«01_k».proof.Proof.Run1
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.ValueIdx
public import Idealize.ShloMosaic.Lib.Pipeline.ValueKit

@[expose] public section

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : Dev nD → Valuation τ sig (Elt F))

/-! ## What the windows read -/

/-- Window `w`'s block of its array at grid point `t`, the arrays holding `V` when the region is entered. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two scratch buffers: the gate's values, and the carried table. -/
abbrev sz2 : Memref sig .tc .vmem S256x1536 .bf16 := Memref.whole cc2_scratch0
abbrev sc2 : Memref sig .tc .vmem S16x3072 .f32 := Memref.whole cc2_scratch1

/-- The table of the conditioning projection at point `t`'s blocks. -/
def tab2 (c : Dev nD) (t : Fin cfg2.N) : Vec F S16x3072 .f32 :=
  table1 (blk2 V c 3 t) (blk2 V c 4 t) (blk2 V c 9 t) (blk2 V c 10 t)

/-- The pieces the body's stores at point `t` write into window 16's staging buffer. -/
abbrev pcs2_16 (c : Dev nD) (t : Fin cfg2.N) : List (View.Piece (Elt F) S1x256x512 .f32) :=
  (run1 (F := F) c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (win2_8.stage (cfg2.slots t 8)) (hstage2_8 ((cfg2.slots t 8).cast nbuf2_8)) (win2_9.stage (cfg2.slots t 9)) (hstage2_9 ((cfg2.slots t 9).cast nbuf2_9)) (win2_10.stage (cfg2.slots t 10)) (hstage2_10 ((cfg2.slots t 10).cast nbuf2_10)) (win2_11.stage (cfg2.slots t 11)) (hstage2_11 ((cfg2.slots t 11).cast nbuf2_11)) (win2_12.stage (cfg2.slots t 12)) (hstage2_12 ((cfg2.slots t 12).cast nbuf2_12)) (win2_13.stage (cfg2.slots t 13)) (hstage2_13 ((cfg2.slots t 13).cast nbuf2_13)) (win2_14.stage (cfg2.slots t 14)) (hstage2_14 ((cfg2.slots t 14).cast nbuf2_14)) (win2_15.stage (cfg2.slots t 15)) (hstage2_15 ((cfg2.slots t 15).cast nbuf2_15)) (win2_16.stage (cfg2.slots t 16)) (hstage2_16 ((cfg2.slots t 16).cast nbuf2_16)) (win2_17.stage (cfg2.slots t 17)) (hstage2_17 ((cfg2.slots t 17).cast nbuf2_17)) sz2 (Memref.isWhole_whole _) sc2 (Memref.isWhole_whole _)
    (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t) (blk2 V c 11 t) (blk2 V c 12 t) (blk2 V c 13 t) (blk2 V c 14 t) (blk2 V c 15 t) (tab2 V c t)).1

/-- What the body at point `t` leaves in window 16's staging buffer. -/
def out2_16 (c : Dev nD) (t : Fin cfg2.N) : Vec F S1x256x512 .f32 :=
  (Memref.whole cc2_stg16_0 : Memref sig .tc .vmem S1x256x512 .f32).view.read (Elt F) ((Memref.whole cc2_stg16_0 : Memref sig .tc .vmem S1x256x512 .f32).view.writes (Elt F) (Memref.whole cc2_stg16_0 : Memref sig .tc .vmem S1x256x512 .f32).view.junk (pcs2_16 V c t))

/-- The body's stores tile that buffer. -/
theorem cover2_16 (c : Dev nD) (t : Fin cfg2.N) (y : S1x256x512.Idx) :
    ∃ pc ∈ pcs2_16 V c t, y ∈ pc.1.set :=
  View.cover_of_tiledL (pcs2_16 V c t) S1x256x256.size (by sl_kernel_rfl) y

/-- The pieces the body's stores at point `t` write into window 17's staging buffer. -/
abbrev pcs2_17 (c : Dev nD) (t : Fin cfg2.N) : List (View.Piece (Elt F) S1x256x768 .i8) :=
  (run1 (F := F) c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (win2_8.stage (cfg2.slots t 8)) (hstage2_8 ((cfg2.slots t 8).cast nbuf2_8)) (win2_9.stage (cfg2.slots t 9)) (hstage2_9 ((cfg2.slots t 9).cast nbuf2_9)) (win2_10.stage (cfg2.slots t 10)) (hstage2_10 ((cfg2.slots t 10).cast nbuf2_10)) (win2_11.stage (cfg2.slots t 11)) (hstage2_11 ((cfg2.slots t 11).cast nbuf2_11)) (win2_12.stage (cfg2.slots t 12)) (hstage2_12 ((cfg2.slots t 12).cast nbuf2_12)) (win2_13.stage (cfg2.slots t 13)) (hstage2_13 ((cfg2.slots t 13).cast nbuf2_13)) (win2_14.stage (cfg2.slots t 14)) (hstage2_14 ((cfg2.slots t 14).cast nbuf2_14)) (win2_15.stage (cfg2.slots t 15)) (hstage2_15 ((cfg2.slots t 15).cast nbuf2_15)) (win2_16.stage (cfg2.slots t 16)) (hstage2_16 ((cfg2.slots t 16).cast nbuf2_16)) (win2_17.stage (cfg2.slots t 17)) (hstage2_17 ((cfg2.slots t 17).cast nbuf2_17)) sz2 (Memref.isWhole_whole _) sc2 (Memref.isWhole_whole _)
    (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t) (blk2 V c 11 t) (blk2 V c 12 t) (blk2 V c 13 t) (blk2 V c 14 t) (blk2 V c 15 t) (tab2 V c t)).2.1

/-- What the body at point `t` leaves in window 17's staging buffer. -/
def out2_17 (c : Dev nD) (t : Fin cfg2.N) : Vec F S1x256x768 .i8 :=
  (Memref.whole cc2_stg17_0 : Memref sig .tc .vmem S1x256x768 .i8).view.read (Elt F) ((Memref.whole cc2_stg17_0 : Memref sig .tc .vmem S1x256x768 .i8).view.writes (Elt F) (Memref.whole cc2_stg17_0 : Memref sig .tc .vmem S1x256x768 .i8).view.junk (pcs2_17 V c t))

/-- The body's stores tile that buffer. -/
theorem cover2_17 (c : Dev nD) (t : Fin cfg2.N) (y : S1x256x768.Idx) :
    ∃ pc ∈ pcs2_17 V c t, y ∈ pc.1.set :=
  View.cover_of_tiledL (pcs2_17 V c t) S1x256x256.size (by sl_kernel_rfl) y

/-! ## The invariant and the pipeline's data -/

/-- Before point `n` the gate scratch holds anything; the carried scratch holds the table of point `n`'s batch row, unless
    `n` is the first point of its row, which fills it. -/
def Phi2 (c : Dev nD) (n : ℕ) : sProp 𝕄 :=
  iprop((∃ d, owns (c : Thread nD τ) sz2 fullShare d) ∗ (∃ d, ⌜∀ h : n < cfg2.N, ¬n % 8 = 0 → d = tab2 V c ⟨n, h⟩⌝ ∗ owns (c : Thread nD τ) sc2 fullShare d) ∗ Pipeline.scopedRestBut (Ix := Unit) (Name := ℕ) (U := UR sig nD τ) (Lvl := ℕ) (Val := Elt F) spec2 c [cc2_scratch0, cc2_scratch1])

/-- The proof data: the arrays as found; after a point each input's buffer at its block, each output's at what the body
    leaves; nothing owed; full shares. -/
def dats2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => blk2 V c 7 t
    | ⟨8, _⟩ => blk2 V c 8 t
    | ⟨9, _⟩ => blk2 V c 9 t
    | ⟨10, _⟩ => blk2 V c 10 t
    | ⟨11, _⟩ => blk2 V c 11 t
    | ⟨12, _⟩ => blk2 V c 12 t
    | ⟨13, _⟩ => blk2 V c 13 t
    | ⟨14, _⟩ => blk2 V c 14 t
    | ⟨15, _⟩ => blk2 V c 15 t
    | ⟨16, _⟩ => out2_16 V c t
    | ⟨17, _⟩ => out2_17 V c t
    | ⟨_ + 18, h⟩ => absurd h (Nat.not_lt.2 (Nat.le_add_left _ _))
  Φ t := Phi2 V c t.val
  q _ := fullShare
  owed _ := 0

theorem A2_eq (c : Dev nD) (w : Fin cfg2.W) : (dats2 V c).A w = V c (Pipeline.arrRef spec2 w) := by
  dsimp only [dats2]

theorem after2_0 (c : Dev nD) (t : Fin cfg2.N) : (dats2 V c).after 0 t = blk2 V c 0 t := by dsimp only [dats2]
theorem after2_1 (c : Dev nD) (t : Fin cfg2.N) : (dats2 V c).after 1 t = blk2 V c 1 t := by dsimp only [dats2]
theorem after2_2 (c : Dev nD) (t : Fin cfg2.N) : (dats2 V c).after 2 t = blk2 V c 2 t := by dsimp only [dats2]
theorem after2_3 (c : Dev nD) (t : Fin cfg2.N) : (dats2 V c).after 3 t = blk2 V c 3 t := by dsimp only [dats2]
theorem after2_4 (c : Dev nD) (t : Fin cfg2.N) : (dats2 V c).after 4 t = blk2 V c 4 t := by dsimp only [dats2]
theorem after2_5 (c : Dev nD) (t : Fin cfg2.N) : (dats2 V c).after 5 t = blk2 V c 5 t := by dsimp only [dats2]
theorem after2_6 (c : Dev nD) (t : Fin cfg2.N) : (dats2 V c).after 6 t = blk2 V c 6 t := by dsimp only [dats2]
theorem after2_7 (c : Dev nD) (t : Fin cfg2.N) : (dats2 V c).after 7 t = blk2 V c 7 t := by dsimp only [dats2]
theorem after2_8 (c : Dev nD) (t : Fin cfg2.N) : (dats2 V c).after 8 t = blk2 V c 8 t := by dsimp only [dats2]
theorem after2_9 (c : Dev nD) (t : Fin cfg2.N) : (dats2 V c).after 9 t = blk2 V c 9 t := by dsimp only [dats2]
theorem after2_10 (c : Dev nD) (t : Fin cfg2.N) : (dats2 V c).after 10 t = blk2 V c 10 t := by dsimp only [dats2]
theorem after2_11 (c : Dev nD) (t : Fin cfg2.N) : (dats2 V c).after 11 t = blk2 V c 11 t := by dsimp only [dats2]
theorem after2_12 (c : Dev nD) (t : Fin cfg2.N) : (dats2 V c).after 12 t = blk2 V c 12 t := by dsimp only [dats2]
theorem after2_13 (c : Dev nD) (t : Fin cfg2.N) : (dats2 V c).after 13 t = blk2 V c 13 t := by dsimp only [dats2]
theorem after2_14 (c : Dev nD) (t : Fin cfg2.N) : (dats2 V c).after 14 t = blk2 V c 14 t := by dsimp only [dats2]
theorem after2_15 (c : Dev nD) (t : Fin cfg2.N) : (dats2 V c).after 15 t = blk2 V c 15 t := by dsimp only [dats2]
theorem after2_16 (c : Dev nD) (t : Fin cfg2.N) : (dats2 V c).after 16 t = out2_16 V c t := by dsimp only [dats2]
theorem after2_17 (c : Dev nD) (t : Fin cfg2.N) : (dats2 V c).after 17 t = out2_17 V c t := by dsimp only [dats2]

/-- What a fetch at a point stages of an input is its block there. -/
theorem fetched2_0 (c : Dev nD) (t : Fin cfg2.N) (d) : (dats2 V c).fetched 0 t d = blk2 V c 0 t := by
  unfold Dat.fetched Dat.blockOf blk2; rw [A2_eq]; try rfl
theorem fetched2_1 (c : Dev nD) (t : Fin cfg2.N) (d) : (dats2 V c).fetched 1 t d = blk2 V c 1 t := by
  unfold Dat.fetched Dat.blockOf blk2; rw [A2_eq]; try rfl
theorem fetched2_2 (c : Dev nD) (t : Fin cfg2.N) (d) : (dats2 V c).fetched 2 t d = blk2 V c 2 t := by
  unfold Dat.fetched Dat.blockOf blk2; rw [A2_eq]; try rfl
theorem fetched2_3 (c : Dev nD) (t : Fin cfg2.N) (d) : (dats2 V c).fetched 3 t d = blk2 V c 3 t := by
  unfold Dat.fetched Dat.blockOf blk2; rw [A2_eq]; try rfl
theorem fetched2_4 (c : Dev nD) (t : Fin cfg2.N) (d) : (dats2 V c).fetched 4 t d = blk2 V c 4 t := by
  unfold Dat.fetched Dat.blockOf blk2; rw [A2_eq]; try rfl
theorem fetched2_5 (c : Dev nD) (t : Fin cfg2.N) (d) : (dats2 V c).fetched 5 t d = blk2 V c 5 t := by
  unfold Dat.fetched Dat.blockOf blk2; rw [A2_eq]; try rfl
theorem fetched2_6 (c : Dev nD) (t : Fin cfg2.N) (d) : (dats2 V c).fetched 6 t d = blk2 V c 6 t := by
  unfold Dat.fetched Dat.blockOf blk2; rw [A2_eq]; try rfl
theorem fetched2_7 (c : Dev nD) (t : Fin cfg2.N) (d) : (dats2 V c).fetched 7 t d = blk2 V c 7 t := by
  unfold Dat.fetched Dat.blockOf blk2; rw [A2_eq]; try rfl
theorem fetched2_8 (c : Dev nD) (t : Fin cfg2.N) (d) : (dats2 V c).fetched 8 t d = blk2 V c 8 t := by
  unfold Dat.fetched Dat.blockOf blk2; rw [A2_eq]; try rfl
theorem fetched2_9 (c : Dev nD) (t : Fin cfg2.N) (d) : (dats2 V c).fetched 9 t d = blk2 V c 9 t := by
  unfold Dat.fetched Dat.blockOf blk2; rw [A2_eq]; try rfl
theorem fetched2_10 (c : Dev nD) (t : Fin cfg2.N) (d) : (dats2 V c).fetched 10 t d = blk2 V c 10 t := by
  unfold Dat.fetched Dat.blockOf blk2; rw [A2_eq]; try rfl
theorem fetched2_11 (c : Dev nD) (t : Fin cfg2.N) (d) : (dats2 V c).fetched 11 t d = blk2 V c 11 t := by
  unfold Dat.fetched Dat.blockOf blk2; rw [A2_eq]; try rfl
theorem fetched2_12 (c : Dev nD) (t : Fin cfg2.N) (d) : (dats2 V c).fetched 12 t d = blk2 V c 12 t := by
  unfold Dat.fetched Dat.blockOf blk2; rw [A2_eq]; try rfl
theorem fetched2_13 (c : Dev nD) (t : Fin cfg2.N) (d) : (dats2 V c).fetched 13 t d = blk2 V c 13 t := by
  unfold Dat.fetched Dat.blockOf blk2; rw [A2_eq]; try rfl
theorem fetched2_14 (c : Dev nD) (t : Fin cfg2.N) (d) : (dats2 V c).fetched 14 t d = blk2 V c 14 t := by
  unfold Dat.fetched Dat.blockOf blk2; rw [A2_eq]; try rfl
theorem fetched2_15 (c : Dev nD) (t : Fin cfg2.N) (d) : (dats2 V c).fetched 15 t d = blk2 V c 15 t := by
  unfold Dat.fetched Dat.blockOf blk2; rw [A2_eq]; try rfl

/-- An input's staging buffer holds its block at every point, fetched there or not. -/
theorem before2_0 (c : Dev nD) (t : Fin cfg2.N) (d) : (dats2 V c).before 0 t d = blk2 V c 0 t :=
  ((dats2 V c).before_in_eq_fetched 0 rfl (fun _ => rfl) (fun _ _ _ => rfl) (fun t => by rw [after2_0]; unfold Dat.blockOf blk2; rw [A2_eq]; try rfl) t d).trans
    (fetched2_0 V c t d)
theorem before2_1 (c : Dev nD) (t : Fin cfg2.N) (d) : (dats2 V c).before 1 t d = blk2 V c 1 t :=
  ((dats2 V c).before_in_eq_fetched 1 rfl (fun _ => rfl) (fun _ _ _ => rfl) (fun t => by rw [after2_1]; unfold Dat.blockOf blk2; rw [A2_eq]; try rfl) t d).trans
    (fetched2_1 V c t d)
theorem before2_2 (c : Dev nD) (t : Fin cfg2.N) (d) : (dats2 V c).before 2 t d = blk2 V c 2 t :=
  ((dats2 V c).before_in_eq_fetched 2 rfl (fun _ => rfl) (fun _ _ _ => rfl) (fun t => by rw [after2_2]; unfold Dat.blockOf blk2; rw [A2_eq]; try rfl) t d).trans
    (fetched2_2 V c t d)
theorem before2_3 (c : Dev nD) (t : Fin cfg2.N) (d) : (dats2 V c).before 3 t d = blk2 V c 3 t :=
  ((dats2 V c).before_in_eq_fetched 3 rfl (fun _ => rfl) (fun _ _ _ => rfl) (fun t => by rw [after2_3]; unfold Dat.blockOf blk2; rw [A2_eq]; try rfl) t d).trans
    (fetched2_3 V c t d)
theorem before2_4 (c : Dev nD) (t : Fin cfg2.N) (d) : (dats2 V c).before 4 t d = blk2 V c 4 t :=
  ((dats2 V c).before_in_eq_fetched 4 rfl (fun _ => rfl) (fun _ _ _ => rfl) (fun t => by rw [after2_4]; unfold Dat.blockOf blk2; rw [A2_eq]; try rfl) t d).trans
    (fetched2_4 V c t d)
theorem before2_5 (c : Dev nD) (t : Fin cfg2.N) (d) : (dats2 V c).before 5 t d = blk2 V c 5 t :=
  ((dats2 V c).before_in_eq_fetched 5 rfl (fun _ => rfl) (fun _ _ _ => rfl) (fun t => by rw [after2_5]; unfold Dat.blockOf blk2; rw [A2_eq]; try rfl) t d).trans
    (fetched2_5 V c t d)
theorem before2_6 (c : Dev nD) (t : Fin cfg2.N) (d) : (dats2 V c).before 6 t d = blk2 V c 6 t :=
  ((dats2 V c).before_in_eq_fetched 6 rfl (fun _ => rfl) (fun _ _ _ => rfl) (fun t => by rw [after2_6]; unfold Dat.blockOf blk2; rw [A2_eq]; try rfl) t d).trans
    (fetched2_6 V c t d)
theorem before2_7 (c : Dev nD) (t : Fin cfg2.N) (d) : (dats2 V c).before 7 t d = blk2 V c 7 t :=
  ((dats2 V c).before_in_eq_fetched 7 rfl (fun _ => rfl) (fun _ _ _ => rfl) (fun t => by rw [after2_7]; unfold Dat.blockOf blk2; rw [A2_eq]; try rfl) t d).trans
    (fetched2_7 V c t d)
theorem before2_8 (c : Dev nD) (t : Fin cfg2.N) (d) : (dats2 V c).before 8 t d = blk2 V c 8 t :=
  ((dats2 V c).before_in_eq_fetched 8 rfl (fun _ => rfl) (fun _ _ _ => rfl) (fun t => by rw [after2_8]; unfold Dat.blockOf blk2; rw [A2_eq]; try rfl) t d).trans
    (fetched2_8 V c t d)
theorem before2_9 (c : Dev nD) (t : Fin cfg2.N) (d) : (dats2 V c).before 9 t d = blk2 V c 9 t :=
  ((dats2 V c).before_in_eq_fetched 9 rfl (fun _ => rfl) (fun _ _ _ => rfl) (fun t => by rw [after2_9]; unfold Dat.blockOf blk2; rw [A2_eq]; try rfl) t d).trans
    (fetched2_9 V c t d)
theorem before2_10 (c : Dev nD) (t : Fin cfg2.N) (d) : (dats2 V c).before 10 t d = blk2 V c 10 t :=
  ((dats2 V c).before_in_eq_fetched 10 rfl (fun _ => rfl) (fun _ _ _ => rfl) (fun t => by rw [after2_10]; unfold Dat.blockOf blk2; rw [A2_eq]; try rfl) t d).trans
    (fetched2_10 V c t d)
theorem before2_11 (c : Dev nD) (t : Fin cfg2.N) (d) : (dats2 V c).before 11 t d = blk2 V c 11 t :=
  ((dats2 V c).before_in_eq_fetched 11 rfl (fun _ => rfl) (fun _ _ _ => rfl) (fun t => by rw [after2_11]; unfold Dat.blockOf blk2; rw [A2_eq]; try rfl) t d).trans
    (fetched2_11 V c t d)
theorem before2_12 (c : Dev nD) (t : Fin cfg2.N) (d) : (dats2 V c).before 12 t d = blk2 V c 12 t :=
  ((dats2 V c).before_in_eq_fetched 12 rfl (fun _ => rfl) (fun _ _ _ => rfl) (fun t => by rw [after2_12]; unfold Dat.blockOf blk2; rw [A2_eq]; try rfl) t d).trans
    (fetched2_12 V c t d)
theorem before2_13 (c : Dev nD) (t : Fin cfg2.N) (d) : (dats2 V c).before 13 t d = blk2 V c 13 t :=
  ((dats2 V c).before_in_eq_fetched 13 rfl (fun _ => rfl) (fun _ _ _ => rfl) (fun t => by rw [after2_13]; unfold Dat.blockOf blk2; rw [A2_eq]; try rfl) t d).trans
    (fetched2_13 V c t d)
theorem before2_14 (c : Dev nD) (t : Fin cfg2.N) (d) : (dats2 V c).before 14 t d = blk2 V c 14 t :=
  ((dats2 V c).before_in_eq_fetched 14 rfl (fun _ => rfl) (fun _ _ _ => rfl) (fun t => by rw [after2_14]; unfold Dat.blockOf blk2; rw [A2_eq]; try rfl) t d).trans
    (fetched2_14 V c t d)
theorem before2_15 (c : Dev nD) (t : Fin cfg2.N) (d) : (dats2 V c).before 15 t d = blk2 V c 15 t :=
  ((dats2 V c).before_in_eq_fetched 15 rfl (fun _ => rfl) (fun _ _ _ => rfl) (fun t => by rw [after2_15]; unfold Dat.blockOf blk2; rw [A2_eq]; try rfl) t d).trans
    (fetched2_15 V c t d)

/-- The inputs the table is made of are not fetched inside a batch row, so it does not change there. -/
theorem tab2_succ (c : Dev nD) (n : ℕ) (h : n + 1 < cfg2.N) (hn : ¬(n + 1) % 8 = 0) :
    tab2 V c ⟨n, Nat.lt_of_succ_lt h⟩ = tab2 V c ⟨n + 1, h⟩ := by
  have e3 : blk2 V c 3 ⟨n, Nat.lt_of_succ_lt h⟩ = blk2 V c 3 ⟨n + 1, h⟩ :=
    ((fetched2_3 V c _ (blk2 V c 3 ⟨n, Nat.lt_of_succ_lt h⟩)).symm.trans (Dat.fetched_congr _ 3
      ((cfg2.win 3).index_eq_of_fetch rfl ⟨n + 1, h⟩ (by rw [← Bool.not_eq_true, fetch2_3]; show ¬(n + 1) % _ = 0; omega)).2.symm rfl _)).trans
      (fetched2_3 V c _ _)
  have e4 : blk2 V c 4 ⟨n, Nat.lt_of_succ_lt h⟩ = blk2 V c 4 ⟨n + 1, h⟩ :=
    ((fetched2_4 V c _ (blk2 V c 4 ⟨n, Nat.lt_of_succ_lt h⟩)).symm.trans (Dat.fetched_congr _ 4
      ((cfg2.win 4).index_eq_of_fetch rfl ⟨n + 1, h⟩ (by rw [← Bool.not_eq_true, fetch2_4]; show ¬(n + 1) % _ = 0; omega)).2.symm rfl _)).trans
      (fetched2_4 V c _ _)
  have e9 : blk2 V c 9 ⟨n, Nat.lt_of_succ_lt h⟩ = blk2 V c 9 ⟨n + 1, h⟩ :=
    ((fetched2_9 V c _ (blk2 V c 9 ⟨n, Nat.lt_of_succ_lt h⟩)).symm.trans (Dat.fetched_congr _ 9
      ((cfg2.win 9).index_eq_of_fetch rfl ⟨n + 1, h⟩ (by rw [← Bool.not_eq_true, fetch2_9]; show ¬(n + 1) % _ = 0; omega)).2.symm rfl _)).trans
      (fetched2_9 V c _ _)
  have e10 : blk2 V c 10 ⟨n, Nat.lt_of_succ_lt h⟩ = blk2 V c 10 ⟨n + 1, h⟩ :=
    ((fetched2_10 V c _ (blk2 V c 10 ⟨n, Nat.lt_of_succ_lt h⟩)).symm.trans (Dat.fetched_congr _ 10
      ((cfg2.win 10).index_eq_of_fetch rfl ⟨n + 1, h⟩ (by rw [← Bool.not_eq_true, fetch2_10]; show ¬(n + 1) % _ = 0; omega)).2.symm rfl _)).trans
      (fetched2_10 V c _ _)
  unfold tab2
  exact congr (congr (congr (congrArg (fun a b d e => table1 a b d e) e3) e4) e9) e10

/-! ## The body obligation -/

/-- This layer's body is the second layer's. -/
theorem body2_eq : cc2_wavenet_layer (F := F) = cc1_wavenet_layer := rfl

/-- The body's branch is taken at the first point of each batch row. -/
theorem cond2_at (t : Fin cfg2.N) : cond1 (grid2.coords t) ↔ t.val % 8 = 0 := cond1_iff t

/-- What the body is called with at point `t`, window by window, -/
def pre2 (c : Dev nD) (t : Fin cfg2.N) : sProp 𝕄 :=
  iprop(Phi2 V c t.val ∗ (dats2 V c).owesAt () t.castSucc
    ∗ (∃ d, owns (c : Thread nD τ) (win2_0.stage (cfg2.slots t 0)) fullShare ((dats2 V c).before 0 t d))
    ∗ (∃ d, owns (c : Thread nD τ) (win2_1.stage (cfg2.slots t 1)) fullShare ((dats2 V c).before 1 t d))
    ∗ (∃ d, owns (c : Thread nD τ) (win2_2.stage (cfg2.slots t 2)) fullShare ((dats2 V c).before 2 t d))
    ∗ (∃ d, owns (c : Thread nD τ) (win2_3.stage (cfg2.slots t 3)) fullShare ((dats2 V c).before 3 t d))
    ∗ (∃ d, owns (c : Thread nD τ) (win2_4.stage (cfg2.slots t 4)) fullShare ((dats2 V c).before 4 t d))
    ∗ (∃ d, owns (c : Thread nD τ) (win2_5.stage (cfg2.slots t 5)) fullShare ((dats2 V c).before 5 t d))
    ∗ (∃ d, owns (c : Thread nD τ) (win2_6.stage (cfg2.slots t 6)) fullShare ((dats2 V c).before 6 t d))
    ∗ (∃ d, owns (c : Thread nD τ) (win2_7.stage (cfg2.slots t 7)) fullShare ((dats2 V c).before 7 t d))
    ∗ (∃ d, owns (c : Thread nD τ) (win2_8.stage (cfg2.slots t 8)) fullShare ((dats2 V c).before 8 t d))
    ∗ (∃ d, owns (c : Thread nD τ) (win2_9.stage (cfg2.slots t 9)) fullShare ((dats2 V c).before 9 t d))
    ∗ (∃ d, owns (c : Thread nD τ) (win2_10.stage (cfg2.slots t 10)) fullShare ((dats2 V c).before 10 t d))
    ∗ (∃ d, owns (c : Thread nD τ) (win2_11.stage (cfg2.slots t 11)) fullShare ((dats2 V c).before 11 t d))
    ∗ (∃ d, owns (c : Thread nD τ) (win2_12.stage (cfg2.slots t 12)) fullShare ((dats2 V c).before 12 t d))
    ∗ (∃ d, owns (c : Thread nD τ) (win2_13.stage (cfg2.slots t 13)) fullShare ((dats2 V c).before 13 t d))
    ∗ (∃ d, owns (c : Thread nD τ) (win2_14.stage (cfg2.slots t 14)) fullShare ((dats2 V c).before 14 t d))
    ∗ (∃ d, owns (c : Thread nD τ) (win2_15.stage (cfg2.slots t 15)) fullShare ((dats2 V c).before 15 t d))
    ∗ (∃ d, owns (c : Thread nD τ) (win2_16.stage (cfg2.slots t 16)) fullShare ((dats2 V c).before 16 t d))
    ∗ (∃ d, owns (c : Thread nD τ) (win2_17.stage (cfg2.slots t 17)) fullShare ((dats2 V c).before 17 t d)))

/-- and what it returns. -/
def post2 (c : Dev nD) (t : Fin cfg2.N) : sProp 𝕄 :=
  iprop(Phi2 V c (t.val + 1) ∗ (dats2 V c).owesAt () t.succ
    ∗ owns (c : Thread nD τ) (win2_0.stage (cfg2.slots t 0)) fullShare ((dats2 V c).after 0 t)
    ∗ owns (c : Thread nD τ) (win2_1.stage (cfg2.slots t 1)) fullShare ((dats2 V c).after 1 t)
    ∗ owns (c : Thread nD τ) (win2_2.stage (cfg2.slots t 2)) fullShare ((dats2 V c).after 2 t)
    ∗ owns (c : Thread nD τ) (win2_3.stage (cfg2.slots t 3)) fullShare ((dats2 V c).after 3 t)
    ∗ owns (c : Thread nD τ) (win2_4.stage (cfg2.slots t 4)) fullShare ((dats2 V c).after 4 t)
    ∗ owns (c : Thread nD τ) (win2_5.stage (cfg2.slots t 5)) fullShare ((dats2 V c).after 5 t)
    ∗ owns (c : Thread nD τ) (win2_6.stage (cfg2.slots t 6)) fullShare ((dats2 V c).after 6 t)
    ∗ owns (c : Thread nD τ) (win2_7.stage (cfg2.slots t 7)) fullShare ((dats2 V c).after 7 t)
    ∗ owns (c : Thread nD τ) (win2_8.stage (cfg2.slots t 8)) fullShare ((dats2 V c).after 8 t)
    ∗ owns (c : Thread nD τ) (win2_9.stage (cfg2.slots t 9)) fullShare ((dats2 V c).after 9 t)
    ∗ owns (c : Thread nD τ) (win2_10.stage (cfg2.slots t 10)) fullShare ((dats2 V c).after 10 t)
    ∗ owns (c : Thread nD τ) (win2_11.stage (cfg2.slots t 11)) fullShare ((dats2 V c).after 11 t)
    ∗ owns (c : Thread nD τ) (win2_12.stage (cfg2.slots t 12)) fullShare ((dats2 V c).after 12 t)
    ∗ owns (c : Thread nD τ) (win2_13.stage (cfg2.slots t 13)) fullShare ((dats2 V c).after 13 t)
    ∗ owns (c : Thread nD τ) (win2_14.stage (cfg2.slots t 14)) fullShare ((dats2 V c).after 14 t)
    ∗ owns (c : Thread nD τ) (win2_15.stage (cfg2.slots t 15)) fullShare ((dats2 V c).after 15 t)
    ∗ owns (c : Thread nD τ) (win2_16.stage (cfg2.slots t 16)) fullShare ((dats2 V c).after 16 t)
    ∗ owns (c : Thread nD τ) (win2_17.stage (cfg2.slots t 17)) fullShare ((dats2 V c).after 17 t))

set_option maxHeartbeats 4000000 in
/-- The body at any point, from what the pipeline hands it to what it takes back. -/
theorem sound2 (c : Dev nD) (t : Fin cfg2.N) :
    pre2 V c t ⊢ wp frame (wpE (defs₀ (F := F)) Variants.none c none) Set.univ (bodyAt2 t) (fun _ => post2 V c t) := by
  unfold pre2 post2 bodyAt2 Phi2
  rw [body2_eq]
  simp only [before2_0, before2_1, before2_2, before2_3, before2_4, before2_5, before2_6, before2_7, before2_8, before2_9, before2_10, before2_11, before2_12, before2_13, before2_14, before2_15]
  rw [show (dats2 V c).owesAt () t.succ = (dats2 V c).owesAt () t.castSucc from rfl,
    after2_0, after2_1, after2_2, after2_3, after2_4, after2_5, after2_6, after2_7, after2_8, after2_9, after2_10, after2_11, after2_12, after2_13, after2_14, after2_15, after2_16, after2_17]
  iintro ⟨⟨HS0, ⟨%dc, %hdc, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((run1 c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (win2_8.stage (cfg2.slots t 8)) (hstage2_8 ((cfg2.slots t 8).cast nbuf2_8)) (win2_9.stage (cfg2.slots t 9)) (hstage2_9 ((cfg2.slots t 9).cast nbuf2_9)) (win2_10.stage (cfg2.slots t 10)) (hstage2_10 ((cfg2.slots t 10).cast nbuf2_10)) (win2_11.stage (cfg2.slots t 11)) (hstage2_11 ((cfg2.slots t 11).cast nbuf2_11)) (win2_12.stage (cfg2.slots t 12)) (hstage2_12 ((cfg2.slots t 12).cast nbuf2_12)) (win2_13.stage (cfg2.slots t 13)) (hstage2_13 ((cfg2.slots t 13).cast nbuf2_13)) (win2_14.stage (cfg2.slots t 14)) (hstage2_14 ((cfg2.slots t 14).cast nbuf2_14)) (win2_15.stage (cfg2.slots t 15)) (hstage2_15 ((cfg2.slots t 15).cast nbuf2_15)) (win2_16.stage (cfg2.slots t 16)) (hstage2_16 ((cfg2.slots t 16).cast nbuf2_16)) (win2_17.stage (cfg2.slots t 17)) (hstage2_17 ((cfg2.slots t 17).cast nbuf2_17)) sz2 (Memref.isWhole_whole _) sc2 (Memref.isWhole_whole _)
    (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t) (blk2 V c 11 t) (blk2 V c 12 t) (blk2 V c 13 t) (blk2 V c 14 t) (blk2 V c 15 t) (tab2 V c t)).2.2.2 dc (fun _ => rfl) (fun hc => hdc t.isLt fun h0 => hc ((cond2_at t).mpr h0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [HS0]; · iexact HS0
  isplitl [HS1]; · iexact HS1
  iintro ⟨H0, H1, H2, H3, H4, H5, H6, H7, H8, H9, H10, H11, H12, H13, H14, H15, ⟨%e16, H16⟩, ⟨%e17, H17⟩, ⟨%ez, HS0⟩, HS1⟩
  isplitl [HS0 HS1 Hr]
  · isplitl [HS0]
    · iexists _; unfold owns; iexists _; isplitr
      swap; · iexact HS0
      ipureintro; rfl
    isplitl [HS1]
    · iexists _; isplitr
      swap; · iexact HS1
      ipureintro; exact fun h hn => tab2_succ V c t.val h hn
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_of_cover _ _ _ _ _ (cover2_16 V c t)
  unfold owns; iexists _; isplitr
  swap; · iexact H17
  ipureintro; exact View.read_writes_of_cover _ _ _ _ _ (cover2_17 V c t)

theorem row2 (t : Fin cfg2.N) :
    defs₀ (F := F) .tc cfg2.body (cfg2.bodyArgs t (cfg2.slots t)) = bodyAt2 t := by
  unfold defs₀; rw [Defs.onTc_tc]

/-- The pipeline's body obligation. -/
theorem body_obligation2 (c : Dev nD) : BodyObligation (dats2 V c) (defs₀ (F := F)) Variants.none () Set.univ := fun t => by
  rw [bigSep_W2, bigSep_W2, row2]
  exact triple_restated (sound2 V c t) rfl .rfl fun _ => .rfl

/-- The scratch at anything is the invariant before the first point, -/
theorem hin2 (c : Dev nD) : Pipeline.scopedRest spec2 c ⊢ (dats2 V c).Φ 0 := by
  rw [scopedRest2_split, show (dats2 V c).Φ 0 = Phi2 V c 0 from rfl]; unfold Phi2
  simp only [owns_whole]
  iintro ⟨⟨HS0, ⟨%d, HS1⟩⟩, Hr⟩
  isplitl [HS0]; · iexact HS0
  isplitl [HS1]
  · iexists d; isplitr; · ipureintro; exact fun _ h => absurd trivial h
    iexact HS1
  iexact Hr

/-- and the invariant after the last gives it back. -/
theorem hout2 (c : Dev nD) : (dats2 V c).Φ (Fin.last cfg2.N) ⊢ Pipeline.scopedRest spec2 c := by
  rw [scopedRest2_split, show (dats2 V c).Φ (Fin.last cfg2.N) = Phi2 V c cfg2.N from rfl]; unfold Phi2
  simp only [owns_whole]
  iintro ⟨HS0, ⟨%d, -, HS1⟩, Hr⟩
  isplitl [HS0 HS1]
  · isplitl [HS0]; · iexact HS0
    iexists d; iexact HS1
  iexact Hr

end Cert.KernelIdeal.Layer

end
-- ==== Proof.Frame3.lean ====
module

public import proofs.«01_k».proof.Proof.Run1
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.ValueIdx
public import Idealize.ShloMosaic.Lib.Pipeline.ValueKit

@[expose] public section

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

variable (V : Dev nD → Valuation τ sig (Elt F))

/-! ## What the windows read -/

/-- Window `w`'s block of its array at grid point `t`, the arrays holding `V` when the region is entered. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The two scratch buffers: the gate's values, and the carried table. -/
abbrev sz3 : Memref sig .tc .vmem S256x1536 .bf16 := Memref.whole cc3_scratch0
abbrev sc3 : Memref sig .tc .vmem S16x3072 .f32 := Memref.whole cc3_scratch1

/-- The table of the conditioning projection at point `t`'s blocks. -/
def tab3 (c : Dev nD) (t : Fin cfg3.N) : Vec F S16x3072 .f32 :=
  table1 (blk3 V c 3 t) (blk3 V c 4 t) (blk3 V c 9 t) (blk3 V c 10 t)

/-- The pieces the body's stores at point `t` write into window 16's staging buffer. -/
abbrev pcs3_16 (c : Dev nD) (t : Fin cfg3.N) : List (View.Piece (Elt F) S1x256x512 .f32) :=
  (run1 (F := F) c (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) (win3_4.stage (cfg3.slots t 4)) (hstage3_4 ((cfg3.slots t 4).cast nbuf3_4)) (win3_5.stage (cfg3.slots t 5)) (hstage3_5 ((cfg3.slots t 5).cast nbuf3_5)) (win3_6.stage (cfg3.slots t 6)) (hstage3_6 ((cfg3.slots t 6).cast nbuf3_6)) (win3_7.stage (cfg3.slots t 7)) (hstage3_7 ((cfg3.slots t 7).cast nbuf3_7)) (win3_8.stage (cfg3.slots t 8)) (hstage3_8 ((cfg3.slots t 8).cast nbuf3_8)) (win3_9.stage (cfg3.slots t 9)) (hstage3_9 ((cfg3.slots t 9).cast nbuf3_9)) (win3_10.stage (cfg3.slots t 10)) (hstage3_10 ((cfg3.slots t 10).cast nbuf3_10)) (win3_11.stage (cfg3.slots t 11)) (hstage3_11 ((cfg3.slots t 11).cast nbuf3_11)) (win3_12.stage (cfg3.slots t 12)) (hstage3_12 ((cfg3.slots t 12).cast nbuf3_12)) (win3_13.stage (cfg3.slots t 13)) (hstage3_13 ((cfg3.slots t 13).cast nbuf3_13)) (win3_14.stage (cfg3.slots t 14)) (hstage3_14 ((cfg3.slots t 14).cast nbuf3_14)) (win3_15.stage (cfg3.slots t 15)) (hstage3_15 ((cfg3.slots t 15).cast nbuf3_15)) (win3_16.stage (cfg3.slots t 16)) (hstage3_16 ((cfg3.slots t 16).cast nbuf3_16)) (win3_17.stage (cfg3.slots t 17)) (hstage3_17 ((cfg3.slots t 17).cast nbuf3_17)) sz3 (Memref.isWhole_whole _) sc3 (Memref.isWhole_whole _)
    (blk3 V c 0 t) (blk3 V c 1 t) (blk3 V c 2 t) (blk3 V c 3 t) (blk3 V c 4 t) (blk3 V c 5 t) (blk3 V c 6 t) (blk3 V c 7 t) (blk3 V c 8 t) (blk3 V c 9 t) (blk3 V c 10 t) (blk3 V c 11 t) (blk3 V c 12 t) (blk3 V c 13 t) (blk3 V c 14 t) (blk3 V c 15 t) (tab3 V c t)).1

/-- What the body at point `t` leaves in window 16's staging buffer. -/
def out3_16 (c : Dev nD) (t : Fin cfg3.N) : Vec F S1x256x512 .f32 :=
  (Memref.whole cc3_stg16_0 : Memref sig .tc .vmem S1x256x512 .f32).view.read (Elt F) ((Memref.whole cc3_stg16_0 : Memref sig .tc .vmem S1x256x512 .f32).view.writes (Elt F) (Memref.whole cc3_stg16_0 : Memref sig .tc .vmem S1x256x512 .f32).view.junk (pcs3_16 V c t))

/-- The body's stores tile that buffer. -/
theorem cover3_16 (c : Dev nD) (t : Fin cfg3.N) (y : S1x256x512.Idx) :
    ∃ pc ∈ pcs3_16 V c t, y ∈ pc.1.set :=
  View.cover_of_tiledL (pcs3_16 V c t) S1x256x256.size (by sl_kernel_rfl) y

/-- The pieces the body's stores at point `t` write into window 17's staging buffer. -/
abbrev pcs3_17 (c : Dev nD) (t : Fin cfg3.N) : List (View.Piece (Elt F) S1x256x768 .i8) :=
  (run1 (F := F) c (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) (win3_4.stage (cfg3.slots t 4)) (hstage3_4 ((cfg3.slots t 4).cast nbuf3_4)) (win3_5.stage (cfg3.slots t 5)) (hstage3_5 ((cfg3.slots t 5).cast nbuf3_5)) (win3_6.stage (cfg3.slots t 6)) (hstage3_6 ((cfg3.slots t 6).cast nbuf3_6)) (win3_7.stage (cfg3.slots t 7)) (hstage3_7 ((cfg3.slots t 7).cast nbuf3_7)) (win3_8.stage (cfg3.slots t 8)) (hstage3_8 ((cfg3.slots t 8).cast nbuf3_8)) (win3_9.stage (cfg3.slots t 9)) (hstage3_9 ((cfg3.slots t 9).cast nbuf3_9)) (win3_10.stage (cfg3.slots t 10)) (hstage3_10 ((cfg3.slots t 10).cast nbuf3_10)) (win3_11.stage (cfg3.slots t 11)) (hstage3_11 ((cfg3.slots t 11).cast nbuf3_11)) (win3_12.stage (cfg3.slots t 12)) (hstage3_12 ((cfg3.slots t 12).cast nbuf3_12)) (win3_13.stage (cfg3.slots t 13)) (hstage3_13 ((cfg3.slots t 13).cast nbuf3_13)) (win3_14.stage (cfg3.slots t 14)) (hstage3_14 ((cfg3.slots t 14).cast nbuf3_14)) (win3_15.stage (cfg3.slots t 15)) (hstage3_15 ((cfg3.slots t 15).cast nbuf3_15)) (win3_16.stage (cfg3.slots t 16)) (hstage3_16 ((cfg3.slots t 16).cast nbuf3_16)) (win3_17.stage (cfg3.slots t 17)) (hstage3_17 ((cfg3.slots t 17).cast nbuf3_17)) sz3 (Memref.isWhole_whole _) sc3 (Memref.isWhole_whole _)
    (blk3 V c 0 t) (blk3 V c 1 t) (blk3 V c 2 t) (blk3 V c 3 t) (blk3 V c 4 t) (blk3 V c 5 t) (blk3 V c 6 t) (blk3 V c 7 t) (blk3 V c 8 t) (blk3 V c 9 t) (blk3 V c 10 t) (blk3 V c 11 t) (blk3 V c 12 t) (blk3 V c 13 t) (blk3 V c 14 t) (blk3 V c 15 t) (tab3 V c t)).2.1

/-- What the body at point `t` leaves in window 17's staging buffer. -/
def out3_17 (c : Dev nD) (t : Fin cfg3.N) : Vec F S1x256x768 .i8 :=
  (Memref.whole cc3_stg17_0 : Memref sig .tc .vmem S1x256x768 .i8).view.read (Elt F) ((Memref.whole cc3_stg17_0 : Memref sig .tc .vmem S1x256x768 .i8).view.writes (Elt F) (Memref.whole cc3_stg17_0 : Memref sig .tc .vmem S1x256x768 .i8).view.junk (pcs3_17 V c t))

/-- The body's stores tile that buffer. -/
theorem cover3_17 (c : Dev nD) (t : Fin cfg3.N) (y : S1x256x768.Idx) :
    ∃ pc ∈ pcs3_17 V c t, y ∈ pc.1.set :=
  View.cover_of_tiledL (pcs3_17 V c t) S1x256x256.size (by sl_kernel_rfl) y

/-! ## The invariant and the pipeline's data -/

/-- Before point `n` the gate scratch holds anything; the carried scratch holds the table of point `n`'s batch row, unless
    `n` is the first point of its row, which fills it. -/
def Phi3 (c : Dev nD) (n : ℕ) : sProp 𝕄 :=
  iprop((∃ d, owns (c : Thread nD τ) sz3 fullShare d) ∗ (∃ d, ⌜∀ h : n < cfg3.N, ¬n % 8 = 0 → d = tab3 V c ⟨n, h⟩⌝ ∗ owns (c : Thread nD τ) sc3 fullShare d) ∗ Pipeline.scopedRestBut (Ix := Unit) (Name := ℕ) (U := UR sig nD τ) (Lvl := ℕ) (Val := Elt F) spec3 c [cc3_scratch0, cc3_scratch1])

/-- The proof data: the arrays as found; after a point each input's buffer at its block, each output's at what the body
    leaves; nothing owed; full shares. -/
def dats3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => blk3 V c 5 t
    | ⟨6, _⟩ => blk3 V c 6 t
    | ⟨7, _⟩ => blk3 V c 7 t
    | ⟨8, _⟩ => blk3 V c 8 t
    | ⟨9, _⟩ => blk3 V c 9 t
    | ⟨10, _⟩ => blk3 V c 10 t
    | ⟨11, _⟩ => blk3 V c 11 t
    | ⟨12, _⟩ => blk3 V c 12 t
    | ⟨13, _⟩ => blk3 V c 13 t
    | ⟨14, _⟩ => blk3 V c 14 t
    | ⟨15, _⟩ => blk3 V c 15 t
    | ⟨16, _⟩ => out3_16 V c t
    | ⟨17, _⟩ => out3_17 V c t
    | ⟨_ + 18, h⟩ => absurd h (Nat.not_lt.2 (Nat.le_add_left _ _))
  Φ t := Phi3 V c t.val
  q _ := fullShare
  owed _ := 0

theorem A3_eq (c : Dev nD) (w : Fin cfg3.W) : (dats3 V c).A w = V c (Pipeline.arrRef spec3 w) := by
  dsimp only [dats3]

theorem after3_0 (c : Dev nD) (t : Fin cfg3.N) : (dats3 V c).after 0 t = blk3 V c 0 t := by dsimp only [dats3]
theorem after3_1 (c : Dev nD) (t : Fin cfg3.N) : (dats3 V c).after 1 t = blk3 V c 1 t := by dsimp only [dats3]
theorem after3_2 (c : Dev nD) (t : Fin cfg3.N) : (dats3 V c).after 2 t = blk3 V c 2 t := by dsimp only [dats3]
theorem after3_3 (c : Dev nD) (t : Fin cfg3.N) : (dats3 V c).after 3 t = blk3 V c 3 t := by dsimp only [dats3]
theorem after3_4 (c : Dev nD) (t : Fin cfg3.N) : (dats3 V c).after 4 t = blk3 V c 4 t := by dsimp only [dats3]
theorem after3_5 (c : Dev nD) (t : Fin cfg3.N) : (dats3 V c).after 5 t = blk3 V c 5 t := by dsimp only [dats3]
theorem after3_6 (c : Dev nD) (t : Fin cfg3.N) : (dats3 V c).after 6 t = blk3 V c 6 t := by dsimp only [dats3]
theorem after3_7 (c : Dev nD) (t : Fin cfg3.N) : (dats3 V c).after 7 t = blk3 V c 7 t := by dsimp only [dats3]
theorem after3_8 (c : Dev nD) (t : Fin cfg3.N) : (dats3 V c).after 8 t = blk3 V c 8 t := by dsimp only [dats3]
theorem after3_9 (c : Dev nD) (t : Fin cfg3.N) : (dats3 V c).after 9 t = blk3 V c 9 t := by dsimp only [dats3]
theorem after3_10 (c : Dev nD) (t : Fin cfg3.N) : (dats3 V c).after 10 t = blk3 V c 10 t := by dsimp only [dats3]
theorem after3_11 (c : Dev nD) (t : Fin cfg3.N) : (dats3 V c).after 11 t = blk3 V c 11 t := by dsimp only [dats3]
theorem after3_12 (c : Dev nD) (t : Fin cfg3.N) : (dats3 V c).after 12 t = blk3 V c 12 t := by dsimp only [dats3]
theorem after3_13 (c : Dev nD) (t : Fin cfg3.N) : (dats3 V c).after 13 t = blk3 V c 13 t := by dsimp only [dats3]
theorem after3_14 (c : Dev nD) (t : Fin cfg3.N) : (dats3 V c).after 14 t = blk3 V c 14 t := by dsimp only [dats3]
theorem after3_15 (c : Dev nD) (t : Fin cfg3.N) : (dats3 V c).after 15 t = blk3 V c 15 t := by dsimp only [dats3]
theorem after3_16 (c : Dev nD) (t : Fin cfg3.N) : (dats3 V c).after 16 t = out3_16 V c t := by dsimp only [dats3]
theorem after3_17 (c : Dev nD) (t : Fin cfg3.N) : (dats3 V c).after 17 t = out3_17 V c t := by dsimp only [dats3]

/-- What a fetch at a point stages of an input is its block there. -/
theorem fetched3_0 (c : Dev nD) (t : Fin cfg3.N) (d) : (dats3 V c).fetched 0 t d = blk3 V c 0 t := by
  unfold Dat.fetched Dat.blockOf blk3; rw [A3_eq]; try rfl
theorem fetched3_1 (c : Dev nD) (t : Fin cfg3.N) (d) : (dats3 V c).fetched 1 t d = blk3 V c 1 t := by
  unfold Dat.fetched Dat.blockOf blk3; rw [A3_eq]; try rfl
theorem fetched3_2 (c : Dev nD) (t : Fin cfg3.N) (d) : (dats3 V c).fetched 2 t d = blk3 V c 2 t := by
  unfold Dat.fetched Dat.blockOf blk3; rw [A3_eq]; try rfl
theorem fetched3_3 (c : Dev nD) (t : Fin cfg3.N) (d) : (dats3 V c).fetched 3 t d = blk3 V c 3 t := by
  unfold Dat.fetched Dat.blockOf blk3; rw [A3_eq]; try rfl
theorem fetched3_4 (c : Dev nD) (t : Fin cfg3.N) (d) : (dats3 V c).fetched 4 t d = blk3 V c 4 t := by
  unfold Dat.fetched Dat.blockOf blk3; rw [A3_eq]; try rfl
theorem fetched3_5 (c : Dev nD) (t : Fin cfg3.N) (d) : (dats3 V c).fetched 5 t d = blk3 V c 5 t := by
  unfold Dat.fetched Dat.blockOf blk3; rw [A3_eq]; try rfl
theorem fetched3_6 (c : Dev nD) (t : Fin cfg3.N) (d) : (dats3 V c).fetched 6 t d = blk3 V c 6 t := by
  unfold Dat.fetched Dat.blockOf blk3; rw [A3_eq]; try rfl
theorem fetched3_7 (c : Dev nD) (t : Fin cfg3.N) (d) : (dats3 V c).fetched 7 t d = blk3 V c 7 t := by
  unfold Dat.fetched Dat.blockOf blk3; rw [A3_eq]; try rfl
theorem fetched3_8 (c : Dev nD) (t : Fin cfg3.N) (d) : (dats3 V c).fetched 8 t d = blk3 V c 8 t := by
  unfold Dat.fetched Dat.blockOf blk3; rw [A3_eq]; try rfl
theorem fetched3_9 (c : Dev nD) (t : Fin cfg3.N) (d) : (dats3 V c).fetched 9 t d = blk3 V c 9 t := by
  unfold Dat.fetched Dat.blockOf blk3; rw [A3_eq]; try rfl
theorem fetched3_10 (c : Dev nD) (t : Fin cfg3.N) (d) : (dats3 V c).fetched 10 t d = blk3 V c 10 t := by
  unfold Dat.fetched Dat.blockOf blk3; rw [A3_eq]; try rfl
theorem fetched3_11 (c : Dev nD) (t : Fin cfg3.N) (d) : (dats3 V c).fetched 11 t d = blk3 V c 11 t := by
  unfold Dat.fetched Dat.blockOf blk3; rw [A3_eq]; try rfl
theorem fetched3_12 (c : Dev nD) (t : Fin cfg3.N) (d) : (dats3 V c).fetched 12 t d = blk3 V c 12 t := by
  unfold Dat.fetched Dat.blockOf blk3; rw [A3_eq]; try rfl
theorem fetched3_13 (c : Dev nD) (t : Fin cfg3.N) (d) : (dats3 V c).fetched 13 t d = blk3 V c 13 t := by
  unfold Dat.fetched Dat.blockOf blk3; rw [A3_eq]; try rfl
theorem fetched3_14 (c : Dev nD) (t : Fin cfg3.N) (d) : (dats3 V c).fetched 14 t d = blk3 V c 14 t := by
  unfold Dat.fetched Dat.blockOf blk3; rw [A3_eq]; try rfl
theorem fetched3_15 (c : Dev nD) (t : Fin cfg3.N) (d) : (dats3 V c).fetched 15 t d = blk3 V c 15 t := by
  unfold Dat.fetched Dat.blockOf blk3; rw [A3_eq]; try rfl

/-- An input's staging buffer holds its block at every point, fetched there or not. -/
theorem before3_0 (c : Dev nD) (t : Fin cfg3.N) (d) : (dats3 V c).before 0 t d = blk3 V c 0 t :=
  ((dats3 V c).before_in_eq_fetched 0 rfl (fun _ => rfl) (fun _ _ _ => rfl) (fun t => by rw [after3_0]; unfold Dat.blockOf blk3; rw [A3_eq]; try rfl) t d).trans
    (fetched3_0 V c t d)
theorem before3_1 (c : Dev nD) (t : Fin cfg3.N) (d) : (dats3 V c).before 1 t d = blk3 V c 1 t :=
  ((dats3 V c).before_in_eq_fetched 1 rfl (fun _ => rfl) (fun _ _ _ => rfl) (fun t => by rw [after3_1]; unfold Dat.blockOf blk3; rw [A3_eq]; try rfl) t d).trans
    (fetched3_1 V c t d)
theorem before3_2 (c : Dev nD) (t : Fin cfg3.N) (d) : (dats3 V c).before 2 t d = blk3 V c 2 t :=
  ((dats3 V c).before_in_eq_fetched 2 rfl (fun _ => rfl) (fun _ _ _ => rfl) (fun t => by rw [after3_2]; unfold Dat.blockOf blk3; rw [A3_eq]; try rfl) t d).trans
    (fetched3_2 V c t d)
theorem before3_3 (c : Dev nD) (t : Fin cfg3.N) (d) : (dats3 V c).before 3 t d = blk3 V c 3 t :=
  ((dats3 V c).before_in_eq_fetched 3 rfl (fun _ => rfl) (fun _ _ _ => rfl) (fun t => by rw [after3_3]; unfold Dat.blockOf blk3; rw [A3_eq]; try rfl) t d).trans
    (fetched3_3 V c t d)
theorem before3_4 (c : Dev nD) (t : Fin cfg3.N) (d) : (dats3 V c).before 4 t d = blk3 V c 4 t :=
  ((dats3 V c).before_in_eq_fetched 4 rfl (fun _ => rfl) (fun _ _ _ => rfl) (fun t => by rw [after3_4]; unfold Dat.blockOf blk3; rw [A3_eq]; try rfl) t d).trans
    (fetched3_4 V c t d)
theorem before3_5 (c : Dev nD) (t : Fin cfg3.N) (d) : (dats3 V c).before 5 t d = blk3 V c 5 t :=
  ((dats3 V c).before_in_eq_fetched 5 rfl (fun _ => rfl) (fun _ _ _ => rfl) (fun t => by rw [after3_5]; unfold Dat.blockOf blk3; rw [A3_eq]; try rfl) t d).trans
    (fetched3_5 V c t d)
theorem before3_6 (c : Dev nD) (t : Fin cfg3.N) (d) : (dats3 V c).before 6 t d = blk3 V c 6 t :=
  ((dats3 V c).before_in_eq_fetched 6 rfl (fun _ => rfl) (fun _ _ _ => rfl) (fun t => by rw [after3_6]; unfold Dat.blockOf blk3; rw [A3_eq]; try rfl) t d).trans
    (fetched3_6 V c t d)
theorem before3_7 (c : Dev nD) (t : Fin cfg3.N) (d) : (dats3 V c).before 7 t d = blk3 V c 7 t :=
  ((dats3 V c).before_in_eq_fetched 7 rfl (fun _ => rfl) (fun _ _ _ => rfl) (fun t => by rw [after3_7]; unfold Dat.blockOf blk3; rw [A3_eq]; try rfl) t d).trans
    (fetched3_7 V c t d)
theorem before3_8 (c : Dev nD) (t : Fin cfg3.N) (d) : (dats3 V c).before 8 t d = blk3 V c 8 t :=
  ((dats3 V c).before_in_eq_fetched 8 rfl (fun _ => rfl) (fun _ _ _ => rfl) (fun t => by rw [after3_8]; unfold Dat.blockOf blk3; rw [A3_eq]; try rfl) t d).trans
    (fetched3_8 V c t d)
theorem before3_9 (c : Dev nD) (t : Fin cfg3.N) (d) : (dats3 V c).before 9 t d = blk3 V c 9 t :=
  ((dats3 V c).before_in_eq_fetched 9 rfl (fun _ => rfl) (fun _ _ _ => rfl) (fun t => by rw [after3_9]; unfold Dat.blockOf blk3; rw [A3_eq]; try rfl) t d).trans
    (fetched3_9 V c t d)
theorem before3_10 (c : Dev nD) (t : Fin cfg3.N) (d) : (dats3 V c).before 10 t d = blk3 V c 10 t :=
  ((dats3 V c).before_in_eq_fetched 10 rfl (fun _ => rfl) (fun _ _ _ => rfl) (fun t => by rw [after3_10]; unfold Dat.blockOf blk3; rw [A3_eq]; try rfl) t d).trans
    (fetched3_10 V c t d)
theorem before3_11 (c : Dev nD) (t : Fin cfg3.N) (d) : (dats3 V c).before 11 t d = blk3 V c 11 t :=
  ((dats3 V c).before_in_eq_fetched 11 rfl (fun _ => rfl) (fun _ _ _ => rfl) (fun t => by rw [after3_11]; unfold Dat.blockOf blk3; rw [A3_eq]; try rfl) t d).trans
    (fetched3_11 V c t d)
theorem before3_12 (c : Dev nD) (t : Fin cfg3.N) (d) : (dats3 V c).before 12 t d = blk3 V c 12 t :=
  ((dats3 V c).before_in_eq_fetched 12 rfl (fun _ => rfl) (fun _ _ _ => rfl) (fun t => by rw [after3_12]; unfold Dat.blockOf blk3; rw [A3_eq]; try rfl) t d).trans
    (fetched3_12 V c t d)
theorem before3_13 (c : Dev nD) (t : Fin cfg3.N) (d) : (dats3 V c).before 13 t d = blk3 V c 13 t :=
  ((dats3 V c).before_in_eq_fetched 13 rfl (fun _ => rfl) (fun _ _ _ => rfl) (fun t => by rw [after3_13]; unfold Dat.blockOf blk3; rw [A3_eq]; try rfl) t d).trans
    (fetched3_13 V c t d)
theorem before3_14 (c : Dev nD) (t : Fin cfg3.N) (d) : (dats3 V c).before 14 t d = blk3 V c 14 t :=
  ((dats3 V c).before_in_eq_fetched 14 rfl (fun _ => rfl) (fun _ _ _ => rfl) (fun t => by rw [after3_14]; unfold Dat.blockOf blk3; rw [A3_eq]; try rfl) t d).trans
    (fetched3_14 V c t d)
theorem before3_15 (c : Dev nD) (t : Fin cfg3.N) (d) : (dats3 V c).before 15 t d = blk3 V c 15 t :=
  ((dats3 V c).before_in_eq_fetched 15 rfl (fun _ => rfl) (fun _ _ _ => rfl) (fun t => by rw [after3_15]; unfold Dat.blockOf blk3; rw [A3_eq]; try rfl) t d).trans
    (fetched3_15 V c t d)

/-- The inputs the table is made of are not fetched inside a batch row, so it does not change there. -/
theorem tab3_succ (c : Dev nD) (n : ℕ) (h : n + 1 < cfg3.N) (hn : ¬(n + 1) % 8 = 0) :
    tab3 V c ⟨n, Nat.lt_of_succ_lt h⟩ = tab3 V c ⟨n + 1, h⟩ := by
  have e3 : blk3 V c 3 ⟨n, Nat.lt_of_succ_lt h⟩ = blk3 V c 3 ⟨n + 1, h⟩ :=
    ((fetched3_3 V c _ (blk3 V c 3 ⟨n, Nat.lt_of_succ_lt h⟩)).symm.trans (Dat.fetched_congr _ 3
      ((cfg3.win 3).index_eq_of_fetch rfl ⟨n + 1, h⟩ (by rw [← Bool.not_eq_true, fetch3_3]; show ¬(n + 1) % _ = 0; omega)).2.symm rfl _)).trans
      (fetched3_3 V c _ _)
  have e4 : blk3 V c 4 ⟨n, Nat.lt_of_succ_lt h⟩ = blk3 V c 4 ⟨n + 1, h⟩ :=
    ((fetched3_4 V c _ (blk3 V c 4 ⟨n, Nat.lt_of_succ_lt h⟩)).symm.trans (Dat.fetched_congr _ 4
      ((cfg3.win 4).index_eq_of_fetch rfl ⟨n + 1, h⟩ (by rw [← Bool.not_eq_true, fetch3_4]; show ¬(n + 1) % _ = 0; omega)).2.symm rfl _)).trans
      (fetched3_4 V c _ _)
  have e9 : blk3 V c 9 ⟨n, Nat.lt_of_succ_lt h⟩ = blk3 V c 9 ⟨n + 1, h⟩ :=
    ((fetched3_9 V c _ (blk3 V c 9 ⟨n, Nat.lt_of_succ_lt h⟩)).symm.trans (Dat.fetched_congr _ 9
      ((cfg3.win 9).index_eq_of_fetch rfl ⟨n + 1, h⟩ (by rw [← Bool.not_eq_true, fetch3_9]; show ¬(n + 1) % _ = 0; omega)).2.symm rfl _)).trans
      (fetched3_9 V c _ _)
  have e10 : blk3 V c 10 ⟨n, Nat.lt_of_succ_lt h⟩ = blk3 V c 10 ⟨n + 1, h⟩ :=
    ((fetched3_10 V c _ (blk3 V c 10 ⟨n, Nat.lt_of_succ_lt h⟩)).symm.trans (Dat.fetched_congr _ 10
      ((cfg3.win 10).index_eq_of_fetch rfl ⟨n + 1, h⟩ (by rw [← Bool.not_eq_true, fetch3_10]; show ¬(n + 1) % _ = 0; omega)).2.symm rfl _)).trans
      (fetched3_10 V c _ _)
  unfold tab3
  exact congr (congr (congr (congrArg (fun a b d e => table1 a b d e) e3) e4) e9) e10

/-! ## The body obligation -/

/-- This layer's body is the second layer's. -/
theorem body3_eq : cc3_wavenet_layer (F := F) = cc1_wavenet_layer := rfl

/-- The body's branch is taken at the first point of each batch row. -/
theorem cond3_at (t : Fin cfg3.N) : cond1 (grid3.coords t) ↔ t.val % 8 = 0 := cond1_iff t

/-- What the body is called with at point `t`, window by window, -/
def pre3 (c : Dev nD) (t : Fin cfg3.N) : sProp 𝕄 :=
  iprop(Phi3 V c t.val ∗ (dats3 V c).owesAt () t.castSucc
    ∗ (∃ d, owns (c : Thread nD τ) (win3_0.stage (cfg3.slots t 0)) fullShare ((dats3 V c).before 0 t d))
    ∗ (∃ d, owns (c : Thread nD τ) (win3_1.stage (cfg3.slots t 1)) fullShare ((dats3 V c).before 1 t d))
    ∗ (∃ d, owns (c : Thread nD τ) (win3_2.stage (cfg3.slots t 2)) fullShare ((dats3 V c).before 2 t d))
    ∗ (∃ d, owns (c : Thread nD τ) (win3_3.stage (cfg3.slots t 3)) fullShare ((dats3 V c).before 3 t d))
    ∗ (∃ d, owns (c : Thread nD τ) (win3_4.stage (cfg3.slots t 4)) fullShare ((dats3 V c).before 4 t d))
    ∗ (∃ d, owns (c : Thread nD τ) (win3_5.stage (cfg3.slots t 5)) fullShare ((dats3 V c).before 5 t d))
    ∗ (∃ d, owns (c : Thread nD τ) (win3_6.stage (cfg3.slots t 6)) fullShare ((dats3 V c).before 6 t d))
    ∗ (∃ d, owns (c : Thread nD τ) (win3_7.stage (cfg3.slots t 7)) fullShare ((dats3 V c).before 7 t d))
    ∗ (∃ d, owns (c : Thread nD τ) (win3_8.stage (cfg3.slots t 8)) fullShare ((dats3 V c).before 8 t d))
    ∗ (∃ d, owns (c : Thread nD τ) (win3_9.stage (cfg3.slots t 9)) fullShare ((dats3 V c).before 9 t d))
    ∗ (∃ d, owns (c : Thread nD τ) (win3_10.stage (cfg3.slots t 10)) fullShare ((dats3 V c).before 10 t d))
    ∗ (∃ d, owns (c : Thread nD τ) (win3_11.stage (cfg3.slots t 11)) fullShare ((dats3 V c).before 11 t d))
    ∗ (∃ d, owns (c : Thread nD τ) (win3_12.stage (cfg3.slots t 12)) fullShare ((dats3 V c).before 12 t d))
    ∗ (∃ d, owns (c : Thread nD τ) (win3_13.stage (cfg3.slots t 13)) fullShare ((dats3 V c).before 13 t d))
    ∗ (∃ d, owns (c : Thread nD τ) (win3_14.stage (cfg3.slots t 14)) fullShare ((dats3 V c).before 14 t d))
    ∗ (∃ d, owns (c : Thread nD τ) (win3_15.stage (cfg3.slots t 15)) fullShare ((dats3 V c).before 15 t d))
    ∗ (∃ d, owns (c : Thread nD τ) (win3_16.stage (cfg3.slots t 16)) fullShare ((dats3 V c).before 16 t d))
    ∗ (∃ d, owns (c : Thread nD τ) (win3_17.stage (cfg3.slots t 17)) fullShare ((dats3 V c).before 17 t d)))

/-- and what it returns. -/
def post3 (c : Dev nD) (t : Fin cfg3.N) : sProp 𝕄 :=
  iprop(Phi3 V c (t.val + 1) ∗ (dats3 V c).owesAt () t.succ
    ∗ owns (c : Thread nD τ) (win3_0.stage (cfg3.slots t 0)) fullShare ((dats3 V c).after 0 t)
    ∗ owns (c : Thread nD τ) (win3_1.stage (cfg3.slots t 1)) fullShare ((dats3 V c).after 1 t)
    ∗ owns (c : Thread nD τ) (win3_2.stage (cfg3.slots t 2)) fullShare ((dats3 V c).after 2 t)
    ∗ owns (c : Thread nD τ) (win3_3.stage (cfg3.slots t 3)) fullShare ((dats3 V c).after 3 t)
    ∗ owns (c : Thread nD τ) (win3_4.stage (cfg3.slots t 4)) fullShare ((dats3 V c).after 4 t)
    ∗ owns (c : Thread nD τ) (win3_5.stage (cfg3.slots t 5)) fullShare ((dats3 V c).after 5 t)
    ∗ owns (c : Thread nD τ) (win3_6.stage (cfg3.slots t 6)) fullShare ((dats3 V c).after 6 t)
    ∗ owns (c : Thread nD τ) (win3_7.stage (cfg3.slots t 7)) fullShare ((dats3 V c).after 7 t)
    ∗ owns (c : Thread nD τ) (win3_8.stage (cfg3.slots t 8)) fullShare ((dats3 V c).after 8 t)
    ∗ owns (c : Thread nD τ) (win3_9.stage (cfg3.slots t 9)) fullShare ((dats3 V c).after 9 t)
    ∗ owns (c : Thread nD τ) (win3_10.stage (cfg3.slots t 10)) fullShare ((dats3 V c).after 10 t)
    ∗ owns (c : Thread nD τ) (win3_11.stage (cfg3.slots t 11)) fullShare ((dats3 V c).after 11 t)
    ∗ owns (c : Thread nD τ) (win3_12.stage (cfg3.slots t 12)) fullShare ((dats3 V c).after 12 t)
    ∗ owns (c : Thread nD τ) (win3_13.stage (cfg3.slots t 13)) fullShare ((dats3 V c).after 13 t)
    ∗ owns (c : Thread nD τ) (win3_14.stage (cfg3.slots t 14)) fullShare ((dats3 V c).after 14 t)
    ∗ owns (c : Thread nD τ) (win3_15.stage (cfg3.slots t 15)) fullShare ((dats3 V c).after 15 t)
    ∗ owns (c : Thread nD τ) (win3_16.stage (cfg3.slots t 16)) fullShare ((dats3 V c).after 16 t)
    ∗ owns (c : Thread nD τ) (win3_17.stage (cfg3.slots t 17)) fullShare ((dats3 V c).after 17 t))

set_option maxHeartbeats 4000000 in
/-- The body at any point, from what the pipeline hands it to what it takes back. -/
theorem sound3 (c : Dev nD) (t : Fin cfg3.N) :
    pre3 V c t ⊢ wp frame (wpE (defs₀ (F := F)) Variants.none c none) Set.univ (bodyAt3 t) (fun _ => post3 V c t) := by
  unfold pre3 post3 bodyAt3 Phi3
  rw [body3_eq]
  simp only [before3_0, before3_1, before3_2, before3_3, before3_4, before3_5, before3_6, before3_7, before3_8, before3_9, before3_10, before3_11, before3_12, before3_13, before3_14, before3_15]
  rw [show (dats3 V c).owesAt () t.succ = (dats3 V c).owesAt () t.castSucc from rfl,
    after3_0, after3_1, after3_2, after3_3, after3_4, after3_5, after3_6, after3_7, after3_8, after3_9, after3_10, after3_11, after3_12, after3_13, after3_14, after3_15, after3_16, after3_17]
  iintro ⟨⟨HS0, ⟨%dc, %hdc, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((run1 c (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) (win3_4.stage (cfg3.slots t 4)) (hstage3_4 ((cfg3.slots t 4).cast nbuf3_4)) (win3_5.stage (cfg3.slots t 5)) (hstage3_5 ((cfg3.slots t 5).cast nbuf3_5)) (win3_6.stage (cfg3.slots t 6)) (hstage3_6 ((cfg3.slots t 6).cast nbuf3_6)) (win3_7.stage (cfg3.slots t 7)) (hstage3_7 ((cfg3.slots t 7).cast nbuf3_7)) (win3_8.stage (cfg3.slots t 8)) (hstage3_8 ((cfg3.slots t 8).cast nbuf3_8)) (win3_9.stage (cfg3.slots t 9)) (hstage3_9 ((cfg3.slots t 9).cast nbuf3_9)) (win3_10.stage (cfg3.slots t 10)) (hstage3_10 ((cfg3.slots t 10).cast nbuf3_10)) (win3_11.stage (cfg3.slots t 11)) (hstage3_11 ((cfg3.slots t 11).cast nbuf3_11)) (win3_12.stage (cfg3.slots t 12)) (hstage3_12 ((cfg3.slots t 12).cast nbuf3_12)) (win3_13.stage (cfg3.slots t 13)) (hstage3_13 ((cfg3.slots t 13).cast nbuf3_13)) (win3_14.stage (cfg3.slots t 14)) (hstage3_14 ((cfg3.slots t 14).cast nbuf3_14)) (win3_15.stage (cfg3.slots t 15)) (hstage3_15 ((cfg3.slots t 15).cast nbuf3_15)) (win3_16.stage (cfg3.slots t 16)) (hstage3_16 ((cfg3.slots t 16).cast nbuf3_16)) (win3_17.stage (cfg3.slots t 17)) (hstage3_17 ((cfg3.slots t 17).cast nbuf3_17)) sz3 (Memref.isWhole_whole _) sc3 (Memref.isWhole_whole _)
    (blk3 V c 0 t) (blk3 V c 1 t) (blk3 V c 2 t) (blk3 V c 3 t) (blk3 V c 4 t) (blk3 V c 5 t) (blk3 V c 6 t) (blk3 V c 7 t) (blk3 V c 8 t) (blk3 V c 9 t) (blk3 V c 10 t) (blk3 V c 11 t) (blk3 V c 12 t) (blk3 V c 13 t) (blk3 V c 14 t) (blk3 V c 15 t) (tab3 V c t)).2.2.2 dc (fun _ => rfl) (fun hc => hdc t.isLt fun h0 => hc ((cond3_at t).mpr h0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [HS0]; · iexact HS0
  isplitl [HS1]; · iexact HS1
  iintro ⟨H0, H1, H2, H3, H4, H5, H6, H7, H8, H9, H10, H11, H12, H13, H14, H15, ⟨%e16, H16⟩, ⟨%e17, H17⟩, ⟨%ez, HS0⟩, HS1⟩
  isplitl [HS0 HS1 Hr]
  · isplitl [HS0]
    · iexists _; unfold owns; iexists _; isplitr
      swap; · iexact HS0
      ipureintro; rfl
    isplitl [HS1]
    · iexists _; isplitr
      swap; · iexact HS1
      ipureintro; exact fun h hn => tab3_succ V c t.val h hn
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_of_cover _ _ _ _ _ (cover3_16 V c t)
  unfold owns; iexists _; isplitr
  swap; · iexact H17
  ipureintro; exact View.read_writes_of_cover _ _ _ _ _ (cover3_17 V c t)

theorem row3 (t : Fin cfg3.N) :
    defs₀ (F := F) .tc cfg3.body (cfg3.bodyArgs t (cfg3.slots t)) = bodyAt3 t := by
  unfold defs₀; rw [Defs.onTc_tc]

/-- The pipeline's body obligation. -/
theorem body_obligation3 (c : Dev nD) : BodyObligation (dats3 V c) (defs₀ (F := F)) Variants.none () Set.univ := fun t => by
  rw [bigSep_W3, bigSep_W3, row3]
  exact triple_restated (sound3 V c t) rfl .rfl fun _ => .rfl

/-- The scratch at anything is the invariant before the first point, -/
theorem hin3 (c : Dev nD) : Pipeline.scopedRest spec3 c ⊢ (dats3 V c).Φ 0 := by
  rw [scopedRest3_split, show (dats3 V c).Φ 0 = Phi3 V c 0 from rfl]; unfold Phi3
  simp only [owns_whole]
  iintro ⟨⟨HS0, ⟨%d, HS1⟩⟩, Hr⟩
  isplitl [HS0]; · iexact HS0
  isplitl [HS1]
  · iexists d; isplitr; · ipureintro; exact fun _ h => absurd trivial h
    iexact HS1
  iexact Hr

/-- and the invariant after the last gives it back. -/
theorem hout3 (c : Dev nD) : (dats3 V c).Φ (Fin.last cfg3.N) ⊢ Pipeline.scopedRest spec3 c := by
  rw [scopedRest3_split, show (dats3 V c).Φ (Fin.last cfg3.N) = Phi3 V c cfg3.N from rfl]; unfold Phi3
  simp only [owns_whole]
  iintro ⟨HS0, ⟨%d, -, HS1⟩, Hr⟩
  isplitl [HS0 HS1]
  · isplitl [HS0]; · iexact HS0
    iexists d; iexact HS1
  iexact Hr

end Cert.KernelIdeal.Layer

end
-- ==== Proof.LayerRun.lean ====
module

public import proofs.«01_k».proof.Proof.Frame0
public import proofs.«01_k».proof.Proof.Frame1
public import proofs.«01_k».proof.Proof.Frame2
public import proofs.«01_k».proof.Proof.Frame3
public import proofs.«01_k».proof.Proof.Gen.KernelIdeal.Regions
public import Idealize.ShloMosaic.Lib.Pipeline.RegionsLoop
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.ValueIdx
public import Idealize.ShloMosaic.Lib.Pipeline.ValueKit

@[expose] public section

set_option maxRecDepth 16384

noncomputable section

namespace Cert.KernelIdeal.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RegionSeg Dat Cfg Window BodyObligation cellOf)
open Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each core's buffers hold between the items of @main -/

/-- When the first layer is entered. -/
abbrev E0 (c : Dev nD) : Valuation τ sig (Elt F) := V3 m c
/-- After layer 0: its results hold what its grid points left in them. -/
def X0 (c : Dev nD) : Valuation τ sig (Elt F) := Function.update (Function.update (Function.update (E0 m c) main_v45_0 ((dats0 (E0 m) c).arrAt 15 cfg0.N)) main_v45_1 ((dats0 (E0 m) c).arrAt 16 cfg0.N)) main_v45_2 ((dats0 (E0 m) c).arrAt 17 cfg0.N)
/-- When layer 1 is entered: the host lines between have run. -/
def E1 (c : Dev nD) : Valuation τ sig (Elt F) := StableHlo.after hostOps1 (X0 m c)
/-- After layer 1: its results hold what its grid points left in them. -/
def X1 (c : Dev nD) : Valuation τ sig (Elt F) := Function.update (Function.update (E1 m c) main_v90_0 ((dats1 (E1 m) c).arrAt 16 cfg1.N)) main_v90_1 ((dats1 (E1 m) c).arrAt 17 cfg1.N)
/-- When layer 2 is entered: the host lines between have run. -/
def E2 (c : Dev nD) : Valuation τ sig (Elt F) := StableHlo.after hostOps2 (X1 m c)
/-- After layer 2: its results hold what its grid points left in them. -/
def X2 (c : Dev nD) : Valuation τ sig (Elt F) := Function.update (Function.update (E2 m c) main_v135_0 ((dats2 (E2 m) c).arrAt 16 cfg2.N)) main_v135_1 ((dats2 (E2 m) c).arrAt 17 cfg2.N)
/-- When layer 3 is entered: the host lines between have run. -/
def E3 (c : Dev nD) : Valuation τ sig (Elt F) := StableHlo.after hostOps3 (X2 m c)
/-- After layer 3: its results hold what its grid points left in them. -/
def X3 (c : Dev nD) : Valuation τ sig (Elt F) := Function.update (Function.update (E3 m c) main_v180_0 ((dats3 (E3 m) c).arrAt 16 cfg3.N)) main_v180_1 ((dats3 (E3 m) c).arrAt 17 cfg3.N)

/-- At the end. -/
def Xend (c : Dev nD) : Valuation τ sig (Elt F) := StableHlo.after hostOps4 (X3 m c)

/-- What the regions leave, read off those valuations. -/
def outs : Outs (F := F) := fun n r c => match n with
  | 4 => X0 m c r
  | 6 => X1 m c r
  | 8 => X2 m c r
  | _ => X3 m c r
theorem outs_4 (r : Ref sig .tc) (c : Dev nD) : outs m 4 r c = X0 m c r := by unfold outs; rfl
theorem outs_6 (r : Ref sig .tc) (c : Dev nD) : outs m 6 r c = X1 m c r := by unfold outs; rfl
theorem outs_8 (r : Ref sig .tc) (c : Dev nD) : outs m 8 r c = X2 m c r := by unfold outs; rfl
theorem outs_10 (r : Ref sig .tc) (c : Dev nD) : outs m 10 r c = X3 m c r := by unfold outs; rfl

theorem X0_main_v45_0 (c : Dev nD) : X0 m c main_v45_0 = (dats0 (E0 m) c).arrAt 15 cfg0.N := by
  unfold X0
  exact (Function.update_of_ne (StableHlo.devRef_ne_of_ne (by decide)) _ _).trans <| (Function.update_of_ne (StableHlo.devRef_ne_of_ne (by decide)) _ _).trans <| Function.update_self ..
theorem X0_main_v45_1 (c : Dev nD) : X0 m c main_v45_1 = (dats0 (E0 m) c).arrAt 16 cfg0.N := by
  unfold X0
  exact (Function.update_of_ne (StableHlo.devRef_ne_of_ne (by decide)) _ _).trans <| Function.update_self ..
theorem X0_main_v45_2 (c : Dev nD) : X0 m c main_v45_2 = (dats0 (E0 m) c).arrAt 17 cfg0.N := by
  unfold X0
  exact Function.update_self ..
theorem X0_of (c : Dev nD) (r : Ref sig .tc) (hr : r ∉ ([main_v45_0, main_v45_1, main_v45_2] : List (Ref sig .tc))) : X0 m c r = E0 m c r := by
  unfold X0
  rw [Function.update_of_ne (StableHlo.devRef_ne_of_ne fun e => hr (by rw [e]; simp)), Function.update_of_ne (StableHlo.devRef_ne_of_ne fun e => hr (by rw [e]; simp)), Function.update_of_ne (StableHlo.devRef_ne_of_ne fun e => hr (by rw [e]; simp))]

theorem X1_main_v90_0 (c : Dev nD) : X1 m c main_v90_0 = (dats1 (E1 m) c).arrAt 16 cfg1.N := by
  unfold X1
  exact (Function.update_of_ne (StableHlo.devRef_ne_of_ne (by decide)) _ _).trans <| Function.update_self ..
theorem X1_main_v90_1 (c : Dev nD) : X1 m c main_v90_1 = (dats1 (E1 m) c).arrAt 17 cfg1.N := by
  unfold X1
  exact Function.update_self ..
theorem X1_of (c : Dev nD) (r : Ref sig .tc) (hr : r ∉ ([main_v90_0, main_v90_1] : List (Ref sig .tc))) : X1 m c r = E1 m c r := by
  unfold X1
  rw [Function.update_of_ne (StableHlo.devRef_ne_of_ne fun e => hr (by rw [e]; simp)), Function.update_of_ne (StableHlo.devRef_ne_of_ne fun e => hr (by rw [e]; simp))]

theorem X2_main_v135_0 (c : Dev nD) : X2 m c main_v135_0 = (dats2 (E2 m) c).arrAt 16 cfg2.N := by
  unfold X2
  exact (Function.update_of_ne (StableHlo.devRef_ne_of_ne (by decide)) _ _).trans <| Function.update_self ..
theorem X2_main_v135_1 (c : Dev nD) : X2 m c main_v135_1 = (dats2 (E2 m) c).arrAt 17 cfg2.N := by
  unfold X2
  exact Function.update_self ..
theorem X2_of (c : Dev nD) (r : Ref sig .tc) (hr : r ∉ ([main_v135_0, main_v135_1] : List (Ref sig .tc))) : X2 m c r = E2 m c r := by
  unfold X2
  rw [Function.update_of_ne (StableHlo.devRef_ne_of_ne fun e => hr (by rw [e]; simp)), Function.update_of_ne (StableHlo.devRef_ne_of_ne fun e => hr (by rw [e]; simp))]

theorem X3_main_v180_0 (c : Dev nD) : X3 m c main_v180_0 = (dats3 (E3 m) c).arrAt 16 cfg3.N := by
  unfold X3
  exact (Function.update_of_ne (StableHlo.devRef_ne_of_ne (by decide)) _ _).trans <| Function.update_self ..
theorem X3_main_v180_1 (c : Dev nD) : X3 m c main_v180_1 = (dats3 (E3 m) c).arrAt 17 cfg3.N := by
  unfold X3
  exact Function.update_self ..
theorem X3_of (c : Dev nD) (r : Ref sig .tc) (hr : r ∉ ([main_v180_0, main_v180_1] : List (Ref sig .tc))) : X3 m c r = E3 m c r := by
  unfold X3
  rw [Function.update_of_ne (StableHlo.devRef_ne_of_ne fun e => hr (by rw [e]; simp)), Function.update_of_ne (StableHlo.devRef_ne_of_ne fun e => hr (by rw [e]; simp))]

theorem V3_eq (c : Dev nD) : V3 m c = E0 m c := rfl
theorem V4_at (o : Outs (F := F)) (c : Dev nD) (he : V3 m c = E0 m c) (h0 : o 4 main_v45_0 c = (dats0 (E0 m) c).arrAt 15 cfg0.N) (h1 : o 4 main_v45_1 c = (dats0 (E0 m) c).arrAt 16 cfg0.N) (h2 : o 4 main_v45_2 c = (dats0 (E0 m) c).arrAt 17 cfg0.N) : V4 m o c = X0 m c := by
  unfold X0; rw [← h0, ← h1, ← h2, ← he]
theorem V4_eq (c : Dev nD) : V4 m (outs m) c = X0 m c :=
  V4_at m (outs m) c (V3_eq m c) ((outs_4 m main_v45_0 c).trans (X0_main_v45_0 m c)) ((outs_4 m main_v45_1 c).trans (X0_main_v45_1 m c)) ((outs_4 m main_v45_2 c).trans (X0_main_v45_2 m c))
theorem V5_eq (c : Dev nD) : V5 m (outs m) c = E1 m c := by unfold E1; rw [← V4_eq]
theorem V6_at (o : Outs (F := F)) (c : Dev nD) (he : V5 m o c = E1 m c) (h0 : o 6 main_v90_0 c = (dats1 (E1 m) c).arrAt 16 cfg1.N) (h1 : o 6 main_v90_1 c = (dats1 (E1 m) c).arrAt 17 cfg1.N) : V6 m o c = X1 m c := by
  unfold X1; rw [← h0, ← h1, ← he]
theorem V6_eq (c : Dev nD) : V6 m (outs m) c = X1 m c :=
  V6_at m (outs m) c (V5_eq m c) ((outs_6 m main_v90_0 c).trans (X1_main_v90_0 m c)) ((outs_6 m main_v90_1 c).trans (X1_main_v90_1 m c))
theorem V7_eq (c : Dev nD) : V7 m (outs m) c = E2 m c := by unfold E2; rw [← V6_eq]
theorem V8_at (o : Outs (F := F)) (c : Dev nD) (he : V7 m o c = E2 m c) (h0 : o 8 main_v135_0 c = (dats2 (E2 m) c).arrAt 16 cfg2.N) (h1 : o 8 main_v135_1 c = (dats2 (E2 m) c).arrAt 17 cfg2.N) : V8 m o c = X2 m c := by
  unfold X2; rw [← h0, ← h1, ← he]
theorem V8_eq (c : Dev nD) : V8 m (outs m) c = X2 m c :=
  V8_at m (outs m) c (V7_eq m c) ((outs_8 m main_v135_0 c).trans (X2_main_v135_0 m c)) ((outs_8 m main_v135_1 c).trans (X2_main_v135_1 m c))
theorem V9_eq (c : Dev nD) : V9 m (outs m) c = E3 m c := by unfold E3; rw [← V8_eq]
theorem V10_at (o : Outs (F := F)) (c : Dev nD) (he : V9 m o c = E3 m c) (h0 : o 10 main_v180_0 c = (dats3 (E3 m) c).arrAt 16 cfg3.N) (h1 : o 10 main_v180_1 c = (dats3 (E3 m) c).arrAt 17 cfg3.N) : V10 m o c = X3 m c := by
  unfold X3; rw [← h0, ← h1, ← he]
theorem V10_eq (c : Dev nD) : V10 m (outs m) c = X3 m c :=
  V10_at m (outs m) c (V9_eq m c) ((outs_10 m main_v180_0 c).trans (X3_main_v180_0 m c)) ((outs_10 m main_v180_1 c).trans (X3_main_v180_1 m c))
theorem V11_eq (c : Dev nD) : V11 m (outs m) c = Xend m c := by unfold Xend; rw [← V10_eq]

/-! ## The regions -/

/-- The four layers' proof data, each from the contents its region is entered with. -/
def pdats : (p : Fin 4) → (c : Dev nD) → Dat τ (Elt F) Unit ℕ (UR sig nD τ) ℕ (cfgs p) c
  | 0 => dats0 (E0 m) | 1 => dats1 (E1 m) | 2 => dats2 (E2 m) | 3 => dats3 (E3 m)
  | ⟨_ + 4, h⟩ => absurd h (Nat.not_lt.2 (Nat.le_add_left _ _))

/-- No core owes another anything. -/
abbrev L : GSem nD τ sig → Finset Unit := fun _ => ∅
abbrev lv : GSem nD τ sig → Unit → ℕ := fun _ _ => 0

/-- What rides beside the buffers between items. -/
abbrev Rest (c : Dev nD) : sProp 𝕄 := iprop(∃ W, owes (c : Thread nD τ) (0 : CellTallies nD τ sig Unit) W)

/-- No input of layer 0 is one of its results. -/
theorem ins0 : ∀ w : Fin 18, (cfg0.win w).isOut = false → Pipeline.arrRef spec0 w ∉ ([main_v45_0, main_v45_1, main_v45_2] : List (Ref sig .tc)) := by decide
theorem outw0 : ∀ w : Fin 18, (cfg0.win w).isOut = true → w = 15 ∨ w = 16 ∨ w = 17 := by decide

/-- Every array of layer 0 ends at what `X0` says: an input as it was, a result at what the grid points left. -/
theorem final0 (c : Dev nD) (w : Fin 18) : (dats0 (E0 m) c).arrAt w cfg0.N = X0 m c (Pipeline.arrRef spec0 w) := by
  rcases hw : (cfg0.win w).isOut
  · exact ((dats0 (E0 m) c).arrAt_in w hw _).trans ((A0_eq (E0 m) c w).trans (X0_of m c _ (ins0 w hw)).symm)
  · rcases outw0 w hw with rfl | rfl | rfl
    · exact (X0_main_v45_0 m c).symm
    · exact (X0_main_v45_1 m c).symm
    · exact (X0_main_v45_2 m c).symm

set_option backward.isDefEq.respectTransparency.types false in
/-- Layer 0's region: entered with every unscoped buffer at `E0`, left with them at `X0`. -/
def reg0 : RegionSeg (pcfgs (F := F)) adm (pdats m) () defs₀ Variants.none L lv 0 where
  win := launch0.win.to₀
  block_pos := launch0.block_pos
  stage_whole := launch0.stage_whole
  K := PEmpty
  osem := PEmpty.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (E0 m c) ∗ Rest c)
  post c := iprop(StableHlo.held (c : Thread nD τ) (Pipeline.ucRefs τ sig) (X0 m c) ∗ Rest c)
  X _ := iprop(emp)
  Y _ := iprop(emp)
  Z c := Pipeline.unscopedRest spec0 c (E0 m c ·)
  hentry c := by
    rw [← Pipeline.unscopedBufs_held (Ix := Unit) (Name := ℕ) (U := UR sig nD τ) (Lvl := ℕ) c (E0 m c)]
    have hsplit := Pipeline.arrays_of_unscopedBufs (pcfgs (F := F)) adm (pdats m) (p := 0) launch0.win launch0.arr_whole c
      ((pdats m 0 c).share_full fun _ => rfl) (E0 m c ·) (A0_eq (E0 m) c)
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := (show iprop(emp ∗ _ ∗ Pipeline.scopedRest spec0 c) ⊢ Pipeline.scopedRest spec0 c from by
    iintro ⟨-, -, Hr⟩
    iexact Hr).trans (hin0 (E0 m) c)
  hout c := (hout0 (E0 m) c).trans (by
    rw [Pipeline.ownSems0_none]
    iintro Hr
    isplitr; · iempintro
    isplitr; · iempintro
    iexact Hr)
  hexit c := by
    rw [← Pipeline.unscopedBufs_held (Ix := Unit) (Name := ℕ) (U := UR sig nD τ) (Lvl := ℕ) c (X0 m c)]
    have hjoin := Pipeline.unscopedBufs_of_arrays (pcfgs (F := F)) adm (p := 0) launch0.win launch0.arr_whole c (pdats m)
      ((pdats m 0 c).share_full fun _ => rfl) (E0 m c ·) (X0 m c ·) (fun w => (pdats m 0 c).arrAt w cfg0.N) (final0 m c)
      (fun b hb => X0_of m c b fun h => hb (by
        simp only [List.mem_cons, List.not_mem_nil, _root_.or_false] at h
        rcases h with rfl | rfl | rfl
        · exact Finset.mem_image.mpr ⟨15, Finset.mem_univ _, rfl⟩
        · exact Finset.mem_image.mpr ⟨16, Finset.mem_univ _, rfl⟩
        · exact Finset.mem_image.mpr ⟨17, Finset.mem_univ _, rfl⟩))
    iintro ⟨Ha, HO, -, HZ⟩
    imodintro
    isplitr [HO]
    · iapply hjoin
      isplitl [Ha] <;> iassumption
    · unfold Pipeline.Dat.owesAt Pipeline.owesWithin
      icases HO with ⟨%W, -, HO⟩; iexists W; iexact HO

/-- No input of layer 1 is one of its results. -/
theorem ins1 : ∀ w : Fin 18, (cfg1.win w).isOut = false → Pipeline.arrRef spec1 w ∉ ([main_v90_0, main_v90_1] : List (Ref sig .tc)) := by decide
theorem outw1 : ∀ w : Fin 18, (cfg1.win w).isOut = true → w = 16 ∨ w = 17 := by decide

/-- Every array of layer 1 ends at what `X1` says: an input as it was, a result at what the grid points left. -/
theorem final1 (c : Dev nD) (w : Fin 18) : (dats1 (E1 m) c).arrAt w cfg1.N = X1 m c (Pipeline.arrRef spec1 w) := by
  rcases hw : (cfg1.win w).isOut
  · exact ((dats1 (E1 m) c).arrAt_in w hw _).trans ((A1_eq (E1 m) c w).trans (X1_of m c _ (ins1 w hw)).symm)
  · rcases outw1 w hw with rfl | rfl
    · exact (X1_main_v90_0 m c).symm
    · exact (X1_main_v90_1 m c).symm

set_option backward.isDefEq.respectTransparency.types false in
/-- Layer 1's region: entered with every unscoped buffer at `E1`, left with them at `X1`. -/
def reg1 : RegionSeg (pcfgs (F := F)) adm (pdats m) () defs₀ Variants.none L lv 1 where
  win := launch1.win.to₀
  block_pos := launch1.block_pos
  stage_whole := launch1.stage_whole
  K := PEmpty
  osem := PEmpty.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (E1 m c) ∗ Rest c)
  post c := iprop(StableHlo.held (c : Thread nD τ) (Pipeline.ucRefs τ sig) (X1 m c) ∗ Rest c)
  X _ := iprop(emp)
  Y _ := iprop(emp)
  Z c := Pipeline.unscopedRest spec1 c (E1 m c ·)
  hentry c := by
    rw [← Pipeline.unscopedBufs_held (Ix := Unit) (Name := ℕ) (U := UR sig nD τ) (Lvl := ℕ) c (E1 m c)]
    have hsplit := Pipeline.arrays_of_unscopedBufs (pcfgs (F := F)) adm (pdats m) (p := 1) launch1.win launch1.arr_whole c
      ((pdats m 1 c).share_full fun _ => rfl) (E1 m c ·) (A1_eq (E1 m) c)
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := (show iprop(emp ∗ _ ∗ Pipeline.scopedRest spec1 c) ⊢ Pipeline.scopedRest spec1 c from by
    iintro ⟨-, -, Hr⟩
    iexact Hr).trans (hin1 (E1 m) c)
  hout c := (hout1 (E1 m) c).trans (by
    rw [Pipeline.ownSems0_none]
    iintro Hr
    isplitr; · iempintro
    isplitr; · iempintro
    iexact Hr)
  hexit c := by
    rw [← Pipeline.unscopedBufs_held (Ix := Unit) (Name := ℕ) (U := UR sig nD τ) (Lvl := ℕ) c (X1 m c)]
    have hjoin := Pipeline.unscopedBufs_of_arrays (pcfgs (F := F)) adm (p := 1) launch1.win launch1.arr_whole c (pdats m)
      ((pdats m 1 c).share_full fun _ => rfl) (E1 m c ·) (X1 m c ·) (fun w => (pdats m 1 c).arrAt w cfg1.N) (final1 m c)
      (fun b hb => X1_of m c b fun h => hb (by
        simp only [List.mem_cons, List.not_mem_nil, _root_.or_false] at h
        rcases h with rfl | rfl
        · exact Finset.mem_image.mpr ⟨16, Finset.mem_univ _, rfl⟩
        · exact Finset.mem_image.mpr ⟨17, Finset.mem_univ _, rfl⟩))
    iintro ⟨Ha, HO, -, HZ⟩
    imodintro
    isplitr [HO]
    · iapply hjoin
      isplitl [Ha] <;> iassumption
    · unfold Pipeline.Dat.owesAt Pipeline.owesWithin
      icases HO with ⟨%W, -, HO⟩; iexists W; iexact HO

/-- No input of layer 2 is one of its results. -/
theorem ins2 : ∀ w : Fin 18, (cfg2.win w).isOut = false → Pipeline.arrRef spec2 w ∉ ([main_v135_0, main_v135_1] : List (Ref sig .tc)) := by decide
theorem outw2 : ∀ w : Fin 18, (cfg2.win w).isOut = true → w = 16 ∨ w = 17 := by decide

/-- Every array of layer 2 ends at what `X2` says: an input as it was, a result at what the grid points left. -/
theorem final2 (c : Dev nD) (w : Fin 18) : (dats2 (E2 m) c).arrAt w cfg2.N = X2 m c (Pipeline.arrRef spec2 w) := by
  rcases hw : (cfg2.win w).isOut
  · exact ((dats2 (E2 m) c).arrAt_in w hw _).trans ((A2_eq (E2 m) c w).trans (X2_of m c _ (ins2 w hw)).symm)
  · rcases outw2 w hw with rfl | rfl
    · exact (X2_main_v135_0 m c).symm
    · exact (X2_main_v135_1 m c).symm

set_option backward.isDefEq.respectTransparency.types false in
/-- Layer 2's region: entered with every unscoped buffer at `E2`, left with them at `X2`. -/
def reg2 : RegionSeg (pcfgs (F := F)) adm (pdats m) () defs₀ Variants.none L lv 2 where
  win := launch2.win.to₀
  block_pos := launch2.block_pos
  stage_whole := launch2.stage_whole
  K := PEmpty
  osem := PEmpty.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (E2 m c) ∗ Rest c)
  post c := iprop(StableHlo.held (c : Thread nD τ) (Pipeline.ucRefs τ sig) (X2 m c) ∗ Rest c)
  X _ := iprop(emp)
  Y _ := iprop(emp)
  Z c := Pipeline.unscopedRest spec2 c (E2 m c ·)
  hentry c := by
    rw [← Pipeline.unscopedBufs_held (Ix := Unit) (Name := ℕ) (U := UR sig nD τ) (Lvl := ℕ) c (E2 m c)]
    have hsplit := Pipeline.arrays_of_unscopedBufs (pcfgs (F := F)) adm (pdats m) (p := 2) launch2.win launch2.arr_whole c
      ((pdats m 2 c).share_full fun _ => rfl) (E2 m c ·) (A2_eq (E2 m) c)
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := (show iprop(emp ∗ _ ∗ Pipeline.scopedRest spec2 c) ⊢ Pipeline.scopedRest spec2 c from by
    iintro ⟨-, -, Hr⟩
    iexact Hr).trans (hin2 (E2 m) c)
  hout c := (hout2 (E2 m) c).trans (by
    rw [Pipeline.ownSems0_none]
    iintro Hr
    isplitr; · iempintro
    isplitr; · iempintro
    iexact Hr)
  hexit c := by
    rw [← Pipeline.unscopedBufs_held (Ix := Unit) (Name := ℕ) (U := UR sig nD τ) (Lvl := ℕ) c (X2 m c)]
    have hjoin := Pipeline.unscopedBufs_of_arrays (pcfgs (F := F)) adm (p := 2) launch2.win launch2.arr_whole c (pdats m)
      ((pdats m 2 c).share_full fun _ => rfl) (E2 m c ·) (X2 m c ·) (fun w => (pdats m 2 c).arrAt w cfg2.N) (final2 m c)
      (fun b hb => X2_of m c b fun h => hb (by
        simp only [List.mem_cons, List.not_mem_nil, _root_.or_false] at h
        rcases h with rfl | rfl
        · exact Finset.mem_image.mpr ⟨16, Finset.mem_univ _, rfl⟩
        · exact Finset.mem_image.mpr ⟨17, Finset.mem_univ _, rfl⟩))
    iintro ⟨Ha, HO, -, HZ⟩
    imodintro
    isplitr [HO]
    · iapply hjoin
      isplitl [Ha] <;> iassumption
    · unfold Pipeline.Dat.owesAt Pipeline.owesWithin
      icases HO with ⟨%W, -, HO⟩; iexists W; iexact HO

/-- No input of layer 3 is one of its results. -/
theorem ins3 : ∀ w : Fin 18, (cfg3.win w).isOut = false → Pipeline.arrRef spec3 w ∉ ([main_v180_0, main_v180_1] : List (Ref sig .tc)) := by decide
theorem outw3 : ∀ w : Fin 18, (cfg3.win w).isOut = true → w = 16 ∨ w = 17 := by decide

/-- Every array of layer 3 ends at what `X3` says: an input as it was, a result at what the grid points left. -/
theorem final3 (c : Dev nD) (w : Fin 18) : (dats3 (E3 m) c).arrAt w cfg3.N = X3 m c (Pipeline.arrRef spec3 w) := by
  rcases hw : (cfg3.win w).isOut
  · exact ((dats3 (E3 m) c).arrAt_in w hw _).trans ((A3_eq (E3 m) c w).trans (X3_of m c _ (ins3 w hw)).symm)
  · rcases outw3 w hw with rfl | rfl
    · exact (X3_main_v180_0 m c).symm
    · exact (X3_main_v180_1 m c).symm

set_option backward.isDefEq.respectTransparency.types false in
/-- Layer 3's region: entered with every unscoped buffer at `E3`, left with them at `X3`. -/
def reg3 : RegionSeg (pcfgs (F := F)) adm (pdats m) () defs₀ Variants.none L lv 3 where
  win := launch3.win.to₀
  block_pos := launch3.block_pos
  stage_whole := launch3.stage_whole
  K := PEmpty
  osem := PEmpty.elim
  ho := Pipeline.OwnSemFacts.none _
  hbody c := (body_obligation3 (E3 m) c).loose
  hwaits := Pipeline.hwaits_of_owed_zero _ _ _ _ L lv 3 fun _ _ => rfl
  pre c := iprop(StableHlo.held (c : Thread nD τ) (Pipeline.ucRefs τ sig) (E3 m c) ∗ Rest c)
  post c := iprop(StableHlo.held (c : Thread nD τ) (Pipeline.ucRefs τ sig) (X3 m c) ∗ Rest c)
  X _ := iprop(emp)
  Y _ := iprop(emp)
  Z c := Pipeline.unscopedRest spec3 c (E3 m c ·)
  hentry c := by
    rw [← Pipeline.unscopedBufs_held (Ix := Unit) (Name := ℕ) (U := UR sig nD τ) (Lvl := ℕ) c (E3 m c)]
    have hsplit := Pipeline.arrays_of_unscopedBufs (pcfgs (F := F)) adm (pdats m) (p := 3) launch3.win launch3.arr_whole c
      ((pdats m 3 c).share_full fun _ => rfl) (E3 m c ·) (A3_eq (E3 m) c)
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := (show iprop(emp ∗ _ ∗ Pipeline.scopedRest spec3 c) ⊢ Pipeline.scopedRest spec3 c from by
    iintro ⟨-, -, Hr⟩
    iexact Hr).trans (hin3 (E3 m) c)
  hout c := (hout3 (E3 m) c).trans (by
    rw [Pipeline.ownSems0_none]
    iintro Hr
    isplitr; · iempintro
    isplitr; · iempintro
    iexact Hr)
  hexit c := by
    rw [← Pipeline.unscopedBufs_held (Ix := Unit) (Name := ℕ) (U := UR sig nD τ) (Lvl := ℕ) c (X3 m c)]
    have hjoin := Pipeline.unscopedBufs_of_arrays (pcfgs (F := F)) adm (p := 3) launch3.win launch3.arr_whole c (pdats m)
      ((pdats m 3 c).share_full fun _ => rfl) (E3 m c ·) (X3 m c ·) (fun w => (pdats m 3 c).arrAt w cfg3.N) (final3 m c)
      (fun b hb => X3_of m c b fun h => hb (by
        simp only [List.mem_cons, List.not_mem_nil, _root_.or_false] at h
        rcases h with rfl | rfl
        · exact Finset.mem_image.mpr ⟨16, Finset.mem_univ _, rfl⟩
        · exact Finset.mem_image.mpr ⟨17, Finset.mem_univ _, rfl⟩))
    iintro ⟨Ha, HO, -, HZ⟩
    imodintro
    isplitr [HO]
    · iapply hjoin
      isplitl [Ha] <;> iassumption
    · unfold Pipeline.Dat.owesAt Pipeline.owesWithin
      icases HO with ⟨%W, -, HO⟩; iexists W; iexact HO

/-! ## The run of @main -/

set_option backward.isDefEq.respectTransparency.types false in
/-- Every weakly fair execution of @main from memory `m` with zero counters terminates, and every final state has each
    core's unscoped buffers at `Xend` and every semaphore counter at zero. -/
theorem run_main : θ_run defs (onTc (τ := τ) (main (F := F))) ⟨m, fun _ => 0, ρ⟩ (fun r =>
    (∀ c : Dev nD, ∀ b ∈ Pipeline.ucRefs τ sig, r.2.mem ((c.tc : Thread nD τ).1, b) = Xend m c b) ∧ r.2.sem = fun _ => 0) := by
  refine Pipeline.θ_run_regions_kit_dev_sems (pcfgs (F := F)) adm (pdats m) () cellOf_inj emb₁ defs₀ Variants.none L lv m ρ main
    (segs m (outs m) Variants.none L lv (fun _ => Rest) () (pdats m) (reg0 m) (reg1 m) (reg2 m) (reg3 m))
    (fun c Q => by
      rewrite [main_chain c, Pipeline.Seg.run_eq_chain,
        show (segs m (outs m) Variants.none L lv (fun _ => Rest) () (pdats m) (reg0 m) (reg1 m) (reg2 m) (reg3 m) c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      dsimp (config := { failIfUnchanged := false }) only
      exact .rfl)
    (fun c => by simp only [segs, Pipeline.Seg.pipes_host, Pipeline.Seg.pipes_region, Pipeline.Seg.pipes_nil]; decide) (fun _ => 0) (fun _ _ => rfl) (fun _ => iprop(emp)) (initOf (Pipeline.cells cfgs cellOf_inj) (Pipeline.launchToks cfgs cellOf_inj)) (by
      iintro Hu
      imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c))
    (Tₙ := fun c => StableHlo.held (c : Thread nD τ) (Pipeline.ucRefs τ sig) (V11 m (outs m) c))
    (hch := fun c => ⟨.rfl, .rfl, .rfl, Entails.of_eq (congrArg (fun v => iprop(StableHlo.held (c : Thread nD τ) (Pipeline.ucRefs τ sig) v ∗ Rest c)) (V3_eq m c)), Entails.of_eq (congrArg (fun v => iprop(StableHlo.held (c : Thread nD τ) (Pipeline.ucRefs τ sig) v ∗ Rest c)) (V4_eq m c).symm),
      Entails.of_eq (congrArg (fun v => iprop(StableHlo.held (c : Thread nD τ) (Pipeline.ucRefs τ sig) v ∗ Rest c)) (V5_eq m c)), Entails.of_eq (congrArg (fun v => iprop(StableHlo.held (c : Thread nD τ) (Pipeline.ucRefs τ sig) v ∗ Rest c)) (V6_eq m c).symm),
      Entails.of_eq (congrArg (fun v => iprop(StableHlo.held (c : Thread nD τ) (Pipeline.ucRefs τ sig) v ∗ Rest c)) (V7_eq m c)), Entails.of_eq (congrArg (fun v => iprop(StableHlo.held (c : Thread nD τ) (Pipeline.ucRefs τ sig) v ∗ Rest c)) (V8_eq m c).symm),
      Entails.of_eq (congrArg (fun v => iprop(StableHlo.held (c : Thread nD τ) (Pipeline.ucRefs τ sig) v ∗ Rest c)) (V9_eq m c)), Entails.of_eq (congrArg (fun v => iprop(StableHlo.held (c : Thread nD τ) (Pipeline.ucRefs τ sig) v ∗ Rest c)) (V10_eq m c).symm), .rfl⟩)
    (hinit := ?_) (QY := fun c s => ∀ b ∈ Pipeline.ucRefs τ sig, s.mem ((c.tc : Thread nD τ).1, b) = Xend m c b)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ : Dev nD => (0 : CellTallies nD τ sig Unit)) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ : Dev nD => (0 : CellTallies nD τ sig Unit)) c ∗ prngReg c (ρ c) ∗ emp))
            : sProp (MT nD τ sig Unit (Elt F) ℕ (UR sig nD τ) ℕ)) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    have hE0 : iprop((bigSep Finset.univ fun c : Dev nD => iprop(unscopedSems0 c ∗ owes (c : Thread nD τ) (0 : CellTallies nD τ sig Unit) ∅ ∗ Pipeline.launchCred (fun _ : Dev nD => (0 : CellTallies nD τ sig Unit)) c ∗ prngReg c (ρ c) ∗ emp)) ∗ levAts L lv)
        ⊢ (|={Set.univ}=> bigSep Finset.univ Rest : sProp 𝕄) :=
      Pipeline.initEach L lv fun c => by
        iintro ⟨⟨-, HO, -, -, -⟩, -⟩
        imodintro
        iexists ∅; iexact HO
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V11 m (outs m) c) s') $$ [Hh HSI]
    · isplitl [Hh] <;> iassumption
    icases Hr with ⟨%h, HSI⟩
    imodintro
    isplitr
    · ipureintro
      exact fun b hb => (h b hb).trans (congrFun (V11_eq m c) b)
    · iexact HSI

end Cert.KernelIdeal.Layer

end
-- ==== Proof.Frames.lean ====
module

public import proofs.«01_k».proof.Proof.LayerRun
public import proofs.«01_k».proof.Defs

@[expose] public section

noncomputable section

namespace Cert.KernelIdeal.Layer

open Idealize.ShloMosaic Idealize.SL.Sem

variable {F : FTy → Type} [FloatOps F] (m : (ℓ : Loc nD τ sig) → Buf (Elt F) ℓ) (ρ : Dev nD → PrngReg)

/-- Every final state has the sixteen argument arrays as they were launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun r h => ⟨fun c => ⟨
    (h.1 c _ (Finset.mem_filter.mpr ⟨StableHlo.devRef_mem_tcRefs main_arg0, by decide⟩)).trans ((congrFun (V11_eq m c).symm _).trans (Gen.V11_main_arg0 m (outs m) c)),
    (h.1 c _ (Finset.mem_filter.mpr ⟨StableHlo.devRef_mem_tcRefs main_arg1, by decide⟩)).trans ((congrFun (V11_eq m c).symm _).trans (Gen.V11_main_arg1 m (outs m) c)),
    (h.1 c _ (Finset.mem_filter.mpr ⟨StableHlo.devRef_mem_tcRefs main_arg2, by decide⟩)).trans ((congrFun (V11_eq m c).symm _).trans (Gen.V11_main_arg2 m (outs m) c)),
    (h.1 c _ (Finset.mem_filter.mpr ⟨StableHlo.devRef_mem_tcRefs main_arg3, by decide⟩)).trans ((congrFun (V11_eq m c).symm _).trans (Gen.V11_main_arg3 m (outs m) c)),
    (h.1 c _ (Finset.mem_filter.mpr ⟨StableHlo.devRef_mem_tcRefs main_arg4, by decide⟩)).trans ((congrFun (V11_eq m c).symm _).trans (Gen.V11_main_arg4 m (outs m) c)),
    (h.1 c _ (Finset.mem_filter.mpr ⟨StableHlo.devRef_mem_tcRefs main_arg5, by decide⟩)).trans ((congrFun (V11_eq m c).symm _).trans (Gen.V11_main_arg5 m (outs m) c)),
    (h.1 c _ (Finset.mem_filter.mpr ⟨StableHlo.devRef_mem_tcRefs main_arg6, by decide⟩)).trans ((congrFun (V11_eq m c).symm _).trans (Gen.V11_main_arg6 m (outs m) c)),
    (h.1 c _ (Finset.mem_filter.mpr ⟨StableHlo.devRef_mem_tcRefs main_arg7, by decide⟩)).trans ((congrFun (V11_eq m c).symm _).trans (Gen.V11_main_arg7 m (outs m) c)),
    (h.1 c _ (Finset.mem_filter.mpr ⟨StableHlo.devRef_mem_tcRefs main_arg8, by decide⟩)).trans ((congrFun (V11_eq m c).symm _).trans (Gen.V11_main_arg8 m (outs m) c)),
    (h.1 c _ (Finset.mem_filter.mpr ⟨StableHlo.devRef_mem_tcRefs main_arg9, by decide⟩)).trans ((congrFun (V11_eq m c).symm _).trans (Gen.V11_main_arg9 m (outs m) c)),
    (h.1 c _ (Finset.mem_filter.mpr ⟨StableHlo.devRef_mem_tcRefs main_arg10, by decide⟩)).trans ((congrFun (V11_eq m c).symm _).trans (Gen.V11_main_arg10 m (outs m) c)),
    (h.1 c _ (Finset.mem_filter.mpr ⟨StableHlo.devRef_mem_tcRefs main_arg11, by decide⟩)).trans ((congrFun (V11_eq m c).symm _).trans (Gen.V11_main_arg11 m (outs m) c)),
    (h.1 c _ (Finset.mem_filter.mpr ⟨StableHlo.devRef_mem_tcRefs main_arg12, by decide⟩)).trans ((congrFun (V11_eq m c).symm _).trans (Gen.V11_main_arg12 m (outs m) c)),
    (h.1 c _ (Finset.mem_filter.mpr ⟨StableHlo.devRef_mem_tcRefs main_arg13, by decide⟩)).trans ((congrFun (V11_eq m c).symm _).trans (Gen.V11_main_arg13 m (outs m) c)),
    (h.1 c _ (Finset.mem_filter.mpr ⟨StableHlo.devRef_mem_tcRefs main_arg14, by decide⟩)).trans ((congrFun (V11_eq m c).symm _).trans (Gen.V11_main_arg14 m (outs m) c)),
    (h.1 c _ (Finset.mem_filter.mpr ⟨StableHlo.devRef_mem_tcRefs main_arg15, by decide⟩)).trans ((congrFun (V11_eq m c).symm _).trans (Gen.V11_main_arg15 m (outs m) c))⟩, h.2⟩) (run_main m ρ)

end Cert.KernelIdeal.Layer

end
-- ==== Proof.Kernel.Run0.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.ValueIdx
public import Idealize.ShloMosaic.Lib.Pipeline.ValueKit

@[expose] public section

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (c : Dev nD) (i : grid0.Coords)
  (arg2 : Memref sig .tc .smem S3 .f32) (harg2 : arg2.IsWhole)
  (arg3 : Memref sig .tc .vmem S1x256x768 .i8) (harg3 : arg3.IsWhole)
  (arg4 : Memref sig .tc .vmem S1x256x768 .i8) (harg4 : arg4.IsWhole)
  (arg5 : Memref sig .tc .vmem S1x16x80 .i8) (harg5 : arg5.IsWhole)
  (arg6 : Memref sig .tc .vmem S80x3072 .i8) (harg6 : arg6.IsWhole)
  (arg7 : Memref sig .tc .vmem S2x768x3072 .i8) (harg7 : arg7.IsWhole)
  (arg8 : Memref sig .tc .vmem S1536x768 .i8) (harg8 : arg8.IsWhole)
  (arg9 : Memref sig .tc .vmem S1536x512 .i8) (harg9 : arg9.IsWhole)
  (arg10 : Memref sig .tc .vmem S1x3072 .f32) (harg10 : arg10.IsWhole)
  (arg11 : Memref sig .tc .vmem S1x3072 .f32) (harg11 : arg11.IsWhole)
  (arg12 : Memref sig .tc .vmem S1x3072 .f32) (harg12 : arg12.IsWhole)
  (arg13 : Memref sig .tc .vmem S1x768 .f32) (harg13 : arg13.IsWhole)
  (arg14 : Memref sig .tc .vmem S1x768 .f32) (harg14 : arg14.IsWhole)
  (arg15 : Memref sig .tc .vmem S1x512 .f32) (harg15 : arg15.IsWhole)
  (arg16 : Memref sig .tc .vmem S1x512 .f32) (harg16 : arg16.IsWhole)
  (arg17 : Memref sig .tc .vmem S1x256x512 .f32) (harg17 : arg17.IsWhole)
  (arg18 : Memref sig .tc .vmem S1x256x768 .i8) (harg18 : arg18.IsWhole)
  (arg19 : Memref sig .tc .vmem S1x256x1536 .i8) (harg19 : arg19.IsWhole)
  (arg20 : Memref sig .tc .vmem S256x1536 .bf16) (harg20 : arg20.IsWhole)
  (arg21 : Memref sig .tc .vmem S16x3072 .f32) (harg21 : arg21.IsWhole)
  (x0 : Vec F S3 .f32)
  (x1 : Vec F S1x256x768 .i8)
  (x2 : Vec F S1x256x768 .i8)
  (x3 : Vec F S1x16x80 .i8)
  (x4 : Vec F S80x3072 .i8)
  (x5 : Vec F S2x768x3072 .i8)
  (x6 : Vec F S1536x768 .i8)
  (x7 : Vec F S1536x512 .i8)
  (x8 : Vec F S1x3072 .f32)
  (x9 : Vec F S1x3072 .f32)
  (x10 : Vec F S1x3072 .f32)
  (x11 : Vec F S1x768 .f32)
  (x12 : Vec F S1x768 .f32)
  (x13 : Vec F S1x512 .f32)
  (x14 : Vec F S1x512 .f32)

/-- The body's branch: the grid coordinate along the sequence is zero. -/
abbrev cond0 : Prop := (Scalar.cmpi .ne (Scalar.extui (Scalar.cmpi .eq (BitVec.ofNat 32 (i 1).val) 0#32)) 0#32) = 1#1

/-- It holds at the first of the eight points of each batch row. -/
theorem cond0_iff : ∀ t : Fin cfg0.N, cond0 (grid0.coords t) ↔ t.val % 8 = 0 :=
  (fun t => by
    have ht : t.val < 192 := Nat.lt_of_lt_of_eq t.isLt N_0
    have e0 : (grid0.coords t 0).val = t.val / 8 % 24 := Pipeline.Grid.coords_val t 0 (by decide) rfl
    have e1 : (grid0.coords t 1).val = t.val / 1 % 8 := Pipeline.Grid.coords_val t 1 (by decide) rfl
    simp only [cond0, e0, e1]
    word_cmp
   : ∀ t : Fin grid0.N, cond0 (grid0.coords t) ↔ t.val % 8 = 0)

/-- The table of the conditioning projection, one row per frame, as the body's branch computes it from the conditioning
    block, its weights, the row of scales and the row of biases. -/
abbrev table0 (x3 : Vec F S1x16x80 .i8) (x4 : Vec F S80x3072 .i8) (x9 x10 : Vec F S1x3072 .f32) : Vec F S16x3072 .f32 :=
  k0_pay2 x3 x4 x10 x9

/-- The scalar a load of one word of the row of scales reads. -/
theorem scale0_ld (x : Vec F S3 .f32) (n : Fin 3) (inb : ∀ a, ![n.val] a + ![1] a ≤ S3.size a)
    (j : (⟨1, ![1]⟩ : Shape).Idx) : View.ld x (Rect.unit (s := S3) ![n.val] ![1] inb) j = x (ix1 n) := by
  refine congrArg x (funext fun b => ?_)
  obtain rfl : b = 0 := Subsingleton.elim _ _
  refine Fin.ext ?_
  have hj : (j 0).val = 0 := by have := (j 0).isLt; change (j 0).val < 1 at this; omega
  show n.val + 1 * (j 0).val = n.val
  omega

set_option maxHeartbeats 1000000 in
/-- The body's first stretch, whichever way its branch goes: afterwards the carried scratch holds the table `cv` — either
    because this point is the first of its batch row and stores it, or because it already held it. -/
def start0 : { v23 : BitVec 32 // ∀ (cv d : Vec F S16x3072 .f32) (hcv : cond0 i → cv = table0 x3 x4 x9 x10) (hd : ¬cond0 i → d = cv)
    (E : Set ℕ) (K : _ → sProp 𝕄),
    iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg11.view.loc (c : Thread nD τ) ↦[arg11.view.set]{fullShare} harg11.unread x9) ∗ (arg12.view.loc (c : Thread nD τ) ↦[arg12.view.set]{fullShare} harg12.unread x10) ∗ (arg21.view.loc (c : Thread nD τ) ↦[arg21.view.set]{fullShare} harg21.unread d)
        ∗ (iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg11.view.loc (c : Thread nD τ) ↦[arg11.view.set]{fullShare} harg11.unread x9) ∗ (arg12.view.loc (c : Thread nD τ) ↦[arg12.view.set]{fullShare} harg12.unread x10) ∗ (arg21.view.loc (c : Thread nD τ) ↦[arg21.view.set]{fullShare} harg21.unread cv)) -∗ K ⟨x0 (ix1 0), x0 (ix1 1), x0 (ix1 2), v23, k0_pay3 i, k0_pay4 x1, k0_pay5 x1, k0_pay6 x2⟩))
      ⊢ wp frame (wpE (defs₀ (F := F)) Variants.none c none) E (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, fun cv d hcv hd E K => ?run⟩
  case run =>
  simp only [k0_part1_eq_skeleton]; unfold k0_part1_skel
  by_cases hc : cond0 i
  · obtain rfl := hcv hc
    iintro ⟨H0, H1, H2, H3, H4, H9, H10, HS1, Hk⟩
    sl_exec (disch := first | sl_exact hc)
    sl_step
    frame_open
    simp (disch := decide) only [View.readAt_eq_ld, Memref.IsWhole.read_unread, View.ld_unit_lit']
    have s0 : ∀ inb j, View.ld x0 (Rect.unit (s := S3) ![0] ![1] inb) j = x0 (ix1 0) := fun inb j => scale0_ld x0 0 inb j
    have s1 : ∀ inb j, View.ld x0 (Rect.unit (s := S3) ![1] ![1] inb) j = x0 (ix1 1) := fun inb j => scale0_ld x0 1 inb j
    have s2 : ∀ inb j, View.ld x0 (Rect.unit (s := S3) ![2] ![1] inb) j = x0 (ix1 2) := fun inb j => scale0_ld x0 2 inb j
    simp only [s0, s1, s2]
    have e : ∀ (f : arg21.view.ty.Contents (Elt F)) (w : Vec F S16x3072 .f32), arg21.view.writes (Elt F) f [⟨Rect.unit (s := S16x3072) ![0, 0] S16x3072.size inb_S16x3072_S16x3072_0_0, w⟩] = harg21.unread w := fun f w =>
      harg21.eq_unread ((View.read_writes_eq_canon _ _ _ fun y => ⟨_, List.mem_singleton_self _, View.mem_set_unit_zero (by decide) inb_S16x3072_S16x3072_0_0 y⟩).trans (View.canon_cons_unit_lit inb_S16x3072_S16x3072_0_0 _ _ (by decide)))
    rw [e]
    iapply Hk
    isplitl [H0]; · iexact H0
    isplitl [H1]; · iexact H1
    isplitl [H2]; · iexact H2
    isplitl [H3]; · iexact H3
    isplitl [H4]; · iexact H4
    isplitl [H9]; · iexact H9
    isplitl [H10]; · iexact H10
    iexact HS1
  · obtain rfl := hd hc
    iintro ⟨H0, H1, H2, H3, H4, H9, H10, HS1, Hk⟩
    sl_exec (disch := first | sl_exact hc)
    sl_step
    frame_open
    simp (disch := decide) only [View.readAt_eq_ld, Memref.IsWhole.read_unread, View.ld_unit_lit']
    have s0 : ∀ inb j, View.ld x0 (Rect.unit (s := S3) ![0] ![1] inb) j = x0 (ix1 0) := fun inb j => scale0_ld x0 0 inb j
    have s1 : ∀ inb j, View.ld x0 (Rect.unit (s := S3) ![1] ![1] inb) j = x0 (ix1 1) := fun inb j => scale0_ld x0 1 inb j
    have s2 : ∀ inb j, View.ld x0 (Rect.unit (s := S3) ![2] ![1] inb) j = x0 (ix1 2) := fun inb j => scale0_ld x0 2 inb j
    simp only [s0, s1, s2]
    iapply Hk
    isplitl [H0]; · iexact H0
    isplitl [H1]; · iexact H1
    isplitl [H2]; · iexact H2
    isplitl [H3]; · iexact H3
    isplitl [H4]; · iexact H4
    isplitl [H9]; · iexact H9
    isplitl [H10]; · iexact H10
    iexact HS1

set_option maxHeartbeats 2000000 in
/-- The whole body at one grid point: what its stores leave in each output's staging buffer, as pieces (the last store
    first), with the proof that it runs to a state holding its inputs as they were, the carried scratch at the table `cv`
    and every buffer it stores into with those pieces written. -/
def run0 (cv : Vec F S16x3072 .f32) :
    Σ' (L15 : List (View.Piece (Elt F) S1x256x512 .f32)), Σ' (L16 : List (View.Piece (Elt F) S1x256x768 .i8)), Σ' (L17 : List (View.Piece (Elt F) S1x256x1536 .i8)), { L18 : List (View.Piece (Elt F) S256x1536 .bf16) //
      ∀ (d : Vec F S16x3072 .f32) (hcv : cond0 i → cv = table0 x3 x4 x9 x10) (hd : ¬cond0 i → d = cv)
        (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ owns (c : Thread nD τ) arg21 fullShare d
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ owns (c : Thread nD τ) arg21 fullShare cv) -∗ K ⟨⟩))
          ⊢ wp frame (wpE (defs₀ (F := F)) Variants.none c none) E (cc0_wavenet_layer (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, fun d hcv hd E K => ?run⟩
  case run =>
    simp only [cc0_wavenet_layer_eq_skeleton]; unfold cc0_wavenet_layer_skel
    simp only [k0_part15_eq_skeleton]; unfold k0_part15_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%fs, %hfs, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg21.eq_unread hfs
    simp only [Prog.bind_assoc]
    rw [wp_bind]
    iapply ((start0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x9 x10).2 cv d hcv hd E _)
    isplitl [H0]; · iexact H0
    isplitl [H1]; · iexact H1
    isplitl [H2]; · iexact H2
    isplitl [H3]; · iexact H3
    isplitl [H4]; · iexact H4
    isplitl [H9]; · iexact H9
    isplitl [H10]; · iexact H10
    isplitl [HS1]; · iexact HS1
    iintro ⟨H0, H1, H2, H3, H4, H9, H10, HS1⟩
    simp only [k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]; · iexists _; iexact H15
    isplitl [H16]; · iexists _; iexact H16
    isplitl [H17]; · iexists _; iexact H17
    isplitl [H18]; · iexists _; iexact H18
    iexists _; isplitr; · ipureintro; exact harg21.read_unread _
    iexact HS1

end Cert.Kernel.Layer

end
-- ==== Proof.Kernel.Frame0.lean ====
module

public import proofs.«01_k».proof.Proof.Kernel.Run0
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.ValueIdx
public import Idealize.ShloMosaic.Lib.Pipeline.ValueKit

@[expose] public section

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : Dev nD → Valuation τ sig (Elt F))

/-! ## What the windows read -/

/-- Window `w`'s block of its array at grid point `t`, the arrays holding `V` when the region is entered. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The two scratch buffers: the gate's values, and the carried table. -/
abbrev sz0 : Memref sig .tc .vmem S256x1536 .bf16 := Memref.whole cc0_scratch0
abbrev sc0 : Memref sig .tc .vmem S16x3072 .f32 := Memref.whole cc0_scratch1

/-- The table of the conditioning projection at point `t`'s blocks. -/
def tab0 (c : Dev nD) (t : Fin cfg0.N) : Vec F S16x3072 .f32 :=
  table0 (blk0 V c 3 t) (blk0 V c 4 t) (blk0 V c 9 t) (blk0 V c 10 t)

/-- The pieces the body's stores at point `t` write into window 15's staging buffer. -/
abbrev pcs0_15 (c : Dev nD) (t : Fin cfg0.N) : List (View.Piece (Elt F) S1x256x512 .f32) :=
  (run0 (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) sz0 (Memref.isWhole_whole _) sc0 (Memref.isWhole_whole _)
    (blk0 V c 0 t) (blk0 V c 1 t) (blk0 V c 2 t) (blk0 V c 3 t) (blk0 V c 4 t) (blk0 V c 5 t) (blk0 V c 6 t) (blk0 V c 7 t) (blk0 V c 8 t) (blk0 V c 9 t) (blk0 V c 10 t) (blk0 V c 11 t) (blk0 V c 12 t) (blk0 V c 13 t) (blk0 V c 14 t) (tab0 V c t)).1

/-- What the body at point `t` leaves in window 15's staging buffer. -/
def out0_15 (c : Dev nD) (t : Fin cfg0.N) : Vec F S1x256x512 .f32 :=
  (Memref.whole cc0_stg15_0 : Memref sig .tc .vmem S1x256x512 .f32).view.read (Elt F) ((Memref.whole cc0_stg15_0 : Memref sig .tc .vmem S1x256x512 .f32).view.writes (Elt F) (Memref.whole cc0_stg15_0 : Memref sig .tc .vmem S1x256x512 .f32).view.junk (pcs0_15 V c t))

/-- The body's stores tile that buffer. -/
theorem cover0_15 (c : Dev nD) (t : Fin cfg0.N) (y : S1x256x512.Idx) :
    ∃ pc ∈ pcs0_15 V c t, y ∈ pc.1.set :=
  View.cover_of_tiledL (pcs0_15 V c t) S1x256x256.size (by sl_kernel_rfl) y

/-- The pieces the body's stores at point `t` write into window 16's staging buffer. -/
abbrev pcs0_16 (c : Dev nD) (t : Fin cfg0.N) : List (View.Piece (Elt F) S1x256x768 .i8) :=
  (run0 (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) sz0 (Memref.isWhole_whole _) sc0 (Memref.isWhole_whole _)
    (blk0 V c 0 t) (blk0 V c 1 t) (blk0 V c 2 t) (blk0 V c 3 t) (blk0 V c 4 t) (blk0 V c 5 t) (blk0 V c 6 t) (blk0 V c 7 t) (blk0 V c 8 t) (blk0 V c 9 t) (blk0 V c 10 t) (blk0 V c 11 t) (blk0 V c 12 t) (blk0 V c 13 t) (blk0 V c 14 t) (tab0 V c t)).2.1

/-- What the body at point `t` leaves in window 16's staging buffer. -/
def out0_16 (c : Dev nD) (t : Fin cfg0.N) : Vec F S1x256x768 .i8 :=
  (Memref.whole cc0_stg16_0 : Memref sig .tc .vmem S1x256x768 .i8).view.read (Elt F) ((Memref.whole cc0_stg16_0 : Memref sig .tc .vmem S1x256x768 .i8).view.writes (Elt F) (Memref.whole cc0_stg16_0 : Memref sig .tc .vmem S1x256x768 .i8).view.junk (pcs0_16 V c t))

/-- The body's stores tile that buffer. -/
theorem cover0_16 (c : Dev nD) (t : Fin cfg0.N) (y : S1x256x768.Idx) :
    ∃ pc ∈ pcs0_16 V c t, y ∈ pc.1.set :=
  View.cover_of_tiledL (pcs0_16 V c t) S1x256x256.size (by sl_kernel_rfl) y

/-- The pieces the body's stores at point `t` write into window 17's staging buffer. -/
abbrev pcs0_17 (c : Dev nD) (t : Fin cfg0.N) : List (View.Piece (Elt F) S1x256x1536 .i8) :=
  (run0 (F := F) c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) sz0 (Memref.isWhole_whole _) sc0 (Memref.isWhole_whole _)
    (blk0 V c 0 t) (blk0 V c 1 t) (blk0 V c 2 t) (blk0 V c 3 t) (blk0 V c 4 t) (blk0 V c 5 t) (blk0 V c 6 t) (blk0 V c 7 t) (blk0 V c 8 t) (blk0 V c 9 t) (blk0 V c 10 t) (blk0 V c 11 t) (blk0 V c 12 t) (blk0 V c 13 t) (blk0 V c 14 t) (tab0 V c t)).2.2.1

/-- What the body at point `t` leaves in window 17's staging buffer. -/
def out0_17 (c : Dev nD) (t : Fin cfg0.N) : Vec F S1x256x1536 .i8 :=
  (Memref.whole cc0_stg17_0 : Memref sig .tc .vmem S1x256x1536 .i8).view.read (Elt F) ((Memref.whole cc0_stg17_0 : Memref sig .tc .vmem S1x256x1536 .i8).view.writes (Elt F) (Memref.whole cc0_stg17_0 : Memref sig .tc .vmem S1x256x1536 .i8).view.junk (pcs0_17 V c t))

/-- The body's stores tile that buffer. -/
theorem cover0_17 (c : Dev nD) (t : Fin cfg0.N) (y : S1x256x1536.Idx) :
    ∃ pc ∈ pcs0_17 V c t, y ∈ pc.1.set :=
  View.cover_of_tiledL (pcs0_17 V c t) S1x256x256.size (by sl_kernel_rfl) y

/-! ## The invariant and the pipeline's data -/

/-- Before point `n` the gate scratch holds anything; the carried scratch holds the table of point `n`'s batch row, unless
    `n` is the first point of its row, which fills it. -/
def Phi0 (c : Dev nD) (n : ℕ) : sProp 𝕄 :=
  iprop((∃ d, owns (c : Thread nD τ) sz0 fullShare d) ∗ (∃ d, ⌜∀ h : n < cfg0.N, ¬n % 8 = 0 → d = tab0 V c ⟨n, h⟩⌝ ∗ owns (c : Thread nD τ) sc0 fullShare d) ∗ Pipeline.scopedRestBut (Ix := Unit) (Name := ℕ) (U := UR sig nD τ) (Lvl := ℕ) (Val := Elt F) spec0 c [cc0_scratch0, cc0_scratch1])

/-- The proof data: the arrays as found; after a point each input's buffer at its block, each output's at what the body
    leaves; nothing owed; full shares. -/
def dats0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => blk0 V c 2 t
    | ⟨3, _⟩ => blk0 V c 3 t
    | ⟨4, _⟩ => blk0 V c 4 t
    | ⟨5, _⟩ => blk0 V c 5 t
    | ⟨6, _⟩ => blk0 V c 6 t
    | ⟨7, _⟩ => blk0 V c 7 t
    | ⟨8, _⟩ => blk0 V c 8 t
    | ⟨9, _⟩ => blk0 V c 9 t
    | ⟨10, _⟩ => blk0 V c 10 t
    | ⟨11, _⟩ => blk0 V c 11 t
    | ⟨12, _⟩ => blk0 V c 12 t
    | ⟨13, _⟩ => blk0 V c 13 t
    | ⟨14, _⟩ => blk0 V c 14 t
    | ⟨15, _⟩ => out0_15 V c t
    | ⟨16, _⟩ => out0_16 V c t
    | ⟨17, _⟩ => out0_17 V c t
    | ⟨_ + 18, h⟩ => absurd h (Nat.not_lt.2 (Nat.le_add_left _ _))
  Φ t := Phi0 V c t.val
  q _ := fullShare
  owed _ := 0

theorem A0_eq (c : Dev nD) (w : Fin cfg0.W) : (dats0 V c).A w = V c (Pipeline.arrRef spec0 w) := by
  dsimp only [dats0]

theorem after0_0 (c : Dev nD) (t : Fin cfg0.N) : (dats0 V c).after 0 t = blk0 V c 0 t := by dsimp only [dats0]
theorem after0_1 (c : Dev nD) (t : Fin cfg0.N) : (dats0 V c).after 1 t = blk0 V c 1 t := by dsimp only [dats0]
theorem after0_2 (c : Dev nD) (t : Fin cfg0.N) : (dats0 V c).after 2 t = blk0 V c 2 t := by dsimp only [dats0]
theorem after0_3 (c : Dev nD) (t : Fin cfg0.N) : (dats0 V c).after 3 t = blk0 V c 3 t := by dsimp only [dats0]
theorem after0_4 (c : Dev nD) (t : Fin cfg0.N) : (dats0 V c).after 4 t = blk0 V c 4 t := by dsimp only [dats0]
theorem after0_5 (c : Dev nD) (t : Fin cfg0.N) : (dats0 V c).after 5 t = blk0 V c 5 t := by dsimp only [dats0]
theorem after0_6 (c : Dev nD) (t : Fin cfg0.N) : (dats0 V c).after 6 t = blk0 V c 6 t := by dsimp only [dats0]
theorem after0_7 (c : Dev nD) (t : Fin cfg0.N) : (dats0 V c).after 7 t = blk0 V c 7 t := by dsimp only [dats0]
theorem after0_8 (c : Dev nD) (t : Fin cfg0.N) : (dats0 V c).after 8 t = blk0 V c 8 t := by dsimp only [dats0]
theorem after0_9 (c : Dev nD) (t : Fin cfg0.N) : (dats0 V c).after 9 t = blk0 V c 9 t := by dsimp only [dats0]
theorem after0_10 (c : Dev nD) (t : Fin cfg0.N) : (dats0 V c).after 10 t = blk0 V c 10 t := by dsimp only [dats0]
theorem after0_11 (c : Dev nD) (t : Fin cfg0.N) : (dats0 V c).after 11 t = blk0 V c 11 t := by dsimp only [dats0]
theorem after0_12 (c : Dev nD) (t : Fin cfg0.N) : (dats0 V c).after 12 t = blk0 V c 12 t := by dsimp only [dats0]
theorem after0_13 (c : Dev nD) (t : Fin cfg0.N) : (dats0 V c).after 13 t = blk0 V c 13 t := by dsimp only [dats0]
theorem after0_14 (c : Dev nD) (t : Fin cfg0.N) : (dats0 V c).after 14 t = blk0 V c 14 t := by dsimp only [dats0]
theorem after0_15 (c : Dev nD) (t : Fin cfg0.N) : (dats0 V c).after 15 t = out0_15 V c t := by dsimp only [dats0]
theorem after0_16 (c : Dev nD) (t : Fin cfg0.N) : (dats0 V c).after 16 t = out0_16 V c t := by dsimp only [dats0]
theorem after0_17 (c : Dev nD) (t : Fin cfg0.N) : (dats0 V c).after 17 t = out0_17 V c t := by dsimp only [dats0]

/-- What a fetch at a point stages of an input is its block there. -/
theorem fetched0_0 (c : Dev nD) (t : Fin cfg0.N) (d) : (dats0 V c).fetched 0 t d = blk0 V c 0 t := by
  unfold Dat.fetched Dat.blockOf blk0; rw [A0_eq]; try rfl
theorem fetched0_1 (c : Dev nD) (t : Fin cfg0.N) (d) : (dats0 V c).fetched 1 t d = blk0 V c 1 t := by
  unfold Dat.fetched Dat.blockOf blk0; rw [A0_eq]; try rfl
theorem fetched0_2 (c : Dev nD) (t : Fin cfg0.N) (d) : (dats0 V c).fetched 2 t d = blk0 V c 2 t := by
  unfold Dat.fetched Dat.blockOf blk0; rw [A0_eq]; try rfl
theorem fetched0_3 (c : Dev nD) (t : Fin cfg0.N) (d) : (dats0 V c).fetched 3 t d = blk0 V c 3 t := by
  unfold Dat.fetched Dat.blockOf blk0; rw [A0_eq]; try rfl
theorem fetched0_4 (c : Dev nD) (t : Fin cfg0.N) (d) : (dats0 V c).fetched 4 t d = blk0 V c 4 t := by
  unfold Dat.fetched Dat.blockOf blk0; rw [A0_eq]; try rfl
theorem fetched0_5 (c : Dev nD) (t : Fin cfg0.N) (d) : (dats0 V c).fetched 5 t d = blk0 V c 5 t := by
  unfold Dat.fetched Dat.blockOf blk0; rw [A0_eq]; try rfl
theorem fetched0_6 (c : Dev nD) (t : Fin cfg0.N) (d) : (dats0 V c).fetched 6 t d = blk0 V c 6 t := by
  unfold Dat.fetched Dat.blockOf blk0; rw [A0_eq]; try rfl
theorem fetched0_7 (c : Dev nD) (t : Fin cfg0.N) (d) : (dats0 V c).fetched 7 t d = blk0 V c 7 t := by
  unfold Dat.fetched Dat.blockOf blk0; rw [A0_eq]; try rfl
theorem fetched0_8 (c : Dev nD) (t : Fin cfg0.N) (d) : (dats0 V c).fetched 8 t d = blk0 V c 8 t := by
  unfold Dat.fetched Dat.blockOf blk0; rw [A0_eq]; try rfl
theorem fetched0_9 (c : Dev nD) (t : Fin cfg0.N) (d) : (dats0 V c).fetched 9 t d = blk0 V c 9 t := by
  unfold Dat.fetched Dat.blockOf blk0; rw [A0_eq]; try rfl
theorem fetched0_10 (c : Dev nD) (t : Fin cfg0.N) (d) : (dats0 V c).fetched 10 t d = blk0 V c 10 t := by
  unfold Dat.fetched Dat.blockOf blk0; rw [A0_eq]; try rfl
theorem fetched0_11 (c : Dev nD) (t : Fin cfg0.N) (d) : (dats0 V c).fetched 11 t d = blk0 V c 11 t := by
  unfold Dat.fetched Dat.blockOf blk0; rw [A0_eq]; try rfl
theorem fetched0_12 (c : Dev nD) (t : Fin cfg0.N) (d) : (dats0 V c).fetched 12 t d = blk0 V c 12 t := by
  unfold Dat.fetched Dat.blockOf blk0; rw [A0_eq]; try rfl
theorem fetched0_13 (c : Dev nD) (t : Fin cfg0.N) (d) : (dats0 V c).fetched 13 t d = blk0 V c 13 t := by
  unfold Dat.fetched Dat.blockOf blk0; rw [A0_eq]; try rfl
theorem fetched0_14 (c : Dev nD) (t : Fin cfg0.N) (d) : (dats0 V c).fetched 14 t d = blk0 V c 14 t := by
  unfold Dat.fetched Dat.blockOf blk0; rw [A0_eq]; try rfl

/-- An input's staging buffer holds its block at every point, fetched there or not. -/
theorem before0_0 (c : Dev nD) (t : Fin cfg0.N) (d) : (dats0 V c).before 0 t d = blk0 V c 0 t :=
  ((dats0 V c).before_in_eq_fetched 0 rfl (fun _ => rfl) (fun _ _ _ => rfl) (fun t => by rw [after0_0]; unfold Dat.blockOf blk0; rw [A0_eq]; try rfl) t d).trans
    (fetched0_0 V c t d)
theorem before0_1 (c : Dev nD) (t : Fin cfg0.N) (d) : (dats0 V c).before 1 t d = blk0 V c 1 t :=
  ((dats0 V c).before_in_eq_fetched 1 rfl (fun _ => rfl) (fun _ _ _ => rfl) (fun t => by rw [after0_1]; unfold Dat.blockOf blk0; rw [A0_eq]; try rfl) t d).trans
    (fetched0_1 V c t d)
theorem before0_2 (c : Dev nD) (t : Fin cfg0.N) (d) : (dats0 V c).before 2 t d = blk0 V c 2 t :=
  ((dats0 V c).before_in_eq_fetched 2 rfl (fun _ => rfl) (fun _ _ _ => rfl) (fun t => by rw [after0_2]; unfold Dat.blockOf blk0; rw [A0_eq]; try rfl) t d).trans
    (fetched0_2 V c t d)
theorem before0_3 (c : Dev nD) (t : Fin cfg0.N) (d) : (dats0 V c).before 3 t d = blk0 V c 3 t :=
  ((dats0 V c).before_in_eq_fetched 3 rfl (fun _ => rfl) (fun _ _ _ => rfl) (fun t => by rw [after0_3]; unfold Dat.blockOf blk0; rw [A0_eq]; try rfl) t d).trans
    (fetched0_3 V c t d)
theorem before0_4 (c : Dev nD) (t : Fin cfg0.N) (d) : (dats0 V c).before 4 t d = blk0 V c 4 t :=
  ((dats0 V c).before_in_eq_fetched 4 rfl (fun _ => rfl) (fun _ _ _ => rfl) (fun t => by rw [after0_4]; unfold Dat.blockOf blk0; rw [A0_eq]; try rfl) t d).trans
    (fetched0_4 V c t d)
theorem before0_5 (c : Dev nD) (t : Fin cfg0.N) (d) : (dats0 V c).before 5 t d = blk0 V c 5 t :=
  ((dats0 V c).before_in_eq_fetched 5 rfl (fun _ => rfl) (fun _ _ _ => rfl) (fun t => by rw [after0_5]; unfold Dat.blockOf blk0; rw [A0_eq]; try rfl) t d).trans
    (fetched0_5 V c t d)
theorem before0_6 (c : Dev nD) (t : Fin cfg0.N) (d) : (dats0 V c).before 6 t d = blk0 V c 6 t :=
  ((dats0 V c).before_in_eq_fetched 6 rfl (fun _ => rfl) (fun _ _ _ => rfl) (fun t => by rw [after0_6]; unfold Dat.blockOf blk0; rw [A0_eq]; try rfl) t d).trans
    (fetched0_6 V c t d)
theorem before0_7 (c : Dev nD) (t : Fin cfg0.N) (d) : (dats0 V c).before 7 t d = blk0 V c 7 t :=
  ((dats0 V c).before_in_eq_fetched 7 rfl (fun _ => rfl) (fun _ _ _ => rfl) (fun t => by rw [after0_7]; unfold Dat.blockOf blk0; rw [A0_eq]; try rfl) t d).trans
    (fetched0_7 V c t d)
theorem before0_8 (c : Dev nD) (t : Fin cfg0.N) (d) : (dats0 V c).before 8 t d = blk0 V c 8 t :=
  ((dats0 V c).before_in_eq_fetched 8 rfl (fun _ => rfl) (fun _ _ _ => rfl) (fun t => by rw [after0_8]; unfold Dat.blockOf blk0; rw [A0_eq]; try rfl) t d).trans
    (fetched0_8 V c t d)
theorem before0_9 (c : Dev nD) (t : Fin cfg0.N) (d) : (dats0 V c).before 9 t d = blk0 V c 9 t :=
  ((dats0 V c).before_in_eq_fetched 9 rfl (fun _ => rfl) (fun _ _ _ => rfl) (fun t => by rw [after0_9]; unfold Dat.blockOf blk0; rw [A0_eq]; try rfl) t d).trans
    (fetched0_9 V c t d)
theorem before0_10 (c : Dev nD) (t : Fin cfg0.N) (d) : (dats0 V c).before 10 t d = blk0 V c 10 t :=
  ((dats0 V c).before_in_eq_fetched 10 rfl (fun _ => rfl) (fun _ _ _ => rfl) (fun t => by rw [after0_10]; unfold Dat.blockOf blk0; rw [A0_eq]; try rfl) t d).trans
    (fetched0_10 V c t d)
theorem before0_11 (c : Dev nD) (t : Fin cfg0.N) (d) : (dats0 V c).before 11 t d = blk0 V c 11 t :=
  ((dats0 V c).before_in_eq_fetched 11 rfl (fun _ => rfl) (fun _ _ _ => rfl) (fun t => by rw [after0_11]; unfold Dat.blockOf blk0; rw [A0_eq]; try rfl) t d).trans
    (fetched0_11 V c t d)
theorem before0_12 (c : Dev nD) (t : Fin cfg0.N) (d) : (dats0 V c).before 12 t d = blk0 V c 12 t :=
  ((dats0 V c).before_in_eq_fetched 12 rfl (fun _ => rfl) (fun _ _ _ => rfl) (fun t => by rw [after0_12]; unfold Dat.blockOf blk0; rw [A0_eq]; try rfl) t d).trans
    (fetched0_12 V c t d)
theorem before0_13 (c : Dev nD) (t : Fin cfg0.N) (d) : (dats0 V c).before 13 t d = blk0 V c 13 t :=
  ((dats0 V c).before_in_eq_fetched 13 rfl (fun _ => rfl) (fun _ _ _ => rfl) (fun t => by rw [after0_13]; unfold Dat.blockOf blk0; rw [A0_eq]; try rfl) t d).trans
    (fetched0_13 V c t d)
theorem before0_14 (c : Dev nD) (t : Fin cfg0.N) (d) : (dats0 V c).before 14 t d = blk0 V c 14 t :=
  ((dats0 V c).before_in_eq_fetched 14 rfl (fun _ => rfl) (fun _ _ _ => rfl) (fun t => by rw [after0_14]; unfold Dat.blockOf blk0; rw [A0_eq]; try rfl) t d).trans
    (fetched0_14 V c t d)

/-- The inputs the table is made of are not fetched inside a batch row, so it does not change there. -/
theorem tab0_succ (c : Dev nD) (n : ℕ) (h : n + 1 < cfg0.N) (hn : ¬(n + 1) % 8 = 0) :
    tab0 V c ⟨n, Nat.lt_of_succ_lt h⟩ = tab0 V c ⟨n + 1, h⟩ := by
  have e3 : blk0 V c 3 ⟨n, Nat.lt_of_succ_lt h⟩ = blk0 V c 3 ⟨n + 1, h⟩ :=
    ((fetched0_3 V c _ (blk0 V c 3 ⟨n, Nat.lt_of_succ_lt h⟩)).symm.trans (Dat.fetched_congr _ 3
      ((cfg0.win 3).index_eq_of_fetch rfl ⟨n + 1, h⟩ (by rw [← Bool.not_eq_true, fetch0_3]; show ¬(n + 1) % _ = 0; omega)).2.symm rfl _)).trans
      (fetched0_3 V c _ _)
  have e4 : blk0 V c 4 ⟨n, Nat.lt_of_succ_lt h⟩ = blk0 V c 4 ⟨n + 1, h⟩ :=
    ((fetched0_4 V c _ (blk0 V c 4 ⟨n, Nat.lt_of_succ_lt h⟩)).symm.trans (Dat.fetched_congr _ 4
      ((cfg0.win 4).index_eq_of_fetch rfl ⟨n + 1, h⟩ (by rw [← Bool.not_eq_true, fetch0_4]; show ¬(n + 1) % _ = 0; omega)).2.symm rfl _)).trans
      (fetched0_4 V c _ _)
  have e9 : blk0 V c 9 ⟨n, Nat.lt_of_succ_lt h⟩ = blk0 V c 9 ⟨n + 1, h⟩ :=
    ((fetched0_9 V c _ (blk0 V c 9 ⟨n, Nat.lt_of_succ_lt h⟩)).symm.trans (Dat.fetched_congr _ 9
      ((cfg0.win 9).index_eq_of_fetch rfl ⟨n + 1, h⟩ (by rw [← Bool.not_eq_true, fetch0_9]; show ¬(n + 1) % _ = 0; omega)).2.symm rfl _)).trans
      (fetched0_9 V c _ _)
  have e10 : blk0 V c 10 ⟨n, Nat.lt_of_succ_lt h⟩ = blk0 V c 10 ⟨n + 1, h⟩ :=
    ((fetched0_10 V c _ (blk0 V c 10 ⟨n, Nat.lt_of_succ_lt h⟩)).symm.trans (Dat.fetched_congr _ 10
      ((cfg0.win 10).index_eq_of_fetch rfl ⟨n + 1, h⟩ (by rw [← Bool.not_eq_true, fetch0_10]; show ¬(n + 1) % _ = 0; omega)).2.symm rfl _)).trans
      (fetched0_10 V c _ _)
  unfold tab0
  exact congr (congr (congr (congrArg (fun a b d e => table0 a b d e) e3) e4) e9) e10

/-! ## The body obligation -/

/-- The body's branch is taken at the first point of each batch row. -/
theorem cond0_at (t : Fin cfg0.N) : cond0 (grid0.coords t) ↔ t.val % 8 = 0 := cond0_iff t

/-- What the body is called with at point `t`, window by window, -/
def pre0 (c : Dev nD) (t : Fin cfg0.N) : sProp 𝕄 :=
  iprop(Phi0 V c t.val ∗ (dats0 V c).owesAt () t.castSucc
    ∗ (∃ d, owns (c : Thread nD τ) (win0_0.stage (cfg0.slots t 0)) fullShare ((dats0 V c).before 0 t d))
    ∗ (∃ d, owns (c : Thread nD τ) (win0_1.stage (cfg0.slots t 1)) fullShare ((dats0 V c).before 1 t d))
    ∗ (∃ d, owns (c : Thread nD τ) (win0_2.stage (cfg0.slots t 2)) fullShare ((dats0 V c).before 2 t d))
    ∗ (∃ d, owns (c : Thread nD τ) (win0_3.stage (cfg0.slots t 3)) fullShare ((dats0 V c).before 3 t d))
    ∗ (∃ d, owns (c : Thread nD τ) (win0_4.stage (cfg0.slots t 4)) fullShare ((dats0 V c).before 4 t d))
    ∗ (∃ d, owns (c : Thread nD τ) (win0_5.stage (cfg0.slots t 5)) fullShare ((dats0 V c).before 5 t d))
    ∗ (∃ d, owns (c : Thread nD τ) (win0_6.stage (cfg0.slots t 6)) fullShare ((dats0 V c).before 6 t d))
    ∗ (∃ d, owns (c : Thread nD τ) (win0_7.stage (cfg0.slots t 7)) fullShare ((dats0 V c).before 7 t d))
    ∗ (∃ d, owns (c : Thread nD τ) (win0_8.stage (cfg0.slots t 8)) fullShare ((dats0 V c).before 8 t d))
    ∗ (∃ d, owns (c : Thread nD τ) (win0_9.stage (cfg0.slots t 9)) fullShare ((dats0 V c).before 9 t d))
    ∗ (∃ d, owns (c : Thread nD τ) (win0_10.stage (cfg0.slots t 10)) fullShare ((dats0 V c).before 10 t d))
    ∗ (∃ d, owns (c : Thread nD τ) (win0_11.stage (cfg0.slots t 11)) fullShare ((dats0 V c).before 11 t d))
    ∗ (∃ d, owns (c : Thread nD τ) (win0_12.stage (cfg0.slots t 12)) fullShare ((dats0 V c).before 12 t d))
    ∗ (∃ d, owns (c : Thread nD τ) (win0_13.stage (cfg0.slots t 13)) fullShare ((dats0 V c).before 13 t d))
    ∗ (∃ d, owns (c : Thread nD τ) (win0_14.stage (cfg0.slots t 14)) fullShare ((dats0 V c).before 14 t d))
    ∗ (∃ d, owns (c : Thread nD τ) (win0_15.stage (cfg0.slots t 15)) fullShare ((dats0 V c).before 15 t d))
    ∗ (∃ d, owns (c : Thread nD τ) (win0_16.stage (cfg0.slots t 16)) fullShare ((dats0 V c).before 16 t d))
    ∗ (∃ d, owns (c : Thread nD τ) (win0_17.stage (cfg0.slots t 17)) fullShare ((dats0 V c).before 17 t d)))

/-- and what it returns. -/
def post0 (c : Dev nD) (t : Fin cfg0.N) : sProp 𝕄 :=
  iprop(Phi0 V c (t.val + 1) ∗ (dats0 V c).owesAt () t.succ
    ∗ owns (c : Thread nD τ) (win0_0.stage (cfg0.slots t 0)) fullShare ((dats0 V c).after 0 t)
    ∗ owns (c : Thread nD τ) (win0_1.stage (cfg0.slots t 1)) fullShare ((dats0 V c).after 1 t)
    ∗ owns (c : Thread nD τ) (win0_2.stage (cfg0.slots t 2)) fullShare ((dats0 V c).after 2 t)
    ∗ owns (c : Thread nD τ) (win0_3.stage (cfg0.slots t 3)) fullShare ((dats0 V c).after 3 t)
    ∗ owns (c : Thread nD τ) (win0_4.stage (cfg0.slots t 4)) fullShare ((dats0 V c).after 4 t)
    ∗ owns (c : Thread nD τ) (win0_5.stage (cfg0.slots t 5)) fullShare ((dats0 V c).after 5 t)
    ∗ owns (c : Thread nD τ) (win0_6.stage (cfg0.slots t 6)) fullShare ((dats0 V c).after 6 t)
    ∗ owns (c : Thread nD τ) (win0_7.stage (cfg0.slots t 7)) fullShare ((dats0 V c).after 7 t)
    ∗ owns (c : Thread nD τ) (win0_8.stage (cfg0.slots t 8)) fullShare ((dats0 V c).after 8 t)
    ∗ owns (c : Thread nD τ) (win0_9.stage (cfg0.slots t 9)) fullShare ((dats0 V c).after 9 t)
    ∗ owns (c : Thread nD τ) (win0_10.stage (cfg0.slots t 10)) fullShare ((dats0 V c).after 10 t)
    ∗ owns (c : Thread nD τ) (win0_11.stage (cfg0.slots t 11)) fullShare ((dats0 V c).after 11 t)
    ∗ owns (c : Thread nD τ) (win0_12.stage (cfg0.slots t 12)) fullShare ((dats0 V c).after 12 t)
    ∗ owns (c : Thread nD τ) (win0_13.stage (cfg0.slots t 13)) fullShare ((dats0 V c).after 13 t)
    ∗ owns (c : Thread nD τ) (win0_14.stage (cfg0.slots t 14)) fullShare ((dats0 V c).after 14 t)
    ∗ owns (c : Thread nD τ) (win0_15.stage (cfg0.slots t 15)) fullShare ((dats0 V c).after 15 t)
    ∗ owns (c : Thread nD τ) (win0_16.stage (cfg0.slots t 16)) fullShare ((dats0 V c).after 16 t)
    ∗ owns (c : Thread nD τ) (win0_17.stage (cfg0.slots t 17)) fullShare ((dats0 V c).after 17 t))

set_option maxHeartbeats 4000000 in
/-- The body at any point, from what the pipeline hands it to what it takes back. -/
theorem sound0 (c : Dev nD) (t : Fin cfg0.N) :
    pre0 V c t ⊢ wp frame (wpE (defs₀ (F := F)) Variants.none c none) Set.univ (bodyAt0 t) (fun _ => post0 V c t) := by
  unfold pre0 post0 bodyAt0 Phi0

  simp only [before0_0, before0_1, before0_2, before0_3, before0_4, before0_5, before0_6, before0_7, before0_8, before0_9, before0_10, before0_11, before0_12, before0_13, before0_14]
  rw [show (dats0 V c).owesAt () t.succ = (dats0 V c).owesAt () t.castSucc from rfl,
    after0_0, after0_1, after0_2, after0_3, after0_4, after0_5, after0_6, after0_7, after0_8, after0_9, after0_10, after0_11, after0_12, after0_13, after0_14, after0_15, after0_16, after0_17]
  iintro ⟨⟨HS0, ⟨%dc, %hdc, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((run0 c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) sz0 (Memref.isWhole_whole _) sc0 (Memref.isWhole_whole _)
    (blk0 V c 0 t) (blk0 V c 1 t) (blk0 V c 2 t) (blk0 V c 3 t) (blk0 V c 4 t) (blk0 V c 5 t) (blk0 V c 6 t) (blk0 V c 7 t) (blk0 V c 8 t) (blk0 V c 9 t) (blk0 V c 10 t) (blk0 V c 11 t) (blk0 V c 12 t) (blk0 V c 13 t) (blk0 V c 14 t) (tab0 V c t)).2.2.2.2 dc (fun _ => rfl) (fun hc => hdc t.isLt fun h0 => hc ((cond0_at t).mpr h0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexists _; iexact H15
  isplitl [H16]; · iexists _; iexact H16
  isplitl [H17]; · iexists _; iexact H17
  isplitl [HS0]; · iexact HS0
  isplitl [HS1]; · iexact HS1
  iintro ⟨H0, H1, H2, H3, H4, H5, H6, H7, H8, H9, H10, H11, H12, H13, H14, ⟨%e15, H15⟩, ⟨%e16, H16⟩, ⟨%e17, H17⟩, ⟨%ez, HS0⟩, HS1⟩
  isplitl [HS0 HS1 Hr]
  · isplitl [HS0]
    · iexists _; unfold owns; iexists _; isplitr
      swap; · iexact HS0
      ipureintro; rfl
    isplitl [HS1]
    · iexists _; isplitr
      swap; · iexact HS1
      ipureintro; exact fun h hn => tab0_succ V c t.val h hn
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · unfold owns; iexists _; isplitr
    swap; · iexact H15
    ipureintro; exact View.read_writes_of_cover _ _ _ _ _ (cover0_15 V c t)
  isplitl [H16]
  · unfold owns; iexists _; isplitr
    swap; · iexact H16
    ipureintro; exact View.read_writes_of_cover _ _ _ _ _ (cover0_16 V c t)
  unfold owns; iexists _; isplitr
  swap; · iexact H17
  ipureintro; exact View.read_writes_of_cover _ _ _ _ _ (cover0_17 V c t)

theorem row0 (t : Fin cfg0.N) :
    defs₀ (F := F) .tc cfg0.body (cfg0.bodyArgs t (cfg0.slots t)) = bodyAt0 t := by
  unfold defs₀; rw [Defs.onTc_tc]

/-- The pipeline's body obligation. -/
theorem body_obligation0 (c : Dev nD) : BodyObligation (dats0 V c) (defs₀ (F := F)) Variants.none () Set.univ := fun t => by
  rw [bigSep_W0, bigSep_W0, row0]
  exact triple_restated (sound0 V c t) rfl .rfl fun _ => .rfl

/-- The scratch at anything is the invariant before the first point, -/
theorem hin0 (c : Dev nD) : Pipeline.scopedRest spec0 c ⊢ (dats0 V c).Φ 0 := by
  rw [scopedRest0_split, show (dats0 V c).Φ 0 = Phi0 V c 0 from rfl]; unfold Phi0
  simp only [owns_whole]
  iintro ⟨⟨HS0, ⟨%d, HS1⟩⟩, Hr⟩
  isplitl [HS0]; · iexact HS0
  isplitl [HS1]
  · iexists d; isplitr; · ipureintro; exact fun _ h => absurd trivial h
    iexact HS1
  iexact Hr

/-- and the invariant after the last gives it back. -/
theorem hout0 (c : Dev nD) : (dats0 V c).Φ (Fin.last cfg0.N) ⊢ Pipeline.scopedRest spec0 c := by
  rw [scopedRest0_split, show (dats0 V c).Φ (Fin.last cfg0.N) = Phi0 V c cfg0.N from rfl]; unfold Phi0
  simp only [owns_whole]
  iintro ⟨HS0, ⟨%d, -, HS1⟩, Hr⟩
  isplitl [HS0 HS1]
  · isplitl [HS0]; · iexact HS0
    iexists d; iexact HS1
  iexact Hr

end Cert.Kernel.Layer

end
-- ==== Proof.Kernel.Run1.lean ====
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.ValueIdx
public import Idealize.ShloMosaic.Lib.Pipeline.ValueKit

@[expose] public section

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (c : Dev nD) (i : grid1.Coords)
  (arg2 : Memref sig .tc .smem S3 .f32) (harg2 : arg2.IsWhole)
  (arg3 : Memref sig .tc .vmem S1x256x768 .i8) (harg3 : arg3.IsWhole)
  (arg4 : Memref sig .tc .vmem S1x256x768 .i8) (harg4 : arg4.IsWhole)
  (arg5 : Memref sig .tc .vmem S1x16x80 .i8) (harg5 : arg5.IsWhole)
  (arg6 : Memref sig .tc .vmem S80x3072 .i8) (harg6 : arg6.IsWhole)
  (arg7 : Memref sig .tc .vmem S2x768x3072 .i8) (harg7 : arg7.IsWhole)
  (arg8 : Memref sig .tc .vmem S1536x768 .i8) (harg8 : arg8.IsWhole)
  (arg9 : Memref sig .tc .vmem S1536x512 .i8) (harg9 : arg9.IsWhole)
  (arg10 : Memref sig .tc .vmem S1x3072 .f32) (harg10 : arg10.IsWhole)
  (arg11 : Memref sig .tc .vmem S1x3072 .f32) (harg11 : arg11.IsWhole)
  (arg12 : Memref sig .tc .vmem S1x3072 .f32) (harg12 : arg12.IsWhole)
  (arg13 : Memref sig .tc .vmem S1x768 .f32) (harg13 : arg13.IsWhole)
  (arg14 : Memref sig .tc .vmem S1x768 .f32) (harg14 : arg14.IsWhole)
  (arg15 : Memref sig .tc .vmem S1x512 .f32) (harg15 : arg15.IsWhole)
  (arg16 : Memref sig .tc .vmem S1x512 .f32) (harg16 : arg16.IsWhole)
  (arg17 : Memref sig .tc .vmem S1x256x512 .f32) (harg17 : arg17.IsWhole)
  (arg18 : Memref sig .tc .vmem S1x256x512 .f32) (harg18 : arg18.IsWhole)
  (arg19 : Memref sig .tc .vmem S1x256x768 .i8) (harg19 : arg19.IsWhole)
  (arg20 : Memref sig .tc .vmem S256x1536 .bf16) (harg20 : arg20.IsWhole)
  (arg21 : Memref sig .tc .vmem S16x3072 .f32) (harg21 : arg21.IsWhole)
  (x0 : Vec F S3 .f32)
  (x1 : Vec F S1x256x768 .i8)
  (x2 : Vec F S1x256x768 .i8)
  (x3 : Vec F S1x16x80 .i8)
  (x4 : Vec F S80x3072 .i8)
  (x5 : Vec F S2x768x3072 .i8)
  (x6 : Vec F S1536x768 .i8)
  (x7 : Vec F S1536x512 .i8)
  (x8 : Vec F S1x3072 .f32)
  (x9 : Vec F S1x3072 .f32)
  (x10 : Vec F S1x3072 .f32)
  (x11 : Vec F S1x768 .f32)
  (x12 : Vec F S1x768 .f32)
  (x13 : Vec F S1x512 .f32)
  (x14 : Vec F S1x512 .f32)
  (x15 : Vec F S1x256x512 .f32)

/-- The body's branch: the grid coordinate along the sequence is zero. -/
abbrev cond1 : Prop := (Scalar.cmpi .ne (Scalar.extui (Scalar.cmpi .eq (BitVec.ofNat 32 (i 1).val) 0#32)) 0#32) = 1#1

/-- It holds at the first of the eight points of each batch row. -/
theorem cond1_iff : ∀ t : Fin cfg1.N, cond1 (grid1.coords t) ↔ t.val % 8 = 0 :=
  (fun t => by
    have ht : t.val < 192 := Nat.lt_of_lt_of_eq t.isLt N_1
    have e0 : (grid1.coords t 0).val = t.val / 8 % 24 := Pipeline.Grid.coords_val t 0 (by decide) rfl
    have e1 : (grid1.coords t 1).val = t.val / 1 % 8 := Pipeline.Grid.coords_val t 1 (by decide) rfl
    simp only [cond1, e0, e1]
    word_cmp
   : ∀ t : Fin grid1.N, cond1 (grid1.coords t) ↔ t.val % 8 = 0)

/-- The table of the conditioning projection, one row per frame, as the body's branch computes it from the conditioning
    block, its weights, the row of scales and the row of biases. -/
abbrev table1 (x3 : Vec F S1x16x80 .i8) (x4 : Vec F S80x3072 .i8) (x9 x10 : Vec F S1x3072 .f32) : Vec F S16x3072 .f32 :=
  k1_pay2 x3 x4 x10 x9

/-- The scalar a load of one word of the row of scales reads. -/
theorem scale1_ld (x : Vec F S3 .f32) (n : Fin 3) (inb : ∀ a, ![n.val] a + ![1] a ≤ S3.size a)
    (j : (⟨1, ![1]⟩ : Shape).Idx) : View.ld x (Rect.unit (s := S3) ![n.val] ![1] inb) j = x (ix1 n) := by
  refine congrArg x (funext fun b => ?_)
  obtain rfl : b = 0 := Subsingleton.elim _ _
  refine Fin.ext ?_
  have hj : (j 0).val = 0 := by have := (j 0).isLt; change (j 0).val < 1 at this; omega
  show n.val + 1 * (j 0).val = n.val
  omega

set_option maxHeartbeats 1000000 in
/-- The body's first stretch, whichever way its branch goes: afterwards the carried scratch holds the table `cv` — either
    because this point is the first of its batch row and stores it, or because it already held it. -/
def start1 : { v23 : BitVec 32 // ∀ (cv d : Vec F S16x3072 .f32) (hcv : cond1 i → cv = table1 x3 x4 x9 x10) (hd : ¬cond1 i → d = cv)
    (E : Set ℕ) (K : _ → sProp 𝕄),
    iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg11.view.loc (c : Thread nD τ) ↦[arg11.view.set]{fullShare} harg11.unread x9) ∗ (arg12.view.loc (c : Thread nD τ) ↦[arg12.view.set]{fullShare} harg12.unread x10) ∗ (arg21.view.loc (c : Thread nD τ) ↦[arg21.view.set]{fullShare} harg21.unread d)
        ∗ (iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (arg6.view.loc (c : Thread nD τ) ↦[arg6.view.set]{fullShare} harg6.unread x4) ∗ (arg11.view.loc (c : Thread nD τ) ↦[arg11.view.set]{fullShare} harg11.unread x9) ∗ (arg12.view.loc (c : Thread nD τ) ↦[arg12.view.set]{fullShare} harg12.unread x10) ∗ (arg21.view.loc (c : Thread nD τ) ↦[arg21.view.set]{fullShare} harg21.unread cv)) -∗ K ⟨x0 (ix1 0), x0 (ix1 1), x0 (ix1 2), v23, k1_pay3 i, k1_pay4 x1, k1_pay5 x1, k1_pay6 x2⟩))
      ⊢ wp frame (wpE (defs₀ (F := F)) Variants.none c none) E (k1_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, fun cv d hcv hd E K => ?run⟩
  case run =>
  simp only [k1_part1_eq_skeleton]; unfold k1_part1_skel
  by_cases hc : cond1 i
  · obtain rfl := hcv hc
    iintro ⟨H0, H1, H2, H3, H4, H9, H10, HS1, Hk⟩
    sl_exec (disch := first | sl_exact hc)
    sl_step
    frame_open
    simp (disch := decide) only [View.readAt_eq_ld, Memref.IsWhole.read_unread, View.ld_unit_lit']
    have s0 : ∀ inb j, View.ld x0 (Rect.unit (s := S3) ![0] ![1] inb) j = x0 (ix1 0) := fun inb j => scale1_ld x0 0 inb j
    have s1 : ∀ inb j, View.ld x0 (Rect.unit (s := S3) ![1] ![1] inb) j = x0 (ix1 1) := fun inb j => scale1_ld x0 1 inb j
    have s2 : ∀ inb j, View.ld x0 (Rect.unit (s := S3) ![2] ![1] inb) j = x0 (ix1 2) := fun inb j => scale1_ld x0 2 inb j
    simp only [s0, s1, s2]
    have e : ∀ (f : arg21.view.ty.Contents (Elt F)) (w : Vec F S16x3072 .f32), arg21.view.writes (Elt F) f [⟨Rect.unit (s := S16x3072) ![0, 0] S16x3072.size inb_S16x3072_S16x3072_0_0, w⟩] = harg21.unread w := fun f w =>
      harg21.eq_unread ((View.read_writes_eq_canon _ _ _ fun y => ⟨_, List.mem_singleton_self _, View.mem_set_unit_zero (by decide) inb_S16x3072_S16x3072_0_0 y⟩).trans (View.canon_cons_unit_lit inb_S16x3072_S16x3072_0_0 _ _ (by decide)))
    rw [e]
    iapply Hk
    isplitl [H0]; · iexact H0
    isplitl [H1]; · iexact H1
    isplitl [H2]; · iexact H2
    isplitl [H3]; · iexact H3
    isplitl [H4]; · iexact H4
    isplitl [H9]; · iexact H9
    isplitl [H10]; · iexact H10
    iexact HS1
  · obtain rfl := hd hc
    iintro ⟨H0, H1, H2, H3, H4, H9, H10, HS1, Hk⟩
    sl_exec (disch := first | sl_exact hc)
    sl_step
    frame_open
    simp (disch := decide) only [View.readAt_eq_ld, Memref.IsWhole.read_unread, View.ld_unit_lit']
    have s0 : ∀ inb j, View.ld x0 (Rect.unit (s := S3) ![0] ![1] inb) j = x0 (ix1 0) := fun inb j => scale1_ld x0 0 inb j
    have s1 : ∀ inb j, View.ld x0 (Rect.unit (s := S3) ![1] ![1] inb) j = x0 (ix1 1) := fun inb j => scale1_ld x0 1 inb j
    have s2 : ∀ inb j, View.ld x0 (Rect.unit (s := S3) ![2] ![1] inb) j = x0 (ix1 2) := fun inb j => scale1_ld x0 2 inb j
    simp only [s0, s1, s2]
    iapply Hk
    isplitl [H0]; · iexact H0
    isplitl [H1]; · iexact H1
    isplitl [H2]; · iexact H2
    isplitl [H3]; · iexact H3
    isplitl [H4]; · iexact H4
    isplitl [H9]; · iexact H9
    isplitl [H10]; · iexact H10
    iexact HS1

set_option maxHeartbeats 2000000 in
/-- The whole body at one grid point: what its stores leave in each output's staging buffer, as pieces (the last store
    first), with the proof that it runs to a state holding its inputs as they were, the carried scratch at the table `cv`
    and every buffer it stores into with those pieces written. -/
def run1 (cv : Vec F S16x3072 .f32) :
    Σ' (L16 : List (View.Piece (Elt F) S1x256x512 .f32)), Σ' (L17 : List (View.Piece (Elt F) S1x256x768 .i8)), { L18 : List (View.Piece (Elt F) S256x1536 .bf16) //
      ∀ (d : Vec F S16x3072 .f32) (hcv : cond1 i → cv = table1 x3 x4 x9 x10) (hd : ¬cond1 i → d = cv)
        (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ owns (c : Thread nD τ) arg21 fullShare d
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ owns (c : Thread nD τ) arg21 fullShare cv) -∗ K ⟨⟩))
          ⊢ wp frame (wpE (defs₀ (F := F)) Variants.none c none) E (cc1_wavenet_layer (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, fun d hcv hd E K => ?run⟩
  case run =>
    simp only [cc1_wavenet_layer_eq_skeleton]; unfold cc1_wavenet_layer_skel

    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%fs, %hfs, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg21.eq_unread hfs

    rw [wp_bind]
    iapply ((start1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x9 x10).2 cv d hcv hd E _)
    isplitl [H0]; · iexact H0
    isplitl [H1]; · iexact H1
    isplitl [H2]; · iexact H2
    isplitl [H3]; · iexact H3
    isplitl [H4]; · iexact H4
    isplitl [H9]; · iexact H9
    isplitl [H10]; · iexact H10
    isplitl [HS1]; · iexact HS1
    iintro ⟨H0, H1, H2, H3, H4, H9, H10, HS1⟩
    simp only [k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton]
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]; · iexists _; iexact H18
    iexists _; isplitr; · ipureintro; exact harg21.read_unread _
    iexact HS1

end Cert.Kernel.Layer

end
-- ==== Proof.Kernel.Frame1.lean ====
module

public import proofs.«01_k».proof.Proof.Kernel.Run1
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.ValueIdx
public import Idealize.ShloMosaic.Lib.Pipeline.ValueKit

@[expose] public section

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : Dev nD → Valuation τ sig (Elt F))

/-! ## What the windows read -/

/-- Window `w`'s block of its array at grid point `t`, the arrays holding `V` when the region is entered. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The two scratch buffers: the gate's values, and the carried table. -/
abbrev sz1 : Memref sig .tc .vmem S256x1536 .bf16 := Memref.whole cc1_scratch0
abbrev sc1 : Memref sig .tc .vmem S16x3072 .f32 := Memref.whole cc1_scratch1

/-- The table of the conditioning projection at point `t`'s blocks. -/
def tab1 (c : Dev nD) (t : Fin cfg1.N) : Vec F S16x3072 .f32 :=
  table1 (blk1 V c 3 t) (blk1 V c 4 t) (blk1 V c 9 t) (blk1 V c 10 t)

/-- The pieces the body's stores at point `t` write into window 16's staging buffer. -/
abbrev pcs1_16 (c : Dev nD) (t : Fin cfg1.N) : List (View.Piece (Elt F) S1x256x512 .f32) :=
  (run1 (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (win1_14.stage (cfg1.slots t 14)) (hstage1_14 ((cfg1.slots t 14).cast nbuf1_14)) (win1_15.stage (cfg1.slots t 15)) (hstage1_15 ((cfg1.slots t 15).cast nbuf1_15)) (win1_16.stage (cfg1.slots t 16)) (hstage1_16 ((cfg1.slots t 16).cast nbuf1_16)) (win1_17.stage (cfg1.slots t 17)) (hstage1_17 ((cfg1.slots t 17).cast nbuf1_17)) sz1 (Memref.isWhole_whole _) sc1 (Memref.isWhole_whole _)
    (blk1 V c 0 t) (blk1 V c 1 t) (blk1 V c 2 t) (blk1 V c 3 t) (blk1 V c 4 t) (blk1 V c 5 t) (blk1 V c 6 t) (blk1 V c 7 t) (blk1 V c 8 t) (blk1 V c 9 t) (blk1 V c 10 t) (blk1 V c 11 t) (blk1 V c 12 t) (blk1 V c 13 t) (blk1 V c 14 t) (blk1 V c 15 t) (tab1 V c t)).1

/-- What the body at point `t` leaves in window 16's staging buffer. -/
def out1_16 (c : Dev nD) (t : Fin cfg1.N) : Vec F S1x256x512 .f32 :=
  (Memref.whole cc1_stg16_0 : Memref sig .tc .vmem S1x256x512 .f32).view.read (Elt F) ((Memref.whole cc1_stg16_0 : Memref sig .tc .vmem S1x256x512 .f32).view.writes (Elt F) (Memref.whole cc1_stg16_0 : Memref sig .tc .vmem S1x256x512 .f32).view.junk (pcs1_16 V c t))

/-- The body's stores tile that buffer. -/
theorem cover1_16 (c : Dev nD) (t : Fin cfg1.N) (y : S1x256x512.Idx) :
    ∃ pc ∈ pcs1_16 V c t, y ∈ pc.1.set :=
  View.cover_of_tiledL (pcs1_16 V c t) S1x256x256.size (by sl_kernel_rfl) y

/-- The pieces the body's stores at point `t` write into window 17's staging buffer. -/
abbrev pcs1_17 (c : Dev nD) (t : Fin cfg1.N) : List (View.Piece (Elt F) S1x256x768 .i8) :=
  (run1 (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (win1_14.stage (cfg1.slots t 14)) (hstage1_14 ((cfg1.slots t 14).cast nbuf1_14)) (win1_15.stage (cfg1.slots t 15)) (hstage1_15 ((cfg1.slots t 15).cast nbuf1_15)) (win1_16.stage (cfg1.slots t 16)) (hstage1_16 ((cfg1.slots t 16).cast nbuf1_16)) (win1_17.stage (cfg1.slots t 17)) (hstage1_17 ((cfg1.slots t 17).cast nbuf1_17)) sz1 (Memref.isWhole_whole _) sc1 (Memref.isWhole_whole _)
    (blk1 V c 0 t) (blk1 V c 1 t) (blk1 V c 2 t) (blk1 V c 3 t) (blk1 V c 4 t) (blk1 V c 5 t) (blk1 V c 6 t) (blk1 V c 7 t) (blk1 V c 8 t) (blk1 V c 9 t) (blk1 V c 10 t) (blk1 V c 11 t) (blk1 V c 12 t) (blk1 V c 13 t) (blk1 V c 14 t) (blk1 V c 15 t) (tab1 V c t)).2.1

/-- What the body at point `t` leaves in window 17's staging buffer. -/
def out1_17 (c : Dev nD) (t : Fin cfg1.N) : Vec F S1x256x768 .i8 :=
  (Memref.whole cc1_stg17_0 : Memref sig .tc .vmem S1x256x768 .i8).view.read (Elt F) ((Memref.whole cc1_stg17_0 : Memref sig .tc .vmem S1x256x768 .i8).view.writes (Elt F) (Memref.whole cc1_stg17_0 : Memref sig .tc .vmem S1x256x768 .i8).view.junk (pcs1_17 V c t))

/-- The body's stores tile that buffer. -/
theorem cover1_17 (c : Dev nD) (t : Fin cfg1.N) (y : S1x256x768.Idx) :
    ∃ pc ∈ pcs1_17 V c t, y ∈ pc.1.set :=
  View.cover_of_tiledL (pcs1_17 V c t) S1x256x256.size (by sl_kernel_rfl) y

/-! ## The invariant and the pipeline's data -/

/-- Before point `n` the gate scratch holds anything; the carried scratch holds the table of point `n`'s batch row, unless
    `n` is the first point of its row, which fills it. -/
def Phi1 (c : Dev nD) (n : ℕ) : sProp 𝕄 :=
  iprop((∃ d, owns (c : Thread nD τ) sz1 fullShare d) ∗ (∃ d, ⌜∀ h : n < cfg1.N, ¬n % 8 = 0 → d = tab1 V c ⟨n, h⟩⌝ ∗ owns (c : Thread nD τ) sc1 fullShare d) ∗ Pipeline.scopedRestBut (Ix := Unit) (Name := ℕ) (U := UR sig nD τ) (Lvl := ℕ) (Val := Elt F) spec1 c [cc1_scratch0, cc1_scratch1])

/-- The proof data: the arrays as found; after a point each input's buffer at its block, each output's at what the body
    leaves; nothing owed; full shares. -/
def dats1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => blk1 V c 2 t
    | ⟨3, _⟩ => blk1 V c 3 t
    | ⟨4, _⟩ => blk1 V c 4 t
    | ⟨5, _⟩ => blk1 V c 5 t
    | ⟨6, _⟩ => blk1 V c 6 t
    | ⟨7, _⟩ => blk1 V c 7 t
    | ⟨8, _⟩ => blk1 V c 8 t
    | ⟨9, _⟩ => blk1 V c 9 t
    | ⟨10, _⟩ => blk1 V c 10 t
    | ⟨11, _⟩ => blk1 V c 11 t
    | ⟨12, _⟩ => blk1 V c 12 t
    | ⟨13, _⟩ => blk1 V c 13 t
    | ⟨14, _⟩ => blk1 V c 14 t
    | ⟨15, _⟩ => blk1 V c 15 t
    | ⟨16, _⟩ => out1_16 V c t
    | ⟨17, _⟩ => out1_17 V c t
    | ⟨_ + 18, h⟩ => absurd h (Nat.not_lt.2 (Nat.le_add_left _ _))
  Φ t := Phi1 V c t.val
  q _ := fullShare
  owed _ := 0

theorem A1_eq (c : Dev nD) (w : Fin cfg1.W) : (dats1 V c).A w = V c (Pipeline.arrRef spec1 w) := by
  dsimp only [dats1]

theorem after1_0 (c : Dev nD) (t : Fin cfg1.N) : (dats1 V c).after 0 t = blk1 V c 0 t := by dsimp only [dats1]
theorem after1_1 (c : Dev nD) (t : Fin cfg1.N) : (dats1 V c).after 1 t = blk1 V c 1 t := by dsimp only [dats1]
theorem after1_2 (c : Dev nD) (t : Fin cfg1.N) : (dats1 V c).after 2 t = blk1 V c 2 t := by dsimp only [dats1]
theorem after1_3 (c : Dev nD) (t : Fin cfg1.N) : (dats1 V c).after 3 t = blk1 V c 3 t := by dsimp only [dats1]
theorem after1_4 (c : Dev nD) (t : Fin cfg1.N) : (dats1 V c).after 4 t = blk1 V c 4 t := by dsimp only [dats1]
theorem after1_5 (c : Dev nD) (t : Fin cfg1.N) : (dats1 V c).after 5 t = blk1 V c 5 t := by dsimp only [dats1]
theorem after1_6 (c : Dev nD) (t : Fin cfg1.N) : (dats1 V c).after 6 t = blk1 V c 6 t := by dsimp only [dats1]
theorem after1_7 (c : Dev nD) (t : Fin cfg1.N) : (dats1 V c).after 7 t = blk1 V c 7 t := by dsimp only [dats1]
theorem after1_8 (c : Dev nD) (t : Fin cfg1.N) : (dats1 V c).after 8 t = blk1 V c 8 t := by dsimp only [dats1]
theorem after1_9 (c : Dev nD) (t : Fin cfg1.N) : (dats1 V c).after 9 t = blk1 V c 9 t := by dsimp only [dats1]
theorem after1_10 (c : Dev nD) (t : Fin cfg1.N) : (dats1 V c).after 10 t = blk1 V c 10 t := by dsimp only [dats1]
theorem after1_11 (c : Dev nD) (t : Fin cfg1.N) : (dats1 V c).after 11 t = blk1 V c 11 t := by dsimp only [dats1]
theorem after1_12 (c : Dev nD) (t : Fin cfg1.N) : (dats1 V c).after 12 t = blk1 V c 12 t := by dsimp only [dats1]
theorem after1_13 (c : Dev nD) (t : Fin cfg1.N) : (dats1 V c).after 13 t = blk1 V c 13 t := by dsimp only [dats1]
theorem after1_14 (c : Dev nD) (t : Fin cfg1.N) : (dats1 V c).after 14 t = blk1 V c 14 t := by dsimp only [dats1]
theorem after1_15 (c : Dev nD) (t : Fin cfg1.N) : (dats1 V c).after 15 t = blk1 V c 15 t := by dsimp only [dats1]
theorem after1_16 (c : Dev nD) (t : Fin cfg1.N) : (dats1 V c).after 16 t = out1_16 V c t := by dsimp only [dats1]
theorem after1_17 (c : Dev nD) (t : Fin cfg1.N) : (dats1 V c).after 17 t = out1_17 V c t := by dsimp only [dats1]

/-- What a fetch at a point stages of an input is its block there. -/
theorem fetched1_0 (c : Dev nD) (t : Fin cfg1.N) (d) : (dats1 V c).fetched 0 t d = blk1 V c 0 t := by
  unfold Dat.fetched Dat.blockOf blk1; rw [A1_eq]; try rfl
theorem fetched1_1 (c : Dev nD) (t : Fin cfg1.N) (d) : (dats1 V c).fetched 1 t d = blk1 V c 1 t := by
  unfold Dat.fetched Dat.blockOf blk1; rw [A1_eq]; try rfl
theorem fetched1_2 (c : Dev nD) (t : Fin cfg1.N) (d) : (dats1 V c).fetched 2 t d = blk1 V c 2 t := by
  unfold Dat.fetched Dat.blockOf blk1; rw [A1_eq]; try rfl
theorem fetched1_3 (c : Dev nD) (t : Fin cfg1.N) (d) : (dats1 V c).fetched 3 t d = blk1 V c 3 t := by
  unfold Dat.fetched Dat.blockOf blk1; rw [A1_eq]; try rfl
theorem fetched1_4 (c : Dev nD) (t : Fin cfg1.N) (d) : (dats1 V c).fetched 4 t d = blk1 V c 4 t := by
  unfold Dat.fetched Dat.blockOf blk1; rw [A1_eq]; try rfl
theorem fetched1_5 (c : Dev nD) (t : Fin cfg1.N) (d) : (dats1 V c).fetched 5 t d = blk1 V c 5 t := by
  unfold Dat.fetched Dat.blockOf blk1; rw [A1_eq]; try rfl
theorem fetched1_6 (c : Dev nD) (t : Fin cfg1.N) (d) : (dats1 V c).fetched 6 t d = blk1 V c 6 t := by
  unfold Dat.fetched Dat.blockOf blk1; rw [A1_eq]; try rfl
theorem fetched1_7 (c : Dev nD) (t : Fin cfg1.N) (d) : (dats1 V c).fetched 7 t d = blk1 V c 7 t := by
  unfold Dat.fetched Dat.blockOf blk1; rw [A1_eq]; try rfl
theorem fetched1_8 (c : Dev nD) (t : Fin cfg1.N) (d) : (dats1 V c).fetched 8 t d = blk1 V c 8 t := by
  unfold Dat.fetched Dat.blockOf blk1; rw [A1_eq]; try rfl
theorem fetched1_9 (c : Dev nD) (t : Fin cfg1.N) (d) : (dats1 V c).fetched 9 t d = blk1 V c 9 t := by
  unfold Dat.fetched Dat.blockOf blk1; rw [A1_eq]; try rfl
theorem fetched1_10 (c : Dev nD) (t : Fin cfg1.N) (d) : (dats1 V c).fetched 10 t d = blk1 V c 10 t := by
  unfold Dat.fetched Dat.blockOf blk1; rw [A1_eq]; try rfl
theorem fetched1_11 (c : Dev nD) (t : Fin cfg1.N) (d) : (dats1 V c).fetched 11 t d = blk1 V c 11 t := by
  unfold Dat.fetched Dat.blockOf blk1; rw [A1_eq]; try rfl
theorem fetched1_12 (c : Dev nD) (t : Fin cfg1.N) (d) : (dats1 V c).fetched 12 t d = blk1 V c 12 t := by
  unfold Dat.fetched Dat.blockOf blk1; rw [A1_eq]; try rfl
theorem fetched1_13 (c : Dev nD) (t : Fin cfg1.N) (d) : (dats1 V c).fetched 13 t d = blk1 V c 13 t := by
  unfold Dat.fetched Dat.blockOf blk1; rw [A1_eq]; try rfl
theorem fetched1_14 (c : Dev nD) (t : Fin cfg1.N) (d) : (dats1 V c).fetched 14 t d = blk1 V c 14 t := by
  unfold Dat.fetched Dat.blockOf blk1; rw [A1_eq]; try rfl
theorem fetched1_15 (c : Dev nD) (t : Fin cfg1.N) (d) : (dats1 V c).fetched 15 t d = blk1 V c 15 t := by
  unfold Dat.fetched Dat.blockOf blk1; rw [A1_eq]; try rfl

/-- An input's staging buffer holds its block at every point, fetched there or not. -/
theorem before1_0 (c : Dev nD) (t : Fin cfg1.N) (d) : (dats1 V c).before 0 t d = blk1 V c 0 t :=
  ((dats1 V c).before_in_eq_fetched 0 rfl (fun _ => rfl) (fun _ _ _ => rfl) (fun t => by rw [after1_0]; unfold Dat.blockOf blk1; rw [A1_eq]; try rfl) t d).trans
    (fetched1_0 V c t d)
theorem before1_1 (c : Dev nD) (t : Fin cfg1.N) (d) : (dats1 V c).before 1 t d = blk1 V c 1 t :=
  ((dats1 V c).before_in_eq_fetched 1 rfl (fun _ => rfl) (fun _ _ _ => rfl) (fun t => by rw [after1_1]; unfold Dat.blockOf blk1; rw [A1_eq]; try rfl) t d).trans
    (fetched1_1 V c t d)
theorem before1_2 (c : Dev nD) (t : Fin cfg1.N) (d) : (dats1 V c).before 2 t d = blk1 V c 2 t :=
  ((dats1 V c).before_in_eq_fetched 2 rfl (fun _ => rfl) (fun _ _ _ => rfl) (fun t => by rw [after1_2]; unfold Dat.blockOf blk1; rw [A1_eq]; try rfl) t d).trans
    (fetched1_2 V c t d)
theorem before1_3 (c : Dev nD) (t : Fin cfg1.N) (d) : (dats1 V c).before 3 t d = blk1 V c 3 t :=
  ((dats1 V c).before_in_eq_fetched 3 rfl (fun _ => rfl) (fun _ _ _ => rfl) (fun t => by rw [after1_3]; unfold Dat.blockOf blk1; rw [A1_eq]; try rfl) t d).trans
    (fetched1_3 V c t d)
theorem before1_4 (c : Dev nD) (t : Fin cfg1.N) (d) : (dats1 V c).before 4 t d = blk1 V c 4 t :=
  ((dats1 V c).before_in_eq_fetched 4 rfl (fun _ => rfl) (fun _ _ _ => rfl) (fun t => by rw [after1_4]; unfold Dat.blockOf blk1; rw [A1_eq]; try rfl) t d).trans
    (fetched1_4 V c t d)
theorem before1_5 (c : Dev nD) (t : Fin cfg1.N) (d) : (dats1 V c).before 5 t d = blk1 V c 5 t :=
  ((dats1 V c).before_in_eq_fetched 5 rfl (fun _ => rfl) (fun _ _ _ => rfl) (fun t => by rw [after1_5]; unfold Dat.blockOf blk1; rw [A1_eq]; try rfl) t d).trans
    (fetched1_5 V c t d)
theorem before1_6 (c : Dev nD) (t : Fin cfg1.N) (d) : (dats1 V c).before 6 t d = blk1 V c 6 t :=
  ((dats1 V c).before_in_eq_fetched 6 rfl (fun _ => rfl) (fun _ _ _ => rfl) (fun t => by rw [after1_6]; unfold Dat.blockOf blk1; rw [A1_eq]; try rfl) t d).trans
    (fetched1_6 V c t d)
theorem before1_7 (c : Dev nD) (t : Fin cfg1.N) (d) : (dats1 V c).before 7 t d = blk1 V c 7 t :=
  ((dats1 V c).before_in_eq_fetched 7 rfl (fun _ => rfl) (fun _ _ _ => rfl) (fun t => by rw [after1_7]; unfold Dat.blockOf blk1; rw [A1_eq]; try rfl) t d).trans
    (fetched1_7 V c t d)
theorem before1_8 (c : Dev nD) (t : Fin cfg1.N) (d) : (dats1 V c).before 8 t d = blk1 V c 8 t :=
  ((dats1 V c).before_in_eq_fetched 8 rfl (fun _ => rfl) (fun _ _ _ => rfl) (fun t => by rw [after1_8]; unfold Dat.blockOf blk1; rw [A1_eq]; try rfl) t d).trans
    (fetched1_8 V c t d)
theorem before1_9 (c : Dev nD) (t : Fin cfg1.N) (d) : (dats1 V c).before 9 t d = blk1 V c 9 t :=
  ((dats1 V c).before_in_eq_fetched 9 rfl (fun _ => rfl) (fun _ _ _ => rfl) (fun t => by rw [after1_9]; unfold Dat.blockOf blk1; rw [A1_eq]; try rfl) t d).trans
    (fetched1_9 V c t d)
theorem before1_10 (c : Dev nD) (t : Fin cfg1.N) (d) : (dats1 V c).before 10 t d = blk1 V c 10 t :=
  ((dats1 V c).before_in_eq_fetched 10 rfl (fun _ => rfl) (fun _ _ _ => rfl) (fun t => by rw [after1_10]; unfold Dat.blockOf blk1; rw [A1_eq]; try rfl) t d).trans
    (fetched1_10 V c t d)
theorem before1_11 (c : Dev nD) (t : Fin cfg1.N) (d) : (dats1 V c).before 11 t d = blk1 V c 11 t :=
  ((dats1 V c).before_in_eq_fetched 11 rfl (fun _ => rfl) (fun _ _ _ => rfl) (fun t => by rw [after1_11]; unfold Dat.blockOf blk1; rw [A1_eq]; try rfl) t d).trans
    (fetched1_11 V c t d)
theorem before1_12 (c : Dev nD) (t : Fin cfg1.N) (d) : (dats1 V c).before 12 t d = blk1 V c 12 t :=
  ((dats1 V c).before_in_eq_fetched 12 rfl (fun _ => rfl) (fun _ _ _ => rfl) (fun t => by rw [after1_12]; unfold Dat.blockOf blk1; rw [A1_eq]; try rfl) t d).trans
    (fetched1_12 V c t d)
theorem before1_13 (c : Dev nD) (t : Fin cfg1.N) (d) : (dats1 V c).before 13 t d = blk1 V c 13 t :=
  ((dats1 V c).before_in_eq_fetched 13 rfl (fun _ => rfl) (fun _ _ _ => rfl) (fun t => by rw [after1_13]; unfold Dat.blockOf blk1; rw [A1_eq]; try rfl) t d).trans
    (fetched1_13 V c t d)
theorem before1_14 (c : Dev nD) (t : Fin cfg1.N) (d) : (dats1 V c).before 14 t d = blk1 V c 14 t :=
  ((dats1 V c).before_in_eq_fetched 14 rfl (fun _ => rfl) (fun _ _ _ => rfl) (fun t => by rw [after1_14]; unfold Dat.blockOf blk1; rw [A1_eq]; try rfl) t d).trans
    (fetched1_14 V c t d)
theorem before1_15 (c : Dev nD) (t : Fin cfg1.N) (d) : (dats1 V c).before 15 t d = blk1 V c 15 t :=
  ((dats1 V c).before_in_eq_fetched 15 rfl (fun _ => rfl) (fun _ _ _ => rfl) (fun t => by rw [after1_15]; unfold Dat.blockOf blk1; rw [A1_eq]; try rfl) t d).trans
    (fetched1_15 V c t d)

/-- The inputs the table is made of are not fetched inside a batch row, so it does not change there. -/
theorem tab1_succ (c : Dev nD) (n : ℕ) (h : n + 1 < cfg1.N) (hn : ¬(n + 1) % 8 = 0) :
    tab1 V c ⟨n, Nat.lt_of_succ_lt h⟩ = tab1 V c ⟨n + 1, h⟩ := by
  have e3 : blk1 V c 3 ⟨n, Nat.lt_of_succ_lt h⟩ = blk1 V c 3 ⟨n + 1, h⟩ :=
    ((fetched1_3 V c _ (blk1 V c 3 ⟨n, Nat.lt_of_succ_lt h⟩)).symm.trans (Dat.fetched_congr _ 3
      ((cfg1.win 3).index_eq_of_fetch rfl ⟨n + 1, h⟩ (by rw [← Bool.not_eq_true, fetch1_3]; show ¬(n + 1) % _ = 0; omega)).2.symm rfl _)).trans
      (fetched1_3 V c _ _)
  have e4 : blk1 V c 4 ⟨n, Nat.lt_of_succ_lt h⟩ = blk1 V c 4 ⟨n + 1, h⟩ :=
    ((fetched1_4 V c _ (blk1 V c 4 ⟨n, Nat.lt_of_succ_lt h⟩)).symm.trans (Dat.fetched_congr _ 4
      ((cfg1.win 4).index_eq_of_fetch rfl ⟨n + 1, h⟩ (by rw [← Bool.not_eq_true, fetch1_4]; show ¬(n + 1) % _ = 0; omega)).2.symm rfl _)).trans
      (fetched1_4 V c _ _)
  have e9 : blk1 V c 9 ⟨n, Nat.lt_of_succ_lt h⟩ = blk1 V c 9 ⟨n + 1, h⟩ :=
    ((fetched1_9 V c _ (blk1 V c 9 ⟨n, Nat.lt_of_succ_lt h⟩)).symm.trans (Dat.fetched_congr _ 9
      ((cfg1.win 9).index_eq_of_fetch rfl ⟨n + 1, h⟩ (by rw [← Bool.not_eq_true, fetch1_9]; show ¬(n + 1) % _ = 0; omega)).2.symm rfl _)).trans
      (fetched1_9 V c _ _)
  have e10 : blk1 V c 10 ⟨n, Nat.lt_of_succ_lt h⟩ = blk1 V c 10 ⟨n + 1, h⟩ :=
    ((fetched1_10 V c _ (blk1 V c 10 ⟨n, Nat.lt_of_succ_lt h⟩)).symm.trans (Dat.fetched_congr _ 10
      ((cfg1.win 10).index_eq_of_fetch rfl ⟨n + 1, h⟩ (by rw [← Bool.not_eq_true, fetch1_10]; show ¬(n + 1) % _ = 0; omega)).2.symm rfl _)).trans
      (fetched1_10 V c _ _)
  unfold tab1
  exact congr (congr (congr (congrArg (fun a b d e => table1 a b d e) e3) e4) e9) e10

/-! ## The body obligation -/

/-- The body's branch is taken at the first point of each batch row. -/
theorem cond1_at (t : Fin cfg1.N) : cond1 (grid1.coords t) ↔ t.val % 8 = 0 := cond1_iff t

/-- What the body is called with at point `t`, window by window, -/
def pre1 (c : Dev nD) (t : Fin cfg1.N) : sProp 𝕄 :=
  iprop(Phi1 V c t.val ∗ (dats1 V c).owesAt () t.castSucc
    ∗ (∃ d, owns (c : Thread nD τ) (win1_0.stage (cfg1.slots t 0)) fullShare ((dats1 V c).before 0 t d))
    ∗ (∃ d, owns (c : Thread nD τ) (win1_1.stage (cfg1.slots t 1)) fullShare ((dats1 V c).before 1 t d))
    ∗ (∃ d, owns (c : Thread nD τ) (win1_2.stage (cfg1.slots t 2)) fullShare ((dats1 V c).before 2 t d))
    ∗ (∃ d, owns (c : Thread nD τ) (win1_3.stage (cfg1.slots t 3)) fullShare ((dats1 V c).before 3 t d))
    ∗ (∃ d, owns (c : Thread nD τ) (win1_4.stage (cfg1.slots t 4)) fullShare ((dats1 V c).before 4 t d))
    ∗ (∃ d, owns (c : Thread nD τ) (win1_5.stage (cfg1.slots t 5)) fullShare ((dats1 V c).before 5 t d))
    ∗ (∃ d, owns (c : Thread nD τ) (win1_6.stage (cfg1.slots t 6)) fullShare ((dats1 V c).before 6 t d))
    ∗ (∃ d, owns (c : Thread nD τ) (win1_7.stage (cfg1.slots t 7)) fullShare ((dats1 V c).before 7 t d))
    ∗ (∃ d, owns (c : Thread nD τ) (win1_8.stage (cfg1.slots t 8)) fullShare ((dats1 V c).before 8 t d))
    ∗ (∃ d, owns (c : Thread nD τ) (win1_9.stage (cfg1.slots t 9)) fullShare ((dats1 V c).before 9 t d))
    ∗ (∃ d, owns (c : Thread nD τ) (win1_10.stage (cfg1.slots t 10)) fullShare ((dats1 V c).before 10 t d))
    ∗ (∃ d, owns (c : Thread nD τ) (win1_11.stage (cfg1.slots t 11)) fullShare ((dats1 V c).before 11 t d))
    ∗ (∃ d, owns (c : Thread nD τ) (win1_12.stage (cfg1.slots t 12)) fullShare ((dats1 V c).before 12 t d))
    ∗ (∃ d, owns (c : Thread nD τ) (win1_13.stage (cfg1.slots t 13)) fullShare ((dats1 V c).before 13 t d))
    ∗ (∃ d, owns (c : Thread nD τ) (win1_14.stage (cfg1.slots t 14)) fullShare ((dats1 V c).before 14 t d))
    ∗ (∃ d, owns (c : Thread nD τ) (win1_15.stage (cfg1.slots t 15)) fullShare ((dats1 V c).before 15 t d))
    ∗ (∃ d, owns (c : Thread nD τ) (win1_16.stage (cfg1.slots t 16)) fullShare ((dats1 V c).before 16 t d))
    ∗ (∃ d, owns (c : Thread nD τ) (win1_17.stage (cfg1.slots t 17)) fullShare ((dats1 V c).before 17 t d)))

/-- and what it returns. -/
def post1 (c : Dev nD) (t : Fin cfg1.N) : sProp 𝕄 :=
  iprop(Phi1 V c (t.val + 1) ∗ (dats1 V c).owesAt () t.succ
    ∗ owns (c : Thread nD τ) (win1_0.stage (cfg1.slots t 0)) fullShare ((dats1 V c).after 0 t)
    ∗ owns (c : Thread nD τ) (win1_1.stage (cfg1.slots t 1)) fullShare ((dats1 V c).after 1 t)
    ∗ owns (c : Thread nD τ) (win1_2.stage (cfg1.slots t 2)) fullShare ((dats1 V c).after 2 t)
    ∗ owns (c : Thread nD τ) (win1_3.stage (cfg1.slots t 3)) fullShare ((dats1 V c).after 3 t)
    ∗ owns (c : Thread nD τ) (win1_4.stage (cfg1.slots t 4)) fullShare ((dats1 V c).after 4 t)
    ∗ owns (c : Thread nD τ) (win1_5.stage (cfg1.slots t 5)) fullShare ((dats1 V c).after 5 t)
    ∗ owns (c : Thread nD τ) (win1_6.stage (cfg1.slots t 6)) fullShare ((dats1 V c).after 6 t)
    ∗ owns (c : Thread nD τ) (win1_7.stage (cfg1.slots t 7)) fullShare ((dats1 V c).after 7 t)
    ∗ owns (c : Thread nD τ) (win1_8.stage (cfg1.slots t 8)) fullShare ((dats1 V c).after 8 t)
    ∗ owns (c : Thread nD τ) (win1_9.stage (cfg1.slots t 9)) fullShare ((dats1 V c).after 9 t)
    ∗ owns (c : Thread nD τ) (win1_10.stage (cfg1.slots t 10)) fullShare ((dats1 V c).after 10 t)
    ∗ owns (c : Thread nD τ) (win1_11.stage (cfg1.slots t 11)) fullShare ((dats1 V c).after 11 t)
    ∗ owns (c : Thread nD τ) (win1_12.stage (cfg1.slots t 12)) fullShare ((dats1 V c).after 12 t)
    ∗ owns (c : Thread nD τ) (win1_13.stage (cfg1.slots t 13)) fullShare ((dats1 V c).after 13 t)
    ∗ owns (c : Thread nD τ) (win1_14.stage (cfg1.slots t 14)) fullShare ((dats1 V c).after 14 t)
    ∗ owns (c : Thread nD τ) (win1_15.stage (cfg1.slots t 15)) fullShare ((dats1 V c).after 15 t)
    ∗ owns (c : Thread nD τ) (win1_16.stage (cfg1.slots t 16)) fullShare ((dats1 V c).after 16 t)
    ∗ owns (c : Thread nD τ) (win1_17.stage (cfg1.slots t 17)) fullShare ((dats1 V c).after 17 t))

set_option maxHeartbeats 4000000 in
/-- The body at any point, from what the pipeline hands it to what it takes back. -/
theorem sound1 (c : Dev nD) (t : Fin cfg1.N) :
    pre1 V c t ⊢ wp frame (wpE (defs₀ (F := F)) Variants.none c none) Set.univ (bodyAt1 t) (fun _ => post1 V c t) := by
  unfold pre1 post1 bodyAt1 Phi1

  simp only [before1_0, before1_1, before1_2, before1_3, before1_4, before1_5, before1_6, before1_7, before1_8, before1_9, before1_10, before1_11, before1_12, before1_13, before1_14, before1_15]
  rw [show (dats1 V c).owesAt () t.succ = (dats1 V c).owesAt () t.castSucc from rfl,
    after1_0, after1_1, after1_2, after1_3, after1_4, after1_5, after1_6, after1_7, after1_8, after1_9, after1_10, after1_11, after1_12, after1_13, after1_14, after1_15, after1_16, after1_17]
  iintro ⟨⟨HS0, ⟨%dc, %hdc, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((run1 c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13)) (win1_14.stage (cfg1.slots t 14)) (hstage1_14 ((cfg1.slots t 14).cast nbuf1_14)) (win1_15.stage (cfg1.slots t 15)) (hstage1_15 ((cfg1.slots t 15).cast nbuf1_15)) (win1_16.stage (cfg1.slots t 16)) (hstage1_16 ((cfg1.slots t 16).cast nbuf1_16)) (win1_17.stage (cfg1.slots t 17)) (hstage1_17 ((cfg1.slots t 17).cast nbuf1_17)) sz1 (Memref.isWhole_whole _) sc1 (Memref.isWhole_whole _)
    (blk1 V c 0 t) (blk1 V c 1 t) (blk1 V c 2 t) (blk1 V c 3 t) (blk1 V c 4 t) (blk1 V c 5 t) (blk1 V c 6 t) (blk1 V c 7 t) (blk1 V c 8 t) (blk1 V c 9 t) (blk1 V c 10 t) (blk1 V c 11 t) (blk1 V c 12 t) (blk1 V c 13 t) (blk1 V c 14 t) (blk1 V c 15 t) (tab1 V c t)).2.2.2 dc (fun _ => rfl) (fun hc => hdc t.isLt fun h0 => hc ((cond1_at t).mpr h0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [HS0]; · iexact HS0
  isplitl [HS1]; · iexact HS1
  iintro ⟨H0, H1, H2, H3, H4, H5, H6, H7, H8, H9, H10, H11, H12, H13, H14, H15, ⟨%e16, H16⟩, ⟨%e17, H17⟩, ⟨%ez, HS0⟩, HS1⟩
  isplitl [HS0 HS1 Hr]
  · isplitl [HS0]
    · iexists _; unfold owns; iexists _; isplitr
      swap; · iexact HS0
      ipureintro; rfl
    isplitl [HS1]
    · iexists _; isplitr
      swap; · iexact HS1
      ipureintro; exact fun h hn => tab1_succ V c t.val h hn
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_of_cover _ _ _ _ _ (cover1_16 V c t)
  unfold owns; iexists _; isplitr
  swap; · iexact H17
  ipureintro; exact View.read_writes_of_cover _ _ _ _ _ (cover1_17 V c t)

theorem row1 (t : Fin cfg1.N) :
    defs₀ (F := F) .tc cfg1.body (cfg1.bodyArgs t (cfg1.slots t)) = bodyAt1 t := by
  unfold defs₀; rw [Defs.onTc_tc]

/-- The pipeline's body obligation. -/
theorem body_obligation1 (c : Dev nD) : BodyObligation (dats1 V c) (defs₀ (F := F)) Variants.none () Set.univ := fun t => by
  rw [bigSep_W1, bigSep_W1, row1]
  exact triple_restated (sound1 V c t) rfl .rfl fun _ => .rfl

/-- The scratch at anything is the invariant before the first point, -/
theorem hin1 (c : Dev nD) : Pipeline.scopedRest spec1 c ⊢ (dats1 V c).Φ 0 := by
  rw [scopedRest1_split, show (dats1 V c).Φ 0 = Phi1 V c 0 from rfl]; unfold Phi1
  simp only [owns_whole]
  iintro ⟨⟨HS0, ⟨%d, HS1⟩⟩, Hr⟩
  isplitl [HS0]; · iexact HS0
  isplitl [HS1]
  · iexists d; isplitr; · ipureintro; exact fun _ h => absurd trivial h
    iexact HS1
  iexact Hr

/-- and the invariant after the last gives it back. -/
theorem hout1 (c : Dev nD) : (dats1 V c).Φ (Fin.last cfg1.N) ⊢ Pipeline.scopedRest spec1 c := by
  rw [scopedRest1_split, show (dats1 V c).Φ (Fin.last cfg1.N) = Phi1 V c cfg1.N from rfl]; unfold Phi1
  simp only [owns_whole]
  iintro ⟨HS0, ⟨%d, -, HS1⟩, Hr⟩
  isplitl [HS0 HS1]
  · isplitl [HS0]; · iexact HS0
    iexists d; iexact HS1
  iexact Hr

end Cert.Kernel.Layer

end
-- ==== Proof.Kernel.Frame2.lean ====
module

public import proofs.«01_k».proof.Proof.Kernel.Run1
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.ValueIdx
public import Idealize.ShloMosaic.Lib.Pipeline.ValueKit

@[expose] public section

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : Dev nD → Valuation τ sig (Elt F))

/-! ## What the windows read -/

/-- Window `w`'s block of its array at grid point `t`, the arrays holding `V` when the region is entered. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The two scratch buffers: the gate's values, and the carried table. -/
abbrev sz2 : Memref sig .tc .vmem S256x1536 .bf16 := Memref.whole cc2_scratch0
abbrev sc2 : Memref sig .tc .vmem S16x3072 .f32 := Memref.whole cc2_scratch1

/-- The table of the conditioning projection at point `t`'s blocks. -/
def tab2 (c : Dev nD) (t : Fin cfg2.N) : Vec F S16x3072 .f32 :=
  table1 (blk2 V c 3 t) (blk2 V c 4 t) (blk2 V c 9 t) (blk2 V c 10 t)

/-- The pieces the body's stores at point `t` write into window 16's staging buffer. -/
abbrev pcs2_16 (c : Dev nD) (t : Fin cfg2.N) : List (View.Piece (Elt F) S1x256x512 .f32) :=
  (run1 (F := F) c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (win2_8.stage (cfg2.slots t 8)) (hstage2_8 ((cfg2.slots t 8).cast nbuf2_8)) (win2_9.stage (cfg2.slots t 9)) (hstage2_9 ((cfg2.slots t 9).cast nbuf2_9)) (win2_10.stage (cfg2.slots t 10)) (hstage2_10 ((cfg2.slots t 10).cast nbuf2_10)) (win2_11.stage (cfg2.slots t 11)) (hstage2_11 ((cfg2.slots t 11).cast nbuf2_11)) (win2_12.stage (cfg2.slots t 12)) (hstage2_12 ((cfg2.slots t 12).cast nbuf2_12)) (win2_13.stage (cfg2.slots t 13)) (hstage2_13 ((cfg2.slots t 13).cast nbuf2_13)) (win2_14.stage (cfg2.slots t 14)) (hstage2_14 ((cfg2.slots t 14).cast nbuf2_14)) (win2_15.stage (cfg2.slots t 15)) (hstage2_15 ((cfg2.slots t 15).cast nbuf2_15)) (win2_16.stage (cfg2.slots t 16)) (hstage2_16 ((cfg2.slots t 16).cast nbuf2_16)) (win2_17.stage (cfg2.slots t 17)) (hstage2_17 ((cfg2.slots t 17).cast nbuf2_17)) sz2 (Memref.isWhole_whole _) sc2 (Memref.isWhole_whole _)
    (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t) (blk2 V c 11 t) (blk2 V c 12 t) (blk2 V c 13 t) (blk2 V c 14 t) (blk2 V c 15 t) (tab2 V c t)).1

/-- What the body at point `t` leaves in window 16's staging buffer. -/
def out2_16 (c : Dev nD) (t : Fin cfg2.N) : Vec F S1x256x512 .f32 :=
  (Memref.whole cc2_stg16_0 : Memref sig .tc .vmem S1x256x512 .f32).view.read (Elt F) ((Memref.whole cc2_stg16_0 : Memref sig .tc .vmem S1x256x512 .f32).view.writes (Elt F) (Memref.whole cc2_stg16_0 : Memref sig .tc .vmem S1x256x512 .f32).view.junk (pcs2_16 V c t))

/-- The body's stores tile that buffer. -/
theorem cover2_16 (c : Dev nD) (t : Fin cfg2.N) (y : S1x256x512.Idx) :
    ∃ pc ∈ pcs2_16 V c t, y ∈ pc.1.set :=
  View.cover_of_tiledL (pcs2_16 V c t) S1x256x256.size (by sl_kernel_rfl) y

/-- The pieces the body's stores at point `t` write into window 17's staging buffer. -/
abbrev pcs2_17 (c : Dev nD) (t : Fin cfg2.N) : List (View.Piece (Elt F) S1x256x768 .i8) :=
  (run1 (F := F) c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (win2_8.stage (cfg2.slots t 8)) (hstage2_8 ((cfg2.slots t 8).cast nbuf2_8)) (win2_9.stage (cfg2.slots t 9)) (hstage2_9 ((cfg2.slots t 9).cast nbuf2_9)) (win2_10.stage (cfg2.slots t 10)) (hstage2_10 ((cfg2.slots t 10).cast nbuf2_10)) (win2_11.stage (cfg2.slots t 11)) (hstage2_11 ((cfg2.slots t 11).cast nbuf2_11)) (win2_12.stage (cfg2.slots t 12)) (hstage2_12 ((cfg2.slots t 12).cast nbuf2_12)) (win2_13.stage (cfg2.slots t 13)) (hstage2_13 ((cfg2.slots t 13).cast nbuf2_13)) (win2_14.stage (cfg2.slots t 14)) (hstage2_14 ((cfg2.slots t 14).cast nbuf2_14)) (win2_15.stage (cfg2.slots t 15)) (hstage2_15 ((cfg2.slots t 15).cast nbuf2_15)) (win2_16.stage (cfg2.slots t 16)) (hstage2_16 ((cfg2.slots t 16).cast nbuf2_16)) (win2_17.stage (cfg2.slots t 17)) (hstage2_17 ((cfg2.slots t 17).cast nbuf2_17)) sz2 (Memref.isWhole_whole _) sc2 (Memref.isWhole_whole _)
    (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t) (blk2 V c 11 t) (blk2 V c 12 t) (blk2 V c 13 t) (blk2 V c 14 t) (blk2 V c 15 t) (tab2 V c t)).2.1

/-- What the body at point `t` leaves in window 17's staging buffer. -/
def out2_17 (c : Dev nD) (t : Fin cfg2.N) : Vec F S1x256x768 .i8 :=
  (Memref.whole cc2_stg17_0 : Memref sig .tc .vmem S1x256x768 .i8).view.read (Elt F) ((Memref.whole cc2_stg17_0 : Memref sig .tc .vmem S1x256x768 .i8).view.writes (Elt F) (Memref.whole cc2_stg17_0 : Memref sig .tc .vmem S1x256x768 .i8).view.junk (pcs2_17 V c t))

/-- The body's stores tile that buffer. -/
theorem cover2_17 (c : Dev nD) (t : Fin cfg2.N) (y : S1x256x768.Idx) :
    ∃ pc ∈ pcs2_17 V c t, y ∈ pc.1.set :=
  View.cover_of_tiledL (pcs2_17 V c t) S1x256x256.size (by sl_kernel_rfl) y

/-! ## The invariant and the pipeline's data -/

/-- Before point `n` the gate scratch holds anything; the carried scratch holds the table of point `n`'s batch row, unless
    `n` is the first point of its row, which fills it. -/
def Phi2 (c : Dev nD) (n : ℕ) : sProp 𝕄 :=
  iprop((∃ d, owns (c : Thread nD τ) sz2 fullShare d) ∗ (∃ d, ⌜∀ h : n < cfg2.N, ¬n % 8 = 0 → d = tab2 V c ⟨n, h⟩⌝ ∗ owns (c : Thread nD τ) sc2 fullShare d) ∗ Pipeline.scopedRestBut (Ix := Unit) (Name := ℕ) (U := UR sig nD τ) (Lvl := ℕ) (Val := Elt F) spec2 c [cc2_scratch0, cc2_scratch1])

/-- The proof data: the arrays as found; after a point each input's buffer at its block, each output's at what the body
    leaves; nothing owed; full shares. -/
def dats2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => blk2 V c 4 t
    | ⟨5, _⟩ => blk2 V c 5 t
    | ⟨6, _⟩ => blk2 V c 6 t
    | ⟨7, _⟩ => blk2 V c 7 t
    | ⟨8, _⟩ => blk2 V c 8 t
    | ⟨9, _⟩ => blk2 V c 9 t
    | ⟨10, _⟩ => blk2 V c 10 t
    | ⟨11, _⟩ => blk2 V c 11 t
    | ⟨12, _⟩ => blk2 V c 12 t
    | ⟨13, _⟩ => blk2 V c 13 t
    | ⟨14, _⟩ => blk2 V c 14 t
    | ⟨15, _⟩ => blk2 V c 15 t
    | ⟨16, _⟩ => out2_16 V c t
    | ⟨17, _⟩ => out2_17 V c t
    | ⟨_ + 18, h⟩ => absurd h (Nat.not_lt.2 (Nat.le_add_left _ _))
  Φ t := Phi2 V c t.val
  q _ := fullShare
  owed _ := 0

theorem A2_eq (c : Dev nD) (w : Fin cfg2.W) : (dats2 V c).A w = V c (Pipeline.arrRef spec2 w) := by
  dsimp only [dats2]

theorem after2_0 (c : Dev nD) (t : Fin cfg2.N) : (dats2 V c).after 0 t = blk2 V c 0 t := by dsimp only [dats2]
theorem after2_1 (c : Dev nD) (t : Fin cfg2.N) : (dats2 V c).after 1 t = blk2 V c 1 t := by dsimp only [dats2]
theorem after2_2 (c : Dev nD) (t : Fin cfg2.N) : (dats2 V c).after 2 t = blk2 V c 2 t := by dsimp only [dats2]
theorem after2_3 (c : Dev nD) (t : Fin cfg2.N) : (dats2 V c).after 3 t = blk2 V c 3 t := by dsimp only [dats2]
theorem after2_4 (c : Dev nD) (t : Fin cfg2.N) : (dats2 V c).after 4 t = blk2 V c 4 t := by dsimp only [dats2]
theorem after2_5 (c : Dev nD) (t : Fin cfg2.N) : (dats2 V c).after 5 t = blk2 V c 5 t := by dsimp only [dats2]
theorem after2_6 (c : Dev nD) (t : Fin cfg2.N) : (dats2 V c).after 6 t = blk2 V c 6 t := by dsimp only [dats2]
theorem after2_7 (c : Dev nD) (t : Fin cfg2.N) : (dats2 V c).after 7 t = blk2 V c 7 t := by dsimp only [dats2]
theorem after2_8 (c : Dev nD) (t : Fin cfg2.N) : (dats2 V c).after 8 t = blk2 V c 8 t := by dsimp only [dats2]
theorem after2_9 (c : Dev nD) (t : Fin cfg2.N) : (dats2 V c).after 9 t = blk2 V c 9 t := by dsimp only [dats2]
theorem after2_10 (c : Dev nD) (t : Fin cfg2.N) : (dats2 V c).after 10 t = blk2 V c 10 t := by dsimp only [dats2]
theorem after2_11 (c : Dev nD) (t : Fin cfg2.N) : (dats2 V c).after 11 t = blk2 V c 11 t := by dsimp only [dats2]
theorem after2_12 (c : Dev nD) (t : Fin cfg2.N) : (dats2 V c).after 12 t = blk2 V c 12 t := by dsimp only [dats2]
theorem after2_13 (c : Dev nD) (t : Fin cfg2.N) : (dats2 V c).after 13 t = blk2 V c 13 t := by dsimp only [dats2]
theorem after2_14 (c : Dev nD) (t : Fin cfg2.N) : (dats2 V c).after 14 t = blk2 V c 14 t := by dsimp only [dats2]
theorem after2_15 (c : Dev nD) (t : Fin cfg2.N) : (dats2 V c).after 15 t = blk2 V c 15 t := by dsimp only [dats2]
theorem after2_16 (c : Dev nD) (t : Fin cfg2.N) : (dats2 V c).after 16 t = out2_16 V c t := by dsimp only [dats2]
theorem after2_17 (c : Dev nD) (t : Fin cfg2.N) : (dats2 V c).after 17 t = out2_17 V c t := by dsimp only [dats2]

/-- What a fetch at a point stages of an input is its block there. -/
theorem fetched2_0 (c : Dev nD) (t : Fin cfg2.N) (d) : (dats2 V c).fetched 0 t d = blk2 V c 0 t := by
  unfold Dat.fetched Dat.blockOf blk2; rw [A2_eq]; try rfl
theorem fetched2_1 (c : Dev nD) (t : Fin cfg2.N) (d) : (dats2 V c).fetched 1 t d = blk2 V c 1 t := by
  unfold Dat.fetched Dat.blockOf blk2; rw [A2_eq]; try rfl
theorem fetched2_2 (c : Dev nD) (t : Fin cfg2.N) (d) : (dats2 V c).fetched 2 t d = blk2 V c 2 t := by
  unfold Dat.fetched Dat.blockOf blk2; rw [A2_eq]; try rfl
theorem fetched2_3 (c : Dev nD) (t : Fin cfg2.N) (d) : (dats2 V c).fetched 3 t d = blk2 V c 3 t := by
  unfold Dat.fetched Dat.blockOf blk2; rw [A2_eq]; try rfl
theorem fetched2_4 (c : Dev nD) (t : Fin cfg2.N) (d) : (dats2 V c).fetched 4 t d = blk2 V c 4 t := by
  unfold Dat.fetched Dat.blockOf blk2; rw [A2_eq]; try rfl
theorem fetched2_5 (c : Dev nD) (t : Fin cfg2.N) (d) : (dats2 V c).fetched 5 t d = blk2 V c 5 t := by
  unfold Dat.fetched Dat.blockOf blk2; rw [A2_eq]; try rfl
theorem fetched2_6 (c : Dev nD) (t : Fin cfg2.N) (d) : (dats2 V c).fetched 6 t d = blk2 V c 6 t := by
  unfold Dat.fetched Dat.blockOf blk2; rw [A2_eq]; try rfl
theorem fetched2_7 (c : Dev nD) (t : Fin cfg2.N) (d) : (dats2 V c).fetched 7 t d = blk2 V c 7 t := by
  unfold Dat.fetched Dat.blockOf blk2; rw [A2_eq]; try rfl
theorem fetched2_8 (c : Dev nD) (t : Fin cfg2.N) (d) : (dats2 V c).fetched 8 t d = blk2 V c 8 t := by
  unfold Dat.fetched Dat.blockOf blk2; rw [A2_eq]; try rfl
theorem fetched2_9 (c : Dev nD) (t : Fin cfg2.N) (d) : (dats2 V c).fetched 9 t d = blk2 V c 9 t := by
  unfold Dat.fetched Dat.blockOf blk2; rw [A2_eq]; try rfl
theorem fetched2_10 (c : Dev nD) (t : Fin cfg2.N) (d) : (dats2 V c).fetched 10 t d = blk2 V c 10 t := by
  unfold Dat.fetched Dat.blockOf blk2; rw [A2_eq]; try rfl
theorem fetched2_11 (c : Dev nD) (t : Fin cfg2.N) (d) : (dats2 V c).fetched 11 t d = blk2 V c 11 t := by
  unfold Dat.fetched Dat.blockOf blk2; rw [A2_eq]; try rfl
theorem fetched2_12 (c : Dev nD) (t : Fin cfg2.N) (d) : (dats2 V c).fetched 12 t d = blk2 V c 12 t := by
  unfold Dat.fetched Dat.blockOf blk2; rw [A2_eq]; try rfl
theorem fetched2_13 (c : Dev nD) (t : Fin cfg2.N) (d) : (dats2 V c).fetched 13 t d = blk2 V c 13 t := by
  unfold Dat.fetched Dat.blockOf blk2; rw [A2_eq]; try rfl
theorem fetched2_14 (c : Dev nD) (t : Fin cfg2.N) (d) : (dats2 V c).fetched 14 t d = blk2 V c 14 t := by
  unfold Dat.fetched Dat.blockOf blk2; rw [A2_eq]; try rfl
theorem fetched2_15 (c : Dev nD) (t : Fin cfg2.N) (d) : (dats2 V c).fetched 15 t d = blk2 V c 15 t := by
  unfold Dat.fetched Dat.blockOf blk2; rw [A2_eq]; try rfl

/-- An input's staging buffer holds its block at every point, fetched there or not. -/
theorem before2_0 (c : Dev nD) (t : Fin cfg2.N) (d) : (dats2 V c).before 0 t d = blk2 V c 0 t :=
  ((dats2 V c).before_in_eq_fetched 0 rfl (fun _ => rfl) (fun _ _ _ => rfl) (fun t => by rw [after2_0]; unfold Dat.blockOf blk2; rw [A2_eq]; try rfl) t d).trans
    (fetched2_0 V c t d)
theorem before2_1 (c : Dev nD) (t : Fin cfg2.N) (d) : (dats2 V c).before 1 t d = blk2 V c 1 t :=
  ((dats2 V c).before_in_eq_fetched 1 rfl (fun _ => rfl) (fun _ _ _ => rfl) (fun t => by rw [after2_1]; unfold Dat.blockOf blk2; rw [A2_eq]; try rfl) t d).trans
    (fetched2_1 V c t d)
theorem before2_2 (c : Dev nD) (t : Fin cfg2.N) (d) : (dats2 V c).before 2 t d = blk2 V c 2 t :=
  ((dats2 V c).before_in_eq_fetched 2 rfl (fun _ => rfl) (fun _ _ _ => rfl) (fun t => by rw [after2_2]; unfold Dat.blockOf blk2; rw [A2_eq]; try rfl) t d).trans
    (fetched2_2 V c t d)
theorem before2_3 (c : Dev nD) (t : Fin cfg2.N) (d) : (dats2 V c).before 3 t d = blk2 V c 3 t :=
  ((dats2 V c).before_in_eq_fetched 3 rfl (fun _ => rfl) (fun _ _ _ => rfl) (fun t => by rw [after2_3]; unfold Dat.blockOf blk2; rw [A2_eq]; try rfl) t d).trans
    (fetched2_3 V c t d)
theorem before2_4 (c : Dev nD) (t : Fin cfg2.N) (d) : (dats2 V c).before 4 t d = blk2 V c 4 t :=
  ((dats2 V c).before_in_eq_fetched 4 rfl (fun _ => rfl) (fun _ _ _ => rfl) (fun t => by rw [after2_4]; unfold Dat.blockOf blk2; rw [A2_eq]; try rfl) t d).trans
    (fetched2_4 V c t d)
theorem before2_5 (c : Dev nD) (t : Fin cfg2.N) (d) : (dats2 V c).before 5 t d = blk2 V c 5 t :=
  ((dats2 V c).before_in_eq_fetched 5 rfl (fun _ => rfl) (fun _ _ _ => rfl) (fun t => by rw [after2_5]; unfold Dat.blockOf blk2; rw [A2_eq]; try rfl) t d).trans
    (fetched2_5 V c t d)
theorem before2_6 (c : Dev nD) (t : Fin cfg2.N) (d) : (dats2 V c).before 6 t d = blk2 V c 6 t :=
  ((dats2 V c).before_in_eq_fetched 6 rfl (fun _ => rfl) (fun _ _ _ => rfl) (fun t => by rw [after2_6]; unfold Dat.blockOf blk2; rw [A2_eq]; try rfl) t d).trans
    (fetched2_6 V c t d)
theorem before2_7 (c : Dev nD) (t : Fin cfg2.N) (d) : (dats2 V c).before 7 t d = blk2 V c 7 t :=
  ((dats2 V c).before_in_eq_fetched 7 rfl (fun _ => rfl) (fun _ _ _ => rfl) (fun t => by rw [after2_7]; unfold Dat.blockOf blk2; rw [A2_eq]; try rfl) t d).trans
    (fetched2_7 V c t d)
theorem before2_8 (c : Dev nD) (t : Fin cfg2.N) (d) : (dats2 V c).before 8 t d = blk2 V c 8 t :=
  ((dats2 V c).before_in_eq_fetched 8 rfl (fun _ => rfl) (fun _ _ _ => rfl) (fun t => by rw [after2_8]; unfold Dat.blockOf blk2; rw [A2_eq]; try rfl) t d).trans
    (fetched2_8 V c t d)
theorem before2_9 (c : Dev nD) (t : Fin cfg2.N) (d) : (dats2 V c).before 9 t d = blk2 V c 9 t :=
  ((dats2 V c).before_in_eq_fetched 9 rfl (fun _ => rfl) (fun _ _ _ => rfl) (fun t => by rw [after2_9]; unfold Dat.blockOf blk2; rw [A2_eq]; try rfl) t d).trans
    (fetched2_9 V c t d)
theorem before2_10 (c : Dev nD) (t : Fin cfg2.N) (d) : (dats2 V c).before 10 t d = blk2 V c 10 t :=
  ((dats2 V c).before_in_eq_fetched 10 rfl (fun _ => rfl) (fun _ _ _ => rfl) (fun t => by rw [after2_10]; unfold Dat.blockOf blk2; rw [A2_eq]; try rfl) t d).trans
    (fetched2_10 V c t d)
theorem before2_11 (c : Dev nD) (t : Fin cfg2.N) (d) : (dats2 V c).before 11 t d = blk2 V c 11 t :=
  ((dats2 V c).before_in_eq_fetched 11 rfl (fun _ => rfl) (fun _ _ _ => rfl) (fun t => by rw [after2_11]; unfold Dat.blockOf blk2; rw [A2_eq]; try rfl) t d).trans
    (fetched2_11 V c t d)
theorem before2_12 (c : Dev nD) (t : Fin cfg2.N) (d) : (dats2 V c).before 12 t d = blk2 V c 12 t :=
  ((dats2 V c).before_in_eq_fetched 12 rfl (fun _ => rfl) (fun _ _ _ => rfl) (fun t => by rw [after2_12]; unfold Dat.blockOf blk2; rw [A2_eq]; try rfl) t d).trans
    (fetched2_12 V c t d)
theorem before2_13 (c : Dev nD) (t : Fin cfg2.N) (d) : (dats2 V c).before 13 t d = blk2 V c 13 t :=
  ((dats2 V c).before_in_eq_fetched 13 rfl (fun _ => rfl) (fun _ _ _ => rfl) (fun t => by rw [after2_13]; unfold Dat.blockOf blk2; rw [A2_eq]; try rfl) t d).trans
    (fetched2_13 V c t d)
theorem before2_14 (c : Dev nD) (t : Fin cfg2.N) (d) : (dats2 V c).before 14 t d = blk2 V c 14 t :=
  ((dats2 V c).before_in_eq_fetched 14 rfl (fun _ => rfl) (fun _ _ _ => rfl) (fun t => by rw [after2_14]; unfold Dat.blockOf blk2; rw [A2_eq]; try rfl) t d).trans
    (fetched2_14 V c t d)
theorem before2_15 (c : Dev nD) (t : Fin cfg2.N) (d) : (dats2 V c).before 15 t d = blk2 V c 15 t :=
  ((dats2 V c).before_in_eq_fetched 15 rfl (fun _ => rfl) (fun _ _ _ => rfl) (fun t => by rw [after2_15]; unfold Dat.blockOf blk2; rw [A2_eq]; try rfl) t d).trans
    (fetched2_15 V c t d)

/-- The inputs the table is made of are not fetched inside a batch row, so it does not change there. -/
theorem tab2_succ (c : Dev nD) (n : ℕ) (h : n + 1 < cfg2.N) (hn : ¬(n + 1) % 8 = 0) :
    tab2 V c ⟨n, Nat.lt_of_succ_lt h⟩ = tab2 V c ⟨n + 1, h⟩ := by
  have e3 : blk2 V c 3 ⟨n, Nat.lt_of_succ_lt h⟩ = blk2 V c 3 ⟨n + 1, h⟩ :=
    ((fetched2_3 V c _ (blk2 V c 3 ⟨n, Nat.lt_of_succ_lt h⟩)).symm.trans (Dat.fetched_congr _ 3
      ((cfg2.win 3).index_eq_of_fetch rfl ⟨n + 1, h⟩ (by rw [← Bool.not_eq_true, fetch2_3]; show ¬(n + 1) % _ = 0; omega)).2.symm rfl _)).trans
      (fetched2_3 V c _ _)
  have e4 : blk2 V c 4 ⟨n, Nat.lt_of_succ_lt h⟩ = blk2 V c 4 ⟨n + 1, h⟩ :=
    ((fetched2_4 V c _ (blk2 V c 4 ⟨n, Nat.lt_of_succ_lt h⟩)).symm.trans (Dat.fetched_congr _ 4
      ((cfg2.win 4).index_eq_of_fetch rfl ⟨n + 1, h⟩ (by rw [← Bool.not_eq_true, fetch2_4]; show ¬(n + 1) % _ = 0; omega)).2.symm rfl _)).trans
      (fetched2_4 V c _ _)
  have e9 : blk2 V c 9 ⟨n, Nat.lt_of_succ_lt h⟩ = blk2 V c 9 ⟨n + 1, h⟩ :=
    ((fetched2_9 V c _ (blk2 V c 9 ⟨n, Nat.lt_of_succ_lt h⟩)).symm.trans (Dat.fetched_congr _ 9
      ((cfg2.win 9).index_eq_of_fetch rfl ⟨n + 1, h⟩ (by rw [← Bool.not_eq_true, fetch2_9]; show ¬(n + 1) % _ = 0; omega)).2.symm rfl _)).trans
      (fetched2_9 V c _ _)
  have e10 : blk2 V c 10 ⟨n, Nat.lt_of_succ_lt h⟩ = blk2 V c 10 ⟨n + 1, h⟩ :=
    ((fetched2_10 V c _ (blk2 V c 10 ⟨n, Nat.lt_of_succ_lt h⟩)).symm.trans (Dat.fetched_congr _ 10
      ((cfg2.win 10).index_eq_of_fetch rfl ⟨n + 1, h⟩ (by rw [← Bool.not_eq_true, fetch2_10]; show ¬(n + 1) % _ = 0; omega)).2.symm rfl _)).trans
      (fetched2_10 V c _ _)
  unfold tab2
  exact congr (congr (congr (congrArg (fun a b d e => table1 a b d e) e3) e4) e9) e10

/-! ## The body obligation -/

/-- This layer's body is the second layer's. -/
theorem body2_eq : cc2_wavenet_layer (F := F) = cc1_wavenet_layer := rfl

/-- The body's branch is taken at the first point of each batch row. -/
theorem cond2_at (t : Fin cfg2.N) : cond1 (grid2.coords t) ↔ t.val % 8 = 0 := cond1_iff t

/-- What the body is called with at point `t`, window by window, -/
def pre2 (c : Dev nD) (t : Fin cfg2.N) : sProp 𝕄 :=
  iprop(Phi2 V c t.val ∗ (dats2 V c).owesAt () t.castSucc
    ∗ (∃ d, owns (c : Thread nD τ) (win2_0.stage (cfg2.slots t 0)) fullShare ((dats2 V c).before 0 t d))
    ∗ (∃ d, owns (c : Thread nD τ) (win2_1.stage (cfg2.slots t 1)) fullShare ((dats2 V c).before 1 t d))
    ∗ (∃ d, owns (c : Thread nD τ) (win2_2.stage (cfg2.slots t 2)) fullShare ((dats2 V c).before 2 t d))
    ∗ (∃ d, owns (c : Thread nD τ) (win2_3.stage (cfg2.slots t 3)) fullShare ((dats2 V c).before 3 t d))
    ∗ (∃ d, owns (c : Thread nD τ) (win2_4.stage (cfg2.slots t 4)) fullShare ((dats2 V c).before 4 t d))
    ∗ (∃ d, owns (c : Thread nD τ) (win2_5.stage (cfg2.slots t 5)) fullShare ((dats2 V c).before 5 t d))
    ∗ (∃ d, owns (c : Thread nD τ) (win2_6.stage (cfg2.slots t 6)) fullShare ((dats2 V c).before 6 t d))
    ∗ (∃ d, owns (c : Thread nD τ) (win2_7.stage (cfg2.slots t 7)) fullShare ((dats2 V c).before 7 t d))
    ∗ (∃ d, owns (c : Thread nD τ) (win2_8.stage (cfg2.slots t 8)) fullShare ((dats2 V c).before 8 t d))
    ∗ (∃ d, owns (c : Thread nD τ) (win2_9.stage (cfg2.slots t 9)) fullShare ((dats2 V c).before 9 t d))
    ∗ (∃ d, owns (c : Thread nD τ) (win2_10.stage (cfg2.slots t 10)) fullShare ((dats2 V c).before 10 t d))
    ∗ (∃ d, owns (c : Thread nD τ) (win2_11.stage (cfg2.slots t 11)) fullShare ((dats2 V c).before 11 t d))
    ∗ (∃ d, owns (c : Thread nD τ) (win2_12.stage (cfg2.slots t 12)) fullShare ((dats2 V c).before 12 t d))
    ∗ (∃ d, owns (c : Thread nD τ) (win2_13.stage (cfg2.slots t 13)) fullShare ((dats2 V c).before 13 t d))
    ∗ (∃ d, owns (c : Thread nD τ) (win2_14.stage (cfg2.slots t 14)) fullShare ((dats2 V c).before 14 t d))
    ∗ (∃ d, owns (c : Thread nD τ) (win2_15.stage (cfg2.slots t 15)) fullShare ((dats2 V c).before 15 t d))
    ∗ (∃ d, owns (c : Thread nD τ) (win2_16.stage (cfg2.slots t 16)) fullShare ((dats2 V c).before 16 t d))
    ∗ (∃ d, owns (c : Thread nD τ) (win2_17.stage (cfg2.slots t 17)) fullShare ((dats2 V c).before 17 t d)))

/-- and what it returns. -/
def post2 (c : Dev nD) (t : Fin cfg2.N) : sProp 𝕄 :=
  iprop(Phi2 V c (t.val + 1) ∗ (dats2 V c).owesAt () t.succ
    ∗ owns (c : Thread nD τ) (win2_0.stage (cfg2.slots t 0)) fullShare ((dats2 V c).after 0 t)
    ∗ owns (c : Thread nD τ) (win2_1.stage (cfg2.slots t 1)) fullShare ((dats2 V c).after 1 t)
    ∗ owns (c : Thread nD τ) (win2_2.stage (cfg2.slots t 2)) fullShare ((dats2 V c).after 2 t)
    ∗ owns (c : Thread nD τ) (win2_3.stage (cfg2.slots t 3)) fullShare ((dats2 V c).after 3 t)
    ∗ owns (c : Thread nD τ) (win2_4.stage (cfg2.slots t 4)) fullShare ((dats2 V c).after 4 t)
    ∗ owns (c : Thread nD τ) (win2_5.stage (cfg2.slots t 5)) fullShare ((dats2 V c).after 5 t)
    ∗ owns (c : Thread nD τ) (win2_6.stage (cfg2.slots t 6)) fullShare ((dats2 V c).after 6 t)
    ∗ owns (c : Thread nD τ) (win2_7.stage (cfg2.slots t 7)) fullShare ((dats2 V c).after 7 t)
    ∗ owns (c : Thread nD τ) (win2_8.stage (cfg2.slots t 8)) fullShare ((dats2 V c).after 8 t)
    ∗ owns (c : Thread nD τ) (win2_9.stage (cfg2.slots t 9)) fullShare ((dats2 V c).after 9 t)
    ∗ owns (c : Thread nD τ) (win2_10.stage (cfg2.slots t 10)) fullShare ((dats2 V c).after 10 t)
    ∗ owns (c : Thread nD τ) (win2_11.stage (cfg2.slots t 11)) fullShare ((dats2 V c).after 11 t)
    ∗ owns (c : Thread nD τ) (win2_12.stage (cfg2.slots t 12)) fullShare ((dats2 V c).after 12 t)
    ∗ owns (c : Thread nD τ) (win2_13.stage (cfg2.slots t 13)) fullShare ((dats2 V c).after 13 t)
    ∗ owns (c : Thread nD τ) (win2_14.stage (cfg2.slots t 14)) fullShare ((dats2 V c).after 14 t)
    ∗ owns (c : Thread nD τ) (win2_15.stage (cfg2.slots t 15)) fullShare ((dats2 V c).after 15 t)
    ∗ owns (c : Thread nD τ) (win2_16.stage (cfg2.slots t 16)) fullShare ((dats2 V c).after 16 t)
    ∗ owns (c : Thread nD τ) (win2_17.stage (cfg2.slots t 17)) fullShare ((dats2 V c).after 17 t))

set_option maxHeartbeats 4000000 in
/-- The body at any point, from what the pipeline hands it to what it takes back. -/
theorem sound2 (c : Dev nD) (t : Fin cfg2.N) :
    pre2 V c t ⊢ wp frame (wpE (defs₀ (F := F)) Variants.none c none) Set.univ (bodyAt2 t) (fun _ => post2 V c t) := by
  unfold pre2 post2 bodyAt2 Phi2
  rw [body2_eq]
  simp only [before2_0, before2_1, before2_2, before2_3, before2_4, before2_5, before2_6, before2_7, before2_8, before2_9, before2_10, before2_11, before2_12, before2_13, before2_14, before2_15]
  rw [show (dats2 V c).owesAt () t.succ = (dats2 V c).owesAt () t.castSucc from rfl,
    after2_0, after2_1, after2_2, after2_3, after2_4, after2_5, after2_6, after2_7, after2_8, after2_9, after2_10, after2_11, after2_12, after2_13, after2_14, after2_15, after2_16, after2_17]
  iintro ⟨⟨HS0, ⟨%dc, %hdc, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((run1 c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6)) (win2_7.stage (cfg2.slots t 7)) (hstage2_7 ((cfg2.slots t 7).cast nbuf2_7)) (win2_8.stage (cfg2.slots t 8)) (hstage2_8 ((cfg2.slots t 8).cast nbuf2_8)) (win2_9.stage (cfg2.slots t 9)) (hstage2_9 ((cfg2.slots t 9).cast nbuf2_9)) (win2_10.stage (cfg2.slots t 10)) (hstage2_10 ((cfg2.slots t 10).cast nbuf2_10)) (win2_11.stage (cfg2.slots t 11)) (hstage2_11 ((cfg2.slots t 11).cast nbuf2_11)) (win2_12.stage (cfg2.slots t 12)) (hstage2_12 ((cfg2.slots t 12).cast nbuf2_12)) (win2_13.stage (cfg2.slots t 13)) (hstage2_13 ((cfg2.slots t 13).cast nbuf2_13)) (win2_14.stage (cfg2.slots t 14)) (hstage2_14 ((cfg2.slots t 14).cast nbuf2_14)) (win2_15.stage (cfg2.slots t 15)) (hstage2_15 ((cfg2.slots t 15).cast nbuf2_15)) (win2_16.stage (cfg2.slots t 16)) (hstage2_16 ((cfg2.slots t 16).cast nbuf2_16)) (win2_17.stage (cfg2.slots t 17)) (hstage2_17 ((cfg2.slots t 17).cast nbuf2_17)) sz2 (Memref.isWhole_whole _) sc2 (Memref.isWhole_whole _)
    (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t) (blk2 V c 11 t) (blk2 V c 12 t) (blk2 V c 13 t) (blk2 V c 14 t) (blk2 V c 15 t) (tab2 V c t)).2.2.2 dc (fun _ => rfl) (fun hc => hdc t.isLt fun h0 => hc ((cond2_at t).mpr h0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [HS0]; · iexact HS0
  isplitl [HS1]; · iexact HS1
  iintro ⟨H0, H1, H2, H3, H4, H5, H6, H7, H8, H9, H10, H11, H12, H13, H14, H15, ⟨%e16, H16⟩, ⟨%e17, H17⟩, ⟨%ez, HS0⟩, HS1⟩
  isplitl [HS0 HS1 Hr]
  · isplitl [HS0]
    · iexists _; unfold owns; iexists _; isplitr
      swap; · iexact HS0
      ipureintro; rfl
    isplitl [HS1]
    · iexists _; isplitr
      swap; · iexact HS1
      ipureintro; exact fun h hn => tab2_succ V c t.val h hn
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_of_cover _ _ _ _ _ (cover2_16 V c t)
  unfold owns; iexists _; isplitr
  swap; · iexact H17
  ipureintro; exact View.read_writes_of_cover _ _ _ _ _ (cover2_17 V c t)

theorem row2 (t : Fin cfg2.N) :
    defs₀ (F := F) .tc cfg2.body (cfg2.bodyArgs t (cfg2.slots t)) = bodyAt2 t := by
  unfold defs₀; rw [Defs.onTc_tc]

/-- The pipeline's body obligation. -/
theorem body_obligation2 (c : Dev nD) : BodyObligation (dats2 V c) (defs₀ (F := F)) Variants.none () Set.univ := fun t => by
  rw [bigSep_W2, bigSep_W2, row2]
  exact triple_restated (sound2 V c t) rfl .rfl fun _ => .rfl

/-- The scratch at anything is the invariant before the first point, -/
theorem hin2 (c : Dev nD) : Pipeline.scopedRest spec2 c ⊢ (dats2 V c).Φ 0 := by
  rw [scopedRest2_split, show (dats2 V c).Φ 0 = Phi2 V c 0 from rfl]; unfold Phi2
  simp only [owns_whole]
  iintro ⟨⟨HS0, ⟨%d, HS1⟩⟩, Hr⟩
  isplitl [HS0]; · iexact HS0
  isplitl [HS1]
  · iexists d; isplitr; · ipureintro; exact fun _ h => absurd trivial h
    iexact HS1
  iexact Hr

/-- and the invariant after the last gives it back. -/
theorem hout2 (c : Dev nD) : (dats2 V c).Φ (Fin.last cfg2.N) ⊢ Pipeline.scopedRest spec2 c := by
  rw [scopedRest2_split, show (dats2 V c).Φ (Fin.last cfg2.N) = Phi2 V c cfg2.N from rfl]; unfold Phi2
  simp only [owns_whole]
  iintro ⟨HS0, ⟨%d, -, HS1⟩, Hr⟩
  isplitl [HS0 HS1]
  · isplitl [HS0]; · iexact HS0
    iexists d; iexact HS1
  iexact Hr

end Cert.Kernel.Layer

end
-- ==== Proof.Kernel.Frame3.lean ====
module

public import proofs.«01_k».proof.Proof.Kernel.Run1
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.ValueIdx
public import Idealize.ShloMosaic.Lib.Pipeline.ValueKit

@[expose] public section

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Gen

variable {F : FTy → Type} [FloatOps F]

local notation "𝕄" => MT nD τ sig Unit (Elt F) ℕ (UR sig nD τ) ℕ

variable (V : Dev nD → Valuation τ sig (Elt F))

/-! ## What the windows read -/

/-- Window `w`'s block of its array at grid point `t`, the arrays holding `V` when the region is entered. -/
def blk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- The two scratch buffers: the gate's values, and the carried table. -/
abbrev sz3 : Memref sig .tc .vmem S256x1536 .bf16 := Memref.whole cc3_scratch0
abbrev sc3 : Memref sig .tc .vmem S16x3072 .f32 := Memref.whole cc3_scratch1

/-- The table of the conditioning projection at point `t`'s blocks. -/
def tab3 (c : Dev nD) (t : Fin cfg3.N) : Vec F S16x3072 .f32 :=
  table1 (blk3 V c 3 t) (blk3 V c 4 t) (blk3 V c 9 t) (blk3 V c 10 t)

/-- The pieces the body's stores at point `t` write into window 16's staging buffer. -/
abbrev pcs3_16 (c : Dev nD) (t : Fin cfg3.N) : List (View.Piece (Elt F) S1x256x512 .f32) :=
  (run1 (F := F) c (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) (win3_4.stage (cfg3.slots t 4)) (hstage3_4 ((cfg3.slots t 4).cast nbuf3_4)) (win3_5.stage (cfg3.slots t 5)) (hstage3_5 ((cfg3.slots t 5).cast nbuf3_5)) (win3_6.stage (cfg3.slots t 6)) (hstage3_6 ((cfg3.slots t 6).cast nbuf3_6)) (win3_7.stage (cfg3.slots t 7)) (hstage3_7 ((cfg3.slots t 7).cast nbuf3_7)) (win3_8.stage (cfg3.slots t 8)) (hstage3_8 ((cfg3.slots t 8).cast nbuf3_8)) (win3_9.stage (cfg3.slots t 9)) (hstage3_9 ((cfg3.slots t 9).cast nbuf3_9)) (win3_10.stage (cfg3.slots t 10)) (hstage3_10 ((cfg3.slots t 10).cast nbuf3_10)) (win3_11.stage (cfg3.slots t 11)) (hstage3_11 ((cfg3.slots t 11).cast nbuf3_11)) (win3_12.stage (cfg3.slots t 12)) (hstage3_12 ((cfg3.slots t 12).cast nbuf3_12)) (win3_13.stage (cfg3.slots t 13)) (hstage3_13 ((cfg3.slots t 13).cast nbuf3_13)) (win3_14.stage (cfg3.slots t 14)) (hstage3_14 ((cfg3.slots t 14).cast nbuf3_14)) (win3_15.stage (cfg3.slots t 15)) (hstage3_15 ((cfg3.slots t 15).cast nbuf3_15)) (win3_16.stage (cfg3.slots t 16)) (hstage3_16 ((cfg3.slots t 16).cast nbuf3_16)) (win3_17.stage (cfg3.slots t 17)) (hstage3_17 ((cfg3.slots t 17).cast nbuf3_17)) sz3 (Memref.isWhole_whole _) sc3 (Memref.isWhole_whole _)
    (blk3 V c 0 t) (blk3 V c 1 t) (blk3 V c 2 t) (blk3 V c 3 t) (blk3 V c 4 t) (blk3 V c 5 t) (blk3 V c 6 t) (blk3 V c 7 t) (blk3 V c 8 t) (blk3 V c 9 t) (blk3 V c 10 t) (blk3 V c 11 t) (blk3 V c 12 t) (blk3 V c 13 t) (blk3 V c 14 t) (blk3 V c 15 t) (tab3 V c t)).1

/-- What the body at point `t` leaves in window 16's staging buffer. -/
def out3_16 (c : Dev nD) (t : Fin cfg3.N) : Vec F S1x256x512 .f32 :=
  (Memref.whole cc3_stg16_0 : Memref sig .tc .vmem S1x256x512 .f32).view.read (Elt F) ((Memref.whole cc3_stg16_0 : Memref sig .tc .vmem S1x256x512 .f32).view.writes (Elt F) (Memref.whole cc3_stg16_0 : Memref sig .tc .vmem S1x256x512 .f32).view.junk (pcs3_16 V c t))

/-- The body's stores tile that buffer. -/
theorem cover3_16 (c : Dev nD) (t : Fin cfg3.N) (y : S1x256x512.Idx) :
    ∃ pc ∈ pcs3_16 V c t, y ∈ pc.1.set :=
  View.cover_of_tiledL (pcs3_16 V c t) S1x256x256.size (by sl_kernel_rfl) y

/-- The pieces the body's stores at point `t` write into window 17's staging buffer. -/
abbrev pcs3_17 (c : Dev nD) (t : Fin cfg3.N) : List (View.Piece (Elt F) S1x256x768 .i8) :=
  (run1 (F := F) c (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) (win3_4.stage (cfg3.slots t 4)) (hstage3_4 ((cfg3.slots t 4).cast nbuf3_4)) (win3_5.stage (cfg3.slots t 5)) (hstage3_5 ((cfg3.slots t 5).cast nbuf3_5)) (win3_6.stage (cfg3.slots t 6)) (hstage3_6 ((cfg3.slots t 6).cast nbuf3_6)) (win3_7.stage (cfg3.slots t 7)) (hstage3_7 ((cfg3.slots t 7).cast nbuf3_7)) (win3_8.stage (cfg3.slots t 8)) (hstage3_8 ((cfg3.slots t 8).cast nbuf3_8)) (win3_9.stage (cfg3.slots t 9)) (hstage3_9 ((cfg3.slots t 9).cast nbuf3_9)) (win3_10.stage (cfg3.slots t 10)) (hstage3_10 ((cfg3.slots t 10).cast nbuf3_10)) (win3_11.stage (cfg3.slots t 11)) (hstage3_11 ((cfg3.slots t 11).cast nbuf3_11)) (win3_12.stage (cfg3.slots t 12)) (hstage3_12 ((cfg3.slots t 12).cast nbuf3_12)) (win3_13.stage (cfg3.slots t 13)) (hstage3_13 ((cfg3.slots t 13).cast nbuf3_13)) (win3_14.stage (cfg3.slots t 14)) (hstage3_14 ((cfg3.slots t 14).cast nbuf3_14)) (win3_15.stage (cfg3.slots t 15)) (hstage3_15 ((cfg3.slots t 15).cast nbuf3_15)) (win3_16.stage (cfg3.slots t 16)) (hstage3_16 ((cfg3.slots t 16).cast nbuf3_16)) (win3_17.stage (cfg3.slots t 17)) (hstage3_17 ((cfg3.slots t 17).cast nbuf3_17)) sz3 (Memref.isWhole_whole _) sc3 (Memref.isWhole_whole _)
    (blk3 V c 0 t) (blk3 V c 1 t) (blk3 V c 2 t) (blk3 V c 3 t) (blk3 V c 4 t) (blk3 V c 5 t) (blk3 V c 6 t) (blk3 V c 7 t) (blk3 V c 8 t) (blk3 V c 9 t) (blk3 V c 10 t) (blk3 V c 11 t) (blk3 V c 12 t) (blk3 V c 13 t) (blk3 V c 14 t) (blk3 V c 15 t) (tab3 V c t)).2.1

/-- What the body at point `t` leaves in window 17's staging buffer. -/
def out3_17 (c : Dev nD) (t : Fin cfg3.N) : Vec F S1x256x768 .i8 :=
  (Memref.whole cc3_stg17_0 : Memref sig .tc .vmem S1x256x768 .i8).view.read (Elt F) ((Memref.whole cc3_stg17_0 : Memref sig .tc .vmem S1x256x768 .i8).view.writes (Elt F) (Memref.whole cc3_stg17_0 : Memref sig .tc .vmem S1x256x768 .i8).view.junk (pcs3_17 V c t))

/-- The body's stores tile that buffer. -/
theorem cover3_17 (c : Dev nD) (t : Fin cfg3.N) (y : S1x256x768.Idx) :
    ∃ pc ∈ pcs3_17 V c t, y ∈ pc.1.set :=
  View.cover_of_tiledL (pcs3_17 V c t) S1x256x256.size (by sl_kernel_rfl) y

/-! ## The invariant and the pipeline's data -/

/-- Before point `n` the gate scratch holds anything; the carried scratch holds the table of point `n`'s batch row, unless
    `n` is the first point of its row, which fills it. -/
def Phi3 (c : Dev nD) (n : ℕ) : sProp 𝕄 :=
  iprop((∃ d, owns (c : Thread nD τ) sz3 fullShare d) ∗ (∃ d, ⌜∀ h : n < cfg3.N, ¬n % 8 = 0 → d = tab3 V c ⟨n, h⟩⌝ ∗ owns (c : Thread nD τ) sc3 fullShare d) ∗ Pipeline.scopedRestBut (Ix := Unit) (Name := ℕ) (U := UR sig nD τ) (Lvl := ℕ) (Val := Elt F) spec3 c [cc3_scratch0, cc3_scratch1])

/-- The proof data: the arrays as found; after a point each input's buffer at its block, each output's at what the body
    leaves; nothing owed; full shares. -/
def dats3 (c : Dev nD) : Dat τ (Elt F) Unit ℕ (UR sig nD τ) ℕ cfg3 c where
  A w := V c (Pipeline.arrRef spec3 w)
  after w t := match w with
    | ⟨0, _⟩ => blk3 V c 0 t
    | ⟨1, _⟩ => blk3 V c 1 t
    | ⟨2, _⟩ => blk3 V c 2 t
    | ⟨3, _⟩ => blk3 V c 3 t
    | ⟨4, _⟩ => blk3 V c 4 t
    | ⟨5, _⟩ => blk3 V c 5 t
    | ⟨6, _⟩ => blk3 V c 6 t
    | ⟨7, _⟩ => blk3 V c 7 t
    | ⟨8, _⟩ => blk3 V c 8 t
    | ⟨9, _⟩ => blk3 V c 9 t
    | ⟨10, _⟩ => blk3 V c 10 t
    | ⟨11, _⟩ => blk3 V c 11 t
    | ⟨12, _⟩ => blk3 V c 12 t
    | ⟨13, _⟩ => blk3 V c 13 t
    | ⟨14, _⟩ => blk3 V c 14 t
    | ⟨15, _⟩ => blk3 V c 15 t
    | ⟨16, _⟩ => out3_16 V c t
    | ⟨17, _⟩ => out3_17 V c t
    | ⟨_ + 18, h⟩ => absurd h (Nat.not_lt.2 (Nat.le_add_left _ _))
  Φ t := Phi3 V c t.val
  q _ := fullShare
  owed _ := 0

theorem A3_eq (c : Dev nD) (w : Fin cfg3.W) : (dats3 V c).A w = V c (Pipeline.arrRef spec3 w) := by
  dsimp only [dats3]

theorem after3_0 (c : Dev nD) (t : Fin cfg3.N) : (dats3 V c).after 0 t = blk3 V c 0 t := by dsimp only [dats3]
theorem after3_1 (c : Dev nD) (t : Fin cfg3.N) : (dats3 V c).after 1 t = blk3 V c 1 t := by dsimp only [dats3]
theorem after3_2 (c : Dev nD) (t : Fin cfg3.N) : (dats3 V c).after 2 t = blk3 V c 2 t := by dsimp only [dats3]
theorem after3_3 (c : Dev nD) (t : Fin cfg3.N) : (dats3 V c).after 3 t = blk3 V c 3 t := by dsimp only [dats3]
theorem after3_4 (c : Dev nD) (t : Fin cfg3.N) : (dats3 V c).after 4 t = blk3 V c 4 t := by dsimp only [dats3]
theorem after3_5 (c : Dev nD) (t : Fin cfg3.N) : (dats3 V c).after 5 t = blk3 V c 5 t := by dsimp only [dats3]
theorem after3_6 (c : Dev nD) (t : Fin cfg3.N) : (dats3 V c).after 6 t = blk3 V c 6 t := by dsimp only [dats3]
theorem after3_7 (c : Dev nD) (t : Fin cfg3.N) : (dats3 V c).after 7 t = blk3 V c 7 t := by dsimp only [dats3]
theorem after3_8 (c : Dev nD) (t : Fin cfg3.N) : (dats3 V c).after 8 t = blk3 V c 8 t := by dsimp only [dats3]
theorem after3_9 (c : Dev nD) (t : Fin cfg3.N) : (dats3 V c).after 9 t = blk3 V c 9 t := by dsimp only [dats3]
theorem after3_10 (c : Dev nD) (t : Fin cfg3.N) : (dats3 V c).after 10 t = blk3 V c 10 t := by dsimp only [dats3]
theorem after3_11 (c : Dev nD) (t : Fin cfg3.N) : (dats3 V c).after 11 t = blk3 V c 11 t := by dsimp only [dats3]
theorem after3_12 (c : Dev nD) (t : Fin cfg3.N) : (dats3 V c).after 12 t = blk3 V c 12 t := by dsimp only [dats3]
theorem after3_13 (c : Dev nD) (t : Fin cfg3.N) : (dats3 V c).after 13 t = blk3 V c 13 t := by dsimp only [dats3]
theorem after3_14 (c : Dev nD) (t : Fin cfg3.N) : (dats3 V c).after 14 t = blk3 V c 14 t := by dsimp only [dats3]
theorem after3_15 (c : Dev nD) (t : Fin cfg3.N) : (dats3 V c).after 15 t = blk3 V c 15 t := by dsimp only [dats3]
theorem after3_16 (c : Dev nD) (t : Fin cfg3.N) : (dats3 V c).after 16 t = out3_16 V c t := by dsimp only [dats3]
theorem after3_17 (c : Dev nD) (t : Fin cfg3.N) : (dats3 V c).after 17 t = out3_17 V c t := by dsimp only [dats3]

/-- What a fetch at a point stages of an input is its block there. -/
theorem fetched3_0 (c : Dev nD) (t : Fin cfg3.N) (d) : (dats3 V c).fetched 0 t d = blk3 V c 0 t := by
  unfold Dat.fetched Dat.blockOf blk3; rw [A3_eq]; try rfl
theorem fetched3_1 (c : Dev nD) (t : Fin cfg3.N) (d) : (dats3 V c).fetched 1 t d = blk3 V c 1 t := by
  unfold Dat.fetched Dat.blockOf blk3; rw [A3_eq]; try rfl
theorem fetched3_2 (c : Dev nD) (t : Fin cfg3.N) (d) : (dats3 V c).fetched 2 t d = blk3 V c 2 t := by
  unfold Dat.fetched Dat.blockOf blk3; rw [A3_eq]; try rfl
theorem fetched3_3 (c : Dev nD) (t : Fin cfg3.N) (d) : (dats3 V c).fetched 3 t d = blk3 V c 3 t := by
  unfold Dat.fetched Dat.blockOf blk3; rw [A3_eq]; try rfl
theorem fetched3_4 (c : Dev nD) (t : Fin cfg3.N) (d) : (dats3 V c).fetched 4 t d = blk3 V c 4 t := by
  unfold Dat.fetched Dat.blockOf blk3; rw [A3_eq]; try rfl
theorem fetched3_5 (c : Dev nD) (t : Fin cfg3.N) (d) : (dats3 V c).fetched 5 t d = blk3 V c 5 t := by
  unfold Dat.fetched Dat.blockOf blk3; rw [A3_eq]; try rfl
theorem fetched3_6 (c : Dev nD) (t : Fin cfg3.N) (d) : (dats3 V c).fetched 6 t d = blk3 V c 6 t := by
  unfold Dat.fetched Dat.blockOf blk3; rw [A3_eq]; try rfl
theorem fetched3_7 (c : Dev nD) (t : Fin cfg3.N) (d) : (dats3 V c).fetched 7 t d = blk3 V c 7 t := by
  unfold Dat.fetched Dat.blockOf blk3; rw [A3_eq]; try rfl
theorem fetched3_8 (c : Dev nD) (t : Fin cfg3.N) (d) : (dats3 V c).fetched 8 t d = blk3 V c 8 t := by
  unfold Dat.fetched Dat.blockOf blk3; rw [A3_eq]; try rfl
theorem fetched3_9 (c : Dev nD) (t : Fin cfg3.N) (d) : (dats3 V c).fetched 9 t d = blk3 V c 9 t := by
  unfold Dat.fetched Dat.blockOf blk3; rw [A3_eq]; try rfl
theorem fetched3_10 (c : Dev nD) (t : Fin cfg3.N) (d) : (dats3 V c).fetched 10 t d = blk3 V c 10 t := by
  unfold Dat.fetched Dat.blockOf blk3; rw [A3_eq]; try rfl
theorem fetched3_11 (c : Dev nD) (t : Fin cfg3.N) (d) : (dats3 V c).fetched 11 t d = blk3 V c 11 t := by
  unfold Dat.fetched Dat.blockOf blk3; rw [A3_eq]; try rfl
theorem fetched3_12 (c : Dev nD) (t : Fin cfg3.N) (d) : (dats3 V c).fetched 12 t d = blk3 V c 12 t := by
  unfold Dat.fetched Dat.blockOf blk3; rw [A3_eq]; try rfl
theorem fetched3_13 (c : Dev nD) (t : Fin cfg3.N) (d) : (dats3 V c).fetched 13 t d = blk3 V c 13 t := by
  unfold Dat.fetched Dat.blockOf blk3; rw [A3_eq]; try rfl
theorem fetched3_14 (c : Dev nD) (t : Fin cfg3.N) (d) : (dats3 V c).fetched 14 t d = blk3 V c 14 t := by
  unfold Dat.fetched Dat.blockOf blk3; rw [A3_eq]; try rfl
theorem fetched3_15 (c : Dev nD) (t : Fin cfg3.N) (d) : (dats3 V c).fetched 15 t d = blk3 V c 15 t := by
  unfold Dat.fetched Dat.blockOf blk3; rw [A3_eq]; try rfl

/-- An input's staging buffer holds its block at every point, fetched there or not. -/
theorem before3_0 (c : Dev nD) (t : Fin cfg3.N) (d) : (dats3 V c).before 0 t d = blk3 V c 0 t :=
  ((dats3 V c).before_in_eq_fetched 0 rfl (fun _ => rfl) (fun _ _ _ => rfl) (fun t => by rw [after3_0]; unfold Dat.blockOf blk3; rw [A3_eq]; try rfl) t d).trans
    (fetched3_0 V c t d)
theorem before3_1 (c : Dev nD) (t : Fin cfg3.N) (d) : (dats3 V c).before 1 t d = blk3 V c 1 t :=
  ((dats3 V c).before_in_eq_fetched 1 rfl (fun _ => rfl) (fun _ _ _ => rfl) (fun t => by rw [after3_1]; unfold Dat.blockOf blk3; rw [A3_eq]; try rfl) t d).trans
    (fetched3_1 V c t d)
theorem before3_2 (c : Dev nD) (t : Fin cfg3.N) (d) : (dats3 V c).before 2 t d = blk3 V c 2 t :=
  ((dats3 V c).before_in_eq_fetched 2 rfl (fun _ => rfl) (fun _ _ _ => rfl) (fun t => by rw [after3_2]; unfold Dat.blockOf blk3; rw [A3_eq]; try rfl) t d).trans
    (fetched3_2 V c t d)
theorem before3_3 (c : Dev nD) (t : Fin cfg3.N) (d) : (dats3 V c).before 3 t d = blk3 V c 3 t :=
  ((dats3 V c).before_in_eq_fetched 3 rfl (fun _ => rfl) (fun _ _ _ => rfl) (fun t => by rw [after3_3]; unfold Dat.blockOf blk3; rw [A3_eq]; try rfl) t d).trans
    (fetched3_3 V c t d)
theorem before3_4 (c : Dev nD) (t : Fin cfg3.N) (d) : (dats3 V c).before 4 t d = blk3 V c 4 t :=
  ((dats3 V c).before_in_eq_fetched 4 rfl (fun _ => rfl) (fun _ _ _ => rfl) (fun t => by rw [after3_4]; unfold Dat.blockOf blk3; rw [A3_eq]; try rfl) t d).trans
    (fetched3_4 V c t d)
theorem before3_5 (c : Dev nD) (t : Fin cfg3.N) (d) : (dats3 V c).before 5 t d = blk3 V c 5 t :=
  ((dats3 V c).before_in_eq_fetched 5 rfl (fun _ => rfl) (fun _ _ _ => rfl) (fun t => by rw [after3_5]; unfold Dat.blockOf blk3; rw [A3_eq]; try rfl) t d).trans
    (fetched3_5 V c t d)
theorem before3_6 (c : Dev nD) (t : Fin cfg3.N) (d) : (dats3 V c).before 6 t d = blk3 V c 6 t :=
  ((dats3 V c).before_in_eq_fetched 6 rfl (fun _ => rfl) (fun _ _ _ => rfl) (fun t => by rw [after3_6]; unfold Dat.blockOf blk3; rw [A3_eq]; try rfl) t d).trans
    (fetched3_6 V c t d)
theorem before3_7 (c : Dev nD) (t : Fin cfg3.N) (d) : (dats3 V c).before 7 t d = blk3 V c 7 t :=
  ((dats3 V c).before_in_eq_fetched 7 rfl (fun _ => rfl) (fun _ _ _ => rfl) (fun t => by rw [after3_7]; unfold Dat.blockOf blk3; rw [A3_eq]; try rfl) t d).trans
    (fetched3_7 V c t d)
theorem before3_8 (c : Dev nD) (t : Fin cfg3.N) (d) : (dats3 V c).before 8 t d = blk3 V c 8 t :=
  ((dats3 V c).before_in_eq_fetched 8 rfl (fun _ => rfl) (fun _ _ _ => rfl) (fun t => by rw [after3_8]; unfold Dat.blockOf blk3; rw [A3_eq]; try rfl) t d).trans
    (fetched3_8 V c t d)
theorem before3_9 (c : Dev nD) (t : Fin cfg3.N) (d) : (dats3 V c).before 9 t d = blk3 V c 9 t :=
  ((dats3 V c).before_in_eq_fetched 9 rfl (fun _ => rfl) (fun _ _ _ => rfl) (fun t => by rw [after3_9]; unfold Dat.blockOf blk3; rw [A3_eq]; try rfl) t d).trans
    (fetched3_9 V c t d)
theorem before3_10 (c : Dev nD) (t : Fin cfg3.N) (d) : (dats3 V c).before 10 t d = blk3 V c 10 t :=
  ((dats3 V c).before_in_eq_fetched 10 rfl (fun _ => rfl) (fun _ _ _ => rfl) (fun t => by rw [after3_10]; unfold Dat.blockOf blk3; rw [A3_eq]; try rfl) t d).trans
    (fetched3_10 V c t d)
theorem before3_11 (c : Dev nD) (t : Fin cfg3.N) (d) : (dats3 V c).before 11 t d = blk3 V c 11 t :=
  ((dats3 V c).before_in_eq_fetched 11 rfl (fun _ => rfl) (fun _ _ _ => rfl) (fun t => by rw [after3_11]; unfold Dat.blockOf blk3; rw [A3_eq]; try rfl) t d).trans
    (fetched3_11 V c t d)
theorem before3_12 (c : Dev nD) (t : Fin cfg3.N) (d) : (dats3 V c).before 12 t d = blk3 V c 12 t :=
  ((dats3 V c).before_in_eq_fetched 12 rfl (fun _ => rfl) (fun _ _ _ => rfl) (fun t => by rw [after3_12]; unfold Dat.blockOf blk3; rw [A3_eq]; try rfl) t d).trans
    (fetched3_12 V c t d)
theorem before3_13 (c : Dev nD) (t : Fin cfg3.N) (d) : (dats3 V c).before 13 t d = blk3 V c 13 t :=
  ((dats3 V c).before_in_eq_fetched 13 rfl (fun _ => rfl) (fun _ _ _ => rfl) (fun t => by rw [after3_13]; unfold Dat.blockOf blk3; rw [A3_eq]; try rfl) t d).trans
    (fetched3_13 V c t d)
theorem before3_14 (c : Dev nD) (t : Fin cfg3.N) (d) : (dats3 V c).before 14 t d = blk3 V c 14 t :=
  ((dats3 V c).before_in_eq_fetched 14 rfl (fun _ => rfl) (fun _ _ _ => rfl) (fun t => by rw [after3_14]; unfold Dat.blockOf blk3; rw [A3_eq]; try rfl) t d).trans
    (fetched3_14 V c t d)
theorem before3_15 (c : Dev nD) (t : Fin cfg3.N) (d) : (dats3 V c).before 15 t d = blk3 V c 15 t :=
  ((dats3 V c).before_in_eq_fetched 15 rfl (fun _ => rfl) (fun _ _ _ => rfl) (fun t => by rw [after3_15]; unfold Dat.blockOf blk3; rw [A3_eq]; try rfl) t d).trans
    (fetched3_15 V c t d)

/-- The inputs the table is made of are not fetched inside a batch row, so it does not change there. -/
theorem tab3_succ (c : Dev nD) (n : ℕ) (h : n + 1 < cfg3.N) (hn : ¬(n + 1) % 8 = 0) :
    tab3 V c ⟨n, Nat.lt_of_succ_lt h⟩ = tab3 V c ⟨n + 1, h⟩ := by
  have e3 : blk3 V c 3 ⟨n, Nat.lt_of_succ_lt h⟩ = blk3 V c 3 ⟨n + 1, h⟩ :=
    ((fetched3_3 V c _ (blk3 V c 3 ⟨n, Nat.lt_of_succ_lt h⟩)).symm.trans (Dat.fetched_congr _ 3
      ((cfg3.win 3).index_eq_of_fetch rfl ⟨n + 1, h⟩ (by rw [← Bool.not_eq_true, fetch3_3]; show ¬(n + 1) % _ = 0; omega)).2.symm rfl _)).trans
      (fetched3_3 V c _ _)
  have e4 : blk3 V c 4 ⟨n, Nat.lt_of_succ_lt h⟩ = blk3 V c 4 ⟨n + 1, h⟩ :=
    ((fetched3_4 V c _ (blk3 V c 4 ⟨n, Nat.lt_of_succ_lt h⟩)).symm.trans (Dat.fetched_congr _ 4
      ((cfg3.win 4).index_eq_of_fetch rfl ⟨n + 1, h⟩ (by rw [← Bool.not_eq_true, fetch3_4]; show ¬(n + 1) % _ = 0; omega)).2.symm rfl _)).trans
      (fetched3_4 V c _ _)
  have e9 : blk3 V c 9 ⟨n, Nat.lt_of_succ_lt h⟩ = blk3 V c 9 ⟨n + 1, h⟩ :=
    ((fetched3_9 V c _ (blk3 V c 9 ⟨n, Nat.lt_of_succ_lt h⟩)).symm.trans (Dat.fetched_congr _ 9
      ((cfg3.win 9).index_eq_of_fetch rfl ⟨n + 1, h⟩ (by rw [← Bool.not_eq_true, fetch3_9]; show ¬(n + 1) % _ = 0; omega)).2.symm rfl _)).trans
      (fetched3_9 V c _ _)
  have e10 : blk3 V c 10 ⟨n, Nat.lt_of_succ_lt h⟩ = blk3 V c 10 ⟨n + 1, h⟩ :=
    ((fetched3_10 V c _ (blk3 V c 10 ⟨n, Nat.lt_of_succ_lt h⟩)).symm.trans (Dat.fetched_congr _ 10
      ((cfg3.win 10).index_eq_of_fetch rfl ⟨n + 1, h⟩ (by rw [← Bool.not_eq_true, fetch3_10]; show ¬(n + 1) % _ = 0; omega)).2.symm rfl _)).trans
      (fetched3_10 V c _ _)
  unfold tab3
  exact congr (congr (congr (congrArg (fun a b d e => table1 a b d e) e3) e4) e9) e10

/-! ## The body obligation -/

/-- This layer's body is the second layer's. -/
theorem body3_eq : cc3_wavenet_layer (F := F) = cc1_wavenet_layer := rfl

/-- The body's branch is taken at the first point of each batch row. -/
theorem cond3_at (t : Fin cfg3.N) : cond1 (grid3.coords t) ↔ t.val % 8 = 0 := cond1_iff t

/-- What the body is called with at point `t`, window by window, -/
def pre3 (c : Dev nD) (t : Fin cfg3.N) : sProp 𝕄 :=
  iprop(Phi3 V c t.val ∗ (dats3 V c).owesAt () t.castSucc
    ∗ (∃ d, owns (c : Thread nD τ) (win3_0.stage (cfg3.slots t 0)) fullShare ((dats3 V c).before 0 t d))
    ∗ (∃ d, owns (c : Thread nD τ) (win3_1.stage (cfg3.slots t 1)) fullShare ((dats3 V c).before 1 t d))
    ∗ (∃ d, owns (c : Thread nD τ) (win3_2.stage (cfg3.slots t 2)) fullShare ((dats3 V c).before 2 t d))
    ∗ (∃ d, owns (c : Thread nD τ) (win3_3.stage (cfg3.slots t 3)) fullShare ((dats3 V c).before 3 t d))
    ∗ (∃ d, owns (c : Thread nD τ) (win3_4.stage (cfg3.slots t 4)) fullShare ((dats3 V c).before 4 t d))
    ∗ (∃ d, owns (c : Thread nD τ) (win3_5.stage (cfg3.slots t 5)) fullShare ((dats3 V c).before 5 t d))
    ∗ (∃ d, owns (c : Thread nD τ) (win3_6.stage (cfg3.slots t 6)) fullShare ((dats3 V c).before 6 t d))
    ∗ (∃ d, owns (c : Thread nD τ) (win3_7.stage (cfg3.slots t 7)) fullShare ((dats3 V c).before 7 t d))
    ∗ (∃ d, owns (c : Thread nD τ) (win3_8.stage (cfg3.slots t 8)) fullShare ((dats3 V c).before 8 t d))
    ∗ (∃ d, owns (c : Thread nD τ) (win3_9.stage (cfg3.slots t 9)) fullShare ((dats3 V c).before 9 t d))
    ∗ (∃ d, owns (c : Thread nD τ) (win3_10.stage (cfg3.slots t 10)) fullShare ((dats3 V c).before 10 t d))
    ∗ (∃ d, owns (c : Thread nD τ) (win3_11.stage (cfg3.slots t 11)) fullShare ((dats3 V c).before 11 t d))
    ∗ (∃ d, owns (c : Thread nD τ) (win3_12.stage (cfg3.slots t 12)) fullShare ((dats3 V c).before 12 t d))
    ∗ (∃ d, owns (c : Thread nD τ) (win3_13.stage (cfg3.slots t 13)) fullShare ((dats3 V c).before 13 t d))
    ∗ (∃ d, owns (c : Thread nD τ) (win3_14.stage (cfg3.slots t 14)) fullShare ((dats3 V c).before 14 t d))
    ∗ (∃ d, owns (c : Thread nD τ) (win3_15.stage (cfg3.slots t 15)) fullShare ((dats3 V c).before 15 t d))
    ∗ (∃ d, owns (c : Thread nD τ) (win3_16.stage (cfg3.slots t 16)) fullShare ((dats3 V c).before 16 t d))
    ∗ (∃ d, owns (c : Thread nD τ) (win3_17.stage (cfg3.slots t 17)) fullShare ((dats3 V c).before 17 t d)))

/-- and what it returns. -/
def post3 (c : Dev nD) (t : Fin cfg3.N) : sProp 𝕄 :=
  iprop(Phi3 V c (t.val + 1) ∗ (dats3 V c).owesAt () t.succ
    ∗ owns (c : Thread nD τ) (win3_0.stage (cfg3.slots t 0)) fullShare ((dats3 V c).after 0 t)
    ∗ owns (c : Thread nD τ) (win3_1.stage (cfg3.slots t 1)) fullShare ((dats3 V c).after 1 t)
    ∗ owns (c : Thread nD τ) (win3_2.stage (cfg3.slots t 2)) fullShare ((dats3 V c).after 2 t)
    ∗ owns (c : Thread nD τ) (win3_3.stage (cfg3.slots t 3)) fullShare ((dats3 V c).after 3 t)
    ∗ owns (c : Thread nD τ) (win3_4.stage (cfg3.slots t 4)) fullShare ((dats3 V c).after 4 t)
    ∗ owns (c : Thread nD τ) (win3_5.stage (cfg3.slots t 5)) fullShare ((dats3 V c).after 5 t)
    ∗ owns (c : Thread nD τ) (win3_6.stage (cfg3.slots t 6)) fullShare ((dats3 V c).after 6 t)
    ∗ owns (c : Thread nD τ) (win3_7.stage (cfg3.slots t 7)) fullShare ((dats3 V c).after 7 t)
    ∗ owns (c : Thread nD τ) (win3_8.stage (cfg3.slots t 8)) fullShare ((dats3 V c).after 8 t)
    ∗ owns (c : Thread nD τ) (win3_9.stage (cfg3.slots t 9)) fullShare ((dats3 V c).after 9 t)
    ∗ owns (c : Thread nD τ) (win3_10.stage (cfg3.slots t 10)) fullShare ((dats3 V c).after 10 t)
    ∗ owns (c : Thread nD τ) (win3_11.stage (cfg3.slots t 11)) fullShare ((dats3 V c).after 11 t)
    ∗ owns (c : Thread nD τ) (win3_12.stage (cfg3.slots t 12)) fullShare ((dats3 V c).after 12 t)
    ∗ owns (c : Thread nD τ) (win3_13.stage (cfg3.slots t 13)) fullShare ((dats3 V c).after 13 t)
    ∗ owns (c : Thread nD τ) (win3_14.stage (cfg3.slots t 14)) fullShare ((dats3 V c).after 14 t)
    ∗ owns (c : Thread nD τ) (win3_15.stage (cfg3.slots t 15)) fullShare ((dats3 V c).after 15 t)
    ∗ owns (c : Thread nD τ) (win3_16.stage (cfg3.slots t 16)) fullShare ((dats3 V c).after 16 t)
    ∗ owns (c : Thread nD τ) (win3_17.stage (cfg3.slots t 17)) fullShare ((dats3 V c).after 17 t))

set_option maxHeartbeats 4000000 in
/-- The body at any point, from what the pipeline hands it to what it takes back. -/
theorem sound3 (c : Dev nD) (t : Fin cfg3.N) :
    pre3 V c t ⊢ wp frame (wpE (defs₀ (F := F)) Variants.none c none) Set.univ (bodyAt3 t) (fun _ => post3 V c t) := by
  unfold pre3 post3 bodyAt3 Phi3
  rw [body3_eq]
  simp only [before3_0, before3_1, before3_2, before3_3, before3_4, before3_5, before3_6, before3_7, before3_8, before3_9, before3_10, before3_11, before3_12, before3_13, before3_14, before3_15]
  rw [show (dats3 V c).owesAt () t.succ = (dats3 V c).owesAt () t.castSucc from rfl,
    after3_0, after3_1, after3_2, after3_3, after3_4, after3_5, after3_6, after3_7, after3_8, after3_9, after3_10, after3_11, after3_12, after3_13, after3_14, after3_15, after3_16, after3_17]
  iintro ⟨⟨HS0, ⟨%dc, %hdc, HS1⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩⟩
  iapply ((run1 c (grid3.coords t) (win3_0.stage (cfg3.slots t 0)) (hstage3_0 ((cfg3.slots t 0).cast nbuf3_0)) (win3_1.stage (cfg3.slots t 1)) (hstage3_1 ((cfg3.slots t 1).cast nbuf3_1)) (win3_2.stage (cfg3.slots t 2)) (hstage3_2 ((cfg3.slots t 2).cast nbuf3_2)) (win3_3.stage (cfg3.slots t 3)) (hstage3_3 ((cfg3.slots t 3).cast nbuf3_3)) (win3_4.stage (cfg3.slots t 4)) (hstage3_4 ((cfg3.slots t 4).cast nbuf3_4)) (win3_5.stage (cfg3.slots t 5)) (hstage3_5 ((cfg3.slots t 5).cast nbuf3_5)) (win3_6.stage (cfg3.slots t 6)) (hstage3_6 ((cfg3.slots t 6).cast nbuf3_6)) (win3_7.stage (cfg3.slots t 7)) (hstage3_7 ((cfg3.slots t 7).cast nbuf3_7)) (win3_8.stage (cfg3.slots t 8)) (hstage3_8 ((cfg3.slots t 8).cast nbuf3_8)) (win3_9.stage (cfg3.slots t 9)) (hstage3_9 ((cfg3.slots t 9).cast nbuf3_9)) (win3_10.stage (cfg3.slots t 10)) (hstage3_10 ((cfg3.slots t 10).cast nbuf3_10)) (win3_11.stage (cfg3.slots t 11)) (hstage3_11 ((cfg3.slots t 11).cast nbuf3_11)) (win3_12.stage (cfg3.slots t 12)) (hstage3_12 ((cfg3.slots t 12).cast nbuf3_12)) (win3_13.stage (cfg3.slots t 13)) (hstage3_13 ((cfg3.slots t 13).cast nbuf3_13)) (win3_14.stage (cfg3.slots t 14)) (hstage3_14 ((cfg3.slots t 14).cast nbuf3_14)) (win3_15.stage (cfg3.slots t 15)) (hstage3_15 ((cfg3.slots t 15).cast nbuf3_15)) (win3_16.stage (cfg3.slots t 16)) (hstage3_16 ((cfg3.slots t 16).cast nbuf3_16)) (win3_17.stage (cfg3.slots t 17)) (hstage3_17 ((cfg3.slots t 17).cast nbuf3_17)) sz3 (Memref.isWhole_whole _) sc3 (Memref.isWhole_whole _)
    (blk3 V c 0 t) (blk3 V c 1 t) (blk3 V c 2 t) (blk3 V c 3 t) (blk3 V c 4 t) (blk3 V c 5 t) (blk3 V c 6 t) (blk3 V c 7 t) (blk3 V c 8 t) (blk3 V c 9 t) (blk3 V c 10 t) (blk3 V c 11 t) (blk3 V c 12 t) (blk3 V c 13 t) (blk3 V c 14 t) (blk3 V c 15 t) (tab3 V c t)).2.2.2 dc (fun _ => rfl) (fun hc => hdc t.isLt fun h0 => hc ((cond3_at t).mpr h0)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [HS0]; · iexact HS0
  isplitl [HS1]; · iexact HS1
  iintro ⟨H0, H1, H2, H3, H4, H5, H6, H7, H8, H9, H10, H11, H12, H13, H14, H15, ⟨%e16, H16⟩, ⟨%e17, H17⟩, ⟨%ez, HS0⟩, HS1⟩
  isplitl [HS0 HS1 Hr]
  · isplitl [HS0]
    · iexists _; unfold owns; iexists _; isplitr
      swap; · iexact HS0
      ipureintro; rfl
    isplitl [HS1]
    · iexists _; isplitr
      swap; · iexact HS1
      ipureintro; exact fun h hn => tab3_succ V c t.val h hn
    iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_of_cover _ _ _ _ _ (cover3_16 V c t)
  unfold owns; iexists _; isplitr
  swap; · iexact H17
  ipureintro; exact View.read_writes_of_cover _ _ _ _ _ (cover3_17 V c t)

theorem row3 (t : Fin cfg3.N) :
    defs₀ (F := F) .tc cfg3.body (cfg3.bodyArgs t (cfg3.slots t)) = bodyAt3 t := by
  unfold defs₀; rw [Defs.onTc_tc]

/-- The pipeline's body obligation. -/
theorem body_obligation3 (c : Dev nD) : BodyObligation (dats3 V c) (defs₀ (F := F)) Variants.none () Set.univ := fun t => by
  rw [bigSep_W3, bigSep_W3, row3]
  exact triple_restated (sound3 V c t) rfl .rfl fun _ => .rfl

/-- The scratch at anything is the invariant before the first point, -/
theorem hin3 (c : Dev nD) : Pipeline.scopedRest spec3 c ⊢ (dats3 V c).Φ 0 := by
  rw [scopedRest3_split, show (dats3 V c).Φ 0 = Phi3 V c 0 from rfl]; unfold Phi3
  simp only [owns_whole]
  iintro ⟨⟨HS0, ⟨%d, HS1⟩⟩, Hr⟩
  isplitl [HS0]; · iexact HS0
  isplitl [HS1]
  · iexists d; isplitr; · ipureintro; exact fun _ h => absurd trivial h
    iexact HS1
  iexact Hr

/-- and the invariant after the last gives it back. -/
theorem hout3 (c : Dev nD) : (dats3 V c).Φ (Fin.last cfg3.N) ⊢ Pipeline.scopedRest spec3 c := by
  rw [scopedRest3_split, show (dats3 V c).Φ (Fin.last cfg3.N) = Phi3 V c cfg3.N from rfl]; unfold Phi3
  simp only [owns_whole]
  iintro ⟨HS0, ⟨%d, -, HS1⟩, Hr⟩
  isplitl [HS0 HS1]
  · isplitl [HS0]; · iexact HS0
    iexists d; iexact HS1
  iexact Hr

end Cert.Kernel.Layer

end
-- ==== Proof.Kernel.LayerRun.lean ====
module

public import proofs.«01_k».proof.Proof.Kernel.Frame0
public import proofs.«01_k».proof.Proof.Kernel.Frame1
public import proofs.«01_k».proof.Proof.Kernel.Frame2
public import proofs.«01_k».proof.Proof.Kernel.Frame3
public import proofs.«01_k».proof.Proof.Gen.Kernel.Regions
public import Idealize.ShloMosaic.Lib.Pipeline.RegionsLoop
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp
public import Idealize.ShloMosaic.Lib.WholeRead
public import Idealize.ShloMosaic.Lib.ValueIdx
public import Idealize.ShloMosaic.Lib.Pipeline.ValueKit

@[expose] public section

set_option maxRecDepth 16384

noncomputable section

namespace Cert.Kernel.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RegionSeg Dat Cfg Window BodyObligation cellOf)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each core's buffers hold between the items of @main -/

/-- When the first layer is entered. -/
abbrev E0 (c : Dev nD) : Valuation τ sig (Elt F) := V3 m c
/-- After layer 0: its results hold what its grid points left in them. -/
def X0 (c : Dev nD) : Valuation τ sig (Elt F) := Function.update (Function.update (Function.update (E0 m c) main_v45_0 ((dats0 (E0 m) c).arrAt 15 cfg0.N)) main_v45_1 ((dats0 (E0 m) c).arrAt 16 cfg0.N)) main_v45_2 ((dats0 (E0 m) c).arrAt 17 cfg0.N)
/-- When layer 1 is entered: the host lines between have run. -/
def E1 (c : Dev nD) : Valuation τ sig (Elt F) := StableHlo.after hostOps1 (X0 m c)
/-- After layer 1: its results hold what its grid points left in them. -/
def X1 (c : Dev nD) : Valuation τ sig (Elt F) := Function.update (Function.update (E1 m c) main_v90_0 ((dats1 (E1 m) c).arrAt 16 cfg1.N)) main_v90_1 ((dats1 (E1 m) c).arrAt 17 cfg1.N)
/-- When layer 2 is entered: the host lines between have run. -/
def E2 (c : Dev nD) : Valuation τ sig (Elt F) := StableHlo.after hostOps2 (X1 m c)
/-- After layer 2: its results hold what its grid points left in them. -/
def X2 (c : Dev nD) : Valuation τ sig (Elt F) := Function.update (Function.update (E2 m c) main_v135_0 ((dats2 (E2 m) c).arrAt 16 cfg2.N)) main_v135_1 ((dats2 (E2 m) c).arrAt 17 cfg2.N)
/-- When layer 3 is entered: the host lines between have run. -/
def E3 (c : Dev nD) : Valuation τ sig (Elt F) := StableHlo.after hostOps3 (X2 m c)
/-- After layer 3: its results hold what its grid points left in them. -/
def X3 (c : Dev nD) : Valuation τ sig (Elt F) := Function.update (Function.update (E3 m c) main_v180_0 ((dats3 (E3 m) c).arrAt 16 cfg3.N)) main_v180_1 ((dats3 (E3 m) c).arrAt 17 cfg3.N)

/-- At the end. -/
def Xend (c : Dev nD) : Valuation τ sig (Elt F) := StableHlo.after hostOps4 (X3 m c)

/-- What the regions leave, read off those valuations. -/
def outs : Outs (F := F) := fun n r c => match n with
  | 4 => X0 m c r
  | 6 => X1 m c r
  | 8 => X2 m c r
  | _ => X3 m c r
theorem outs_4 (r : Ref sig .tc) (c : Dev nD) : outs m 4 r c = X0 m c r := by unfold outs; rfl
theorem outs_6 (r : Ref sig .tc) (c : Dev nD) : outs m 6 r c = X1 m c r := by unfold outs; rfl
theorem outs_8 (r : Ref sig .tc) (c : Dev nD) : outs m 8 r c = X2 m c r := by unfold outs; rfl
theorem outs_10 (r : Ref sig .tc) (c : Dev nD) : outs m 10 r c = X3 m c r := by unfold outs; rfl

theorem X0_main_v45_0 (c : Dev nD) : X0 m c main_v45_0 = (dats0 (E0 m) c).arrAt 15 cfg0.N := by
  unfold X0
  exact (Function.update_of_ne (StableHlo.devRef_ne_of_ne (by decide)) _ _).trans <| (Function.update_of_ne (StableHlo.devRef_ne_of_ne (by decide)) _ _).trans <| Function.update_self ..
theorem X0_main_v45_1 (c : Dev nD) : X0 m c main_v45_1 = (dats0 (E0 m) c).arrAt 16 cfg0.N := by
  unfold X0
  exact (Function.update_of_ne (StableHlo.devRef_ne_of_ne (by decide)) _ _).trans <| Function.update_self ..
theorem X0_main_v45_2 (c : Dev nD) : X0 m c main_v45_2 = (dats0 (E0 m) c).arrAt 17 cfg0.N := by
  unfold X0
  exact Function.update_self ..
theorem X0_of (c : Dev nD) (r : Ref sig .tc) (hr : r ∉ ([main_v45_0, main_v45_1, main_v45_2] : List (Ref sig .tc))) : X0 m c r = E0 m c r := by
  unfold X0
  rw [Function.update_of_ne (StableHlo.devRef_ne_of_ne fun e => hr (by rw [e]; simp)), Function.update_of_ne (StableHlo.devRef_ne_of_ne fun e => hr (by rw [e]; simp)), Function.update_of_ne (StableHlo.devRef_ne_of_ne fun e => hr (by rw [e]; simp))]

theorem X1_main_v90_0 (c : Dev nD) : X1 m c main_v90_0 = (dats1 (E1 m) c).arrAt 16 cfg1.N := by
  unfold X1
  exact (Function.update_of_ne (StableHlo.devRef_ne_of_ne (by decide)) _ _).trans <| Function.update_self ..
theorem X1_main_v90_1 (c : Dev nD) : X1 m c main_v90_1 = (dats1 (E1 m) c).arrAt 17 cfg1.N := by
  unfold X1
  exact Function.update_self ..
theorem X1_of (c : Dev nD) (r : Ref sig .tc) (hr : r ∉ ([main_v90_0, main_v90_1] : List (Ref sig .tc))) : X1 m c r = E1 m c r := by
  unfold X1
  rw [Function.update_of_ne (StableHlo.devRef_ne_of_ne fun e => hr (by rw [e]; simp)), Function.update_of_ne (StableHlo.devRef_ne_of_ne fun e => hr (by rw [e]; simp))]

theorem X2_main_v135_0 (c : Dev nD) : X2 m c main_v135_0 = (dats2 (E2 m) c).arrAt 16 cfg2.N := by
  unfold X2
  exact (Function.update_of_ne (StableHlo.devRef_ne_of_ne (by decide)) _ _).trans <| Function.update_self ..
theorem X2_main_v135_1 (c : Dev nD) : X2 m c main_v135_1 = (dats2 (E2 m) c).arrAt 17 cfg2.N := by
  unfold X2
  exact Function.update_self ..
theorem X2_of (c : Dev nD) (r : Ref sig .tc) (hr : r ∉ ([main_v135_0, main_v135_1] : List (Ref sig .tc))) : X2 m c r = E2 m c r := by
  unfold X2
  rw [Function.update_of_ne (StableHlo.devRef_ne_of_ne fun e => hr (by rw [e]; simp)), Function.update_of_ne (StableHlo.devRef_ne_of_ne fun e => hr (by rw [e]; simp))]

theorem X3_main_v180_0 (c : Dev nD) : X3 m c main_v180_0 = (dats3 (E3 m) c).arrAt 16 cfg3.N := by
  unfold X3
  exact (Function.update_of_ne (StableHlo.devRef_ne_of_ne (by decide)) _ _).trans <| Function.update_self ..
theorem X3_main_v180_1 (c : Dev nD) : X3 m c main_v180_1 = (dats3 (E3 m) c).arrAt 17 cfg3.N := by
  unfold X3
  exact Function.update_self ..
theorem X3_of (c : Dev nD) (r : Ref sig .tc) (hr : r ∉ ([main_v180_0, main_v180_1] : List (Ref sig .tc))) : X3 m c r = E3 m c r := by
  unfold X3
  rw [Function.update_of_ne (StableHlo.devRef_ne_of_ne fun e => hr (by rw [e]; simp)), Function.update_of_ne (StableHlo.devRef_ne_of_ne fun e => hr (by rw [e]; simp))]

theorem V3_eq (c : Dev nD) : V3 m c = E0 m c := rfl
theorem V4_at (o : Outs (F := F)) (c : Dev nD) (he : V3 m c = E0 m c) (h0 : o 4 main_v45_0 c = (dats0 (E0 m) c).arrAt 15 cfg0.N) (h1 : o 4 main_v45_1 c = (dats0 (E0 m) c).arrAt 16 cfg0.N) (h2 : o 4 main_v45_2 c = (dats0 (E0 m) c).arrAt 17 cfg0.N) : V4 m o c = X0 m c := by
  unfold X0; rw [← h0, ← h1, ← h2, ← he]
theorem V4_eq (c : Dev nD) : V4 m (outs m) c = X0 m c :=
  V4_at m (outs m) c (V3_eq m c) ((outs_4 m main_v45_0 c).trans (X0_main_v45_0 m c)) ((outs_4 m main_v45_1 c).trans (X0_main_v45_1 m c)) ((outs_4 m main_v45_2 c).trans (X0_main_v45_2 m c))
theorem V5_eq (c : Dev nD) : V5 m (outs m) c = E1 m c := by unfold E1; rw [← V4_eq]
theorem V6_at (o : Outs (F := F)) (c : Dev nD) (he : V5 m o c = E1 m c) (h0 : o 6 main_v90_0 c = (dats1 (E1 m) c).arrAt 16 cfg1.N) (h1 : o 6 main_v90_1 c = (dats1 (E1 m) c).arrAt 17 cfg1.N) : V6 m o c = X1 m c := by
  unfold X1; rw [← h0, ← h1, ← he]
theorem V6_eq (c : Dev nD) : V6 m (outs m) c = X1 m c :=
  V6_at m (outs m) c (V5_eq m c) ((outs_6 m main_v90_0 c).trans (X1_main_v90_0 m c)) ((outs_6 m main_v90_1 c).trans (X1_main_v90_1 m c))
theorem V7_eq (c : Dev nD) : V7 m (outs m) c = E2 m c := by unfold E2; rw [← V6_eq]
theorem V8_at (o : Outs (F := F)) (c : Dev nD) (he : V7 m o c = E2 m c) (h0 : o 8 main_v135_0 c = (dats2 (E2 m) c).arrAt 16 cfg2.N) (h1 : o 8 main_v135_1 c = (dats2 (E2 m) c).arrAt 17 cfg2.N) : V8 m o c = X2 m c := by
  unfold X2; rw [← h0, ← h1, ← he]
theorem V8_eq (c : Dev nD) : V8 m (outs m) c = X2 m c :=
  V8_at m (outs m) c (V7_eq m c) ((outs_8 m main_v135_0 c).trans (X2_main_v135_0 m c)) ((outs_8 m main_v135_1 c).trans (X2_main_v135_1 m c))
theorem V9_eq (c : Dev nD) : V9 m (outs m) c = E3 m c := by unfold E3; rw [← V8_eq]
theorem V10_at (o : Outs (F := F)) (c : Dev nD) (he : V9 m o c = E3 m c) (h0 : o 10 main_v180_0 c = (dats3 (E3 m) c).arrAt 16 cfg3.N) (h1 : o 10 main_v180_1 c = (dats3 (E3 m) c).arrAt 17 cfg3.N) : V10 m o c = X3 m c := by
  unfold X3; rw [← h0, ← h1, ← he]
theorem V10_eq (c : Dev nD) : V10 m (outs m) c = X3 m c :=
  V10_at m (outs m) c (V9_eq m c) ((outs_10 m main_v180_0 c).trans (X3_main_v180_0 m c)) ((outs_10 m main_v180_1 c).trans (X3_main_v180_1 m c))
theorem V11_eq (c : Dev nD) : V11 m (outs m) c = Xend m c := by unfold Xend; rw [← V10_eq]

/-! ## The regions -/

/-- The four layers' proof data, each from the contents its region is entered with. -/
def pdats : (p : Fin 4) → (c : Dev nD) → Dat τ (Elt F) Unit ℕ (UR sig nD τ) ℕ (cfgs p) c
  | 0 => dats0 (E0 m) | 1 => dats1 (E1 m) | 2 => dats2 (E2 m) | 3 => dats3 (E3 m)
  | ⟨_ + 4, h⟩ => absurd h (Nat.not_lt.2 (Nat.le_add_left _ _))

/-- No core owes another anything. -/
abbrev L : GSem nD τ sig → Finset Unit := fun _ => ∅
abbrev lv : GSem nD τ sig → Unit → ℕ := fun _ _ => 0

/-- What rides beside the buffers between items. -/
abbrev Rest (c : Dev nD) : sProp 𝕄 := iprop(∃ W, owes (c : Thread nD τ) (0 : CellTallies nD τ sig Unit) W)

/-- No input of layer 0 is one of its results. -/
theorem ins0 : ∀ w : Fin 18, (cfg0.win w).isOut = false → Pipeline.arrRef spec0 w ∉ ([main_v45_0, main_v45_1, main_v45_2] : List (Ref sig .tc)) := by decide
theorem outw0 : ∀ w : Fin 18, (cfg0.win w).isOut = true → w = 15 ∨ w = 16 ∨ w = 17 := by decide

/-- Every array of layer 0 ends at what `X0` says: an input as it was, a result at what the grid points left. -/
theorem final0 (c : Dev nD) (w : Fin 18) : (dats0 (E0 m) c).arrAt w cfg0.N = X0 m c (Pipeline.arrRef spec0 w) := by
  rcases hw : (cfg0.win w).isOut
  · exact ((dats0 (E0 m) c).arrAt_in w hw _).trans ((A0_eq (E0 m) c w).trans (X0_of m c _ (ins0 w hw)).symm)
  · rcases outw0 w hw with rfl | rfl | rfl
    · exact (X0_main_v45_0 m c).symm
    · exact (X0_main_v45_1 m c).symm
    · exact (X0_main_v45_2 m c).symm

set_option backward.isDefEq.respectTransparency.types false in
/-- Layer 0's region: entered with every unscoped buffer at `E0`, left with them at `X0`. -/
def reg0 : RegionSeg (pcfgs (F := F)) adm (pdats m) () defs₀ Variants.none L lv 0 where
  win := launch0.win.to₀
  block_pos := launch0.block_pos
  stage_whole := launch0.stage_whole
  K := PEmpty
  osem := PEmpty.elim
  ho := Pipeline.OwnSemFacts.none _
  hbody c := (body_obligation0 (E0 m) c).loose
  hwaits := Pipeline.hwaits_of_owed_zero _ _ _ _ L lv 0 fun _ _ => rfl
  pre c := iprop(StableHlo.held (c : Thread nD τ) (Pipeline.ucRefs τ sig) (E0 m c) ∗ Rest c)
  post c := iprop(StableHlo.held (c : Thread nD τ) (Pipeline.ucRefs τ sig) (X0 m c) ∗ Rest c)
  X _ := iprop(emp)
  Y _ := iprop(emp)
  Z c := Pipeline.unscopedRest spec0 c (E0 m c ·)
  hentry c := by
    rw [← Pipeline.unscopedBufs_held (Ix := Unit) (Name := ℕ) (U := UR sig nD τ) (Lvl := ℕ) c (E0 m c)]
    have hsplit := Pipeline.arrays_of_unscopedBufs (pcfgs (F := F)) adm (pdats m) (p := 0) launch0.win launch0.arr_whole c
      ((pdats m 0 c).share_full fun _ => rfl) (E0 m c ·) (A0_eq (E0 m) c)
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := (show iprop(emp ∗ _ ∗ Pipeline.scopedRest spec0 c) ⊢ Pipeline.scopedRest spec0 c from by
    iintro ⟨-, -, Hr⟩
    iexact Hr).trans (hin0 (E0 m) c)
  hout c := (hout0 (E0 m) c).trans (by
    rw [Pipeline.ownSems0_none]
    iintro Hr
    isplitr; · iempintro
    isplitr; · iempintro
    iexact Hr)
  hexit c := by
    rw [← Pipeline.unscopedBufs_held (Ix := Unit) (Name := ℕ) (U := UR sig nD τ) (Lvl := ℕ) c (X0 m c)]
    have hjoin := Pipeline.unscopedBufs_of_arrays (pcfgs (F := F)) adm (p := 0) launch0.win launch0.arr_whole c (pdats m)
      ((pdats m 0 c).share_full fun _ => rfl) (E0 m c ·) (X0 m c ·) (fun w => (pdats m 0 c).arrAt w cfg0.N) (final0 m c)
      (fun b hb => X0_of m c b fun h => hb (by
        simp only [List.mem_cons, List.not_mem_nil, _root_.or_false] at h
        rcases h with rfl | rfl | rfl
        · exact Finset.mem_image.mpr ⟨15, Finset.mem_univ _, rfl⟩
        · exact Finset.mem_image.mpr ⟨16, Finset.mem_univ _, rfl⟩
        · exact Finset.mem_image.mpr ⟨17, Finset.mem_univ _, rfl⟩))
    iintro ⟨Ha, HO, -, HZ⟩
    imodintro
    isplitr [HO]
    · iapply hjoin
      isplitl [Ha] <;> iassumption
    · unfold Pipeline.Dat.owesAt Pipeline.owesWithin
      icases HO with ⟨%W, -, HO⟩; iexists W; iexact HO

/-- No input of layer 1 is one of its results. -/
theorem ins1 : ∀ w : Fin 18, (cfg1.win w).isOut = false → Pipeline.arrRef spec1 w ∉ ([main_v90_0, main_v90_1] : List (Ref sig .tc)) := by decide
theorem outw1 : ∀ w : Fin 18, (cfg1.win w).isOut = true → w = 16 ∨ w = 17 := by decide

/-- Every array of layer 1 ends at what `X1` says: an input as it was, a result at what the grid points left. -/
theorem final1 (c : Dev nD) (w : Fin 18) : (dats1 (E1 m) c).arrAt w cfg1.N = X1 m c (Pipeline.arrRef spec1 w) := by
  rcases hw : (cfg1.win w).isOut
  · exact ((dats1 (E1 m) c).arrAt_in w hw _).trans ((A1_eq (E1 m) c w).trans (X1_of m c _ (ins1 w hw)).symm)
  · rcases outw1 w hw with rfl | rfl
    · exact (X1_main_v90_0 m c).symm
    · exact (X1_main_v90_1 m c).symm

set_option backward.isDefEq.respectTransparency.types false in
/-- Layer 1's region: entered with every unscoped buffer at `E1`, left with them at `X1`. -/
def reg1 : RegionSeg (pcfgs (F := F)) adm (pdats m) () defs₀ Variants.none L lv 1 where
  win := launch1.win.to₀
  block_pos := launch1.block_pos
  stage_whole := launch1.stage_whole
  K := PEmpty
  osem := PEmpty.elim
  ho := Pipeline.OwnSemFacts.none _
  hbody c := (body_obligation1 (E1 m) c).loose
  hwaits := Pipeline.hwaits_of_owed_zero _ _ _ _ L lv 1 fun _ _ => rfl
  pre c := iprop(StableHlo.held (c : Thread nD τ) (Pipeline.ucRefs τ sig) (E1 m c) ∗ Rest c)
  post c := iprop(StableHlo.held (c : Thread nD τ) (Pipeline.ucRefs τ sig) (X1 m c) ∗ Rest c)
  X _ := iprop(emp)
  Y _ := iprop(emp)
  Z c := Pipeline.unscopedRest spec1 c (E1 m c ·)
  hentry c := by
    rw [← Pipeline.unscopedBufs_held (Ix := Unit) (Name := ℕ) (U := UR sig nD τ) (Lvl := ℕ) c (E1 m c)]
    have hsplit := Pipeline.arrays_of_unscopedBufs (pcfgs (F := F)) adm (pdats m) (p := 1) launch1.win launch1.arr_whole c
      ((pdats m 1 c).share_full fun _ => rfl) (E1 m c ·) (A1_eq (E1 m) c)
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := (show iprop(emp ∗ _ ∗ Pipeline.scopedRest spec1 c) ⊢ Pipeline.scopedRest spec1 c from by
    iintro ⟨-, -, Hr⟩
    iexact Hr).trans (hin1 (E1 m) c)
  hout c := (hout1 (E1 m) c).trans (by
    rw [Pipeline.ownSems0_none]
    iintro Hr
    isplitr; · iempintro
    isplitr; · iempintro
    iexact Hr)
  hexit c := by
    rw [← Pipeline.unscopedBufs_held (Ix := Unit) (Name := ℕ) (U := UR sig nD τ) (Lvl := ℕ) c (X1 m c)]
    have hjoin := Pipeline.unscopedBufs_of_arrays (pcfgs (F := F)) adm (p := 1) launch1.win launch1.arr_whole c (pdats m)
      ((pdats m 1 c).share_full fun _ => rfl) (E1 m c ·) (X1 m c ·) (fun w => (pdats m 1 c).arrAt w cfg1.N) (final1 m c)
      (fun b hb => X1_of m c b fun h => hb (by
        simp only [List.mem_cons, List.not_mem_nil, _root_.or_false] at h
        rcases h with rfl | rfl
        · exact Finset.mem_image.mpr ⟨16, Finset.mem_univ _, rfl⟩
        · exact Finset.mem_image.mpr ⟨17, Finset.mem_univ _, rfl⟩))
    iintro ⟨Ha, HO, -, HZ⟩
    imodintro
    isplitr [HO]
    · iapply hjoin
      isplitl [Ha] <;> iassumption
    · unfold Pipeline.Dat.owesAt Pipeline.owesWithin
      icases HO with ⟨%W, -, HO⟩; iexists W; iexact HO

/-- No input of layer 2 is one of its results. -/
theorem ins2 : ∀ w : Fin 18, (cfg2.win w).isOut = false → Pipeline.arrRef spec2 w ∉ ([main_v135_0, main_v135_1] : List (Ref sig .tc)) := by decide
theorem outw2 : ∀ w : Fin 18, (cfg2.win w).isOut = true → w = 16 ∨ w = 17 := by decide

/-- Every array of layer 2 ends at what `X2` says: an input as it was, a result at what the grid points left. -/
theorem final2 (c : Dev nD) (w : Fin 18) : (dats2 (E2 m) c).arrAt w cfg2.N = X2 m c (Pipeline.arrRef spec2 w) := by
  rcases hw : (cfg2.win w).isOut
  · exact ((dats2 (E2 m) c).arrAt_in w hw _).trans ((A2_eq (E2 m) c w).trans (X2_of m c _ (ins2 w hw)).symm)
  · rcases outw2 w hw with rfl | rfl
    · exact (X2_main_v135_0 m c).symm
    · exact (X2_main_v135_1 m c).symm

set_option backward.isDefEq.respectTransparency.types false in
/-- Layer 2's region: entered with every unscoped buffer at `E2`, left with them at `X2`. -/
def reg2 : RegionSeg (pcfgs (F := F)) adm (pdats m) () defs₀ Variants.none L lv 2 where
  win := launch2.win.to₀
  block_pos := launch2.block_pos
  stage_whole := launch2.stage_whole
  K := PEmpty
  osem := PEmpty.elim
  ho := Pipeline.OwnSemFacts.none _
  hbody c := (body_obligation2 (E2 m) c).loose
  hwaits := Pipeline.hwaits_of_owed_zero _ _ _ _ L lv 2 fun _ _ => rfl
  pre c := iprop(StableHlo.held (c : Thread nD τ) (Pipeline.ucRefs τ sig) (E2 m c) ∗ Rest c)
  post c := iprop(StableHlo.held (c : Thread nD τ) (Pipeline.ucRefs τ sig) (X2 m c) ∗ Rest c)
  X _ := iprop(emp)
  Y _ := iprop(emp)
  Z c := Pipeline.unscopedRest spec2 c (E2 m c ·)
  hentry c := by
    rw [← Pipeline.unscopedBufs_held (Ix := Unit) (Name := ℕ) (U := UR sig nD τ) (Lvl := ℕ) c (E2 m c)]
    have hsplit := Pipeline.arrays_of_unscopedBufs (pcfgs (F := F)) adm (pdats m) (p := 2) launch2.win launch2.arr_whole c
      ((pdats m 2 c).share_full fun _ => rfl) (E2 m c ·) (A2_eq (E2 m) c)
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := (show iprop(emp ∗ _ ∗ Pipeline.scopedRest spec2 c) ⊢ Pipeline.scopedRest spec2 c from by
    iintro ⟨-, -, Hr⟩
    iexact Hr).trans (hin2 (E2 m) c)
  hout c := (hout2 (E2 m) c).trans (by
    rw [Pipeline.ownSems0_none]
    iintro Hr
    isplitr; · iempintro
    isplitr; · iempintro
    iexact Hr)
  hexit c := by
    rw [← Pipeline.unscopedBufs_held (Ix := Unit) (Name := ℕ) (U := UR sig nD τ) (Lvl := ℕ) c (X2 m c)]
    have hjoin := Pipeline.unscopedBufs_of_arrays (pcfgs (F := F)) adm (p := 2) launch2.win launch2.arr_whole c (pdats m)
      ((pdats m 2 c).share_full fun _ => rfl) (E2 m c ·) (X2 m c ·) (fun w => (pdats m 2 c).arrAt w cfg2.N) (final2 m c)
      (fun b hb => X2_of m c b fun h => hb (by
        simp only [List.mem_cons, List.not_mem_nil, _root_.or_false] at h
        rcases h with rfl | rfl
        · exact Finset.mem_image.mpr ⟨16, Finset.mem_univ _, rfl⟩
        · exact Finset.mem_image.mpr ⟨17, Finset.mem_univ _, rfl⟩))
    iintro ⟨Ha, HO, -, HZ⟩
    imodintro
    isplitr [HO]
    · iapply hjoin
      isplitl [Ha] <;> iassumption
    · unfold Pipeline.Dat.owesAt Pipeline.owesWithin
      icases HO with ⟨%W, -, HO⟩; iexists W; iexact HO

/-- No input of layer 3 is one of its results. -/
theorem ins3 : ∀ w : Fin 18, (cfg3.win w).isOut = false → Pipeline.arrRef spec3 w ∉ ([main_v180_0, main_v180_1] : List (Ref sig .tc)) := by decide
theorem outw3 : ∀ w : Fin 18, (cfg3.win w).isOut = true → w = 16 ∨ w = 17 := by decide

/-- Every array of layer 3 ends at what `X3` says: an input as it was, a result at what the grid points left. -/
theorem final3 (c : Dev nD) (w : Fin 18) : (dats3 (E3 m) c).arrAt w cfg3.N = X3 m c (Pipeline.arrRef spec3 w) := by
  rcases hw : (cfg3.win w).isOut
  · exact ((dats3 (E3 m) c).arrAt_in w hw _).trans ((A3_eq (E3 m) c w).trans (X3_of m c _ (ins3 w hw)).symm)
  · rcases outw3 w hw with rfl | rfl
    · exact (X3_main_v180_0 m c).symm
    · exact (X3_main_v180_1 m c).symm

set_option backward.isDefEq.respectTransparency.types false in
/-- Layer 3's region: entered with every unscoped buffer at `E3`, left with them at `X3`. -/
def reg3 : RegionSeg (pcfgs (F := F)) adm (pdats m) () defs₀ Variants.none L lv 3 where
  win := launch3.win.to₀
  block_pos := launch3.block_pos
  stage_whole := launch3.stage_whole
  K := PEmpty
  osem := PEmpty.elim
  ho := Pipeline.OwnSemFacts.none _
  hbody c := (body_obligation3 (E3 m) c).loose
  hwaits := Pipeline.hwaits_of_owed_zero _ _ _ _ L lv 3 fun _ _ => rfl
  pre c := iprop(StableHlo.held (c : Thread nD τ) (Pipeline.ucRefs τ sig) (E3 m c) ∗ Rest c)
  post c := iprop(StableHlo.held (c : Thread nD τ) (Pipeline.ucRefs τ sig) (X3 m c) ∗ Rest c)
  X _ := iprop(emp)
  Y _ := iprop(emp)
  Z c := Pipeline.unscopedRest spec3 c (E3 m c ·)
  hentry c := by
    rw [← Pipeline.unscopedBufs_held (Ix := Unit) (Name := ℕ) (U := UR sig nD τ) (Lvl := ℕ) c (E3 m c)]
    have hsplit := Pipeline.arrays_of_unscopedBufs (pcfgs (F := F)) adm (pdats m) (p := 3) launch3.win launch3.arr_whole c
      ((pdats m 3 c).share_full fun _ => rfl) (E3 m c ·) (A3_eq (E3 m) c)
    iintro ⟨⟨Hub, HO⟩, -, -⟩
    ihave H := hsplit $$ Hub
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := (show iprop(emp ∗ _ ∗ Pipeline.scopedRest spec3 c) ⊢ Pipeline.scopedRest spec3 c from by
    iintro ⟨-, -, Hr⟩
    iexact Hr).trans (hin3 (E3 m) c)
  hout c := (hout3 (E3 m) c).trans (by
    rw [Pipeline.ownSems0_none]
    iintro Hr
    isplitr; · iempintro
    isplitr; · iempintro
    iexact Hr)
  hexit c := by
    rw [← Pipeline.unscopedBufs_held (Ix := Unit) (Name := ℕ) (U := UR sig nD τ) (Lvl := ℕ) c (X3 m c)]
    have hjoin := Pipeline.unscopedBufs_of_arrays (pcfgs (F := F)) adm (p := 3) launch3.win launch3.arr_whole c (pdats m)
      ((pdats m 3 c).share_full fun _ => rfl) (E3 m c ·) (X3 m c ·) (fun w => (pdats m 3 c).arrAt w cfg3.N) (final3 m c)
      (fun b hb => X3_of m c b fun h => hb (by
        simp only [List.mem_cons, List.not_mem_nil, _root_.or_false] at h
        rcases h with rfl | rfl
        · exact Finset.mem_image.mpr ⟨16, Finset.mem_univ _, rfl⟩
        · exact Finset.mem_image.mpr ⟨17, Finset.mem_univ _, rfl⟩))
    iintro ⟨Ha, HO, -, HZ⟩
    imodintro
    isplitr [HO]
    · iapply hjoin
      isplitl [Ha] <;> iassumption
    · unfold Pipeline.Dat.owesAt Pipeline.owesWithin
      icases HO with ⟨%W, -, HO⟩; iexists W; iexact HO

/-! ## The run of @main -/

set_option backward.isDefEq.respectTransparency.types false in
/-- Every weakly fair execution of @main from memory `m` with zero counters terminates, and every final state has each
    core's unscoped buffers at `Xend` and every semaphore counter at zero. -/
theorem run_main : θ_run defs (onTc (τ := τ) (main (F := F))) ⟨m, fun _ => 0, ρ⟩ (fun r =>
    (∀ c : Dev nD, ∀ b ∈ Pipeline.ucRefs τ sig, r.2.mem ((c.tc : Thread nD τ).1, b) = Xend m c b) ∧ r.2.sem = fun _ => 0) := by
  refine Pipeline.θ_run_regions_kit_dev_sems (pcfgs (F := F)) adm (pdats m) () cellOf_inj emb₁ defs₀ Variants.none L lv m ρ main
    (segs m (outs m) Variants.none L lv (fun _ => Rest) () (pdats m) (reg0 m) (reg1 m) (reg2 m) (reg3 m))
    (fun c Q => by
      rewrite [main_chain c, Pipeline.Seg.run_eq_chain,
        show (segs m (outs m) Variants.none L lv (fun _ => Rest) () (pdats m) (reg0 m) (reg1 m) (reg2 m) (reg3 m) c).map Pipeline.Seg.prog = [
          StableHlo.seq hostOps0,
          StableHlo.seq hostOps0_1,
          StableHlo.seq hostOps0_2,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4 ] from rfl]
      dsimp (config := { failIfUnchanged := false }) only
      exact .rfl)
    (fun c => by simp only [segs, Pipeline.Seg.pipes_host, Pipeline.Seg.pipes_region, Pipeline.Seg.pipes_nil]; decide) (fun _ => 0) (fun _ _ => rfl) (fun _ => iprop(emp)) (initOf (Pipeline.cells cfgs cellOf_inj) (Pipeline.launchToks cfgs cellOf_inj)) (by
      iintro Hu
      imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c))
    (Tₙ := fun c => StableHlo.held (c : Thread nD τ) (Pipeline.ucRefs τ sig) (V11 m (outs m) c))
    (hch := fun c => ⟨.rfl, .rfl, .rfl, Entails.of_eq (congrArg (fun v => iprop(StableHlo.held (c : Thread nD τ) (Pipeline.ucRefs τ sig) v ∗ Rest c)) (V3_eq m c)), Entails.of_eq (congrArg (fun v => iprop(StableHlo.held (c : Thread nD τ) (Pipeline.ucRefs τ sig) v ∗ Rest c)) (V4_eq m c).symm),
      Entails.of_eq (congrArg (fun v => iprop(StableHlo.held (c : Thread nD τ) (Pipeline.ucRefs τ sig) v ∗ Rest c)) (V5_eq m c)), Entails.of_eq (congrArg (fun v => iprop(StableHlo.held (c : Thread nD τ) (Pipeline.ucRefs τ sig) v ∗ Rest c)) (V6_eq m c).symm),
      Entails.of_eq (congrArg (fun v => iprop(StableHlo.held (c : Thread nD τ) (Pipeline.ucRefs τ sig) v ∗ Rest c)) (V7_eq m c)), Entails.of_eq (congrArg (fun v => iprop(StableHlo.held (c : Thread nD τ) (Pipeline.ucRefs τ sig) v ∗ Rest c)) (V8_eq m c).symm),
      Entails.of_eq (congrArg (fun v => iprop(StableHlo.held (c : Thread nD τ) (Pipeline.ucRefs τ sig) v ∗ Rest c)) (V9_eq m c)), Entails.of_eq (congrArg (fun v => iprop(StableHlo.held (c : Thread nD τ) (Pipeline.ucRefs τ sig) v ∗ Rest c)) (V10_eq m c).symm), .rfl⟩)
    (hinit := ?_) (QY := fun c s => ∀ b ∈ Pipeline.ucRefs τ sig, s.mem ((c.tc : Thread nD τ).1, b) = Xend m c b)
    (hfin := fun c s' => ?_) (hQ := fun _ h hz => ⟨h, funext fun g => hz g (.inr (regions_no_unscoped g.2))⟩)
  · -- the launch: the unscoped buffers are `held` at `V0`; the rest makes `E 0` on every core at once
    have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ : Dev nD => (0 : CellTallies nD τ sig Unit)) c ∗ prngReg c (ρ c) ∗ emp))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (0 : CellTallies nD τ sig Unit) ∅ ∗ Pipeline.launchCred (fun _ : Dev nD => (0 : CellTallies nD τ sig Unit)) c ∗ prngReg c (ρ c) ∗ emp))
            : sProp (MT nD τ sig Unit (Elt F) ℕ (UR sig nD τ) ℕ)) := by
      rw [← bigSep_sep']
      exact bigSep_mono fun c _ => by rw [← Pipeline.unscopedBufs_held (Ix := Unit) (Name := ℕ) (U := UR sig nD τ) (Lvl := ℕ) c (V0 m c)]; exact BI.Entails.refl _
    iintro ⟨H, Hla⟩
    ihave H' := hsplit $$ H
    icases H' with ⟨Hh, Hr⟩
    have hE0 : iprop((bigSep Finset.univ fun c : Dev nD => iprop(unscopedSems0 c ∗ owes (c : Thread nD τ) (0 : CellTallies nD τ sig Unit) ∅ ∗ Pipeline.launchCred (fun _ : Dev nD => (0 : CellTallies nD τ sig Unit)) c ∗ prngReg c (ρ c) ∗ emp)) ∗ levAts L lv)
        ⊢ (|={Set.univ}=> bigSep Finset.univ Rest : sProp 𝕄) :=
      Pipeline.initEach L lv fun c => by
        iintro ⟨⟨-, HO, -, -, -⟩, -⟩
        imodintro
        iexists ∅; iexact HO
    imod hE0 $$ [Hr Hla] with HE
    · isplitl [Hr]; · iexact Hr
      iexact Hla
    imodintro
    rw [bigSep_sep']
    isplitl [Hh]; · iexact Hh
    iexact HE
  · -- the end: each argument's buffer read off the last valuation
    unfold StableHlo.held
    iintro ⟨Hh, HSI⟩
    ihave Hr := (pointsTo_read_all (Pipeline.ucRefs τ sig) (fun b => ((c : Thread nD τ).1, b)) (V11 m (outs m) c) s') $$ [Hh HSI]
    · isplitl [Hh] <;> iassumption
    icases Hr with ⟨%h, HSI⟩
    imodintro
    isplitr
    · ipureintro
      exact fun b hb => (h b hb).trans (congrFun (V11_eq m c) b)
    · iexact HSI

end Cert.Kernel.Layer

end
-- ==== Proof.Kernel.Frames.lean ====
module

public import proofs.«01_k».proof.Proof.Kernel.LayerRun
public import proofs.«01_k».proof.Defs

@[expose] public section

noncomputable section

namespace Cert.Kernel.Layer

open Idealize.ShloMosaic Idealize.SL.Sem

variable {F : FTy → Type} [FloatOps F] (m : (ℓ : Loc nD τ sig) → Buf (Elt F) ℓ) (ρ : Dev nD → PrngReg)

/-- Every final state has the sixteen argument arrays as they were launched and every semaphore counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15))
      ∧ r.2.sem = fun _ => 0) :=
  (θ_run defs _ _).mono (fun r h => ⟨fun c => ⟨
    (h.1 c _ (Finset.mem_filter.mpr ⟨StableHlo.devRef_mem_tcRefs main_arg0, by decide⟩)).trans ((congrFun (V11_eq m c).symm _).trans (Gen.V11_main_arg0 m (outs m) c)),
    (h.1 c _ (Finset.mem_filter.mpr ⟨StableHlo.devRef_mem_tcRefs main_arg1, by decide⟩)).trans ((congrFun (V11_eq m c).symm _).trans (Gen.V11_main_arg1 m (outs m) c)),
    (h.1 c _ (Finset.mem_filter.mpr ⟨StableHlo.devRef_mem_tcRefs main_arg2, by decide⟩)).trans ((congrFun (V11_eq m c).symm _).trans (Gen.V11_main_arg2 m (outs m) c)),
    (h.1 c _ (Finset.mem_filter.mpr ⟨StableHlo.devRef_mem_tcRefs main_arg3, by decide⟩)).trans ((congrFun (V11_eq m c).symm _).trans (Gen.V11_main_arg3 m (outs m) c)),
    (h.1 c _ (Finset.mem_filter.mpr ⟨StableHlo.devRef_mem_tcRefs main_arg4, by decide⟩)).trans ((congrFun (V11_eq m c).symm _).trans (Gen.V11_main_arg4 m (outs m) c)),
    (h.1 c _ (Finset.mem_filter.mpr ⟨StableHlo.devRef_mem_tcRefs main_arg5, by decide⟩)).trans ((congrFun (V11_eq m c).symm _).trans (Gen.V11_main_arg5 m (outs m) c)),
    (h.1 c _ (Finset.mem_filter.mpr ⟨StableHlo.devRef_mem_tcRefs main_arg6, by decide⟩)).trans ((congrFun (V11_eq m c).symm _).trans (Gen.V11_main_arg6 m (outs m) c)),
    (h.1 c _ (Finset.mem_filter.mpr ⟨StableHlo.devRef_mem_tcRefs main_arg7, by decide⟩)).trans ((congrFun (V11_eq m c).symm _).trans (Gen.V11_main_arg7 m (outs m) c)),
    (h.1 c _ (Finset.mem_filter.mpr ⟨StableHlo.devRef_mem_tcRefs main_arg8, by decide⟩)).trans ((congrFun (V11_eq m c).symm _).trans (Gen.V11_main_arg8 m (outs m) c)),
    (h.1 c _ (Finset.mem_filter.mpr ⟨StableHlo.devRef_mem_tcRefs main_arg9, by decide⟩)).trans ((congrFun (V11_eq m c).symm _).trans (Gen.V11_main_arg9 m (outs m) c)),
    (h.1 c _ (Finset.mem_filter.mpr ⟨StableHlo.devRef_mem_tcRefs main_arg10, by decide⟩)).trans ((congrFun (V11_eq m c).symm _).trans (Gen.V11_main_arg10 m (outs m) c)),
    (h.1 c _ (Finset.mem_filter.mpr ⟨StableHlo.devRef_mem_tcRefs main_arg11, by decide⟩)).trans ((congrFun (V11_eq m c).symm _).trans (Gen.V11_main_arg11 m (outs m) c)),
    (h.1 c _ (Finset.mem_filter.mpr ⟨StableHlo.devRef_mem_tcRefs main_arg12, by decide⟩)).trans ((congrFun (V11_eq m c).symm _).trans (Gen.V11_main_arg12 m (outs m) c)),
    (h.1 c _ (Finset.mem_filter.mpr ⟨StableHlo.devRef_mem_tcRefs main_arg13, by decide⟩)).trans ((congrFun (V11_eq m c).symm _).trans (Gen.V11_main_arg13 m (outs m) c)),
    (h.1 c _ (Finset.mem_filter.mpr ⟨StableHlo.devRef_mem_tcRefs main_arg14, by decide⟩)).trans ((congrFun (V11_eq m c).symm _).trans (Gen.V11_main_arg14 m (outs m) c)),
    (h.1 c _ (Finset.mem_filter.mpr ⟨StableHlo.devRef_mem_tcRefs main_arg15, by decide⟩)).trans ((congrFun (V11_eq m c).symm _).trans (Gen.V11_main_arg15 m (outs m) c))⟩, h.2⟩) (run_main m ρ)

end Cert.Kernel.Layer

end
-- ==== Proof.Value.Spec.lean ====
/- The network's layer as plain functions of coordinates, over the extended reals: what both programs compute.
   Arrays of codes are functions of (sequence, time, channel); nothing here knows a tile, a block or a launch. -/
module
public import Idealize.ShloMosaic.Lib.Pointwise
@[expose] public section
noncomputable section

namespace Cert.Spec
open Idealize.ShloMosaic

/-- Codes or reals along (24 sequences, 2048 steps, `n` channels). -/
abbrev Seq (n : ℕ) (α : Type) := Fin 24 → Fin 2048 → Fin n → α

/-- An 8-bit code as a number. -/
def num (x : BitVec 8) : EReal := FloatOps.sitofp (F := Ideal) .f32 x

/-- The quotient rounded to an integer and clipped to ±127, still a number. -/
def clip8 (v s : EReal) : EReal :=
  min (((127#32 : BitVec 32).toInt : ℝ) : EReal)
    (max (((4294967169#32 : BitVec 32).toInt : ℝ) : EReal) (Ideal.liftRound Ideal.roundHalfEven (Ideal.div v s)))

/-- A number as an 8-bit code. -/
def code (v : EReal) : BitVec 8 := FloatOps.fptosi (F := Ideal) (φ := .f32) 8 v

/-- The sequence `d` steps ago, zero codes before the start. -/
def late (d : ℕ) (r : Seq 768 (BitVec 8)) : Seq 768 (BitVec 8) :=
  fun b t k => if _h : t.val < d then 0#8 else r b ⟨t.val - d, by omega⟩ k

/-- The two-tap dilated product. -/
def acc (rp r : Seq 768 (BitVec 8)) (w0 w1 : Fin 768 → Fin 3072 → BitVec 8) : Seq 3072 EReal :=
  fun b t o => ∑ x, num (rp b t x) * num (w0 x o) + ∑ x, num (r b t x) * num (w1 x o)

/-- The conditioning product of one frame. -/
def ctx (cond : Fin 24 → Fin 7 → Fin 80 → BitVec 8) (wc : Fin 80 → Fin 3072 → BitVec 8) (cs : EReal)
    (ws : Fin 3072 → EReal) : Fin 24 → Fin 7 → Fin 3072 → EReal :=
  fun b f o => (∑ x, num (cond b f x) * num (wc x o)) * (cs * ws o)

/-- What enters the gate: the scaled product, its bias, and the conditioning of the step's frame. -/
def pre (A : Seq 3072 EReal) (C : Fin 24 → Fin 7 → Fin 3072 → EReal) (sr : EReal) (dsc db : Fin 3072 → EReal) :
    Seq 3072 EReal :=
  fun b t o => A b t o * (sr * dsc o) + db o + C b ⟨t.val / 300, by omega⟩ o

/-- The gate, quantised, still a number. -/
def gate (P : Seq 3072 EReal) (sg : EReal) : Seq 1536 EReal :=
  fun b t g => clip8 (Ideal.tanh (P b t ⟨g.val, by omega⟩) * Ideal.logistic (P b t ⟨1536 + g.val, by omega⟩)) sg

/-- The residual output of a layer. -/
def res (r : Seq 768 (BitVec 8)) (Z : Seq 1536 (BitVec 8)) (wr : Fin 1536 → Fin 768 → BitVec 8) (sr sg sq : EReal)
    (rsc rb : Fin 768 → EReal) : Seq 768 (BitVec 8) :=
  fun b t d => code (clip8 (num (r b t d) * sr + (∑ x, num (Z b t x) * num (wr x d)) * (sg * rsc d) + rb d) sq)

/-- The skip addend of a layer. -/
def skip (Z : Seq 1536 (BitVec 8)) (ws : Fin 1536 → Fin 512 → BitVec 8) (sg : EReal) (ssc sb : Fin 512 → EReal) :
    Seq 512 EReal :=
  fun b t o => (∑ x, num (Z b t x) * num (ws x o)) * (sg * ssc o) + sb o

/-- The network's sixteen arguments by coordinates. -/
structure Args where
  x : Seq 768 (BitVec 8)
  ars : Fin 5 → EReal
  ags : Fin 4 → EReal
  wd : Fin 4 → Fin 2 → Fin 768 → Fin 3072 → BitVec 8
  dsc : Fin 4 → Fin 3072 → EReal
  db : Fin 4 → Fin 3072 → EReal
  wr : Fin 4 → Fin 1536 → Fin 768 → BitVec 8
  rsc : Fin 4 → Fin 768 → EReal
  rb : Fin 4 → Fin 768 → EReal
  wk : Fin 4 → Fin 1536 → Fin 512 → BitVec 8
  ksc : Fin 4 → Fin 512 → EReal
  kb : Fin 4 → Fin 512 → EReal
  cond : Fin 24 → Fin 7 → Fin 80 → BitVec 8
  cs : EReal
  wc : Fin 4 → Fin 80 → Fin 3072 → BitVec 8
  csc : Fin 4 → Fin 3072 → EReal

/-- The gate codes of layer `l` (dilation `d`) on the codes `r`. -/
def Args.z (a : Args) (l : Fin 4) (d : ℕ) (r : Seq 768 (BitVec 8)) : Seq 1536 (BitVec 8) :=
  fun b t g => code (gate (pre (acc (late d r) r (a.wd l 0) (a.wd l 1)) (ctx a.cond (a.wc l) a.cs (a.csc l))
    (a.ars l.castSucc) (a.dsc l) (a.db l)) (a.ags l) b t g)

/-- The residual codes after layer `l`. -/
def Args.next (a : Args) (l : Fin 4) (d : ℕ) (r : Seq 768 (BitVec 8)) : Seq 768 (BitVec 8) :=
  res r (a.z l d r) (a.wr l) (a.ars l.castSucc) (a.ags l) (a.ars l.succ) (a.rsc l) (a.rb l)

/-- The skip addend of layer `l`. -/
def Args.add (a : Args) (l : Fin 4) (d : ℕ) (r : Seq 768 (BitVec 8)) : Seq 512 EReal :=
  skip (a.z l d r) (a.wk l) (a.ags l) (a.ksc l) (a.kb l)

/-- The residual codes after one, two, three and all four layers. -/
def Args.r1 (a : Args) := a.next 0 1 a.x
def Args.r2 (a : Args) := a.next 1 4 a.r1
def Args.r3 (a : Args) := a.next 2 16 a.r2
def Args.r4 (a : Args) := a.next 3 64 a.r3

/-- The skip sum. -/
def Args.sum (a : Args) : Seq 512 EReal := fun b t o =>
  a.add 0 1 a.x b t o + a.add 1 4 a.r1 b t o + a.add 2 16 a.r2 b t o + a.add 3 64 a.r3 b t o

/-! ## One tile of 256 steps, the way the kernel adds it up -/

/-- Codes or reals of one tile. -/
abbrev Tile (n : ℕ) (α : Type) := Fin 256 → Fin n → α

/-- What enters the gate in a tile: the scaled product and one of the two rows `c0`, `c1` of the carried table. -/
def tpre (rp r : Tile 768 (BitVec 8)) (w0 w1 : Fin 768 → Fin 3072 → BitVec 8) (sr : EReal) (dsc : Fin 3072 → EReal)
    (sel : Fin 256 → BitVec 1) (c0 c1 : Fin 3072 → EReal) : Tile 3072 EReal :=
  fun p o => (∑ x, num (rp p x) * num (w0 x o) + ∑ x, num (r p x) * num (w1 x o)) * (sr * dsc o)
    + Scalar.select (sel p) (c0 o) (c1 o)

/-- The quantised gate of a tile, still a number. -/
def tgate (P : Tile 3072 EReal) (sg : EReal) : Tile 1536 EReal :=
  fun p g => clip8 (Ideal.tanh (P p ⟨g.val, by omega⟩) * Ideal.logistic (P p ⟨1536 + g.val, by omega⟩)) sg

/-- The residual codes of a tile. -/
def tres (r : Tile 768 (BitVec 8)) (Z : Tile 1536 EReal) (wr : Fin 1536 → Fin 768 → BitVec 8) (sr sg sq : EReal)
    (rsc rb : Fin 768 → EReal) : Tile 768 (BitVec 8) :=
  fun p d => code (clip8 (num (r p d) * sr + (∑ x, Z p x * num (wr x d)) * (sg * rsc d) + rb d) sq)

/-- The skip addend of a tile. -/
def tskip (Z : Tile 1536 EReal) (ws : Fin 1536 → Fin 512 → BitVec 8) (sg : EReal) (ssc sb : Fin 512 → EReal) :
    Tile 512 EReal :=
  fun p o => (∑ x, Z p x * num (ws x o)) * (sg * ssc o) + sb o

/-- A gate column of a later chunk, named from either end. -/
theorem col {a b : ℕ} (h : b = 1536 + a) (n : Fin 256) (hb : b + n.val < 3072) :
    (⟨b + n.val, hb⟩ : Fin 3072) = ⟨1536 + (a + n.val), by omega⟩ := by
  subst h
  exact Fin.ext (Nat.add_assoc _ _ _)

/-! ## One layer, given everything it reads -/

/-- What one layer reads: the codes, the codes `d` steps late, its weights, scales and biases, and the conditioning. -/
structure Lay where
  r : Seq 768 (BitVec 8)
  rp : Seq 768 (BitVec 8)
  w0 : Fin 768 → Fin 3072 → BitVec 8
  w1 : Fin 768 → Fin 3072 → BitVec 8
  sr : EReal
  sg : EReal
  sq : EReal
  dsc : Fin 3072 → EReal
  db : Fin 3072 → EReal
  cond : Fin 24 → Fin 7 → Fin 80 → BitVec 8
  wc : Fin 80 → Fin 3072 → BitVec 8
  csc : Fin 3072 → EReal
  wr : Fin 1536 → Fin 768 → BitVec 8
  rsc : Fin 768 → EReal
  rb : Fin 768 → EReal
  ws : Fin 1536 → Fin 512 → BitVec 8
  ssc : Fin 512 → EReal
  sb : Fin 512 → EReal

/-- The conditioning of a frame. -/
def Lay.ctx (L : Lay) : Fin 24 → Fin 7 → Fin 3072 → EReal :=
  fun b f o => (∑ x, num (L.cond b f x) * num (L.wc x o)) * L.csc o

/-- The gate, quantised, as numbers and as codes. -/
def Lay.zn (L : Lay) : Seq 1536 EReal := gate (pre (acc L.rp L.r L.w0 L.w1) L.ctx L.sr L.dsc L.db) L.sg
def Lay.z (L : Lay) : Seq 1536 (BitVec 8) := fun b t g => code (L.zn b t g)

/-- The layer's residual codes and its skip addend. -/
def Lay.next (L : Lay) : Seq 768 (BitVec 8) := res L.r L.z L.wr L.sr L.sg L.sq L.rsc L.rb
def Lay.add (L : Lay) : Seq 512 EReal := skip L.z L.ws L.sg L.ssc L.sb

/-- Layer `l` of the network. -/
def Args.lay (a : Args) (l : Fin 4) (d : ℕ) (r : Seq 768 (BitVec 8)) : Lay where
  r := r
  rp := late d r
  w0 := a.wd l 0
  w1 := a.wd l 1
  sr := a.ars l.castSucc
  sg := a.ags l
  sq := a.ars l.succ
  dsc := a.dsc l
  db := a.db l
  cond := a.cond
  wc := a.wc l
  csc := fun o => a.cs * a.csc l o
  wr := a.wr l
  rsc := a.rsc l
  rb := a.rb l
  ws := a.wk l
  ssc := a.ksc l
  sb := a.kb l

theorem Args.lay_z (a : Args) (l d r) : (a.lay l d r).z = a.z l d r := rfl
theorem Args.lay_next (a : Args) (l d r) : (a.lay l d r).next = a.next l d r := rfl
theorem Args.lay_add (a : Args) (l d r) : (a.lay l d r).add = a.add l d r := rfl

end Cert.Spec
-- ==== Proof.Value.HostArgs.lean ====
/- The network's arguments, read off what a core's buffers hold. -/
module

public import proofs.«01_k».proof.Proof.LayerRun
public import proofs.«01_k».proof.Proof.Value.Spec

@[expose] public section

noncomputable section

namespace Cert.KernelIdeal.Layer

open Idealize.ShloMosaic Idealize.ShloMosaic.TcCoe
open Cert.KernelIdeal.Gen Cert.Spec

/-- A code array by coordinates. -/
def codes (x : Vec Ideal S24x2048x768 .i8) : Seq 768 (BitVec 8) := fun b t k => x (ix3 b t k)

/-- The sixteen arguments by coordinates, as the buffers `U` hold them. -/
def argsAt (U : Valuation τ sig (Elt Ideal)) : Args where
  x := codes (U main_arg0)
  ars l := (U main_arg1 : Vec Ideal S5 .f32) (ix1 l)
  ags l := (U main_arg2 : Vec Ideal S4 .f32) (ix1 l)
  wd l p k o := (U main_arg3 : Vec Ideal S4x2x768x3072 .i8) (ix4 l p k o)
  dsc l o := (U main_arg4 : Vec Ideal S4x3072 .f32) (ix2 l o)
  db l o := (U main_arg5 : Vec Ideal S4x3072 .f32) (ix2 l o)
  wr l k o := (U main_arg6 : Vec Ideal S4x1536x768 .i8) (ix3 l k o)
  rsc l o := (U main_arg7 : Vec Ideal S4x768 .f32) (ix2 l o)
  rb l o := (U main_arg8 : Vec Ideal S4x768 .f32) (ix2 l o)
  wk l k o := (U main_arg9 : Vec Ideal S4x1536x512 .i8) (ix3 l k o)
  ksc l o := (U main_arg10 : Vec Ideal S4x512 .f32) (ix2 l o)
  kb l o := (U main_arg11 : Vec Ideal S4x512 .f32) (ix2 l o)
  cond b f k := (U main_arg12 : Vec Ideal S24x7x80 .i8) (ix3 b f k)
  cs := (U main_arg13 : Vec Ideal S_ .f32) ix0
  wc l k o := (U main_arg14 : Vec Ideal S4x80x3072 .i8) (ix3 l k o)
  csc l o := (U main_arg15 : Vec Ideal S4x3072 .f32) (ix2 l o)

end Cert.KernelIdeal.Layer
-- ==== Proof.Value.Tile0.lean ====
/- What the stores of kernel call 0's body hold, read at an index: the tile functions of Proof/Value/Spec.lean. -/
module

public import proofs.«01_k».proof.Proof.Run0
public import proofs.«01_k».proof.Proof.Value.Spec

@[expose] public section

set_option maxRecDepth 16384
set_option maxHeartbeats 0

noncomputable section

namespace Cert.KernelIdeal.Layer

open Idealize.ShloMosaic Idealize.ShloMosaic.TcCoe Idealize.ShloMosaic.Tactic
open Idealize.SL.Sem
open Cert.KernelIdeal.Gen Cert.Spec

variable (c : Dev nD) (i : grid0.Coords)
  (arg2 : Memref sig .tc .smem S3 .f32) (harg2 : arg2.IsWhole)
  (arg3 : Memref sig .tc .vmem S1x256x768 .i8) (harg3 : arg3.IsWhole)
  (arg4 : Memref sig .tc .vmem S1x256x768 .i8) (harg4 : arg4.IsWhole)
  (arg5 : Memref sig .tc .vmem S1x16x80 .i8) (harg5 : arg5.IsWhole)
  (arg6 : Memref sig .tc .vmem S80x3072 .i8) (harg6 : arg6.IsWhole)
  (arg7 : Memref sig .tc .vmem S2x768x3072 .i8) (harg7 : arg7.IsWhole)
  (arg8 : Memref sig .tc .vmem S1536x768 .i8) (harg8 : arg8.IsWhole)
  (arg9 : Memref sig .tc .vmem S1536x512 .i8) (harg9 : arg9.IsWhole)
  (arg10 : Memref sig .tc .vmem S1x3072 .f32) (harg10 : arg10.IsWhole)
  (arg11 : Memref sig .tc .vmem S1x3072 .f32) (harg11 : arg11.IsWhole)
  (arg12 : Memref sig .tc .vmem S1x3072 .f32) (harg12 : arg12.IsWhole)
  (arg13 : Memref sig .tc .vmem S1x768 .f32) (harg13 : arg13.IsWhole)
  (arg14 : Memref sig .tc .vmem S1x768 .f32) (harg14 : arg14.IsWhole)
  (arg15 : Memref sig .tc .vmem S1x512 .f32) (harg15 : arg15.IsWhole)
  (arg16 : Memref sig .tc .vmem S1x512 .f32) (harg16 : arg16.IsWhole)
  (arg17 : Memref sig .tc .vmem S1x256x512 .f32) (harg17 : arg17.IsWhole)
  (arg18 : Memref sig .tc .vmem S1x256x768 .i8) (harg18 : arg18.IsWhole)
  (arg19 : Memref sig .tc .vmem S1x256x1536 .i8) (harg19 : arg19.IsWhole)
  (arg20 : Memref sig .tc .vmem S256x1536 .bf16) (harg20 : arg20.IsWhole)
  (arg21 : Memref sig .tc .vmem S16x3072 .f32) (harg21 : arg21.IsWhole)
  (x0 : Vec Ideal S3 .f32)
  (x1 : Vec Ideal S1x256x768 .i8)
  (x2 : Vec Ideal S1x256x768 .i8)
  (x3 : Vec Ideal S1x16x80 .i8)
  (x4 : Vec Ideal S80x3072 .i8)
  (x5 : Vec Ideal S2x768x3072 .i8)
  (x6 : Vec Ideal S1536x768 .i8)
  (x7 : Vec Ideal S1536x512 .i8)
  (x8 : Vec Ideal S1x3072 .f32)
  (x9 : Vec Ideal S1x3072 .f32)
  (x10 : Vec Ideal S1x3072 .f32)
  (x11 : Vec Ideal S1x768 .f32)
  (x12 : Vec Ideal S1x768 .f32)
  (x13 : Vec Ideal S1x512 .f32)
  (x14 : Vec Ideal S1x512 .f32)

  (cv : Vec Ideal S16x3072 .f32)

/-- The tile's first frame, and whether a row still belongs to it. -/
def frame0 : Fin 16 := ⟨k0_off1 i 0, Nat.lt_of_succ_le (k0_off1_inb i 0)⟩
def frameNext0 : Fin 16 := ⟨k0_off2 i 0, Nat.lt_of_succ_le (k0_off2_inb i 0)⟩
def sel0 (p : Fin 256) : BitVec 1 := k0_pay3 i (ix2 p (0 : Fin 256))

theorem sel0_apply (j : S256x256.Idx) : k0_pay3 i j = sel0 i (j 0) := by
  unfold sel0
  pointwise [k0_pay3]

/-- The tile's gate, from the blocks and the carried table. -/
def zt0 : Tile 1536 EReal :=
  tgate (tpre (fun p k => x2 (ix3 0 p k)) (fun p k => x1 (ix3 0 p k)) (fun k o => x5 (ix3 0 k o)) (fun k o => x5 (ix3 1 k o))
    (x0 (ix1 0)) (fun o => x8 (ix2 0 o)) (sel0 i) (fun o => cv (ix2 (frame0 i) o)) (fun o => cv (ix2 (frameNext0 i) o)))
    (x0 (ix1 1))

/-- The same as a block. -/
def zv0 : Vec Ideal S256x1536 .bf16 := fun y => zt0 i x0 x1 x2 x5 x8 cv (y 0) (y 1)

theorem zv0_ix2 (p : Fin 256) (g : Fin 1536) : zv0 i x0 x1 x2 x5 x8 cv (ix2 p g) = zt0 i x0 x1 x2 x5 x8 cv p g := rfl

/-- The gate scratch's stores hold the gate. -/
theorem zpieces0 : ∀ pc ∈ run0.sl.H18_6 i arg7 harg7 arg10 harg10 arg21 harg21 x0 x1 x2 x5 x8 cv, ∀ x, pc.2 x = (zv0 i x0 x1 x2 x5 x8 cv) (pc.1.emb x) := by
  delta run0.sl.H18_6
  simp only [List.forall_mem_cons]
  refine ⟨?_, ?_, ?_, ?_, ?_, ?_, fun _ h => absurd h List.not_mem_nil⟩
  all_goals
    intro x
    generalize hG : (zv0 i x0 x1 x2 x5 x8 cv) = G
    change _ = View.ld G _ x
    obtain ⟨p, q, rfl⟩ : ∃ (p : Fin 256) (q : Fin 256), x = ix2 p q := ⟨x 0, x 1, eq_ix2 x⟩
    sl_unfold_words
    simp (disch := decide) only [View.readAt_eq_ld, Memref.IsWhole.read_unread, View.ld_unit_lit']
    generalize hs : k0_pay3 i = s
    pointwise [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    subst hG
    subst hs
    simp only [zv0_ix2, sel0_apply, col (a := 256) (b := 1792) rfl, col (a := 512) (b := 2048) rfl, col (a := 768) (b := 2304) rfl,
      col (a := 1024) (b := 2560) rfl, col (a := 1280) (b := 2816) rfl]
    unfold zt0 tgate tpre
    dsimp only
    rfl

/-- The six stores fill the gate scratch. -/
theorem zcover0 (y : S256x1536.Idx) : ∃ pc ∈ (run0.sl.H18_6 (F := Ideal) i arg7 harg7 arg10 harg10 arg21 harg21 x0 x1 x2 x5 x8 cv), y ∈ pc.1.set :=
  View.cover_of_tiledL (run0.sl.H18_6 i arg7 harg7 arg10 harg10 arg21 harg21 x0 x1 x2 x5 x8 cv) S256x256.size (by sl_kernel_rfl) y

/-- The gate read back whole from its scratch. -/
theorem zread0 : run0.sl.v468 (F := Ideal) i arg7 harg7 arg10 harg10 arg20 arg21 harg21 x0 x1 x2 x5 x8 cv = zv0 i x0 x1 x2 x5 x8 cv := by
  delta run0.sl.v468
  have hc := zcover0 i arg7 harg7 arg10 harg10 arg21 harg21 x0 x1 x2 x5 x8 cv
  refine (View.readCov_eq_canon_ld (Val := Elt Ideal) arg20.view (run0.sl.H18_6 i arg7 harg7 arg10 harg10 arg21 harg21 x0 x1 x2 x5 x8 cv) (Rect.unit ![0, 0] S256x1536.size inb_S256x1536_S256x1536_0_0) hc).trans ?_
  funext y
  refine (congrFun (View.ld_unit_lit' _ _ (by decide)) y).trans ?_
  exact View.canon_apply_of_pieces _ _ (zpieces0 i arg7 harg7 arg10 harg10 arg21 harg21 x0 x1 x2 x5 x8 cv) _ (hc _)

/-- The codes of the gate. -/
def gatev0 : Vec Ideal S1x256x1536 .i8 := fun y => code (zt0 i x0 x1 x2 x5 x8 cv (y 1) (y 2))

/-- The gate output's stores hold it. -/
theorem gpieces0 : ∀ pc ∈ (run0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 cv).2.2.1, ∀ x, pc.2 x = (gatev0 i x0 x1 x2 x5 x8 cv) (pc.1.emb x) := by
  unfold run0
  dsimp only
  simp only [List.forall_mem_cons]
  refine ⟨?_, ?_, ?_, ?_, ?_, ?_, fun _ h => absurd h List.not_mem_nil⟩
  all_goals
    intro x
    generalize hG : (gatev0 i x0 x1 x2 x5 x8 cv) = G
    change _ = View.ld G _ x
    obtain ⟨b, p, q, rfl⟩ : ∃ (b : Fin 1) (p : Fin 256) (q : Fin 256), x = ix3 b p q := ⟨x 0, x 1, x 2, eq_ix3 x⟩
    sl_unfold_words
    simp (disch := decide) only [View.readAt_eq_ld, Memref.IsWhole.read_unread, View.ld_unit_lit']
    generalize hs : k0_pay3 i = s
    pointwise [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    subst hG
    subst hs
    simp only [zv0_ix2, sel0_apply, col (a := 256) (b := 1792) rfl, col (a := 512) (b := 2048) rfl, col (a := 768) (b := 2304) rfl,
      col (a := 1024) (b := 2560) rfl, col (a := 1280) (b := 2816) rfl]
    unfold gatev0 zt0 tgate tpre
    dsimp only
    rfl

/-- The codes of the new residual. -/
def resv0 : Vec Ideal S1x256x768 .i8 := fun y => tres (fun p k => x1 (ix3 0 p k)) (zt0 i x0 x1 x2 x5 x8 cv) (fun k d => x6 (ix2 k d)) (x0 (ix1 0)) (x0 (ix1 1)) (x0 (ix1 2)) (fun d => x11 (ix2 0 d)) (fun d => x12 (ix2 0 d)) (y 1) (y 2)

/-- The residual output's stores hold them. -/
theorem rpieces0 : ∀ pc ∈ (run0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 cv).2.1, ∀ x, pc.2 x = (resv0 i x0 x1 x2 x5 x6 x8 x11 x12 cv) (pc.1.emb x) := by
  unfold run0
  dsimp only
  simp only [run0.sl.r_20, run0.sl.r_21, run0.sl.r_22, run0.sl.r_23, run0.sl.r_24, run0.sl.r_25, run0.sl.r_26, zread0]
  simp only [List.forall_mem_cons]
  refine ⟨?_, ?_, ?_, fun _ h => absurd h List.not_mem_nil⟩
  all_goals
    intro x
    generalize hG : (resv0 i x0 x1 x2 x5 x6 x8 x11 x12 cv) = G
    change _ = View.ld G _ x
    obtain ⟨b, p, q, rfl⟩ : ∃ (b : Fin 1) (p : Fin 256) (q : Fin 256), x = ix3 b p q := ⟨x 0, x 1, x 2, eq_ix3 x⟩
    sl_unfold_words
    simp (disch := decide) only [View.readAt_eq_ld, Memref.IsWhole.read_unread, View.ld_unit_lit']
    generalize hs : k0_pay3 i = s
    pointwise [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    subst hG
    subst hs
    simp only [zv0_ix2, sel0_apply, col (a := 256) (b := 1792) rfl, col (a := 512) (b := 2048) rfl, col (a := 768) (b := 2304) rfl,
      col (a := 1024) (b := 2560) rfl, col (a := 1280) (b := 2816) rfl]
    unfold resv0 tres
    dsimp only
    rfl

/-- The skip sum so far. -/
def skipv0 : Vec Ideal S1x256x512 .f32 := fun y => tskip (zt0 i x0 x1 x2 x5 x8 cv) (fun k o => x7 (ix2 k o)) (x0 (ix1 1)) (fun o => x13 (ix2 0 o)) (fun o => x14 (ix2 0 o)) (y 1) (y 2)

/-- The skip output's stores hold it. -/
theorem spieces0 : ∀ pc ∈ (run0 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 cv).1, ∀ x, pc.2 x = (skipv0 i x0 x1 x2 x5 x7 x8 x13 x14 cv) (pc.1.emb x) := by
  unfold run0
  dsimp only
  simp only [run0.sl.r_20, run0.sl.r_21, run0.sl.r_22, run0.sl.r_23, run0.sl.r_24, run0.sl.r_25, run0.sl.r_26, zread0]
  simp only [List.forall_mem_cons]
  refine ⟨?_, ?_, fun _ h => absurd h List.not_mem_nil⟩
  all_goals
    intro x
    generalize hG : (skipv0 i x0 x1 x2 x5 x7 x8 x13 x14 cv) = G
    change _ = View.ld G _ x
    obtain ⟨b, p, q, rfl⟩ : ∃ (b : Fin 1) (p : Fin 256) (q : Fin 256), x = ix3 b p q := ⟨x 0, x 1, x 2, eq_ix3 x⟩
    sl_unfold_words
    simp (disch := decide) only [View.readAt_eq_ld, Memref.IsWhole.read_unread, View.ld_unit_lit']
    generalize hs : k0_pay3 i = s
    pointwise [k0_pay1, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47]
    subst hG
    subst hs
    simp only [zv0_ix2, sel0_apply, col (a := 256) (b := 1792) rfl, col (a := 512) (b := 2048) rfl, col (a := 768) (b := 2304) rfl,
      col (a := 1024) (b := 2560) rfl, col (a := 1280) (b := 2816) rfl]
    unfold skipv0 tskip
    dsimp only
    rfl

end Cert.KernelIdeal.Layer

end
-- ==== Proof.Value.Tile1.lean ====
/- What the stores of kernel call 1's body hold, read at an index: the tile functions of Proof/Value/Spec.lean. -/
module

public import proofs.«01_k».proof.Proof.Run1
public import proofs.«01_k».proof.Proof.Value.Spec

@[expose] public section

set_option maxRecDepth 16384
set_option maxHeartbeats 0

noncomputable section

namespace Cert.KernelIdeal.Layer

open Idealize.ShloMosaic Idealize.ShloMosaic.TcCoe Idealize.ShloMosaic.Tactic
open Idealize.SL.Sem
open Cert.KernelIdeal.Gen Cert.Spec

variable (c : Dev nD) (i : grid1.Coords)
  (arg2 : Memref sig .tc .smem S3 .f32) (harg2 : arg2.IsWhole)
  (arg3 : Memref sig .tc .vmem S1x256x768 .i8) (harg3 : arg3.IsWhole)
  (arg4 : Memref sig .tc .vmem S1x256x768 .i8) (harg4 : arg4.IsWhole)
  (arg5 : Memref sig .tc .vmem S1x16x80 .i8) (harg5 : arg5.IsWhole)
  (arg6 : Memref sig .tc .vmem S80x3072 .i8) (harg6 : arg6.IsWhole)
  (arg7 : Memref sig .tc .vmem S2x768x3072 .i8) (harg7 : arg7.IsWhole)
  (arg8 : Memref sig .tc .vmem S1536x768 .i8) (harg8 : arg8.IsWhole)
  (arg9 : Memref sig .tc .vmem S1536x512 .i8) (harg9 : arg9.IsWhole)
  (arg10 : Memref sig .tc .vmem S1x3072 .f32) (harg10 : arg10.IsWhole)
  (arg11 : Memref sig .tc .vmem S1x3072 .f32) (harg11 : arg11.IsWhole)
  (arg12 : Memref sig .tc .vmem S1x3072 .f32) (harg12 : arg12.IsWhole)
  (arg13 : Memref sig .tc .vmem S1x768 .f32) (harg13 : arg13.IsWhole)
  (arg14 : Memref sig .tc .vmem S1x768 .f32) (harg14 : arg14.IsWhole)
  (arg15 : Memref sig .tc .vmem S1x512 .f32) (harg15 : arg15.IsWhole)
  (arg16 : Memref sig .tc .vmem S1x512 .f32) (harg16 : arg16.IsWhole)
  (arg17 : Memref sig .tc .vmem S1x256x512 .f32) (harg17 : arg17.IsWhole)
  (arg18 : Memref sig .tc .vmem S1x256x512 .f32) (harg18 : arg18.IsWhole)
  (arg19 : Memref sig .tc .vmem S1x256x768 .i8) (harg19 : arg19.IsWhole)
  (arg20 : Memref sig .tc .vmem S256x1536 .bf16) (harg20 : arg20.IsWhole)
  (arg21 : Memref sig .tc .vmem S16x3072 .f32) (harg21 : arg21.IsWhole)
  (x0 : Vec Ideal S3 .f32)
  (x1 : Vec Ideal S1x256x768 .i8)
  (x2 : Vec Ideal S1x256x768 .i8)
  (x3 : Vec Ideal S1x16x80 .i8)
  (x4 : Vec Ideal S80x3072 .i8)
  (x5 : Vec Ideal S2x768x3072 .i8)
  (x6 : Vec Ideal S1536x768 .i8)
  (x7 : Vec Ideal S1536x512 .i8)
  (x8 : Vec Ideal S1x3072 .f32)
  (x9 : Vec Ideal S1x3072 .f32)
  (x10 : Vec Ideal S1x3072 .f32)
  (x11 : Vec Ideal S1x768 .f32)
  (x12 : Vec Ideal S1x768 .f32)
  (x13 : Vec Ideal S1x512 .f32)
  (x14 : Vec Ideal S1x512 .f32)
  (x15 : Vec Ideal S1x256x512 .f32)

  (cv : Vec Ideal S16x3072 .f32)

/-- The tile's first frame, and whether a row still belongs to it. -/
def frame1 : Fin 16 := ⟨k1_off1 i 0, Nat.lt_of_succ_le (k1_off1_inb i 0)⟩
def frameNext1 : Fin 16 := ⟨k1_off2 i 0, Nat.lt_of_succ_le (k1_off2_inb i 0)⟩
def sel1 (p : Fin 256) : BitVec 1 := k1_pay3 i (ix2 p (0 : Fin 256))

theorem sel1_apply (j : S256x256.Idx) : k1_pay3 i j = sel1 i (j 0) := by
  unfold sel1
  pointwise [k1_pay3]

/-- The tile's gate, from the blocks and the carried table. -/
def zt1 : Tile 1536 EReal :=
  tgate (tpre (fun p k => x2 (ix3 0 p k)) (fun p k => x1 (ix3 0 p k)) (fun k o => x5 (ix3 0 k o)) (fun k o => x5 (ix3 1 k o))
    (x0 (ix1 0)) (fun o => x8 (ix2 0 o)) (sel1 i) (fun o => cv (ix2 (frame1 i) o)) (fun o => cv (ix2 (frameNext1 i) o)))
    (x0 (ix1 1))

/-- The same as a block. -/
def zv1 : Vec Ideal S256x1536 .bf16 := fun y => zt1 i x0 x1 x2 x5 x8 cv (y 0) (y 1)

theorem zv1_ix2 (p : Fin 256) (g : Fin 1536) : zv1 i x0 x1 x2 x5 x8 cv (ix2 p g) = zt1 i x0 x1 x2 x5 x8 cv p g := rfl

/-- The gate scratch's stores hold the gate. -/
theorem zpieces1 : ∀ pc ∈ run1.sl.H18_6 i arg7 harg7 arg10 harg10 arg21 harg21 x0 x1 x2 x5 x8 cv, ∀ x, pc.2 x = (zv1 i x0 x1 x2 x5 x8 cv) (pc.1.emb x) := by
  delta run1.sl.H18_6
  simp only [List.forall_mem_cons]
  refine ⟨?_, ?_, ?_, ?_, ?_, ?_, fun _ h => absurd h List.not_mem_nil⟩
  all_goals
    intro x
    generalize hG : (zv1 i x0 x1 x2 x5 x8 cv) = G
    change _ = View.ld G _ x
    obtain ⟨p, q, rfl⟩ : ∃ (p : Fin 256) (q : Fin 256), x = ix2 p q := ⟨x 0, x 1, eq_ix2 x⟩
    sl_unfold_words
    simp (disch := decide) only [View.readAt_eq_ld, Memref.IsWhole.read_unread, View.ld_unit_lit']
    generalize hs : k1_pay3 i = s
    pointwise [k1_pay1, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34]
    subst hG
    subst hs
    simp only [zv1_ix2, sel1_apply, col (a := 256) (b := 1792) rfl, col (a := 512) (b := 2048) rfl, col (a := 768) (b := 2304) rfl,
      col (a := 1024) (b := 2560) rfl, col (a := 1280) (b := 2816) rfl]
    unfold zt1 tgate tpre
    dsimp only
    rfl

/-- The six stores fill the gate scratch. -/
theorem zcover1 (y : S256x1536.Idx) : ∃ pc ∈ (run1.sl.H18_6 (F := Ideal) i arg7 harg7 arg10 harg10 arg21 harg21 x0 x1 x2 x5 x8 cv), y ∈ pc.1.set :=
  View.cover_of_tiledL (run1.sl.H18_6 i arg7 harg7 arg10 harg10 arg21 harg21 x0 x1 x2 x5 x8 cv) S256x256.size (by sl_kernel_rfl) y

/-- The gate read back whole from its scratch. -/
theorem zread1 : run1.sl.v444 (F := Ideal) i arg7 harg7 arg10 harg10 arg20 arg21 harg21 x0 x1 x2 x5 x8 cv = zv1 i x0 x1 x2 x5 x8 cv := by
  delta run1.sl.v444
  have hc := zcover1 i arg7 harg7 arg10 harg10 arg21 harg21 x0 x1 x2 x5 x8 cv
  refine (View.readCov_eq_canon_ld (Val := Elt Ideal) arg20.view (run1.sl.H18_6 i arg7 harg7 arg10 harg10 arg21 harg21 x0 x1 x2 x5 x8 cv) (Rect.unit ![0, 0] S256x1536.size inb_S256x1536_S256x1536_0_0) hc).trans ?_
  funext y
  refine (congrFun (View.ld_unit_lit' _ _ (by decide)) y).trans ?_
  exact View.canon_apply_of_pieces _ _ (zpieces1 i arg7 harg7 arg10 harg10 arg21 harg21 x0 x1 x2 x5 x8 cv) _ (hc _)

/-- The codes of the new residual. -/
def resv1 : Vec Ideal S1x256x768 .i8 := fun y => tres (fun p k => x1 (ix3 0 p k)) (zt1 i x0 x1 x2 x5 x8 cv) (fun k d => x6 (ix2 k d)) (x0 (ix1 0)) (x0 (ix1 1)) (x0 (ix1 2)) (fun d => x11 (ix2 0 d)) (fun d => x12 (ix2 0 d)) (y 1) (y 2)

/-- The residual output's stores hold them. -/
theorem rpieces1 : ∀ pc ∈ (run1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 cv).2.1, ∀ x, pc.2 x = (resv1 i x0 x1 x2 x5 x6 x8 x11 x12 cv) (pc.1.emb x) := by
  unfold run1
  dsimp only
  simp only [run1.sl.r_15, run1.sl.r_16, run1.sl.r_17, run1.sl.r_18, run1.sl.r_19, run1.sl.r_20, run1.sl.r_21, zread1]
  simp only [List.forall_mem_cons]
  refine ⟨?_, ?_, ?_, fun _ h => absurd h List.not_mem_nil⟩
  all_goals
    intro x
    generalize hG : (resv1 i x0 x1 x2 x5 x6 x8 x11 x12 cv) = G
    change _ = View.ld G _ x
    obtain ⟨b, p, q, rfl⟩ : ∃ (b : Fin 1) (p : Fin 256) (q : Fin 256), x = ix3 b p q := ⟨x 0, x 1, x 2, eq_ix3 x⟩
    sl_unfold_words
    simp (disch := decide) only [View.readAt_eq_ld, Memref.IsWhole.read_unread, View.ld_unit_lit']
    generalize hs : k1_pay3 i = s
    pointwise [k1_pay1, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34]
    subst hG
    subst hs
    simp only [zv1_ix2, sel1_apply, col (a := 256) (b := 1792) rfl, col (a := 512) (b := 2048) rfl, col (a := 768) (b := 2304) rfl,
      col (a := 1024) (b := 2560) rfl, col (a := 1280) (b := 2816) rfl]
    unfold resv1 tres
    dsimp only
    rfl

/-- The skip sum so far. -/
def skipv1 : Vec Ideal S1x256x512 .f32 := fun y => x15 (ix3 0 (y 1) (y 2)) + tskip (zt1 i x0 x1 x2 x5 x8 cv) (fun k o => x7 (ix2 k o)) (x0 (ix1 1)) (fun o => x13 (ix2 0 o)) (fun o => x14 (ix2 0 o)) (y 1) (y 2)

/-- The skip output's stores hold it. -/
theorem spieces1 : ∀ pc ∈ (run1 (F := Ideal) c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 x0 x1 x2 x3 x4 x5 x6 x7 x8 x9 x10 x11 x12 x13 x14 x15 cv).1, ∀ x, pc.2 x = (skipv1 i x0 x1 x2 x5 x7 x8 x13 x14 x15 cv) (pc.1.emb x) := by
  unfold run1
  dsimp only
  simp only [run1.sl.r_15, run1.sl.r_16, run1.sl.r_17, run1.sl.r_18, run1.sl.r_19, run1.sl.r_20, run1.sl.r_21, zread1]
  simp only [List.forall_mem_cons]
  refine ⟨?_, ?_, fun _ h => absurd h List.not_mem_nil⟩
  all_goals
    intro x
    generalize hG : (skipv1 i x0 x1 x2 x5 x7 x8 x13 x14 x15 cv) = G
    change _ = View.ld G _ x
    obtain ⟨b, p, q, rfl⟩ : ∃ (b : Fin 1) (p : Fin 256) (q : Fin 256), x = ix3 b p q := ⟨x 0, x 1, x 2, eq_ix3 x⟩
    sl_unfold_words
    simp (disch := decide) only [View.readAt_eq_ld, Memref.IsWhole.read_unread, View.ld_unit_lit']
    generalize hs : k1_pay3 i = s
    pointwise [k1_pay1, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34]
    subst hG
    subst hs
    simp only [zv1_ix2, sel1_apply, col (a := 256) (b := 1792) rfl, col (a := 512) (b := 2048) rfl, col (a := 768) (b := 2304) rfl,
      col (a := 1024) (b := 2560) rfl, col (a := 1280) (b := 2816) rfl]
    unfold skipv1 tskip
    dsimp only
    rfl

end Cert.KernelIdeal.Layer

end
-- ==== Proof.Value.Pick.lean ====
/- Which row of the carried table a row of a tile takes: the frame of 300 steps that the row's step lies in. -/
module

public import Idealize.ShloMosaic.Lib.Pointwise
public import proofs.«01_k».proof.Proof.Value.Tile0
public import proofs.«01_k».proof.Proof.Value.Tile1

@[expose] public section

set_option maxRecDepth 16384
set_option maxHeartbeats 0

noncomputable section

namespace Cert.KernelIdeal.Layer

open Idealize.ShloMosaic Idealize.ShloMosaic.TcCoe Idealize.ShloMosaic.Tactic
open Cert.KernelIdeal.Gen Cert.Spec

/-- The quotient of tile `n`'s first step by 300, and the test that a row lies in the frame it names. -/
def word (n : ℕ) : BitVec 32 :=
  Scalar.select
    (Scalar.andi
      (Scalar.cmpi CmpIPredicate.ne
        (Scalar.subi
          (Scalar.extui (Scalar.cmpi CmpIPredicate.sgt (Scalar.muli (BitVec.ofNat 32 n) 256#32) 0#32))
          (Scalar.extui (Scalar.cmpi CmpIPredicate.slt (Scalar.muli (BitVec.ofNat 32 n) 256#32) 0#32)))
        (Scalar.subi (Scalar.extui (Scalar.cmpi CmpIPredicate.sgt 300#32 0#32))
          (Scalar.extui (Scalar.cmpi CmpIPredicate.slt 300#32 0#32))))
      (Scalar.cmpi CmpIPredicate.ne (Scalar.remsi (Scalar.muli (BitVec.ofNat 32 n) 256#32) 300#32) 0#32))
    (Scalar.subi (Scalar.divsi (Scalar.muli (BitVec.ofNat 32 n) 256#32) 300#32) 1#32)
    (Scalar.divsi (Scalar.muli (BitVec.ofNat 32 n) 256#32) 300#32)
def within (n p : ℕ) : BitVec 1 :=
  IntOp.cmpi CmpIPredicate.slt (BitVec.ofNat 32 p)
    (Scalar.subi (Scalar.muli (Scalar.addi (word n) 1#32) 300#32) (Scalar.muli (BitVec.ofNat 32 n) 256#32))

theorem word_spec : ∀ (n : Fin 8) (p : Fin 256),
    (within n.val p.val = 1#1 ∧ BitVec.toNat (Scalar.indexCast (word n.val)) = (256 * n.val + p.val) / 300) ∨
    (within n.val p.val = 0#1 ∧ BitVec.toNat (Scalar.indexCast (Scalar.addi (word n.val) 1#32)) = (256 * n.val + p.val) / 300) := by
  decide +kernel

theorem pick_word (n : ℕ) (hn : n < 8) (p : Fin 256) (A : Fin 16 → EReal) (q : Fin 16) (hq : q.val = (256 * n + p.val) / 300)
    (h0 : BitVec.toNat (Scalar.indexCast (word n)) < 16) (h1 : BitVec.toNat (Scalar.indexCast (Scalar.addi (word n) 1#32)) < 16) :
    Scalar.select (within n p.val) (A ⟨BitVec.toNat (Scalar.indexCast (word n)), h0⟩)
      (A ⟨BitVec.toNat (Scalar.indexCast (Scalar.addi (word n) 1#32)), h1⟩) = A q := by
  rcases word_spec ⟨n, hn⟩ p with ⟨hw, e⟩ | ⟨hw, e⟩
  · rw [show within n p.val = 1#1 from hw]
    exact congrArg A (Fin.ext (e.trans hq.symm))
  · rw [show within n p.val = 0#1 from hw]
    exact congrArg A (Fin.ext (e.trans hq.symm))

/-- Row `p` of tile `i` takes its first frame's row or the next one's, whichever is the frame of its step. -/
theorem pick0 (i : grid0.Coords) (p : Fin 256) (A : Fin 16 → EReal) (q : Fin 16) (hq : q.val = (256 * (i 1).val + p.val) / 300) :
    Scalar.select (sel0 i p) (A (frame0 i)) (A (frameNext0 i)) = A q := by
  unfold sel0 frame0 frameNext0
  pointwise [k0_pay3, k0_off1, k0_off2]
  exact pick_word (i 1).val (i 1).isLt p A q hq _ _

/-- Row `p` of tile `i` takes its first frame's row or the next one's, whichever is the frame of its step. -/
theorem pick1 (i : grid1.Coords) (p : Fin 256) (A : Fin 16 → EReal) (q : Fin 16) (hq : q.val = (256 * (i 1).val + p.val) / 300) :
    Scalar.select (sel1 i p) (A (frame1 i)) (A (frameNext1 i)) = A q := by
  unfold sel1 frame1 frameNext1
  pointwise [k1_pay3, k1_off1, k1_off2]
  exact pick_word (i 1).val (i 1).isLt p A q hq _ _

end Cert.KernelIdeal.Layer

end
-- ==== Proof.Value.Round.lean ====
/- The quantiser of Proof/Value/Spec.lean: a clipped value is a whole number that an 8-bit code holds. -/
module

public import Idealize.ShloMosaic.Lib.Pointwise
public import proofs.«01_k».proof.Proof.Value.Spec

@[expose] public section

noncomputable section

namespace Cert.Spec

open Idealize.ShloMosaic

/-- A clipped value is a whole number between -127 and 127. -/
theorem clip8_int (v s : EReal) : ∃ n : ℤ, -127 ≤ n ∧ n ≤ 127 ∧ clip8 v s = ((n : ℝ) : EReal) := by
  have h127 : (127#32 : BitVec 32).toInt = 127 := by decide
  have hm127 : (4294967169#32 : BitVec 32).toInt = -127 := by decide
  unfold clip8
  rw [h127, hm127]
  generalize Ideal.div v s = u
  induction u using EReal.rec with
  | bot => exact ⟨-127, by norm_num, by norm_num, by
      rw [Ideal.liftRound_bot, max_eq_left bot_le]
      exact min_eq_right (by exact_mod_cast (by norm_num : (-127 : ℤ) ≤ 127))⟩
  | top => exact ⟨127, by norm_num, by norm_num, by
      rw [Ideal.liftRound_top, max_eq_right le_top, min_eq_left le_top]⟩
  | coe r =>
    refine ⟨min 127 (max (-127) (Ideal.roundHalfEven r)), ?_, ?_, ?_⟩
    · exact le_min (by norm_num) (le_max_left _ _)
    · exact min_le_left _ _
    · rw [Ideal.liftRound_coe]
      generalize Ideal.roundHalfEven r = n
      push_cast
      rfl

/-- Reading the code of a clipped value back gives it. -/
theorem num_code_clip8 (v s : EReal) : num (code (clip8 v s)) = clip8 v s := by
  obtain ⟨n, h0, h1, h⟩ := clip8_int v s
  rw [h]
  show ((((Ideal.fptosi 8 ((n : ℝ) : EReal)).toInt : ℤ) : ℝ) : EReal) = ((n : ℝ) : EReal)
  have e : (Ideal.fptosi 8 ((n : ℝ) : EReal)).toInt = n := by
    unfold Ideal.fptosi
    rw [Ideal.toIntClamped_coe, Int.floor_intCast, Int.ceil_intCast, ite_self]
    have hc : max (-((2 ^ (8 - 1) : ℕ) : ℤ)) (min (((2 ^ (8 - 1) : ℕ) : ℤ) - 1) n) = n := by
      norm_num
      omega
    rw [hc, BitVec.toInt_ofInt, Int.bmod_def]
    split <;> omega
  rw [e]

end Cert.Spec

end
-- ==== Proof.Value.Join.lean ====
/- A tile's functions are the layer's functions at the tile's steps. -/
module

public import Idealize.ShloMosaic.Lib.Pointwise
public import proofs.«01_k».proof.Proof.Value.Pick
public import proofs.«01_k».proof.Proof.Value.Round

@[expose] public section

set_option maxRecDepth 16384
set_option maxHeartbeats 0

noncomputable section

namespace Cert.KernelIdeal.Layer

open Idealize.ShloMosaic Idealize.ShloMosaic.TcCoe Idealize.ShloMosaic.Tactic
open Cert.KernelIdeal.Gen Cert.Spec

/-- The blocks of one tile and the carried table are layer `L`'s arrays at batch row `b` and steps `T`. -/
structure TileIn (L : Lay) (b : Fin 24) (T : Fin 256 → Fin 2048)
    (x0 : Vec Ideal S3 .f32) (x1 x2 : Vec Ideal S1x256x768 .i8) (x5 : Vec Ideal S2x768x3072 .i8) (x6 : Vec Ideal S1536x768 .i8)
    (x7 : Vec Ideal S1536x512 .i8) (x8 : Vec Ideal S1x3072 .f32) (x11 x12 : Vec Ideal S1x768 .f32) (x13 x14 : Vec Ideal S1x512 .f32)
    (cv : Vec Ideal S16x3072 .f32) : Prop where
  sr : x0 (ix1 0) = L.sr
  sg : x0 (ix1 1) = L.sg
  sq : x0 (ix1 2) = L.sq
  r : ∀ p k, x1 (ix3 0 p k) = L.r b (T p) k
  rp : ∀ p k, x2 (ix3 0 p k) = L.rp b (T p) k
  w0 : ∀ k o, x5 (ix3 0 k o) = L.w0 k o
  w1 : ∀ k o, x5 (ix3 1 k o) = L.w1 k o
  wr : ∀ k o, x6 (ix2 k o) = L.wr k o
  ws : ∀ k o, x7 (ix2 k o) = L.ws k o
  dsc : ∀ o, x8 (ix2 0 o) = L.dsc o
  rsc : ∀ o, x11 (ix2 0 o) = L.rsc o
  rb : ∀ o, x12 (ix2 0 o) = L.rb o
  ssc : ∀ o, x13 (ix2 0 o) = L.ssc o
  sb : ∀ o, x14 (ix2 0 o) = L.sb o
  cv : ∀ (q : Fin 16) (hq : q.val < 7) o, cv (ix2 q o) = L.ctx b ⟨q.val, hq⟩ o + L.db o

section
variable {L : Lay} {b : Fin 24} {T : Fin 256 → Fin 2048}
    {x0 : Vec Ideal S3 .f32} {x1 x2 : Vec Ideal S1x256x768 .i8} {x5 : Vec Ideal S2x768x3072 .i8} {x6 : Vec Ideal S1536x768 .i8}
    {x7 : Vec Ideal S1536x512 .i8} {x8 : Vec Ideal S1x3072 .f32} {x11 x12 : Vec Ideal S1x768 .f32} {x13 x14 : Vec Ideal S1x512 .f32}
    {x15 : Vec Ideal S1x256x512 .f32} {cv : Vec Ideal S16x3072 .f32}

/-- What enters the gate, at a step of the tile. -/
theorem tpre0_eq (i : grid0.Coords) (hT : ∀ p, (T p).val = 256 * (i 1).val + p.val)
    (h : TileIn L b T x0 x1 x2 x5 x6 x7 x8 x11 x12 x13 x14 cv) :
    tpre (fun p k => x2 (ix3 0 p k)) (fun p k => x1 (ix3 0 p k)) (fun k o => x5 (ix3 0 k o)) (fun k o => x5 (ix3 1 k o))
      (x0 (ix1 0)) (fun o => x8 (ix2 0 o)) (sel0 i) (fun o => cv (ix2 (frame0 i) o)) (fun o => cv (ix2 (frameNext0 i) o)) =
    fun p o => pre (acc L.rp L.r L.w0 L.w1) L.ctx L.sr L.dsc L.db b (T p) o := by
  funext p o
  have hq : (T p).val / 300 < 7 := by have := (T p).isLt; omega
  have hp := pick0 i p (fun q => cv (ix2 q o)) ⟨(T p).val / 300, by omega⟩ (by rw [← hT p])
  unfold tpre pre acc
  dsimp only at hp ⊢
  rw [hp, h.cv _ hq]
  simp only [h.sr, h.dsc, h.rp, h.r, h.w0, h.w1]
  rw [add_assoc, add_comm (L.db o)]

/-- The gate of the tile. -/
theorem zt0_eq (i : grid0.Coords) (hT : ∀ p, (T p).val = 256 * (i 1).val + p.val)
    (h : TileIn L b T x0 x1 x2 x5 x6 x7 x8 x11 x12 x13 x14 cv) (p : Fin 256) (g : Fin 1536) :
    zt0 i x0 x1 x2 x5 x8 cv p g = L.zn b (T p) g := by
  unfold zt0
  rw [tpre0_eq i hT h, h.sg]
  rfl

/-- The residual codes of the tile. -/
theorem resv0_eq (i : grid0.Coords) (hT : ∀ p, (T p).val = 256 * (i 1).val + p.val)
    (h : TileIn L b T x0 x1 x2 x5 x6 x7 x8 x11 x12 x13 x14 cv) (y : S1x256x768.Idx) :
    resv0 i x0 x1 x2 x5 x6 x8 x11 x12 cv y = L.next b (T (y 1)) (y 2) := by
  have core : ∀ (p : Fin 256) (d : Fin 768), tres (fun p k => x1 (ix3 0 p k)) (zt0 i x0 x1 x2 x5 x8 cv) (fun k d => x6 (ix2 k d)) (x0 (ix1 0)) (x0 (ix1 1)) (x0 (ix1 2)) (fun d => x11 (ix2 0 d)) (fun d => x12 (ix2 0 d)) p d = L.next b (T p) d := by
    intro p d
    unfold tres Lay.next res Lay.z
    simp only [zt0_eq i hT h, h.r, h.wr, h.sr, h.sg, h.sq, h.rsc, h.rb]
    have e : ∀ g, num (code (L.zn b (T p) g)) = L.zn b (T p) g := fun g => num_code_clip8 _ _
    simp only [e]
  exact core (y 1) (y 2)

/-- The skip sum of the tile. -/
theorem skipv0_eq (i : grid0.Coords) (hT : ∀ p, (T p).val = 256 * (i 1).val + p.val)
    (h : TileIn L b T x0 x1 x2 x5 x6 x7 x8 x11 x12 x13 x14 cv) (y : S1x256x512.Idx) :
    skipv0 i x0 x1 x2 x5 x7 x8 x13 x14 cv y = L.add b (T (y 1)) (y 2) := by
  have core : ∀ (p : Fin 256) (d : Fin 512), tskip (zt0 i x0 x1 x2 x5 x8 cv) (fun k o => x7 (ix2 k o)) (x0 (ix1 1)) (fun o => x13 (ix2 0 o)) (fun o => x14 (ix2 0 o)) p d = L.add b (T p) d := by
    intro p d
    unfold tskip Lay.add skip Lay.z
    simp only [zt0_eq i hT h, h.ws, h.sg, h.ssc, h.sb]
    have e : ∀ g, num (code (L.zn b (T p) g)) = L.zn b (T p) g := fun g => num_code_clip8 _ _
    simp only [e]
  exact core (y 1) (y 2)

/-- The carried table, read at an index. -/
theorem table0_apply (x3 : Vec Ideal S1x16x80 .i8) (x4 : Vec Ideal S80x3072 .i8) (x9 x10 : Vec Ideal S1x3072 .f32) (q : Fin 16) (o : Fin 3072) :
    table0 (F := Ideal) x3 x4 x9 x10 (ix2 q o) = (∑ k, num (x3 (ix3 0 q k)) * num (x4 (ix2 k o))) * x10 (ix2 0 o) + x9 (ix2 0 o) := by
  pointwise [table0, k0_pay2]
  rfl

/-- What enters the gate, at a step of the tile. -/
theorem tpre1_eq (i : grid1.Coords) (hT : ∀ p, (T p).val = 256 * (i 1).val + p.val)
    (h : TileIn L b T x0 x1 x2 x5 x6 x7 x8 x11 x12 x13 x14 cv) :
    tpre (fun p k => x2 (ix3 0 p k)) (fun p k => x1 (ix3 0 p k)) (fun k o => x5 (ix3 0 k o)) (fun k o => x5 (ix3 1 k o))
      (x0 (ix1 0)) (fun o => x8 (ix2 0 o)) (sel1 i) (fun o => cv (ix2 (frame1 i) o)) (fun o => cv (ix2 (frameNext1 i) o)) =
    fun p o => pre (acc L.rp L.r L.w0 L.w1) L.ctx L.sr L.dsc L.db b (T p) o := by
  funext p o
  have hq : (T p).val / 300 < 7 := by have := (T p).isLt; omega
  have hp := pick1 i p (fun q => cv (ix2 q o)) ⟨(T p).val / 300, by omega⟩ (by rw [← hT p])
  unfold tpre pre acc
  dsimp only at hp ⊢
  rw [hp, h.cv _ hq]
  simp only [h.sr, h.dsc, h.rp, h.r, h.w0, h.w1]
  rw [add_assoc, add_comm (L.db o)]

/-- The gate of the tile. -/
theorem zt1_eq (i : grid1.Coords) (hT : ∀ p, (T p).val = 256 * (i 1).val + p.val)
    (h : TileIn L b T x0 x1 x2 x5 x6 x7 x8 x11 x12 x13 x14 cv) (p : Fin 256) (g : Fin 1536) :
    zt1 i x0 x1 x2 x5 x8 cv p g = L.zn b (T p) g := by
  unfold zt1
  rw [tpre1_eq i hT h, h.sg]
  rfl

/-- The residual codes of the tile. -/
theorem resv1_eq (i : grid1.Coords) (hT : ∀ p, (T p).val = 256 * (i 1).val + p.val)
    (h : TileIn L b T x0 x1 x2 x5 x6 x7 x8 x11 x12 x13 x14 cv) (y : S1x256x768.Idx) :
    resv1 i x0 x1 x2 x5 x6 x8 x11 x12 cv y = L.next b (T (y 1)) (y 2) := by
  have core : ∀ (p : Fin 256) (d : Fin 768), tres (fun p k => x1 (ix3 0 p k)) (zt1 i x0 x1 x2 x5 x8 cv) (fun k d => x6 (ix2 k d)) (x0 (ix1 0)) (x0 (ix1 1)) (x0 (ix1 2)) (fun d => x11 (ix2 0 d)) (fun d => x12 (ix2 0 d)) p d = L.next b (T p) d := by
    intro p d
    unfold tres Lay.next res Lay.z
    simp only [zt1_eq i hT h, h.r, h.wr, h.sr, h.sg, h.sq, h.rsc, h.rb]
    have e : ∀ g, num (code (L.zn b (T p) g)) = L.zn b (T p) g := fun g => num_code_clip8 _ _
    simp only [e]
  exact core (y 1) (y 2)

/-- The skip sum of the tile. -/
theorem skipv1_eq (i : grid1.Coords) (hT : ∀ p, (T p).val = 256 * (i 1).val + p.val)
    (h : TileIn L b T x0 x1 x2 x5 x6 x7 x8 x11 x12 x13 x14 cv) (y : S1x256x512.Idx) :
    skipv1 i x0 x1 x2 x5 x7 x8 x13 x14 x15 cv y = x15 (ix3 0 (y 1) (y 2)) + L.add b (T (y 1)) (y 2) := by
  have core : ∀ (p : Fin 256) (d : Fin 512), tskip (zt1 i x0 x1 x2 x5 x8 cv) (fun k o => x7 (ix2 k o)) (x0 (ix1 1)) (fun o => x13 (ix2 0 o)) (fun o => x14 (ix2 0 o)) p d = L.add b (T p) d := by
    intro p d
    unfold tskip Lay.add skip Lay.z
    simp only [zt1_eq i hT h, h.ws, h.sg, h.ssc, h.sb]
    have e : ∀ g, num (code (L.zn b (T p) g)) = L.zn b (T p) g := fun g => num_code_clip8 _ _
    simp only [e]
  exact congrArg (x15 (ix3 0 (y 1) (y 2)) + ·) (core (y 1) (y 2))

/-- The carried table, read at an index. -/
theorem table1_apply (x3 : Vec Ideal S1x16x80 .i8) (x4 : Vec Ideal S80x3072 .i8) (x9 x10 : Vec Ideal S1x3072 .f32) (q : Fin 16) (o : Fin 3072) :
    table1 (F := Ideal) x3 x4 x9 x10 (ix2 q o) = (∑ k, num (x3 (ix3 0 q k)) * num (x4 (ix2 k o))) * x10 (ix2 0 o) + x9 (ix2 0 o) := by
  pointwise [table1, k1_pay2]
  rfl

/-- The gate codes of the tile. -/
theorem gatev0_eq (i : grid0.Coords) (hT : ∀ p, (T p).val = 256 * (i 1).val + p.val)
    (h : TileIn L b T x0 x1 x2 x5 x6 x7 x8 x11 x12 x13 x14 cv) (y : S1x256x1536.Idx) :
    gatev0 i x0 x1 x2 x5 x8 cv y = L.z b (T (y 1)) (y 2) := by
  unfold gatev0 Lay.z
  exact congrArg code (zt0_eq i hT h (y 1) (y 2))

end

end Cert.KernelIdeal.Layer

end
-- ==== Proof.Value.Arrays0.lean ====
/- What the arrays of kernel call 0 hold when it ends, given what its inputs held. -/
module

public import proofs.«01_k».proof.Proof.Frame0
public import proofs.«01_k».proof.Proof.Value.Join
public import Idealize.ShloMosaic.Lib.Pointwise
public import Idealize.ShloMosaic.Lib.Pipeline.ValueKit

@[expose] public section

set_option maxRecDepth 16384
set_option maxHeartbeats 0

noncomputable section

namespace Cert.KernelIdeal.Layer

open Idealize.ShloMosaic Idealize.ShloMosaic.TcCoe Idealize.ShloMosaic.Tactic
open Cert.KernelIdeal.Gen Cert.Spec

variable (V : Dev nD → Valuation τ sig (Elt Ideal)) (c : Dev nD)

/-- Input `w`'s array of the call. -/
abbrev in0 (w : Fin cfg0.W) := V c (Pipeline.arrRef spec0 w)

/-- The call's input arrays are layer `L`'s. -/
structure Reads0 (L : Lay) : Prop where
  sr : (in0 V c 0 : Vec Ideal S3 .f32) (ix1 0) = L.sr
  sg : (in0 V c 0 : Vec Ideal S3 .f32) (ix1 1) = L.sg
  sq : (in0 V c 0 : Vec Ideal S3 .f32) (ix1 2) = L.sq
  r : ∀ b t k, (in0 V c 1 : Vec Ideal S24x2048x768 .i8) (ix3 b t k) = L.r b t k
  rp : ∀ b t k, (in0 V c 2 : Vec Ideal S24x2048x768 .i8) (ix3 b t k) = L.rp b t k
  cond : ∀ b (q : Fin 16) (hq : q.val < 7) k, (in0 V c 3 : Vec Ideal S24x16x80 .i8) (ix3 b q k) = L.cond b ⟨q.val, hq⟩ k
  wc : ∀ k o, (in0 V c 4 : Vec Ideal S80x3072 .i8) (ix2 k o) = L.wc k o
  w0 : ∀ k o, (in0 V c 5 : Vec Ideal S2x768x3072 .i8) (ix3 0 k o) = L.w0 k o
  w1 : ∀ k o, (in0 V c 5 : Vec Ideal S2x768x3072 .i8) (ix3 1 k o) = L.w1 k o
  wr : ∀ k o, (in0 V c 6 : Vec Ideal S1536x768 .i8) (ix2 k o) = L.wr k o
  ws : ∀ k o, (in0 V c 7 : Vec Ideal S1536x512 .i8) (ix2 k o) = L.ws k o
  dsc : ∀ o, (in0 V c 8 : Vec Ideal S1x3072 .f32) (ix2 0 o) = L.dsc o
  db : ∀ o, (in0 V c 9 : Vec Ideal S1x3072 .f32) (ix2 0 o) = L.db o
  csc : ∀ o, (in0 V c 10 : Vec Ideal S1x3072 .f32) (ix2 0 o) = L.csc o
  rsc : ∀ o, (in0 V c 11 : Vec Ideal S1x768 .f32) (ix2 0 o) = L.rsc o
  rb : ∀ o, (in0 V c 12 : Vec Ideal S1x768 .f32) (ix2 0 o) = L.rb o
  ssc : ∀ o, (in0 V c 13 : Vec Ideal S1x512 .f32) (ix2 0 o) = L.ssc o
  sb : ∀ o, (in0 V c 14 : Vec Ideal S1x512 .f32) (ix2 0 o) = L.sb o

/-- The block of each window at point `t`: batch row `t / 8`, tile `t % 8`. -/
theorem idx0 : ∀ t : Fin cfg0.N, (cfg0.win 0).index t = ![0] ∧ (cfg0.win 1).index t = ![t.val / 8, t.val % 8, 0] ∧ (cfg0.win 2).index t = ![t.val / 8, t.val % 8, 0] ∧ (cfg0.win 3).index t = ![t.val / 8, 0, 0] ∧ (cfg0.win 4).index t = ![0, 0] ∧ (cfg0.win 5).index t = ![0, 0, 0] ∧ (cfg0.win 6).index t = ![0, 0] ∧ (cfg0.win 7).index t = ![0, 0] ∧ (cfg0.win 8).index t = ![0, 0] ∧ (cfg0.win 9).index t = ![0, 0] ∧ (cfg0.win 10).index t = ![0, 0] ∧ (cfg0.win 11).index t = ![0, 0] ∧ (cfg0.win 12).index t = ![0, 0] ∧ (cfg0.win 13).index t = ![0, 0] ∧ (cfg0.win 14).index t = ![0, 0] ∧ (cfg0.win 15).index t = ![t.val / 8, t.val % 8, 0] ∧ (cfg0.win 16).index t = ![t.val / 8, t.val % 8, 0] ∧ (cfg0.win 17).index t = ![t.val / 8, t.val % 8, 0] := by
  decide +kernel

theorem lt0 (t : Fin cfg0.N) : t.val < 192 := Nat.lt_of_lt_of_eq t.isLt N_0

theorem coord0 (t : Fin cfg0.N) : (grid0.coords t 1).val = t.val % 8 := by
  have e1 : (grid0.coords t 1).val = t.val / 1 % 8 := Pipeline.Grid.coords_val t 1 (by decide) rfl
  rw [e1, Nat.div_one]

/-- The batch row and the steps of point `t`. -/
def batch0 (t : Fin cfg0.N) : Fin 24 := ⟨t.val / 8, by have := lt0 t; omega⟩
def time0 (t : Fin cfg0.N) (p : Fin 256) : Fin 2048 := ⟨256 * (t.val % 8) + p.val, by omega⟩

theorem blk0_0 (t : Fin cfg0.N) (a : Fin 3) :
    (blk0 V c 0 t : Vec Ideal S3 .f32) (ix1 a) = (in0 V c 0 : Vec Ideal S3 .f32) (ix1 a) := by
  unfold blk0
  obtain ⟨h0, h1, h2, h3, h4, h5, h6, h7, h8, h9, h10, h11, h12, h13, h14, h15, h16, h17⟩ := idx0 t
  blk_ext [h0]
theorem blk0_1 (t : Fin cfg0.N) (p : Fin 256) (a : Fin 768) :
    (blk0 V c 1 t : Vec Ideal S1x256x768 .i8) (ix3 0 p a) = (in0 V c 1 : Vec Ideal S24x2048x768 .i8) (ix3 (batch0 t) (time0 t p) a) := by
  unfold blk0 batch0 time0
  obtain ⟨h0, h1, h2, h3, h4, h5, h6, h7, h8, h9, h10, h11, h12, h13, h14, h15, h16, h17⟩ := idx0 t
  blk_ext [h1]
theorem blk0_2 (t : Fin cfg0.N) (p : Fin 256) (a : Fin 768) :
    (blk0 V c 2 t : Vec Ideal S1x256x768 .i8) (ix3 0 p a) = (in0 V c 2 : Vec Ideal S24x2048x768 .i8) (ix3 (batch0 t) (time0 t p) a) := by
  unfold blk0 batch0 time0
  obtain ⟨h0, h1, h2, h3, h4, h5, h6, h7, h8, h9, h10, h11, h12, h13, h14, h15, h16, h17⟩ := idx0 t
  blk_ext [h2]
theorem blk0_3 (t : Fin cfg0.N) (p : Fin 16) (a : Fin 80) :
    (blk0 V c 3 t : Vec Ideal S1x16x80 .i8) (ix3 0 p a) = (in0 V c 3 : Vec Ideal S24x16x80 .i8) (ix3 (batch0 t) p a) := by
  unfold blk0 batch0
  obtain ⟨h0, h1, h2, h3, h4, h5, h6, h7, h8, h9, h10, h11, h12, h13, h14, h15, h16, h17⟩ := idx0 t
  blk_ext [h3]
theorem blk0_4 (t : Fin cfg0.N) (p : Fin 80) (a : Fin 3072) :
    (blk0 V c 4 t : Vec Ideal S80x3072 .i8) (ix2 p a) = (in0 V c 4 : Vec Ideal S80x3072 .i8) (ix2 p a) := by
  unfold blk0
  obtain ⟨h0, h1, h2, h3, h4, h5, h6, h7, h8, h9, h10, h11, h12, h13, h14, h15, h16, h17⟩ := idx0 t
  blk_ext [h4]
theorem blk0_5 (t : Fin cfg0.N) (e : Fin 2) (p : Fin 768) (a : Fin 3072) :
    (blk0 V c 5 t : Vec Ideal S2x768x3072 .i8) (ix3 e p a) = (in0 V c 5 : Vec Ideal S2x768x3072 .i8) (ix3 e p a) := by
  unfold blk0
  obtain ⟨h0, h1, h2, h3, h4, h5, h6, h7, h8, h9, h10, h11, h12, h13, h14, h15, h16, h17⟩ := idx0 t
  blk_ext [h5]
theorem blk0_6 (t : Fin cfg0.N) (p : Fin 1536) (a : Fin 768) :
    (blk0 V c 6 t : Vec Ideal S1536x768 .i8) (ix2 p a) = (in0 V c 6 : Vec Ideal S1536x768 .i8) (ix2 p a) := by
  unfold blk0
  obtain ⟨h0, h1, h2, h3, h4, h5, h6, h7, h8, h9, h10, h11, h12, h13, h14, h15, h16, h17⟩ := idx0 t
  blk_ext [h6]
theorem blk0_7 (t : Fin cfg0.N) (p : Fin 1536) (a : Fin 512) :
    (blk0 V c 7 t : Vec Ideal S1536x512 .i8) (ix2 p a) = (in0 V c 7 : Vec Ideal S1536x512 .i8) (ix2 p a) := by
  unfold blk0
  obtain ⟨h0, h1, h2, h3, h4, h5, h6, h7, h8, h9, h10, h11, h12, h13, h14, h15, h16, h17⟩ := idx0 t
  blk_ext [h7]
theorem blk0_8 (t : Fin cfg0.N) (a : Fin 3072) :
    (blk0 V c 8 t : Vec Ideal S1x3072 .f32) (ix2 0 a) = (in0 V c 8 : Vec Ideal S1x3072 .f32) (ix2 0 a) := by
  unfold blk0
  obtain ⟨h0, h1, h2, h3, h4, h5, h6, h7, h8, h9, h10, h11, h12, h13, h14, h15, h16, h17⟩ := idx0 t
  blk_ext [h8]
theorem blk0_9 (t : Fin cfg0.N) (a : Fin 3072) :
    (blk0 V c 9 t : Vec Ideal S1x3072 .f32) (ix2 0 a) = (in0 V c 9 : Vec Ideal S1x3072 .f32) (ix2 0 a) := by
  unfold blk0
  obtain ⟨h0, h1, h2, h3, h4, h5, h6, h7, h8, h9, h10, h11, h12, h13, h14, h15, h16, h17⟩ := idx0 t
  blk_ext [h9]
theorem blk0_10 (t : Fin cfg0.N) (a : Fin 3072) :
    (blk0 V c 10 t : Vec Ideal S1x3072 .f32) (ix2 0 a) = (in0 V c 10 : Vec Ideal S1x3072 .f32) (ix2 0 a) := by
  unfold blk0
  obtain ⟨h0, h1, h2, h3, h4, h5, h6, h7, h8, h9, h10, h11, h12, h13, h14, h15, h16, h17⟩ := idx0 t
  blk_ext [h10]
theorem blk0_11 (t : Fin cfg0.N) (a : Fin 768) :
    (blk0 V c 11 t : Vec Ideal S1x768 .f32) (ix2 0 a) = (in0 V c 11 : Vec Ideal S1x768 .f32) (ix2 0 a) := by
  unfold blk0
  obtain ⟨h0, h1, h2, h3, h4, h5, h6, h7, h8, h9, h10, h11, h12, h13, h14, h15, h16, h17⟩ := idx0 t
  blk_ext [h11]
theorem blk0_12 (t : Fin cfg0.N) (a : Fin 768) :
    (blk0 V c 12 t : Vec Ideal S1x768 .f32) (ix2 0 a) = (in0 V c 12 : Vec Ideal S1x768 .f32) (ix2 0 a) := by
  unfold blk0
  obtain ⟨h0, h1, h2, h3, h4, h5, h6, h7, h8, h9, h10, h11, h12, h13, h14, h15, h16, h17⟩ := idx0 t
  blk_ext [h12]
theorem blk0_13 (t : Fin cfg0.N) (a : Fin 512) :
    (blk0 V c 13 t : Vec Ideal S1x512 .f32) (ix2 0 a) = (in0 V c 13 : Vec Ideal S1x512 .f32) (ix2 0 a) := by
  unfold blk0
  obtain ⟨h0, h1, h2, h3, h4, h5, h6, h7, h8, h9, h10, h11, h12, h13, h14, h15, h16, h17⟩ := idx0 t
  blk_ext [h13]
theorem blk0_14 (t : Fin cfg0.N) (a : Fin 512) :
    (blk0 V c 14 t : Vec Ideal S1x512 .f32) (ix2 0 a) = (in0 V c 14 : Vec Ideal S1x512 .f32) (ix2 0 a) := by
  unfold blk0
  obtain ⟨h0, h1, h2, h3, h4, h5, h6, h7, h8, h9, h10, h11, h12, h13, h14, h15, h16, h17⟩ := idx0 t
  blk_ext [h14]

/-- The blocks at point `t`, and the table carried to it, are the layer's at batch row `t / 8` and steps of tile `t % 8`. -/
theorem tileIn0 {L : Lay} (h : Reads0 V c L) (t : Fin cfg0.N) :
    TileIn L (batch0 t) (time0 t) (blk0 V c 0 t) (blk0 V c 1 t) (blk0 V c 2 t) (blk0 V c 5 t) (blk0 V c 6 t) (blk0 V c 7 t) (blk0 V c 8 t) (blk0 V c 11 t) (blk0 V c 12 t) (blk0 V c 13 t) (blk0 V c 14 t) (tab0 V c t) where
  sr := (blk0_0 V c t 0).trans h.sr
  sg := (blk0_0 V c t 1).trans h.sg
  sq := (blk0_0 V c t 2).trans h.sq
  r p k := (blk0_1 V c t p k).trans (h.r _ _ _)
  rp p k := (blk0_2 V c t p k).trans (h.rp _ _ _)
  w0 k o := (blk0_5 V c t 0 k o).trans (h.w0 _ _)
  w1 k o := (blk0_5 V c t 1 k o).trans (h.w1 _ _)
  wr k o := (blk0_6 V c t k o).trans (h.wr _ _)
  ws k o := (blk0_7 V c t k o).trans (h.ws _ _)
  dsc o := (blk0_8 V c t o).trans (h.dsc _)
  rsc o := (blk0_11 V c t o).trans (h.rsc _)
  rb o := (blk0_12 V c t o).trans (h.rb _)
  ssc o := (blk0_13 V c t o).trans (h.ssc _)
  sb o := (blk0_14 V c t o).trans (h.sb _)
  cv q hq o := by
    refine (table0_apply _ _ _ _ q o).trans ?_
    have e3 := fun x => (blk0_3 V c t q x).trans (h.cond _ q hq x)
    have e4 := fun x => (blk0_4 V c t x o).trans (h.wc x o)
    have e9 := (blk0_9 V c t o).trans (h.db o)
    have e10 := (blk0_10 V c t o).trans (h.csc o)
    rw [e9, e10]
    simp only [e3, e4]
    rfl

/-- The call's array 15 ends as the skip sum. -/
theorem arr0_15 {L : Lay} (h : Reads0 V c L) :
    (dats0 (F := Ideal) V c).arrAt 15 cfg0.N = (fun j => L.add (j 0) (j 1) (j 2) : Vec Ideal S24x2048x512 .f32) := by
  refine (dats0 (F := Ideal) V c).arrAt_eq_of_covers 15 _ (by decide +kernel) fun t hf y => ?_
  blk_simp
  rw [after0_15]
  unfold out0_15
  refine (congrFun (View.read_writes_eq_canon _ _ _ (cover0_15 V c t)) y).trans ?_
  refine (View.canon_apply_of_pieces _ _ (spieces0 c (grid0.coords t) _ _ _ _ _ _ _ _ _ _ _ _ _ _ _ _ _ _ _ _ _ _ _ _ _ _ _ _ _ _ _ _ _ _ _ _ _ _ _ _ (blk0 V c 0 t) (blk0 V c 1 t) (blk0 V c 2 t) (blk0 V c 3 t) (blk0 V c 4 t) (blk0 V c 5 t) (blk0 V c 6 t) (blk0 V c 7 t) (blk0 V c 8 t) (blk0 V c 9 t) (blk0 V c 10 t) (blk0 V c 11 t) (blk0 V c 12 t) (blk0 V c 13 t) (blk0 V c 14 t) (tab0 V c t)) y (cover0_15 V c t y)).trans ?_
  refine (skipv0_eq (grid0.coords t) (fun p => by rw [coord0]; rfl) (tileIn0 V c h t) y).trans ?_
  obtain ⟨h0, h1, h2, h3, h4, h5, h6, h7, h8, h9, h10, h11, h12, h13, h14, h15, h16, h17⟩ := idx0 t
  have c0 : (batch0 t : Fin 24) = ((win0_15.blk t).view.emb y) 0 := Fin.ext (by
    blk_simp [h15]
    rfl)
  have c1 : (time0 t (y 1) : Fin 2048) = ((win0_15.blk t).view.emb y) 1 := Fin.ext (by
    blk_simp [h15]
    exact congrArg (· + _) (Nat.mul_comm 256 (t.val % 8)))
  have c2 : y 2 = ((win0_15.blk t).view.emb y) 2 := Fin.ext (by
    blk_simp [h15])
  have e := congr (congrArg₂ (fun (b : Fin 24) (t : Fin 2048) o => L.add b t o) c0 c1) c2
  exact e

/-- The call's array 16 ends as the residual codes. -/
theorem arr0_16 {L : Lay} (h : Reads0 V c L) :
    (dats0 (F := Ideal) V c).arrAt 16 cfg0.N = (fun j => L.next (j 0) (j 1) (j 2) : Vec Ideal S24x2048x768 .i8) := by
  refine (dats0 (F := Ideal) V c).arrAt_eq_of_covers 16 _ (by decide +kernel) fun t hf y => ?_
  blk_simp
  rw [after0_16]
  unfold out0_16
  refine (congrFun (View.read_writes_eq_canon _ _ _ (cover0_16 V c t)) y).trans ?_
  refine (View.canon_apply_of_pieces _ _ (rpieces0 c (grid0.coords t) _ _ _ _ _ _ _ _ _ _ _ _ _ _ _ _ _ _ _ _ _ _ _ _ _ _ _ _ _ _ _ _ _ _ _ _ _ _ _ _ (blk0 V c 0 t) (blk0 V c 1 t) (blk0 V c 2 t) (blk0 V c 3 t) (blk0 V c 4 t) (blk0 V c 5 t) (blk0 V c 6 t) (blk0 V c 7 t) (blk0 V c 8 t) (blk0 V c 9 t) (blk0 V c 10 t) (blk0 V c 11 t) (blk0 V c 12 t) (blk0 V c 13 t) (blk0 V c 14 t) (tab0 V c t)) y (cover0_16 V c t y)).trans ?_
  refine (resv0_eq (grid0.coords t) (fun p => by rw [coord0]; rfl) (tileIn0 V c h t) y).trans ?_
  obtain ⟨h0, h1, h2, h3, h4, h5, h6, h7, h8, h9, h10, h11, h12, h13, h14, h15, h16, h17⟩ := idx0 t
  have c0 : (batch0 t : Fin 24) = ((win0_16.blk t).view.emb y) 0 := Fin.ext (by
    blk_simp [h16]
    rfl)
  have c1 : (time0 t (y 1) : Fin 2048) = ((win0_16.blk t).view.emb y) 1 := Fin.ext (by
    blk_simp [h16]
    exact congrArg (· + _) (Nat.mul_comm 256 (t.val % 8)))
  have c2 : y 2 = ((win0_16.blk t).view.emb y) 2 := Fin.ext (by
    blk_simp [h16])
  have e := congr (congrArg₂ (fun (b : Fin 24) (t : Fin 2048) o => L.next b t o) c0 c1) c2
  exact e

/-- The call's array 17 ends as the gate codes. -/
theorem arr0_17 {L : Lay} (h : Reads0 V c L) :
    (dats0 (F := Ideal) V c).arrAt 17 cfg0.N = (fun j => L.z (j 0) (j 1) (j 2) : Vec Ideal S24x2048x1536 .i8) := by
  refine (dats0 (F := Ideal) V c).arrAt_eq_of_covers 17 _ (by decide +kernel) fun t hf y => ?_
  blk_simp
  rw [after0_17]
  unfold out0_17
  refine (congrFun (View.read_writes_eq_canon _ _ _ (cover0_17 V c t)) y).trans ?_
  refine (View.canon_apply_of_pieces _ _ (gpieces0 c (grid0.coords t) _ _ _ _ _ _ _ _ _ _ _ _ _ _ _ _ _ _ _ _ _ _ _ _ _ _ _ _ _ _ _ _ _ _ _ _ _ _ _ _ (blk0 V c 0 t) (blk0 V c 1 t) (blk0 V c 2 t) (blk0 V c 3 t) (blk0 V c 4 t) (blk0 V c 5 t) (blk0 V c 6 t) (blk0 V c 7 t) (blk0 V c 8 t) (blk0 V c 9 t) (blk0 V c 10 t) (blk0 V c 11 t) (blk0 V c 12 t) (blk0 V c 13 t) (blk0 V c 14 t) (tab0 V c t)) y (cover0_17 V c t y)).trans ?_
  refine (gatev0_eq (grid0.coords t) (fun p => by rw [coord0]; rfl) (tileIn0 V c h t) y).trans ?_
  obtain ⟨h0, h1, h2, h3, h4, h5, h6, h7, h8, h9, h10, h11, h12, h13, h14, h15, h16, h17⟩ := idx0 t
  have c0 : (batch0 t : Fin 24) = ((win0_17.blk t).view.emb y) 0 := Fin.ext (by
    blk_simp [h17]
    rfl)
  have c1 : (time0 t (y 1) : Fin 2048) = ((win0_17.blk t).view.emb y) 1 := Fin.ext (by
    blk_simp [h17]
    exact congrArg (· + _) (Nat.mul_comm 256 (t.val % 8)))
  have c2 : y 2 = ((win0_17.blk t).view.emb y) 2 := Fin.ext (by
    blk_simp [h17])
  have e := congr (congrArg₂ (fun (b : Fin 24) (t : Fin 2048) o => L.z b t o) c0 c1) c2
  exact e

end Cert.KernelIdeal.Layer

end
-- ==== Proof.Value.Host0.lean ====
/- What the host lines before kernel call 0 put into its input arrays. -/
module

public import proofs.«01_k».proof.Proof.Value.HostArgs
public import proofs.«01_k».proof.Proof.Value.Arrays0
public import Idealize.ShloMosaic.Lib.StableHlo.ReadAt

@[expose] public section

set_option maxRecDepth 16384
set_option maxHeartbeats 0

noncomputable section

namespace Cert.KernelIdeal.Layer

open Idealize.ShloMosaic Idealize.ShloMosaic.TcCoe Idealize.ShloMosaic.Tactic
open Cert.KernelIdeal.Gen Cert.Spec

variable (U : Valuation τ sig (Elt Ideal))

/-- A buffer the host lines do not write is kept. -/
theorem kept0 (r : Ref sig .tc) (hr : r ∉ hostOps0_2_W) : StableHlo.after hostOps0_2 U r = U r :=
  StableHlo.after_of_writes_sub hostOps0_2 U hostOps0_2_writes hr

/-! Each input array, at an index, over what the buffers held before. -/

theorem host0_sr : (StableHlo.after hostOps0_2 U main_v13 : Vec Ideal S3 .f32) (ix1 0) = (argsAt U).ars 0 := by
  after_reads_at
  rw [StableHlo.unary_result']
  after_reads_at
  rfl
theorem host0_sg : (StableHlo.after hostOps0_2 U main_v13 : Vec Ideal S3 .f32) (ix1 1) = (argsAt U).ags 0 := by
  after_reads_at
  rw [StableHlo.unary_result']
  after_reads_at
  rfl
theorem host0_sq : (StableHlo.after hostOps0_2 U main_v13 : Vec Ideal S3 .f32) (ix1 2) = (argsAt U).ars 1 := by
  after_reads_at
  rw [StableHlo.unary_result']
  after_reads_at
  rfl
theorem host0_rp (b t k) : (StableHlo.after hostOps0_2 U main_v3 : Vec Ideal S24x2048x768 .i8) (ix3 b t k) = late 1 (codes (U main_arg0)) b t k := by
  after_reads_at
  rfl
theorem host0_wc (k o) : (StableHlo.after hostOps0_2 U main_v15 : Vec Ideal S80x3072 .i8) (ix2 k o) = (argsAt U).wc 0 k o := by
  after_reads_at
  rfl
theorem host0_wd (e k o) : (StableHlo.after hostOps0_2 U main_v17 : Vec Ideal S2x768x3072 .i8) (ix3 e k o) = (argsAt U).wd 0 e k o := by
  after_reads_at
  rfl
theorem host0_wr (k o) : (StableHlo.after hostOps0_2 U main_v19 : Vec Ideal S1536x768 .i8) (ix2 k o) = (argsAt U).wr 0 k o := by
  after_reads_at
  rfl
theorem host0_ws (k o) : (StableHlo.after hostOps0_2 U main_v21 : Vec Ideal S1536x512 .i8) (ix2 k o) = (argsAt U).wk 0 k o := by
  after_reads_at
  rfl
theorem host0_dsc (o) : (StableHlo.after hostOps0_2 U main_v24 : Vec Ideal S1x3072 .f32) (ix2 0 o) = (argsAt U).dsc 0 o := by
  after_reads_at
  rfl
theorem host0_db (o) : (StableHlo.after hostOps0_2 U main_v27 : Vec Ideal S1x3072 .f32) (ix2 0 o) = (argsAt U).db 0 o := by
  after_reads_at
  rfl
theorem host0_csc (o) : (StableHlo.after hostOps0_2 U main_v32 : Vec Ideal S1x3072 .f32) (ix2 0 o) = (argsAt U).cs * (argsAt U).csc 0 o := by
  after_reads_at
  rfl
theorem host0_rsc (o) : (StableHlo.after hostOps0_2 U main_v35 : Vec Ideal S1x768 .f32) (ix2 0 o) = (argsAt U).rsc 0 o := by
  after_reads_at
  rfl
theorem host0_rb (o) : (StableHlo.after hostOps0_2 U main_v38 : Vec Ideal S1x768 .f32) (ix2 0 o) = (argsAt U).rb 0 o := by
  after_reads_at
  rfl
theorem host0_ssc (o) : (StableHlo.after hostOps0_2 U main_v41 : Vec Ideal S1x512 .f32) (ix2 0 o) = (argsAt U).ksc 0 o := by
  after_reads_at
  rfl
theorem host0_sb (o) : (StableHlo.after hostOps0_2 U main_v44 : Vec Ideal S1x512 .f32) (ix2 0 o) = (argsAt U).kb 0 o := by
  after_reads_at
  rfl

/-- Everything the call reads is layer 0's. -/
theorem reads0 (V : Dev nD → Valuation τ sig (Elt Ideal)) (c : Dev nD) (hV : V c = StableHlo.after hostOps0_2 U)
    (hcond : ∀ b (q : Fin 16) (hq : q.val < 7) k,
      (U main_v0 : Vec Ideal S24x16x80 .i8) (ix3 b q k) = (argsAt U).cond b ⟨q.val, hq⟩ k) :
    Reads0 V c ((argsAt U).lay 0 1 (codes (U main_arg0))) where
  sr := (congrFun (congrFun hV (Proc.devRef (τ := τ) .tc main_v13)) _).trans (host0_sr U)
  sg := (congrFun (congrFun hV (Proc.devRef (τ := τ) .tc main_v13)) _).trans (host0_sg U)
  sq := (congrFun (congrFun hV (Proc.devRef (τ := τ) .tc main_v13)) _).trans (host0_sq U)
  r b t k := (congrFun (congrFun hV (Proc.devRef (τ := τ) .tc main_arg0)) _).trans (congrFun (kept0 U main_arg0 (by decide)) _)
  rp b t k := (congrFun (congrFun hV (Proc.devRef (τ := τ) .tc main_v3)) _).trans (host0_rp U b t k)
  cond b q hq k := (congrFun (congrFun hV (Proc.devRef (τ := τ) .tc main_v0)) _).trans ((congrFun (kept0 U main_v0 (by decide)) _).trans (hcond b q hq k))
  wc k o := (congrFun (congrFun hV (Proc.devRef (τ := τ) .tc main_v15)) _).trans (host0_wc U k o)
  w0 k o := (congrFun (congrFun hV (Proc.devRef (τ := τ) .tc main_v17)) _).trans (host0_wd U 0 k o)
  w1 k o := (congrFun (congrFun hV (Proc.devRef (τ := τ) .tc main_v17)) _).trans (host0_wd U 1 k o)
  wr k o := (congrFun (congrFun hV (Proc.devRef (τ := τ) .tc main_v19)) _).trans (host0_wr U k o)
  ws k o := (congrFun (congrFun hV (Proc.devRef (τ := τ) .tc main_v21)) _).trans (host0_ws U k o)
  dsc o := (congrFun (congrFun hV (Proc.devRef (τ := τ) .tc main_v24)) _).trans (host0_dsc U o)
  db o := (congrFun (congrFun hV (Proc.devRef (τ := τ) .tc main_v27)) _).trans (host0_db U o)
  csc o := (congrFun (congrFun hV (Proc.devRef (τ := τ) .tc main_v32)) _).trans (host0_csc U o)
  rsc o := (congrFun (congrFun hV (Proc.devRef (τ := τ) .tc main_v35)) _).trans (host0_rsc U o)
  rb o := (congrFun (congrFun hV (Proc.devRef (τ := τ) .tc main_v38)) _).trans (host0_rb U o)
  ssc o := (congrFun (congrFun hV (Proc.devRef (τ := τ) .tc main_v41)) _).trans (host0_ssc U o)
  sb o := (congrFun (congrFun hV (Proc.devRef (τ := τ) .tc main_v44)) _).trans (host0_sb U o)

end Cert.KernelIdeal.Layer
-- ==== Proof.Value.Arrays1.lean ====
/- What the arrays of kernel call 1 hold when it ends, given what its inputs held. -/
module

public import proofs.«01_k».proof.Proof.Frame1
public import proofs.«01_k».proof.Proof.Value.Join
public import Idealize.ShloMosaic.Lib.Pointwise
public import Idealize.ShloMosaic.Lib.Pipeline.ValueKit

@[expose] public section

set_option maxRecDepth 16384
set_option maxHeartbeats 0

noncomputable section

namespace Cert.KernelIdeal.Layer

open Idealize.ShloMosaic Idealize.ShloMosaic.TcCoe Idealize.ShloMosaic.Tactic
open Cert.KernelIdeal.Gen Cert.Spec

variable (V : Dev nD → Valuation τ sig (Elt Ideal)) (c : Dev nD)

/-- Input `w`'s array of the call. -/
abbrev in1 (w : Fin cfg1.W) := V c (Pipeline.arrRef spec1 w)

/-- The call's input arrays are layer `L`'s. -/
structure Reads1 (L : Lay) (S : Seq 512 EReal) : Prop where
  sr : (in1 V c 0 : Vec Ideal S3 .f32) (ix1 0) = L.sr
  sg : (in1 V c 0 : Vec Ideal S3 .f32) (ix1 1) = L.sg
  sq : (in1 V c 0 : Vec Ideal S3 .f32) (ix1 2) = L.sq
  r : ∀ b t k, (in1 V c 1 : Vec Ideal S24x2048x768 .i8) (ix3 b t k) = L.r b t k
  rp : ∀ b t k, (in1 V c 2 : Vec Ideal S24x2048x768 .i8) (ix3 b t k) = L.rp b t k
  cond : ∀ b (q : Fin 16) (hq : q.val < 7) k, (in1 V c 3 : Vec Ideal S24x16x80 .i8) (ix3 b q k) = L.cond b ⟨q.val, hq⟩ k
  wc : ∀ k o, (in1 V c 4 : Vec Ideal S80x3072 .i8) (ix2 k o) = L.wc k o
  w0 : ∀ k o, (in1 V c 5 : Vec Ideal S2x768x3072 .i8) (ix3 0 k o) = L.w0 k o
  w1 : ∀ k o, (in1 V c 5 : Vec Ideal S2x768x3072 .i8) (ix3 1 k o) = L.w1 k o
  wr : ∀ k o, (in1 V c 6 : Vec Ideal S1536x768 .i8) (ix2 k o) = L.wr k o
  ws : ∀ k o, (in1 V c 7 : Vec Ideal S1536x512 .i8) (ix2 k o) = L.ws k o
  dsc : ∀ o, (in1 V c 8 : Vec Ideal S1x3072 .f32) (ix2 0 o) = L.dsc o
  db : ∀ o, (in1 V c 9 : Vec Ideal S1x3072 .f32) (ix2 0 o) = L.db o
  csc : ∀ o, (in1 V c 10 : Vec Ideal S1x3072 .f32) (ix2 0 o) = L.csc o
  rsc : ∀ o, (in1 V c 11 : Vec Ideal S1x768 .f32) (ix2 0 o) = L.rsc o
  rb : ∀ o, (in1 V c 12 : Vec Ideal S1x768 .f32) (ix2 0 o) = L.rb o
  ssc : ∀ o, (in1 V c 13 : Vec Ideal S1x512 .f32) (ix2 0 o) = L.ssc o
  sb : ∀ o, (in1 V c 14 : Vec Ideal S1x512 .f32) (ix2 0 o) = L.sb o
  skip : ∀ b t o, (in1 V c 15 : Vec Ideal S24x2048x512 .f32) (ix3 b t o) = S b t o

/-- The block of each window at point `t`: batch row `t / 8`, tile `t % 8`. -/
theorem idx1 : ∀ t : Fin cfg1.N, (cfg1.win 0).index t = ![0] ∧ (cfg1.win 1).index t = ![t.val / 8, t.val % 8, 0] ∧ (cfg1.win 2).index t = ![t.val / 8, t.val % 8, 0] ∧ (cfg1.win 3).index t = ![t.val / 8, 0, 0] ∧ (cfg1.win 4).index t = ![0, 0] ∧ (cfg1.win 5).index t = ![0, 0, 0] ∧ (cfg1.win 6).index t = ![0, 0] ∧ (cfg1.win 7).index t = ![0, 0] ∧ (cfg1.win 8).index t = ![0, 0] ∧ (cfg1.win 9).index t = ![0, 0] ∧ (cfg1.win 10).index t = ![0, 0] ∧ (cfg1.win 11).index t = ![0, 0] ∧ (cfg1.win 12).index t = ![0, 0] ∧ (cfg1.win 13).index t = ![0, 0] ∧ (cfg1.win 14).index t = ![0, 0] ∧ (cfg1.win 15).index t = ![t.val / 8, t.val % 8, 0] ∧ (cfg1.win 16).index t = ![t.val / 8, t.val % 8, 0] ∧ (cfg1.win 17).index t = ![t.val / 8, t.val % 8, 0] := by
  decide +kernel

theorem lt1 (t : Fin cfg1.N) : t.val < 192 := Nat.lt_of_lt_of_eq t.isLt N_1

theorem coord1 (t : Fin cfg1.N) : (grid1.coords t 1).val = t.val % 8 := by
  have e1 : (grid1.coords t 1).val = t.val / 1 % 8 := Pipeline.Grid.coords_val t 1 (by decide) rfl
  rw [e1, Nat.div_one]

/-- The batch row and the steps of point `t`. -/
def batch1 (t : Fin cfg1.N) : Fin 24 := ⟨t.val / 8, by have := lt1 t; omega⟩
def time1 (t : Fin cfg1.N) (p : Fin 256) : Fin 2048 := ⟨256 * (t.val % 8) + p.val, by omega⟩

theorem blk1_0 (t : Fin cfg1.N) (a : Fin 3) :
    (blk1 V c 0 t : Vec Ideal S3 .f32) (ix1 a) = (in1 V c 0 : Vec Ideal S3 .f32) (ix1 a) := by
  unfold blk1
  obtain ⟨h0, h1, h2, h3, h4, h5, h6, h7, h8, h9, h10, h11, h12, h13, h14, h15, h16, h17⟩ := idx1 t
  blk_ext [h0]
theorem blk1_1 (t : Fin cfg1.N) (p : Fin 256) (a : Fin 768) :
    (blk1 V c 1 t : Vec Ideal S1x256x768 .i8) (ix3 0 p a) = (in1 V c 1 : Vec Ideal S24x2048x768 .i8) (ix3 (batch1 t) (time1 t p) a) := by
  unfold blk1 batch1 time1
  obtain ⟨h0, h1, h2, h3, h4, h5, h6, h7, h8, h9, h10, h11, h12, h13, h14, h15, h16, h17⟩ := idx1 t
  blk_ext [h1]
theorem blk1_2 (t : Fin cfg1.N) (p : Fin 256) (a : Fin 768) :
    (blk1 V c 2 t : Vec Ideal S1x256x768 .i8) (ix3 0 p a) = (in1 V c 2 : Vec Ideal S24x2048x768 .i8) (ix3 (batch1 t) (time1 t p) a) := by
  unfold blk1 batch1 time1
  obtain ⟨h0, h1, h2, h3, h4, h5, h6, h7, h8, h9, h10, h11, h12, h13, h14, h15, h16, h17⟩ := idx1 t
  blk_ext [h2]
theorem blk1_3 (t : Fin cfg1.N) (p : Fin 16) (a : Fin 80) :
    (blk1 V c 3 t : Vec Ideal S1x16x80 .i8) (ix3 0 p a) = (in1 V c 3 : Vec Ideal S24x16x80 .i8) (ix3 (batch1 t) p a) := by
  unfold blk1 batch1
  obtain ⟨h0, h1, h2, h3, h4, h5, h6, h7, h8, h9, h10, h11, h12, h13, h14, h15, h16, h17⟩ := idx1 t
  blk_ext [h3]
theorem blk1_4 (t : Fin cfg1.N) (p : Fin 80) (a : Fin 3072) :
    (blk1 V c 4 t : Vec Ideal S80x3072 .i8) (ix2 p a) = (in1 V c 4 : Vec Ideal S80x3072 .i8) (ix2 p a) := by
  unfold blk1
  obtain ⟨h0, h1, h2, h3, h4, h5, h6, h7, h8, h9, h10, h11, h12, h13, h14, h15, h16, h17⟩ := idx1 t
  blk_ext [h4]
theorem blk1_5 (t : Fin cfg1.N) (e : Fin 2) (p : Fin 768) (a : Fin 3072) :
    (blk1 V c 5 t : Vec Ideal S2x768x3072 .i8) (ix3 e p a) = (in1 V c 5 : Vec Ideal S2x768x3072 .i8) (ix3 e p a) := by
  unfold blk1
  obtain ⟨h0, h1, h2, h3, h4, h5, h6, h7, h8, h9, h10, h11, h12, h13, h14, h15, h16, h17⟩ := idx1 t
  blk_ext [h5]
theorem blk1_6 (t : Fin cfg1.N) (p : Fin 1536) (a : Fin 768) :
    (blk1 V c 6 t : Vec Ideal S1536x768 .i8) (ix2 p a) = (in1 V c 6 : Vec Ideal S1536x768 .i8) (ix2 p a) := by
  unfold blk1
  obtain ⟨h0, h1, h2, h3, h4, h5, h6, h7, h8, h9, h10, h11, h12, h13, h14, h15, h16, h17⟩ := idx1 t
  blk_ext [h6]
theorem blk1_7 (t : Fin cfg1.N) (p : Fin 1536) (a : Fin 512) :
    (blk1 V c 7 t : Vec Ideal S1536x512 .i8) (ix2 p a) = (in1 V c 7 : Vec Ideal S1536x512 .i8) (ix2 p a) := by
  unfold blk1
  obtain ⟨h0, h1, h2, h3, h4, h5, h6, h7, h8, h9, h10, h11, h12, h13, h14, h15, h16, h17⟩ := idx1 t
  blk_ext [h7]
theorem blk1_8 (t : Fin cfg1.N) (a : Fin 3072) :
    (blk1 V c 8 t : Vec Ideal S1x3072 .f32) (ix2 0 a) = (in1 V c 8 : Vec Ideal S1x3072 .f32) (ix2 0 a) := by
  unfold blk1
  obtain ⟨h0, h1, h2, h3, h4, h5, h6, h7, h8, h9, h10, h11, h12, h13, h14, h15, h16, h17⟩ := idx1 t
  blk_ext [h8]
theorem blk1_9 (t : Fin cfg1.N) (a : Fin 3072) :
    (blk1 V c 9 t : Vec Ideal S1x3072 .f32) (ix2 0 a) = (in1 V c 9 : Vec Ideal S1x3072 .f32) (ix2 0 a) := by
  unfold blk1
  obtain ⟨h0, h1, h2, h3, h4, h5, h6, h7, h8, h9, h10, h11, h12, h13, h14, h15, h16, h17⟩ := idx1 t
  blk_ext [h9]
theorem blk1_10 (t : Fin cfg1.N) (a : Fin 3072) :
    (blk1 V c 10 t : Vec Ideal S1x3072 .f32) (ix2 0 a) = (in1 V c 10 : Vec Ideal S1x3072 .f32) (ix2 0 a) := by
  unfold blk1
  obtain ⟨h0, h1, h2, h3, h4, h5, h6, h7, h8, h9, h10, h11, h12, h13, h14, h15, h16, h17⟩ := idx1 t
  blk_ext [h10]
theorem blk1_11 (t : Fin cfg1.N) (a : Fin 768) :
    (blk1 V c 11 t : Vec Ideal S1x768 .f32) (ix2 0 a) = (in1 V c 11 : Vec Ideal S1x768 .f32) (ix2 0 a) := by
  unfold blk1
  obtain ⟨h0, h1, h2, h3, h4, h5, h6, h7, h8, h9, h10, h11, h12, h13, h14, h15, h16, h17⟩ := idx1 t
  blk_ext [h11]
theorem blk1_12 (t : Fin cfg1.N) (a : Fin 768) :
    (blk1 V c 12 t : Vec Ideal S1x768 .f32) (ix2 0 a) = (in1 V c 12 : Vec Ideal S1x768 .f32) (ix2 0 a) := by
  unfold blk1
  obtain ⟨h0, h1, h2, h3, h4, h5, h6, h7, h8, h9, h10, h11, h12, h13, h14, h15, h16, h17⟩ := idx1 t
  blk_ext [h12]
theorem blk1_13 (t : Fin cfg1.N) (a : Fin 512) :
    (blk1 V c 13 t : Vec Ideal S1x512 .f32) (ix2 0 a) = (in1 V c 13 : Vec Ideal S1x512 .f32) (ix2 0 a) := by
  unfold blk1
  obtain ⟨h0, h1, h2, h3, h4, h5, h6, h7, h8, h9, h10, h11, h12, h13, h14, h15, h16, h17⟩ := idx1 t
  blk_ext [h13]
theorem blk1_14 (t : Fin cfg1.N) (a : Fin 512) :
    (blk1 V c 14 t : Vec Ideal S1x512 .f32) (ix2 0 a) = (in1 V c 14 : Vec Ideal S1x512 .f32) (ix2 0 a) := by
  unfold blk1
  obtain ⟨h0, h1, h2, h3, h4, h5, h6, h7, h8, h9, h10, h11, h12, h13, h14, h15, h16, h17⟩ := idx1 t
  blk_ext [h14]
theorem blk1_15 (t : Fin cfg1.N) (p : Fin 256) (a : Fin 512) :
    (blk1 V c 15 t : Vec Ideal S1x256x512 .f32) (ix3 0 p a) = (in1 V c 15 : Vec Ideal S24x2048x512 .f32) (ix3 (batch1 t) (time1 t p) a) := by
  unfold blk1 batch1 time1
  obtain ⟨h0, h1, h2, h3, h4, h5, h6, h7, h8, h9, h10, h11, h12, h13, h14, h15, h16, h17⟩ := idx1 t
  blk_ext [h15]

/-- The blocks at point `t`, and the table carried to it, are the layer's at batch row `t / 8` and steps of tile `t % 8`. -/
theorem tileIn1 {L : Lay} {S : Seq 512 EReal} (h : Reads1 V c L S) (t : Fin cfg1.N) :
    TileIn L (batch1 t) (time1 t) (blk1 V c 0 t) (blk1 V c 1 t) (blk1 V c 2 t) (blk1 V c 5 t) (blk1 V c 6 t) (blk1 V c 7 t) (blk1 V c 8 t) (blk1 V c 11 t) (blk1 V c 12 t) (blk1 V c 13 t) (blk1 V c 14 t) (tab1 V c t) where
  sr := (blk1_0 V c t 0).trans h.sr
  sg := (blk1_0 V c t 1).trans h.sg
  sq := (blk1_0 V c t 2).trans h.sq
  r p k := (blk1_1 V c t p k).trans (h.r _ _ _)
  rp p k := (blk1_2 V c t p k).trans (h.rp _ _ _)
  w0 k o := (blk1_5 V c t 0 k o).trans (h.w0 _ _)
  w1 k o := (blk1_5 V c t 1 k o).trans (h.w1 _ _)
  wr k o := (blk1_6 V c t k o).trans (h.wr _ _)
  ws k o := (blk1_7 V c t k o).trans (h.ws _ _)
  dsc o := (blk1_8 V c t o).trans (h.dsc _)
  rsc o := (blk1_11 V c t o).trans (h.rsc _)
  rb o := (blk1_12 V c t o).trans (h.rb _)
  ssc o := (blk1_13 V c t o).trans (h.ssc _)
  sb o := (blk1_14 V c t o).trans (h.sb _)
  cv q hq o := by
    refine (table1_apply _ _ _ _ q o).trans ?_
    have e3 := fun x => (blk1_3 V c t q x).trans (h.cond _ q hq x)
    have e4 := fun x => (blk1_4 V c t x o).trans (h.wc x o)
    have e9 := (blk1_9 V c t o).trans (h.db o)
    have e10 := (blk1_10 V c t o).trans (h.csc o)
    rw [e9, e10]
    simp only [e3, e4]
    rfl

/-- The call's array 16 ends as the skip sum. -/
theorem arr1_16 {L : Lay} {S : Seq 512 EReal} (h : Reads1 V c L S) :
    (dats1 (F := Ideal) V c).arrAt 16 cfg1.N = (fun j => S (j 0) (j 1) (j 2) + L.add (j 0) (j 1) (j 2) : Vec Ideal S24x2048x512 .f32) := by
  refine (dats1 (F := Ideal) V c).arrAt_eq_of_covers 16 _ (by decide +kernel) fun t hf y => ?_
  blk_simp
  rw [after1_16]
  unfold out1_16
  refine (congrFun (View.read_writes_eq_canon _ _ _ (cover1_16 V c t)) y).trans ?_
  refine (View.canon_apply_of_pieces _ _ (spieces1 c (grid1.coords t) _ _ _ _ _ _ _ _ _ _ _ _ _ _ _ _ _ _ _ _ _ _ _ _ _ _ _ _ _ _ _ _ _ _ _ _ _ _ _ _ (blk1 V c 0 t) (blk1 V c 1 t) (blk1 V c 2 t) (blk1 V c 3 t) (blk1 V c 4 t) (blk1 V c 5 t) (blk1 V c 6 t) (blk1 V c 7 t) (blk1 V c 8 t) (blk1 V c 9 t) (blk1 V c 10 t) (blk1 V c 11 t) (blk1 V c 12 t) (blk1 V c 13 t) (blk1 V c 14 t) (blk1 V c 15 t) (tab1 V c t)) y (cover1_16 V c t y)).trans ?_
  refine ((skipv1_eq (grid1.coords t) (fun p => by rw [coord1]; rfl) (tileIn1 V c h t) y).trans (congrArg (· + L.add (batch1 t) (time1 t (y 1)) (y 2)) ((blk1_15 V c t (y 1) (y 2)).trans (h.skip _ _ _)))).trans ?_
  obtain ⟨h0, h1, h2, h3, h4, h5, h6, h7, h8, h9, h10, h11, h12, h13, h14, h15, h16, h17⟩ := idx1 t
  have c0 : (batch1 t : Fin 24) = ((win1_16.blk t).view.emb y) 0 := Fin.ext (by
    blk_simp [h16]
    rfl)
  have c1 : (time1 t (y 1) : Fin 2048) = ((win1_16.blk t).view.emb y) 1 := Fin.ext (by
    blk_simp [h16]
    exact congrArg (· + _) (Nat.mul_comm 256 (t.val % 8)))
  have c2 : y 2 = ((win1_16.blk t).view.emb y) 2 := Fin.ext (by
    blk_simp [h16])
  have e := congr (congrArg₂ (fun (b : Fin 24) (t : Fin 2048) o => S b t o + L.add b t o) c0 c1) c2
  exact e

/-- The call's array 17 ends as the residual codes. -/
theorem arr1_17 {L : Lay} {S : Seq 512 EReal} (h : Reads1 V c L S) :
    (dats1 (F := Ideal) V c).arrAt 17 cfg1.N = (fun j => L.next (j 0) (j 1) (j 2) : Vec Ideal S24x2048x768 .i8) := by
  refine (dats1 (F := Ideal) V c).arrAt_eq_of_covers 17 _ (by decide +kernel) fun t hf y => ?_
  blk_simp
  rw [after1_17]
  unfold out1_17
  refine (congrFun (View.read_writes_eq_canon _ _ _ (cover1_17 V c t)) y).trans ?_
  refine (View.canon_apply_of_pieces _ _ (rpieces1 c (grid1.coords t) _ _ _ _ _ _ _ _ _ _ _ _ _ _ _ _ _ _ _ _ _ _ _ _ _ _ _ _ _ _ _ _ _ _ _ _ _ _ _ _ (blk1 V c 0 t) (blk1 V c 1 t) (blk1 V c 2 t) (blk1 V c 3 t) (blk1 V c 4 t) (blk1 V c 5 t) (blk1 V c 6 t) (blk1 V c 7 t) (blk1 V c 8 t) (blk1 V c 9 t) (blk1 V c 10 t) (blk1 V c 11 t) (blk1 V c 12 t) (blk1 V c 13 t) (blk1 V c 14 t) (blk1 V c 15 t) (tab1 V c t)) y (cover1_17 V c t y)).trans ?_
  refine (resv1_eq (grid1.coords t) (fun p => by rw [coord1]; rfl) (tileIn1 V c h t) y).trans ?_
  obtain ⟨h0, h1, h2, h3, h4, h5, h6, h7, h8, h9, h10, h11, h12, h13, h14, h15, h16, h17⟩ := idx1 t
  have c0 : (batch1 t : Fin 24) = ((win1_17.blk t).view.emb y) 0 := Fin.ext (by
    blk_simp [h17]
    rfl)
  have c1 : (time1 t (y 1) : Fin 2048) = ((win1_17.blk t).view.emb y) 1 := Fin.ext (by
    blk_simp [h17]
    exact congrArg (· + _) (Nat.mul_comm 256 (t.val % 8)))
  have c2 : y 2 = ((win1_17.blk t).view.emb y) 2 := Fin.ext (by
    blk_simp [h17])
  have e := congr (congrArg₂ (fun (b : Fin 24) (t : Fin 2048) o => L.next b t o) c0 c1) c2
  exact e

end Cert.KernelIdeal.Layer

end
-- ==== Proof.Value.Host1.lean ====
/- What the host lines before kernel call 1 put into its input arrays. -/
module

public import proofs.«01_k».proof.Proof.Value.HostArgs
public import proofs.«01_k».proof.Proof.Value.Arrays1
public import Idealize.ShloMosaic.Lib.StableHlo.ReadAt

@[expose] public section

set_option maxRecDepth 16384
set_option maxHeartbeats 0

noncomputable section

namespace Cert.KernelIdeal.Layer

open Idealize.ShloMosaic Idealize.ShloMosaic.TcCoe Idealize.ShloMosaic.Tactic
open Cert.KernelIdeal.Gen Cert.Spec

variable (U : Valuation τ sig (Elt Ideal))

/-- A buffer the host lines do not write is kept. -/
theorem kept1 (r : Ref sig .tc) (hr : r ∉ hostOps1_W) : StableHlo.after hostOps1 U r = U r :=
  StableHlo.after_of_writes_sub hostOps1 U hostOps1_writes hr

/-! Each input array, at an index, over what the buffers held before. -/

theorem host1_sr : (StableHlo.after hostOps1 U main_v58 : Vec Ideal S3 .f32) (ix1 0) = (argsAt U).ars 1 := by
  after_reads_at
  rw [StableHlo.unary_result']
  after_reads_at
  rfl
theorem host1_sg : (StableHlo.after hostOps1 U main_v58 : Vec Ideal S3 .f32) (ix1 1) = (argsAt U).ags 1 := by
  after_reads_at
  rw [StableHlo.unary_result']
  after_reads_at
  rfl
theorem host1_sq : (StableHlo.after hostOps1 U main_v58 : Vec Ideal S3 .f32) (ix1 2) = (argsAt U).ars 2 := by
  after_reads_at
  rw [StableHlo.unary_result']
  after_reads_at
  rfl
theorem host1_rp (b t k) : (StableHlo.after hostOps1 U main_v48 : Vec Ideal S24x2048x768 .i8) (ix3 b t k) = late 4 (codes (U main_v45_1)) b t k := by
  after_reads_at
  rfl
theorem host1_wc (k o) : (StableHlo.after hostOps1 U main_v60 : Vec Ideal S80x3072 .i8) (ix2 k o) = (argsAt U).wc 1 k o := by
  after_reads_at
  rfl
theorem host1_wd (e k o) : (StableHlo.after hostOps1 U main_v62 : Vec Ideal S2x768x3072 .i8) (ix3 e k o) = (argsAt U).wd 1 e k o := by
  after_reads_at
  rfl
theorem host1_wr (k o) : (StableHlo.after hostOps1 U main_v64 : Vec Ideal S1536x768 .i8) (ix2 k o) = (argsAt U).wr 1 k o := by
  after_reads_at
  rfl
theorem host1_ws (k o) : (StableHlo.after hostOps1 U main_v66 : Vec Ideal S1536x512 .i8) (ix2 k o) = (argsAt U).wk 1 k o := by
  after_reads_at
  rfl
theorem host1_dsc (o) : (StableHlo.after hostOps1 U main_v69 : Vec Ideal S1x3072 .f32) (ix2 0 o) = (argsAt U).dsc 1 o := by
  after_reads_at
  rfl
theorem host1_db (o) : (StableHlo.after hostOps1 U main_v72 : Vec Ideal S1x3072 .f32) (ix2 0 o) = (argsAt U).db 1 o := by
  after_reads_at
  rfl
theorem host1_csc (o) : (StableHlo.after hostOps1 U main_v77 : Vec Ideal S1x3072 .f32) (ix2 0 o) = (argsAt U).cs * (argsAt U).csc 1 o := by
  after_reads_at
  rfl
theorem host1_rsc (o) : (StableHlo.after hostOps1 U main_v80 : Vec Ideal S1x768 .f32) (ix2 0 o) = (argsAt U).rsc 1 o := by
  after_reads_at
  rfl
theorem host1_rb (o) : (StableHlo.after hostOps1 U main_v83 : Vec Ideal S1x768 .f32) (ix2 0 o) = (argsAt U).rb 1 o := by
  after_reads_at
  rfl
theorem host1_ssc (o) : (StableHlo.after hostOps1 U main_v86 : Vec Ideal S1x512 .f32) (ix2 0 o) = (argsAt U).ksc 1 o := by
  after_reads_at
  rfl
theorem host1_sb (o) : (StableHlo.after hostOps1 U main_v89 : Vec Ideal S1x512 .f32) (ix2 0 o) = (argsAt U).kb 1 o := by
  after_reads_at
  rfl

/-- Everything the call reads is layer 1's. -/
theorem reads1 (V : Dev nD → Valuation τ sig (Elt Ideal)) (c : Dev nD) (hV : V c = StableHlo.after hostOps1 U)
    (hcond : ∀ b (q : Fin 16) (hq : q.val < 7) k,
      (U main_v0 : Vec Ideal S24x16x80 .i8) (ix3 b q k) = (argsAt U).cond b ⟨q.val, hq⟩ k) :
    Reads1 V c ((argsAt U).lay 1 4 (codes (U main_v45_1))) (fun b t o => (U main_v45_0 : Vec Ideal S24x2048x512 .f32) (ix3 b t o)) where
  sr := (congrFun (congrFun hV (Proc.devRef (τ := τ) .tc main_v58)) _).trans (host1_sr U)
  sg := (congrFun (congrFun hV (Proc.devRef (τ := τ) .tc main_v58)) _).trans (host1_sg U)
  sq := (congrFun (congrFun hV (Proc.devRef (τ := τ) .tc main_v58)) _).trans (host1_sq U)
  r b t k := (congrFun (congrFun hV (Proc.devRef (τ := τ) .tc main_v45_1)) _).trans (congrFun (kept1 U main_v45_1 (by decide)) _)
  rp b t k := (congrFun (congrFun hV (Proc.devRef (τ := τ) .tc main_v48)) _).trans (host1_rp U b t k)
  cond b q hq k := (congrFun (congrFun hV (Proc.devRef (τ := τ) .tc main_v0)) _).trans ((congrFun (kept1 U main_v0 (by decide)) _).trans (hcond b q hq k))
  wc k o := (congrFun (congrFun hV (Proc.devRef (τ := τ) .tc main_v60)) _).trans (host1_wc U k o)
  w0 k o := (congrFun (congrFun hV (Proc.devRef (τ := τ) .tc main_v62)) _).trans (host1_wd U 0 k o)
  w1 k o := (congrFun (congrFun hV (Proc.devRef (τ := τ) .tc main_v62)) _).trans (host1_wd U 1 k o)
  wr k o := (congrFun (congrFun hV (Proc.devRef (τ := τ) .tc main_v64)) _).trans (host1_wr U k o)
  ws k o := (congrFun (congrFun hV (Proc.devRef (τ := τ) .tc main_v66)) _).trans (host1_ws U k o)
  dsc o := (congrFun (congrFun hV (Proc.devRef (τ := τ) .tc main_v69)) _).trans (host1_dsc U o)
  db o := (congrFun (congrFun hV (Proc.devRef (τ := τ) .tc main_v72)) _).trans (host1_db U o)
  csc o := (congrFun (congrFun hV (Proc.devRef (τ := τ) .tc main_v77)) _).trans (host1_csc U o)
  rsc o := (congrFun (congrFun hV (Proc.devRef (τ := τ) .tc main_v80)) _).trans (host1_rsc U o)
  rb o := (congrFun (congrFun hV (Proc.devRef (τ := τ) .tc main_v83)) _).trans (host1_rb U o)
  ssc o := (congrFun (congrFun hV (Proc.devRef (τ := τ) .tc main_v86)) _).trans (host1_ssc U o)
  sb o := (congrFun (congrFun hV (Proc.devRef (τ := τ) .tc main_v89)) _).trans (host1_sb U o)
  skip b t o := (congrFun (congrFun hV (Proc.devRef (τ := τ) .tc main_v45_0)) _).trans (congrFun (kept1 U main_v45_0 (by decide)) _)

end Cert.KernelIdeal.Layer
-- ==== Proof.Value.Arrays2.lean ====
/- What the arrays of kernel call 2 hold when it ends, given what its inputs held. -/
module

public import proofs.«01_k».proof.Proof.Frame2
public import proofs.«01_k».proof.Proof.Value.Join
public import Idealize.ShloMosaic.Lib.Pointwise
public import Idealize.ShloMosaic.Lib.Pipeline.ValueKit

@[expose] public section

set_option maxRecDepth 16384
set_option maxHeartbeats 0

noncomputable section

namespace Cert.KernelIdeal.Layer

open Idealize.ShloMosaic Idealize.ShloMosaic.TcCoe Idealize.ShloMosaic.Tactic
open Cert.KernelIdeal.Gen Cert.Spec

variable (V : Dev nD → Valuation τ sig (Elt Ideal)) (c : Dev nD)

/-- Input `w`'s array of the call. -/
abbrev in2 (w : Fin cfg2.W) := V c (Pipeline.arrRef spec2 w)

/-- The call's input arrays are layer `L`'s. -/
structure Reads2 (L : Lay) (S : Seq 512 EReal) : Prop where
  sr : (in2 V c 0 : Vec Ideal S3 .f32) (ix1 0) = L.sr
  sg : (in2 V c 0 : Vec Ideal S3 .f32) (ix1 1) = L.sg
  sq : (in2 V c 0 : Vec Ideal S3 .f32) (ix1 2) = L.sq
  r : ∀ b t k, (in2 V c 1 : Vec Ideal S24x2048x768 .i8) (ix3 b t k) = L.r b t k
  rp : ∀ b t k, (in2 V c 2 : Vec Ideal S24x2048x768 .i8) (ix3 b t k) = L.rp b t k
  cond : ∀ b (q : Fin 16) (hq : q.val < 7) k, (in2 V c 3 : Vec Ideal S24x16x80 .i8) (ix3 b q k) = L.cond b ⟨q.val, hq⟩ k
  wc : ∀ k o, (in2 V c 4 : Vec Ideal S80x3072 .i8) (ix2 k o) = L.wc k o
  w0 : ∀ k o, (in2 V c 5 : Vec Ideal S2x768x3072 .i8) (ix3 0 k o) = L.w0 k o
  w1 : ∀ k o, (in2 V c 5 : Vec Ideal S2x768x3072 .i8) (ix3 1 k o) = L.w1 k o
  wr : ∀ k o, (in2 V c 6 : Vec Ideal S1536x768 .i8) (ix2 k o) = L.wr k o
  ws : ∀ k o, (in2 V c 7 : Vec Ideal S1536x512 .i8) (ix2 k o) = L.ws k o
  dsc : ∀ o, (in2 V c 8 : Vec Ideal S1x3072 .f32) (ix2 0 o) = L.dsc o
  db : ∀ o, (in2 V c 9 : Vec Ideal S1x3072 .f32) (ix2 0 o) = L.db o
  csc : ∀ o, (in2 V c 10 : Vec Ideal S1x3072 .f32) (ix2 0 o) = L.csc o
  rsc : ∀ o, (in2 V c 11 : Vec Ideal S1x768 .f32) (ix2 0 o) = L.rsc o
  rb : ∀ o, (in2 V c 12 : Vec Ideal S1x768 .f32) (ix2 0 o) = L.rb o
  ssc : ∀ o, (in2 V c 13 : Vec Ideal S1x512 .f32) (ix2 0 o) = L.ssc o
  sb : ∀ o, (in2 V c 14 : Vec Ideal S1x512 .f32) (ix2 0 o) = L.sb o
  skip : ∀ b t o, (in2 V c 15 : Vec Ideal S24x2048x512 .f32) (ix3 b t o) = S b t o

/-- The block of each window at point `t`: batch row `t / 8`, tile `t % 8`. -/
theorem idx2 : ∀ t : Fin cfg2.N, (cfg2.win 0).index t = ![0] ∧ (cfg2.win 1).index t = ![t.val / 8, t.val % 8, 0] ∧ (cfg2.win 2).index t = ![t.val / 8, t.val % 8, 0] ∧ (cfg2.win 3).index t = ![t.val / 8, 0, 0] ∧ (cfg2.win 4).index t = ![0, 0] ∧ (cfg2.win 5).index t = ![0, 0, 0] ∧ (cfg2.win 6).index t = ![0, 0] ∧ (cfg2.win 7).index t = ![0, 0] ∧ (cfg2.win 8).index t = ![0, 0] ∧ (cfg2.win 9).index t = ![0, 0] ∧ (cfg2.win 10).index t = ![0, 0] ∧ (cfg2.win 11).index t = ![0, 0] ∧ (cfg2.win 12).index t = ![0, 0] ∧ (cfg2.win 13).index t = ![0, 0] ∧ (cfg2.win 14).index t = ![0, 0] ∧ (cfg2.win 15).index t = ![t.val / 8, t.val % 8, 0] ∧ (cfg2.win 16).index t = ![t.val / 8, t.val % 8, 0] ∧ (cfg2.win 17).index t = ![t.val / 8, t.val % 8, 0] := by
  decide +kernel

theorem lt2 (t : Fin cfg2.N) : t.val < 192 := Nat.lt_of_lt_of_eq t.isLt N_2

theorem coord2 (t : Fin cfg2.N) : (grid2.coords t 1).val = t.val % 8 := by
  have e1 : (grid2.coords t 1).val = t.val / 1 % 8 := Pipeline.Grid.coords_val t 1 (by decide) rfl
  rw [e1, Nat.div_one]

/-- The batch row and the steps of point `t`. -/
def batch2 (t : Fin cfg2.N) : Fin 24 := ⟨t.val / 8, by have := lt2 t; omega⟩
def time2 (t : Fin cfg2.N) (p : Fin 256) : Fin 2048 := ⟨256 * (t.val % 8) + p.val, by omega⟩

theorem blk2_0 (t : Fin cfg2.N) (a : Fin 3) :
    (blk2 V c 0 t : Vec Ideal S3 .f32) (ix1 a) = (in2 V c 0 : Vec Ideal S3 .f32) (ix1 a) := by
  unfold blk2
  obtain ⟨h0, h1, h2, h3, h4, h5, h6, h7, h8, h9, h10, h11, h12, h13, h14, h15, h16, h17⟩ := idx2 t
  blk_ext [h0]
theorem blk2_1 (t : Fin cfg2.N) (p : Fin 256) (a : Fin 768) :
    (blk2 V c 1 t : Vec Ideal S1x256x768 .i8) (ix3 0 p a) = (in2 V c 1 : Vec Ideal S24x2048x768 .i8) (ix3 (batch2 t) (time2 t p) a) := by
  unfold blk2 batch2 time2
  obtain ⟨h0, h1, h2, h3, h4, h5, h6, h7, h8, h9, h10, h11, h12, h13, h14, h15, h16, h17⟩ := idx2 t
  blk_ext [h1]
theorem blk2_2 (t : Fin cfg2.N) (p : Fin 256) (a : Fin 768) :
    (blk2 V c 2 t : Vec Ideal S1x256x768 .i8) (ix3 0 p a) = (in2 V c 2 : Vec Ideal S24x2048x768 .i8) (ix3 (batch2 t) (time2 t p) a) := by
  unfold blk2 batch2 time2
  obtain ⟨h0, h1, h2, h3, h4, h5, h6, h7, h8, h9, h10, h11, h12, h13, h14, h15, h16, h17⟩ := idx2 t
  blk_ext [h2]
theorem blk2_3 (t : Fin cfg2.N) (p : Fin 16) (a : Fin 80) :
    (blk2 V c 3 t : Vec Ideal S1x16x80 .i8) (ix3 0 p a) = (in2 V c 3 : Vec Ideal S24x16x80 .i8) (ix3 (batch2 t) p a) := by
  unfold blk2 batch2
  obtain ⟨h0, h1, h2, h3, h4, h5, h6, h7, h8, h9, h10, h11, h12, h13, h14, h15, h16, h17⟩ := idx2 t
  blk_ext [h3]
theorem blk2_4 (t : Fin cfg2.N) (p : Fin 80) (a : Fin 3072) :
    (blk2 V c 4 t : Vec Ideal S80x3072 .i8) (ix2 p a) = (in2 V c 4 : Vec Ideal S80x3072 .i8) (ix2 p a) := by
  unfold blk2
  obtain ⟨h0, h1, h2, h3, h4, h5, h6, h7, h8, h9, h10, h11, h12, h13, h14, h15, h16, h17⟩ := idx2 t
  blk_ext [h4]
theorem blk2_5 (t : Fin cfg2.N) (e : Fin 2) (p : Fin 768) (a : Fin 3072) :
    (blk2 V c 5 t : Vec Ideal S2x768x3072 .i8) (ix3 e p a) = (in2 V c 5 : Vec Ideal S2x768x3072 .i8) (ix3 e p a) := by
  unfold blk2
  obtain ⟨h0, h1, h2, h3, h4, h5, h6, h7, h8, h9, h10, h11, h12, h13, h14, h15, h16, h17⟩ := idx2 t
  blk_ext [h5]
theorem blk2_6 (t : Fin cfg2.N) (p : Fin 1536) (a : Fin 768) :
    (blk2 V c 6 t : Vec Ideal S1536x768 .i8) (ix2 p a) = (in2 V c 6 : Vec Ideal S1536x768 .i8) (ix2 p a) := by
  unfold blk2
  obtain ⟨h0, h1, h2, h3, h4, h5, h6, h7, h8, h9, h10, h11, h12, h13, h14, h15, h16, h17⟩ := idx2 t
  blk_ext [h6]
theorem blk2_7 (t : Fin cfg2.N) (p : Fin 1536) (a : Fin 512) :
    (blk2 V c 7 t : Vec Ideal S1536x512 .i8) (ix2 p a) = (in2 V c 7 : Vec Ideal S1536x512 .i8) (ix2 p a) := by
  unfold blk2
  obtain ⟨h0, h1, h2, h3, h4, h5, h6, h7, h8, h9, h10, h11, h12, h13, h14, h15, h16, h17⟩ := idx2 t
  blk_ext [h7]
theorem blk2_8 (t : Fin cfg2.N) (a : Fin 3072) :
    (blk2 V c 8 t : Vec Ideal S1x3072 .f32) (ix2 0 a) = (in2 V c 8 : Vec Ideal S1x3072 .f32) (ix2 0 a) := by
  unfold blk2
  obtain ⟨h0, h1, h2, h3, h4, h5, h6, h7, h8, h9, h10, h11, h12, h13, h14, h15, h16, h17⟩ := idx2 t
  blk_ext [h8]
theorem blk2_9 (t : Fin cfg2.N) (a : Fin 3072) :
    (blk2 V c 9 t : Vec Ideal S1x3072 .f32) (ix2 0 a) = (in2 V c 9 : Vec Ideal S1x3072 .f32) (ix2 0 a) := by
  unfold blk2
  obtain ⟨h0, h1, h2, h3, h4, h5, h6, h7, h8, h9, h10, h11, h12, h13, h14, h15, h16, h17⟩ := idx2 t
  blk_ext [h9]
theorem blk2_10 (t : Fin cfg2.N) (a : Fin 3072) :
    (blk2 V c 10 t : Vec Ideal S1x3072 .f32) (ix2 0 a) = (in2 V c 10 : Vec Ideal S1x3072 .f32) (ix2 0 a) := by
  unfold blk2
  obtain ⟨h0, h1, h2, h3, h4, h5, h6, h7, h8, h9, h10, h11, h12, h13, h14, h15, h16, h17⟩ := idx2 t
  blk_ext [h10]
theorem blk2_11 (t : Fin cfg2.N) (a : Fin 768) :
    (blk2 V c 11 t : Vec Ideal S1x768 .f32) (ix2 0 a) = (in2 V c 11 : Vec Ideal S1x768 .f32) (ix2 0 a) := by
  unfold blk2
  obtain ⟨h0, h1, h2, h3, h4, h5, h6, h7, h8, h9, h10, h11, h12, h13, h14, h15, h16, h17⟩ := idx2 t
  blk_ext [h11]
theorem blk2_12 (t : Fin cfg2.N) (a : Fin 768) :
    (blk2 V c 12 t : Vec Ideal S1x768 .f32) (ix2 0 a) = (in2 V c 12 : Vec Ideal S1x768 .f32) (ix2 0 a) := by
  unfold blk2
  obtain ⟨h0, h1, h2, h3, h4, h5, h6, h7, h8, h9, h10, h11, h12, h13, h14, h15, h16, h17⟩ := idx2 t
  blk_ext [h12]
theorem blk2_13 (t : Fin cfg2.N) (a : Fin 512) :
    (blk2 V c 13 t : Vec Ideal S1x512 .f32) (ix2 0 a) = (in2 V c 13 : Vec Ideal S1x512 .f32) (ix2 0 a) := by
  unfold blk2
  obtain ⟨h0, h1, h2, h3, h4, h5, h6, h7, h8, h9, h10, h11, h12, h13, h14, h15, h16, h17⟩ := idx2 t
  blk_ext [h13]
theorem blk2_14 (t : Fin cfg2.N) (a : Fin 512) :
    (blk2 V c 14 t : Vec Ideal S1x512 .f32) (ix2 0 a) = (in2 V c 14 : Vec Ideal S1x512 .f32) (ix2 0 a) := by
  unfold blk2
  obtain ⟨h0, h1, h2, h3, h4, h5, h6, h7, h8, h9, h10, h11, h12, h13, h14, h15, h16, h17⟩ := idx2 t
  blk_ext [h14]
theorem blk2_15 (t : Fin cfg2.N) (p : Fin 256) (a : Fin 512) :
    (blk2 V c 15 t : Vec Ideal S1x256x512 .f32) (ix3 0 p a) = (in2 V c 15 : Vec Ideal S24x2048x512 .f32) (ix3 (batch2 t) (time2 t p) a) := by
  unfold blk2 batch2 time2
  obtain ⟨h0, h1, h2, h3, h4, h5, h6, h7, h8, h9, h10, h11, h12, h13, h14, h15, h16, h17⟩ := idx2 t
  blk_ext [h15]

/-- The blocks at point `t`, and the table carried to it, are the layer's at batch row `t / 8` and steps of tile `t % 8`. -/
theorem tileIn2 {L : Lay} {S : Seq 512 EReal} (h : Reads2 V c L S) (t : Fin cfg2.N) :
    TileIn L (batch2 t) (time2 t) (blk2 V c 0 t) (blk2 V c 1 t) (blk2 V c 2 t) (blk2 V c 5 t) (blk2 V c 6 t) (blk2 V c 7 t) (blk2 V c 8 t) (blk2 V c 11 t) (blk2 V c 12 t) (blk2 V c 13 t) (blk2 V c 14 t) (tab2 V c t) where
  sr := (blk2_0 V c t 0).trans h.sr
  sg := (blk2_0 V c t 1).trans h.sg
  sq := (blk2_0 V c t 2).trans h.sq
  r p k := (blk2_1 V c t p k).trans (h.r _ _ _)
  rp p k := (blk2_2 V c t p k).trans (h.rp _ _ _)
  w0 k o := (blk2_5 V c t 0 k o).trans (h.w0 _ _)
  w1 k o := (blk2_5 V c t 1 k o).trans (h.w1 _ _)
  wr k o := (blk2_6 V c t k o).trans (h.wr _ _)
  ws k o := (blk2_7 V c t k o).trans (h.ws _ _)
  dsc o := (blk2_8 V c t o).trans (h.dsc _)
  rsc o := (blk2_11 V c t o).trans (h.rsc _)
  rb o := (blk2_12 V c t o).trans (h.rb _)
  ssc o := (blk2_13 V c t o).trans (h.ssc _)
  sb o := (blk2_14 V c t o).trans (h.sb _)
  cv q hq o := by
    refine (table1_apply _ _ _ _ q o).trans ?_
    have e3 := fun x => (blk2_3 V c t q x).trans (h.cond _ q hq x)
    have e4 := fun x => (blk2_4 V c t x o).trans (h.wc x o)
    have e9 := (blk2_9 V c t o).trans (h.db o)
    have e10 := (blk2_10 V c t o).trans (h.csc o)
    rw [e9, e10]
    simp only [e3, e4]
    rfl

/-- The call's array 16 ends as the skip sum. -/
theorem arr2_16 {L : Lay} {S : Seq 512 EReal} (h : Reads2 V c L S) :
    (dats2 (F := Ideal) V c).arrAt 16 cfg2.N = (fun j => S (j 0) (j 1) (j 2) + L.add (j 0) (j 1) (j 2) : Vec Ideal S24x2048x512 .f32) := by
  refine (dats2 (F := Ideal) V c).arrAt_eq_of_covers 16 _ (by decide +kernel) fun t hf y => ?_
  blk_simp
  rw [after2_16]
  unfold out2_16
  refine (congrFun (View.read_writes_eq_canon _ _ _ (cover2_16 V c t)) y).trans ?_
  refine (View.canon_apply_of_pieces _ _ (spieces1 c (grid2.coords t) _ _ _ _ _ _ _ _ _ _ _ _ _ _ _ _ _ _ _ _ _ _ _ _ _ _ _ _ _ _ _ _ _ _ _ _ _ _ _ _ (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t) (blk2 V c 11 t) (blk2 V c 12 t) (blk2 V c 13 t) (blk2 V c 14 t) (blk2 V c 15 t) (tab2 V c t)) y (cover2_16 V c t y)).trans ?_
  refine ((skipv1_eq (grid2.coords t) (fun p => by rw [coord2]; rfl) (tileIn2 V c h t) y).trans (congrArg (· + L.add (batch2 t) (time2 t (y 1)) (y 2)) ((blk2_15 V c t (y 1) (y 2)).trans (h.skip _ _ _)))).trans ?_
  obtain ⟨h0, h1, h2, h3, h4, h5, h6, h7, h8, h9, h10, h11, h12, h13, h14, h15, h16, h17⟩ := idx2 t
  have c0 : (batch2 t : Fin 24) = ((win2_16.blk t).view.emb y) 0 := Fin.ext (by
    blk_simp [h16]
    rfl)
  have c1 : (time2 t (y 1) : Fin 2048) = ((win2_16.blk t).view.emb y) 1 := Fin.ext (by
    blk_simp [h16]
    exact congrArg (· + _) (Nat.mul_comm 256 (t.val % 8)))
  have c2 : y 2 = ((win2_16.blk t).view.emb y) 2 := Fin.ext (by
    blk_simp [h16])
  have e := congr (congrArg₂ (fun (b : Fin 24) (t : Fin 2048) o => S b t o + L.add b t o) c0 c1) c2
  exact e

/-- The call's array 17 ends as the residual codes. -/
theorem arr2_17 {L : Lay} {S : Seq 512 EReal} (h : Reads2 V c L S) :
    (dats2 (F := Ideal) V c).arrAt 17 cfg2.N = (fun j => L.next (j 0) (j 1) (j 2) : Vec Ideal S24x2048x768 .i8) := by
  refine (dats2 (F := Ideal) V c).arrAt_eq_of_covers 17 _ (by decide +kernel) fun t hf y => ?_
  blk_simp
  rw [after2_17]
  unfold out2_17
  refine (congrFun (View.read_writes_eq_canon _ _ _ (cover2_17 V c t)) y).trans ?_
  refine (View.canon_apply_of_pieces _ _ (rpieces1 c (grid2.coords t) _ _ _ _ _ _ _ _ _ _ _ _ _ _ _ _ _ _ _ _ _ _ _ _ _ _ _ _ _ _ _ _ _ _ _ _ _ _ _ _ (blk2 V c 0 t) (blk2 V c 1 t) (blk2 V c 2 t) (blk2 V c 3 t) (blk2 V c 4 t) (blk2 V c 5 t) (blk2 V c 6 t) (blk2 V c 7 t) (blk2 V c 8 t) (blk2 V c 9 t) (blk2 V c 10 t) (blk2 V c 11 t) (blk2 V c 12 t) (blk2 V c 13 t) (blk2 V c 14 t) (blk2 V c 15 t) (tab2 V c t)) y (cover2_17 V c t y)).trans ?_
  refine (resv1_eq (grid2.coords t) (fun p => by rw [coord2]; rfl) (tileIn2 V c h t) y).trans ?_
  obtain ⟨h0, h1, h2, h3, h4, h5, h6, h7, h8, h9, h10, h11, h12, h13, h14, h15, h16, h17⟩ := idx2 t
  have c0 : (batch2 t : Fin 24) = ((win2_17.blk t).view.emb y) 0 := Fin.ext (by
    blk_simp [h17]
    rfl)
  have c1 : (time2 t (y 1) : Fin 2048) = ((win2_17.blk t).view.emb y) 1 := Fin.ext (by
    blk_simp [h17]
    exact congrArg (· + _) (Nat.mul_comm 256 (t.val % 8)))
  have c2 : y 2 = ((win2_17.blk t).view.emb y) 2 := Fin.ext (by
    blk_simp [h17])
  have e := congr (congrArg₂ (fun (b : Fin 24) (t : Fin 2048) o => L.next b t o) c0 c1) c2
  exact e

end Cert.KernelIdeal.Layer

end
-- ==== Proof.Value.Host2.lean ====
/- What the host lines before kernel call 2 put into its input arrays. -/
module

public import proofs.«01_k».proof.Proof.Value.HostArgs
public import proofs.«01_k».proof.Proof.Value.Arrays2
public import Idealize.ShloMosaic.Lib.StableHlo.ReadAt

@[expose] public section

set_option maxRecDepth 16384
set_option maxHeartbeats 0

noncomputable section

namespace Cert.KernelIdeal.Layer

open Idealize.ShloMosaic Idealize.ShloMosaic.TcCoe Idealize.ShloMosaic.Tactic
open Cert.KernelIdeal.Gen Cert.Spec

variable (U : Valuation τ sig (Elt Ideal))

/-- A buffer the host lines do not write is kept. -/
theorem kept2 (r : Ref sig .tc) (hr : r ∉ hostOps2_W) : StableHlo.after hostOps2 U r = U r :=
  StableHlo.after_of_writes_sub hostOps2 U hostOps2_writes hr

/-! Each input array, at an index, over what the buffers held before. -/

theorem host2_sr : (StableHlo.after hostOps2 U main_v103 : Vec Ideal S3 .f32) (ix1 0) = (argsAt U).ars 2 := by
  after_reads_at
  rw [StableHlo.unary_result']
  after_reads_at
  rfl
theorem host2_sg : (StableHlo.after hostOps2 U main_v103 : Vec Ideal S3 .f32) (ix1 1) = (argsAt U).ags 2 := by
  after_reads_at
  rw [StableHlo.unary_result']
  after_reads_at
  rfl
theorem host2_sq : (StableHlo.after hostOps2 U main_v103 : Vec Ideal S3 .f32) (ix1 2) = (argsAt U).ars 3 := by
  after_reads_at
  rw [StableHlo.unary_result']
  after_reads_at
  rfl
theorem host2_rp (b t k) : (StableHlo.after hostOps2 U main_v93 : Vec Ideal S24x2048x768 .i8) (ix3 b t k) = late 16 (codes (U main_v90_1)) b t k := by
  after_reads_at
  rfl
theorem host2_wc (k o) : (StableHlo.after hostOps2 U main_v105 : Vec Ideal S80x3072 .i8) (ix2 k o) = (argsAt U).wc 2 k o := by
  after_reads_at
  rfl
theorem host2_wd (e k o) : (StableHlo.after hostOps2 U main_v107 : Vec Ideal S2x768x3072 .i8) (ix3 e k o) = (argsAt U).wd 2 e k o := by
  after_reads_at
  rfl
theorem host2_wr (k o) : (StableHlo.after hostOps2 U main_v109 : Vec Ideal S1536x768 .i8) (ix2 k o) = (argsAt U).wr 2 k o := by
  after_reads_at
  rfl
theorem host2_ws (k o) : (StableHlo.after hostOps2 U main_v111 : Vec Ideal S1536x512 .i8) (ix2 k o) = (argsAt U).wk 2 k o := by
  after_reads_at
  rfl
theorem host2_dsc (o) : (StableHlo.after hostOps2 U main_v114 : Vec Ideal S1x3072 .f32) (ix2 0 o) = (argsAt U).dsc 2 o := by
  after_reads_at
  rfl
theorem host2_db (o) : (StableHlo.after hostOps2 U main_v117 : Vec Ideal S1x3072 .f32) (ix2 0 o) = (argsAt U).db 2 o := by
  after_reads_at
  rfl
theorem host2_csc (o) : (StableHlo.after hostOps2 U main_v122 : Vec Ideal S1x3072 .f32) (ix2 0 o) = (argsAt U).cs * (argsAt U).csc 2 o := by
  after_reads_at
  rfl
theorem host2_rsc (o) : (StableHlo.after hostOps2 U main_v125 : Vec Ideal S1x768 .f32) (ix2 0 o) = (argsAt U).rsc 2 o := by
  after_reads_at
  rfl
theorem host2_rb (o) : (StableHlo.after hostOps2 U main_v128 : Vec Ideal S1x768 .f32) (ix2 0 o) = (argsAt U).rb 2 o := by
  after_reads_at
  rfl
theorem host2_ssc (o) : (StableHlo.after hostOps2 U main_v131 : Vec Ideal S1x512 .f32) (ix2 0 o) = (argsAt U).ksc 2 o := by
  after_reads_at
  rfl
theorem host2_sb (o) : (StableHlo.after hostOps2 U main_v134 : Vec Ideal S1x512 .f32) (ix2 0 o) = (argsAt U).kb 2 o := by
  after_reads_at
  rfl

/-- Everything the call reads is layer 2's. -/
theorem reads2 (V : Dev nD → Valuation τ sig (Elt Ideal)) (c : Dev nD) (hV : V c = StableHlo.after hostOps2 U)
    (hcond : ∀ b (q : Fin 16) (hq : q.val < 7) k,
      (U main_v0 : Vec Ideal S24x16x80 .i8) (ix3 b q k) = (argsAt U).cond b ⟨q.val, hq⟩ k) :
    Reads2 V c ((argsAt U).lay 2 16 (codes (U main_v90_1))) (fun b t o => (U main_v90_0 : Vec Ideal S24x2048x512 .f32) (ix3 b t o)) where
  sr := (congrFun (congrFun hV (Proc.devRef (τ := τ) .tc main_v103)) _).trans (host2_sr U)
  sg := (congrFun (congrFun hV (Proc.devRef (τ := τ) .tc main_v103)) _).trans (host2_sg U)
  sq := (congrFun (congrFun hV (Proc.devRef (τ := τ) .tc main_v103)) _).trans (host2_sq U)
  r b t k := (congrFun (congrFun hV (Proc.devRef (τ := τ) .tc main_v90_1)) _).trans (congrFun (kept2 U main_v90_1 (by decide)) _)
  rp b t k := (congrFun (congrFun hV (Proc.devRef (τ := τ) .tc main_v93)) _).trans (host2_rp U b t k)
  cond b q hq k := (congrFun (congrFun hV (Proc.devRef (τ := τ) .tc main_v0)) _).trans ((congrFun (kept2 U main_v0 (by decide)) _).trans (hcond b q hq k))
  wc k o := (congrFun (congrFun hV (Proc.devRef (τ := τ) .tc main_v105)) _).trans (host2_wc U k o)
  w0 k o := (congrFun (congrFun hV (Proc.devRef (τ := τ) .tc main_v107)) _).trans (host2_wd U 0 k o)
  w1 k o := (congrFun (congrFun hV (Proc.devRef (τ := τ) .tc main_v107)) _).trans (host2_wd U 1 k o)
  wr k o := (congrFun (congrFun hV (Proc.devRef (τ := τ) .tc main_v109)) _).trans (host2_wr U k o)
  ws k o := (congrFun (congrFun hV (Proc.devRef (τ := τ) .tc main_v111)) _).trans (host2_ws U k o)
  dsc o := (congrFun (congrFun hV (Proc.devRef (τ := τ) .tc main_v114)) _).trans (host2_dsc U o)
  db o := (congrFun (congrFun hV (Proc.devRef (τ := τ) .tc main_v117)) _).trans (host2_db U o)
  csc o := (congrFun (congrFun hV (Proc.devRef (τ := τ) .tc main_v122)) _).trans (host2_csc U o)
  rsc o := (congrFun (congrFun hV (Proc.devRef (τ := τ) .tc main_v125)) _).trans (host2_rsc U o)
  rb o := (congrFun (congrFun hV (Proc.devRef (τ := τ) .tc main_v128)) _).trans (host2_rb U o)
  ssc o := (congrFun (congrFun hV (Proc.devRef (τ := τ) .tc main_v131)) _).trans (host2_ssc U o)
  sb o := (congrFun (congrFun hV (Proc.devRef (τ := τ) .tc main_v134)) _).trans (host2_sb U o)
  skip b t o := (congrFun (congrFun hV (Proc.devRef (τ := τ) .tc main_v90_0)) _).trans (congrFun (kept2 U main_v90_0 (by decide)) _)

end Cert.KernelIdeal.Layer
-- ==== Proof.Value.Arrays3.lean ====
/- What the arrays of kernel call 3 hold when it ends, given what its inputs held. -/
module

public import proofs.«01_k».proof.Proof.Frame3
public import proofs.«01_k».proof.Proof.Value.Join
public import Idealize.ShloMosaic.Lib.Pointwise
public import Idealize.ShloMosaic.Lib.Pipeline.ValueKit

@[expose] public section

set_option maxRecDepth 16384
set_option maxHeartbeats 0

noncomputable section

namespace Cert.KernelIdeal.Layer

open Idealize.ShloMosaic Idealize.ShloMosaic.TcCoe Idealize.ShloMosaic.Tactic
open Cert.KernelIdeal.Gen Cert.Spec

variable (V : Dev nD → Valuation τ sig (Elt Ideal)) (c : Dev nD)

/-- Input `w`'s array of the call. -/
abbrev in3 (w : Fin cfg3.W) := V c (Pipeline.arrRef spec3 w)

/-- The call's input arrays are layer `L`'s. -/
structure Reads3 (L : Lay) (S : Seq 512 EReal) : Prop where
  sr : (in3 V c 0 : Vec Ideal S3 .f32) (ix1 0) = L.sr
  sg : (in3 V c 0 : Vec Ideal S3 .f32) (ix1 1) = L.sg
  sq : (in3 V c 0 : Vec Ideal S3 .f32) (ix1 2) = L.sq
  r : ∀ b t k, (in3 V c 1 : Vec Ideal S24x2048x768 .i8) (ix3 b t k) = L.r b t k
  rp : ∀ b t k, (in3 V c 2 : Vec Ideal S24x2048x768 .i8) (ix3 b t k) = L.rp b t k
  cond : ∀ b (q : Fin 16) (hq : q.val < 7) k, (in3 V c 3 : Vec Ideal S24x16x80 .i8) (ix3 b q k) = L.cond b ⟨q.val, hq⟩ k
  wc : ∀ k o, (in3 V c 4 : Vec Ideal S80x3072 .i8) (ix2 k o) = L.wc k o
  w0 : ∀ k o, (in3 V c 5 : Vec Ideal S2x768x3072 .i8) (ix3 0 k o) = L.w0 k o
  w1 : ∀ k o, (in3 V c 5 : Vec Ideal S2x768x3072 .i8) (ix3 1 k o) = L.w1 k o
  wr : ∀ k o, (in3 V c 6 : Vec Ideal S1536x768 .i8) (ix2 k o) = L.wr k o
  ws : ∀ k o, (in3 V c 7 : Vec Ideal S1536x512 .i8) (ix2 k o) = L.ws k o
  dsc : ∀ o, (in3 V c 8 : Vec Ideal S1x3072 .f32) (ix2 0 o) = L.dsc o
  db : ∀ o, (in3 V c 9 : Vec Ideal S1x3072 .f32) (ix2 0 o) = L.db o
  csc : ∀ o, (in3 V c 10 : Vec Ideal S1x3072 .f32) (ix2 0 o) = L.csc o
  rsc : ∀ o, (in3 V c 11 : Vec Ideal S1x768 .f32) (ix2 0 o) = L.rsc o
  rb : ∀ o, (in3 V c 12 : Vec Ideal S1x768 .f32) (ix2 0 o) = L.rb o
  ssc : ∀ o, (in3 V c 13 : Vec Ideal S1x512 .f32) (ix2 0 o) = L.ssc o
  sb : ∀ o, (in3 V c 14 : Vec Ideal S1x512 .f32) (ix2 0 o) = L.sb o
  skip : ∀ b t o, (in3 V c 15 : Vec Ideal S24x2048x512 .f32) (ix3 b t o) = S b t o

/-- The block of each window at point `t`: batch row `t / 8`, tile `t % 8`. -/
theorem idx3 : ∀ t : Fin cfg3.N, (cfg3.win 0).index t = ![0] ∧ (cfg3.win 1).index t = ![t.val / 8, t.val % 8, 0] ∧ (cfg3.win 2).index t = ![t.val / 8, t.val % 8, 0] ∧ (cfg3.win 3).index t = ![t.val / 8, 0, 0] ∧ (cfg3.win 4).index t = ![0, 0] ∧ (cfg3.win 5).index t = ![0, 0, 0] ∧ (cfg3.win 6).index t = ![0, 0] ∧ (cfg3.win 7).index t = ![0, 0] ∧ (cfg3.win 8).index t = ![0, 0] ∧ (cfg3.win 9).index t = ![0, 0] ∧ (cfg3.win 10).index t = ![0, 0] ∧ (cfg3.win 11).index t = ![0, 0] ∧ (cfg3.win 12).index t = ![0, 0] ∧ (cfg3.win 13).index t = ![0, 0] ∧ (cfg3.win 14).index t = ![0, 0] ∧ (cfg3.win 15).index t = ![t.val / 8, t.val % 8, 0] ∧ (cfg3.win 16).index t = ![t.val / 8, t.val % 8, 0] ∧ (cfg3.win 17).index t = ![t.val / 8, t.val % 8, 0] := by
  decide +kernel

theorem lt3 (t : Fin cfg3.N) : t.val < 192 := Nat.lt_of_lt_of_eq t.isLt N_3

theorem coord3 (t : Fin cfg3.N) : (grid3.coords t 1).val = t.val % 8 := by
  have e1 : (grid3.coords t 1).val = t.val / 1 % 8 := Pipeline.Grid.coords_val t 1 (by decide) rfl
  rw [e1, Nat.div_one]

/-- The batch row and the steps of point `t`. -/
def batch3 (t : Fin cfg3.N) : Fin 24 := ⟨t.val / 8, by have := lt3 t; omega⟩
def time3 (t : Fin cfg3.N) (p : Fin 256) : Fin 2048 := ⟨256 * (t.val % 8) + p.val, by omega⟩

theorem blk3_0 (t : Fin cfg3.N) (a : Fin 3) :
    (blk3 V c 0 t : Vec Ideal S3 .f32) (ix1 a) = (in3 V c 0 : Vec Ideal S3 .f32) (ix1 a) := by
  unfold blk3
  obtain ⟨h0, h1, h2, h3, h4, h5, h6, h7, h8, h9, h10, h11, h12, h13, h14, h15, h16, h17⟩ := idx3 t
  blk_ext [h0]
theorem blk3_1 (t : Fin cfg3.N) (p : Fin 256) (a : Fin 768) :
    (blk3 V c 1 t : Vec Ideal S1x256x768 .i8) (ix3 0 p a) = (in3 V c 1 : Vec Ideal S24x2048x768 .i8) (ix3 (batch3 t) (time3 t p) a) := by
  unfold blk3 batch3 time3
  obtain ⟨h0, h1, h2, h3, h4, h5, h6, h7, h8, h9, h10, h11, h12, h13, h14, h15, h16, h17⟩ := idx3 t
  blk_ext [h1]
theorem blk3_2 (t : Fin cfg3.N) (p : Fin 256) (a : Fin 768) :
    (blk3 V c 2 t : Vec Ideal S1x256x768 .i8) (ix3 0 p a) = (in3 V c 2 : Vec Ideal S24x2048x768 .i8) (ix3 (batch3 t) (time3 t p) a) := by
  unfold blk3 batch3 time3
  obtain ⟨h0, h1, h2, h3, h4, h5, h6, h7, h8, h9, h10, h11, h12, h13, h14, h15, h16, h17⟩ := idx3 t
  blk_ext [h2]
theorem blk3_3 (t : Fin cfg3.N) (p : Fin 16) (a : Fin 80) :
    (blk3 V c 3 t : Vec Ideal S1x16x80 .i8) (ix3 0 p a) = (in3 V c 3 : Vec Ideal S24x16x80 .i8) (ix3 (batch3 t) p a) := by
  unfold blk3 batch3
  obtain ⟨h0, h1, h2, h3, h4, h5, h6, h7, h8, h9, h10, h11, h12, h13, h14, h15, h16, h17⟩ := idx3 t
  blk_ext [h3]
theorem blk3_4 (t : Fin cfg3.N) (p : Fin 80) (a : Fin 3072) :
    (blk3 V c 4 t : Vec Ideal S80x3072 .i8) (ix2 p a) = (in3 V c 4 : Vec Ideal S80x3072 .i8) (ix2 p a) := by
  unfold blk3
  obtain ⟨h0, h1, h2, h3, h4, h5, h6, h7, h8, h9, h10, h11, h12, h13, h14, h15, h16, h17⟩ := idx3 t
  blk_ext [h4]
theorem blk3_5 (t : Fin cfg3.N) (e : Fin 2) (p : Fin 768) (a : Fin 3072) :
    (blk3 V c 5 t : Vec Ideal S2x768x3072 .i8) (ix3 e p a) = (in3 V c 5 : Vec Ideal S2x768x3072 .i8) (ix3 e p a) := by
  unfold blk3
  obtain ⟨h0, h1, h2, h3, h4, h5, h6, h7, h8, h9, h10, h11, h12, h13, h14, h15, h16, h17⟩ := idx3 t
  blk_ext [h5]
theorem blk3_6 (t : Fin cfg3.N) (p : Fin 1536) (a : Fin 768) :
    (blk3 V c 6 t : Vec Ideal S1536x768 .i8) (ix2 p a) = (in3 V c 6 : Vec Ideal S1536x768 .i8) (ix2 p a) := by
  unfold blk3
  obtain ⟨h0, h1, h2, h3, h4, h5, h6, h7, h8, h9, h10, h11, h12, h13, h14, h15, h16, h17⟩ := idx3 t
  blk_ext [h6]
theorem blk3_7 (t : Fin cfg3.N) (p : Fin 1536) (a : Fin 512) :
    (blk3 V c 7 t : Vec Ideal S1536x512 .i8) (ix2 p a) = (in3 V c 7 : Vec Ideal S1536x512 .i8) (ix2 p a) := by
  unfold blk3
  obtain ⟨h0, h1, h2, h3, h4, h5, h6, h7, h8, h9, h10, h11, h12, h13, h14, h15, h16, h17⟩ := idx3 t
  blk_ext [h7]
theorem blk3_8 (t : Fin cfg3.N) (a : Fin 3072) :
    (blk3 V c 8 t : Vec Ideal S1x3072 .f32) (ix2 0 a) = (in3 V c 8 : Vec Ideal S1x3072 .f32) (ix2 0 a) := by
  unfold blk3
  obtain ⟨h0, h1, h2, h3, h4, h5, h6, h7, h8, h9, h10, h11, h12, h13, h14, h15, h16, h17⟩ := idx3 t
  blk_ext [h8]
theorem blk3_9 (t : Fin cfg3.N) (a : Fin 3072) :
    (blk3 V c 9 t : Vec Ideal S1x3072 .f32) (ix2 0 a) = (in3 V c 9 : Vec Ideal S1x3072 .f32) (ix2 0 a) := by
  unfold blk3
  obtain ⟨h0, h1, h2, h3, h4, h5, h6, h7, h8, h9, h10, h11, h12, h13, h14, h15, h16, h17⟩ := idx3 t
  blk_ext [h9]
theorem blk3_10 (t : Fin cfg3.N) (a : Fin 3072) :
    (blk3 V c 10 t : Vec Ideal S1x3072 .f32) (ix2 0 a) = (in3 V c 10 : Vec Ideal S1x3072 .f32) (ix2 0 a) := by
  unfold blk3
  obtain ⟨h0, h1, h2, h3, h4, h5, h6, h7, h8, h9, h10, h11, h12, h13, h14, h15, h16, h17⟩ := idx3 t
  blk_ext [h10]
theorem blk3_11 (t : Fin cfg3.N) (a : Fin 768) :
    (blk3 V c 11 t : Vec Ideal S1x768 .f32) (ix2 0 a) = (in3 V c 11 : Vec Ideal S1x768 .f32) (ix2 0 a) := by
  unfold blk3
  obtain ⟨h0, h1, h2, h3, h4, h5, h6, h7, h8, h9, h10, h11, h12, h13, h14, h15, h16, h17⟩ := idx3 t
  blk_ext [h11]
theorem blk3_12 (t : Fin cfg3.N) (a : Fin 768) :
    (blk3 V c 12 t : Vec Ideal S1x768 .f32) (ix2 0 a) = (in3 V c 12 : Vec Ideal S1x768 .f32) (ix2 0 a) := by
  unfold blk3
  obtain ⟨h0, h1, h2, h3, h4, h5, h6, h7, h8, h9, h10, h11, h12, h13, h14, h15, h16, h17⟩ := idx3 t
  blk_ext [h12]
theorem blk3_13 (t : Fin cfg3.N) (a : Fin 512) :
    (blk3 V c 13 t : Vec Ideal S1x512 .f32) (ix2 0 a) = (in3 V c 13 : Vec Ideal S1x512 .f32) (ix2 0 a) := by
  unfold blk3
  obtain ⟨h0, h1, h2, h3, h4, h5, h6, h7, h8, h9, h10, h11, h12, h13, h14, h15, h16, h17⟩ := idx3 t
  blk_ext [h13]
theorem blk3_14 (t : Fin cfg3.N) (a : Fin 512) :
    (blk3 V c 14 t : Vec Ideal S1x512 .f32) (ix2 0 a) = (in3 V c 14 : Vec Ideal S1x512 .f32) (ix2 0 a) := by
  unfold blk3
  obtain ⟨h0, h1, h2, h3, h4, h5, h6, h7, h8, h9, h10, h11, h12, h13, h14, h15, h16, h17⟩ := idx3 t
  blk_ext [h14]
theorem blk3_15 (t : Fin cfg3.N) (p : Fin 256) (a : Fin 512) :
    (blk3 V c 15 t : Vec Ideal S1x256x512 .f32) (ix3 0 p a) = (in3 V c 15 : Vec Ideal S24x2048x512 .f32) (ix3 (batch3 t) (time3 t p) a) := by
  unfold blk3 batch3 time3
  obtain ⟨h0, h1, h2, h3, h4, h5, h6, h7, h8, h9, h10, h11, h12, h13, h14, h15, h16, h17⟩ := idx3 t
  blk_ext [h15]

/-- The blocks at point `t`, and the table carried to it, are the layer's at batch row `t / 8` and steps of tile `t % 8`. -/
theorem tileIn3 {L : Lay} {S : Seq 512 EReal} (h : Reads3 V c L S) (t : Fin cfg3.N) :
    TileIn L (batch3 t) (time3 t) (blk3 V c 0 t) (blk3 V c 1 t) (blk3 V c 2 t) (blk3 V c 5 t) (blk3 V c 6 t) (blk3 V c 7 t) (blk3 V c 8 t) (blk3 V c 11 t) (blk3 V c 12 t) (blk3 V c 13 t) (blk3 V c 14 t) (tab3 V c t) where
  sr := (blk3_0 V c t 0).trans h.sr
  sg := (blk3_0 V c t 1).trans h.sg
  sq := (blk3_0 V c t 2).trans h.sq
  r p k := (blk3_1 V c t p k).trans (h.r _ _ _)
  rp p k := (blk3_2 V c t p k).trans (h.rp _ _ _)
  w0 k o := (blk3_5 V c t 0 k o).trans (h.w0 _ _)
  w1 k o := (blk3_5 V c t 1 k o).trans (h.w1 _ _)
  wr k o := (blk3_6 V c t k o).trans (h.wr _ _)
  ws k o := (blk3_7 V c t k o).trans (h.ws _ _)
  dsc o := (blk3_8 V c t o).trans (h.dsc _)
  rsc o := (blk3_11 V c t o).trans (h.rsc _)
  rb o := (blk3_12 V c t o).trans (h.rb _)
  ssc o := (blk3_13 V c t o).trans (h.ssc _)
  sb o := (blk3_14 V c t o).trans (h.sb _)
  cv q hq o := by
    refine (table1_apply _ _ _ _ q o).trans ?_
    have e3 := fun x => (blk3_3 V c t q x).trans (h.cond _ q hq x)
    have e4 := fun x => (blk3_4 V c t x o).trans (h.wc x o)
    have e9 := (blk3_9 V c t o).trans (h.db o)
    have e10 := (blk3_10 V c t o).trans (h.csc o)
    rw [e9, e10]
    simp only [e3, e4]
    rfl

/-- The call's array 16 ends as the skip sum. -/
theorem arr3_16 {L : Lay} {S : Seq 512 EReal} (h : Reads3 V c L S) :
    (dats3 (F := Ideal) V c).arrAt 16 cfg3.N = (fun j => S (j 0) (j 1) (j 2) + L.add (j 0) (j 1) (j 2) : Vec Ideal S24x2048x512 .f32) := by
  refine (dats3 (F := Ideal) V c).arrAt_eq_of_covers 16 _ (by decide +kernel) fun t hf y => ?_
  blk_simp
  rw [after3_16]
  unfold out3_16
  refine (congrFun (View.read_writes_eq_canon _ _ _ (cover3_16 V c t)) y).trans ?_
  refine (View.canon_apply_of_pieces _ _ (spieces1 c (grid3.coords t) _ _ _ _ _ _ _ _ _ _ _ _ _ _ _ _ _ _ _ _ _ _ _ _ _ _ _ _ _ _ _ _ _ _ _ _ _ _ _ _ (blk3 V c 0 t) (blk3 V c 1 t) (blk3 V c 2 t) (blk3 V c 3 t) (blk3 V c 4 t) (blk3 V c 5 t) (blk3 V c 6 t) (blk3 V c 7 t) (blk3 V c 8 t) (blk3 V c 9 t) (blk3 V c 10 t) (blk3 V c 11 t) (blk3 V c 12 t) (blk3 V c 13 t) (blk3 V c 14 t) (blk3 V c 15 t) (tab3 V c t)) y (cover3_16 V c t y)).trans ?_
  refine ((skipv1_eq (grid3.coords t) (fun p => by rw [coord3]; rfl) (tileIn3 V c h t) y).trans (congrArg (· + L.add (batch3 t) (time3 t (y 1)) (y 2)) ((blk3_15 V c t (y 1) (y 2)).trans (h.skip _ _ _)))).trans ?_
  obtain ⟨h0, h1, h2, h3, h4, h5, h6, h7, h8, h9, h10, h11, h12, h13, h14, h15, h16, h17⟩ := idx3 t
  have c0 : (batch3 t : Fin 24) = ((win3_16.blk t).view.emb y) 0 := Fin.ext (by
    blk_simp [h16]
    rfl)
  have c1 : (time3 t (y 1) : Fin 2048) = ((win3_16.blk t).view.emb y) 1 := Fin.ext (by
    blk_simp [h16]
    exact congrArg (· + _) (Nat.mul_comm 256 (t.val % 8)))
  have c2 : y 2 = ((win3_16.blk t).view.emb y) 2 := Fin.ext (by
    blk_simp [h16])
  have e := congr (congrArg₂ (fun (b : Fin 24) (t : Fin 2048) o => S b t o + L.add b t o) c0 c1) c2
  exact e

/-- The call's array 17 ends as the residual codes. -/
theorem arr3_17 {L : Lay} {S : Seq 512 EReal} (h : Reads3 V c L S) :
    (dats3 (F := Ideal) V c).arrAt 17 cfg3.N = (fun j => L.next (j 0) (j 1) (j 2) : Vec Ideal S24x2048x768 .i8) := by
  refine (dats3 (F := Ideal) V c).arrAt_eq_of_covers 17 _ (by decide +kernel) fun t hf y => ?_
  blk_simp
  rw [after3_17]
  unfold out3_17
  refine (congrFun (View.read_writes_eq_canon _ _ _ (cover3_17 V c t)) y).trans ?_
  refine (View.canon_apply_of_pieces _ _ (rpieces1 c (grid3.coords t) _ _ _ _ _ _ _ _ _ _ _ _ _ _ _ _ _ _ _ _ _ _ _ _ _ _ _ _ _ _ _ _ _ _ _ _ _ _ _ _ (blk3 V c 0 t) (blk3 V c 1 t) (blk3 V c 2 t) (blk3 V c 3 t) (blk3 V c 4 t) (blk3 V c 5 t) (blk3 V c 6 t) (blk3 V c 7 t) (blk3 V c 8 t) (blk3 V c 9 t) (blk3 V c 10 t) (blk3 V c 11 t) (blk3 V c 12 t) (blk3 V c 13 t) (blk3 V c 14 t) (blk3 V c 15 t) (tab3 V c t)) y (cover3_17 V c t y)).trans ?_
  refine (resv1_eq (grid3.coords t) (fun p => by rw [coord3]; rfl) (tileIn3 V c h t) y).trans ?_
  obtain ⟨h0, h1, h2, h3, h4, h5, h6, h7, h8, h9, h10, h11, h12, h13, h14, h15, h16, h17⟩ := idx3 t
  have c0 : (batch3 t : Fin 24) = ((win3_17.blk t).view.emb y) 0 := Fin.ext (by
    blk_simp [h17]
    rfl)
  have c1 : (time3 t (y 1) : Fin 2048) = ((win3_17.blk t).view.emb y) 1 := Fin.ext (by
    blk_simp [h17]
    exact congrArg (· + _) (Nat.mul_comm 256 (t.val % 8)))
  have c2 : y 2 = ((win3_17.blk t).view.emb y) 2 := Fin.ext (by
    blk_simp [h17])
  have e := congr (congrArg₂ (fun (b : Fin 24) (t : Fin 2048) o => L.next b t o) c0 c1) c2
  exact e

end Cert.KernelIdeal.Layer

end
-- ==== Proof.Value.Host3.lean ====
/- What the host lines before kernel call 3 put into its input arrays. -/
module

public import proofs.«01_k».proof.Proof.Value.HostArgs
public import proofs.«01_k».proof.Proof.Value.Arrays3
public import Idealize.ShloMosaic.Lib.StableHlo.ReadAt

@[expose] public section

set_option maxRecDepth 16384
set_option maxHeartbeats 0

noncomputable section

namespace Cert.KernelIdeal.Layer

open Idealize.ShloMosaic Idealize.ShloMosaic.TcCoe Idealize.ShloMosaic.Tactic
open Cert.KernelIdeal.Gen Cert.Spec

variable (U : Valuation τ sig (Elt Ideal))

/-- A buffer the host lines do not write is kept. -/
theorem kept3 (r : Ref sig .tc) (hr : r ∉ hostOps3_W) : StableHlo.after hostOps3 U r = U r :=
  StableHlo.after_of_writes_sub hostOps3 U hostOps3_writes hr

/-! Each input array, at an index, over what the buffers held before. -/

theorem host3_sr : (StableHlo.after hostOps3 U main_v148 : Vec Ideal S3 .f32) (ix1 0) = (argsAt U).ars 3 := by
  after_reads_at
  rw [StableHlo.unary_result']
  after_reads_at
  rfl
theorem host3_sg : (StableHlo.after hostOps3 U main_v148 : Vec Ideal S3 .f32) (ix1 1) = (argsAt U).ags 3 := by
  after_reads_at
  rw [StableHlo.unary_result']
  after_reads_at
  rfl
theorem host3_sq : (StableHlo.after hostOps3 U main_v148 : Vec Ideal S3 .f32) (ix1 2) = (argsAt U).ars 4 := by
  after_reads_at
  rw [StableHlo.unary_result']
  after_reads_at
  rfl
theorem host3_rp (b t k) : (StableHlo.after hostOps3 U main_v138 : Vec Ideal S24x2048x768 .i8) (ix3 b t k) = late 64 (codes (U main_v135_1)) b t k := by
  after_reads_at
  rfl
theorem host3_wc (k o) : (StableHlo.after hostOps3 U main_v150 : Vec Ideal S80x3072 .i8) (ix2 k o) = (argsAt U).wc 3 k o := by
  after_reads_at
  rfl
theorem host3_wd (e k o) : (StableHlo.after hostOps3 U main_v152 : Vec Ideal S2x768x3072 .i8) (ix3 e k o) = (argsAt U).wd 3 e k o := by
  after_reads_at
  rfl
theorem host3_wr (k o) : (StableHlo.after hostOps3 U main_v154 : Vec Ideal S1536x768 .i8) (ix2 k o) = (argsAt U).wr 3 k o := by
  after_reads_at
  rfl
theorem host3_ws (k o) : (StableHlo.after hostOps3 U main_v156 : Vec Ideal S1536x512 .i8) (ix2 k o) = (argsAt U).wk 3 k o := by
  after_reads_at
  rfl
theorem host3_dsc (o) : (StableHlo.after hostOps3 U main_v159 : Vec Ideal S1x3072 .f32) (ix2 0 o) = (argsAt U).dsc 3 o := by
  after_reads_at
  rfl
theorem host3_db (o) : (StableHlo.after hostOps3 U main_v162 : Vec Ideal S1x3072 .f32) (ix2 0 o) = (argsAt U).db 3 o := by
  after_reads_at
  rfl
theorem host3_csc (o) : (StableHlo.after hostOps3 U main_v167 : Vec Ideal S1x3072 .f32) (ix2 0 o) = (argsAt U).cs * (argsAt U).csc 3 o := by
  after_reads_at
  rfl
theorem host3_rsc (o) : (StableHlo.after hostOps3 U main_v170 : Vec Ideal S1x768 .f32) (ix2 0 o) = (argsAt U).rsc 3 o := by
  after_reads_at
  rfl
theorem host3_rb (o) : (StableHlo.after hostOps3 U main_v173 : Vec Ideal S1x768 .f32) (ix2 0 o) = (argsAt U).rb 3 o := by
  after_reads_at
  rfl
theorem host3_ssc (o) : (StableHlo.after hostOps3 U main_v176 : Vec Ideal S1x512 .f32) (ix2 0 o) = (argsAt U).ksc 3 o := by
  after_reads_at
  rfl
theorem host3_sb (o) : (StableHlo.after hostOps3 U main_v179 : Vec Ideal S1x512 .f32) (ix2 0 o) = (argsAt U).kb 3 o := by
  after_reads_at
  rfl

/-- Everything the call reads is layer 3's. -/
theorem reads3 (V : Dev nD → Valuation τ sig (Elt Ideal)) (c : Dev nD) (hV : V c = StableHlo.after hostOps3 U)
    (hcond : ∀ b (q : Fin 16) (hq : q.val < 7) k,
      (U main_v0 : Vec Ideal S24x16x80 .i8) (ix3 b q k) = (argsAt U).cond b ⟨q.val, hq⟩ k) :
    Reads3 V c ((argsAt U).lay 3 64 (codes (U main_v135_1))) (fun b t o => (U main_v135_0 : Vec Ideal S24x2048x512 .f32) (ix3 b t o)) where
  sr := (congrFun (congrFun hV (Proc.devRef (τ := τ) .tc main_v148)) _).trans (host3_sr U)
  sg := (congrFun (congrFun hV (Proc.devRef (τ := τ) .tc main_v148)) _).trans (host3_sg U)
  sq := (congrFun (congrFun hV (Proc.devRef (τ := τ) .tc main_v148)) _).trans (host3_sq U)
  r b t k := (congrFun (congrFun hV (Proc.devRef (τ := τ) .tc main_v135_1)) _).trans (congrFun (kept3 U main_v135_1 (by decide)) _)
  rp b t k := (congrFun (congrFun hV (Proc.devRef (τ := τ) .tc main_v138)) _).trans (host3_rp U b t k)
  cond b q hq k := (congrFun (congrFun hV (Proc.devRef (τ := τ) .tc main_v0)) _).trans ((congrFun (kept3 U main_v0 (by decide)) _).trans (hcond b q hq k))
  wc k o := (congrFun (congrFun hV (Proc.devRef (τ := τ) .tc main_v150)) _).trans (host3_wc U k o)
  w0 k o := (congrFun (congrFun hV (Proc.devRef (τ := τ) .tc main_v152)) _).trans (host3_wd U 0 k o)
  w1 k o := (congrFun (congrFun hV (Proc.devRef (τ := τ) .tc main_v152)) _).trans (host3_wd U 1 k o)
  wr k o := (congrFun (congrFun hV (Proc.devRef (τ := τ) .tc main_v154)) _).trans (host3_wr U k o)
  ws k o := (congrFun (congrFun hV (Proc.devRef (τ := τ) .tc main_v156)) _).trans (host3_ws U k o)
  dsc o := (congrFun (congrFun hV (Proc.devRef (τ := τ) .tc main_v159)) _).trans (host3_dsc U o)
  db o := (congrFun (congrFun hV (Proc.devRef (τ := τ) .tc main_v162)) _).trans (host3_db U o)
  csc o := (congrFun (congrFun hV (Proc.devRef (τ := τ) .tc main_v167)) _).trans (host3_csc U o)
  rsc o := (congrFun (congrFun hV (Proc.devRef (τ := τ) .tc main_v170)) _).trans (host3_rsc U o)
  rb o := (congrFun (congrFun hV (Proc.devRef (τ := τ) .tc main_v173)) _).trans (host3_rb U o)
  ssc o := (congrFun (congrFun hV (Proc.devRef (τ := τ) .tc main_v176)) _).trans (host3_ssc U o)
  sb o := (congrFun (congrFun hV (Proc.devRef (τ := τ) .tc main_v179)) _).trans (host3_sb U o)
  skip b t o := (congrFun (congrFun hV (Proc.devRef (τ := τ) .tc main_v135_0)) _).trans (congrFun (kept3 U main_v135_0 (by decide)) _)

end Cert.KernelIdeal.Layer
-- ==== Proof.Value.Chain.lean ====
/- The four kernel calls in a row: what the kernel's result buffers hold at the end, over its arguments. -/
module

public import proofs.«01_k».proof.Proof.Value.Host0
public import proofs.«01_k».proof.Proof.Value.Host1
public import proofs.«01_k».proof.Proof.Value.Host2
public import proofs.«01_k».proof.Proof.Value.Host3

@[expose] public section

set_option maxRecDepth 16384
set_option maxHeartbeats 0

noncomputable section

namespace Cert.KernelIdeal.Layer

open Idealize.ShloMosaic Idealize.ShloMosaic.TcCoe Idealize.ShloMosaic.Tactic Idealize.SL.Sem
open Cert.KernelIdeal.Gen Cert.Spec

/-- The sixteen argument buffers. -/
abbrev argRefs : List (Ref sig .tc) := [main_arg0, main_arg1, main_arg2, main_arg3, main_arg4, main_arg5, main_arg6,
  main_arg7, main_arg8, main_arg9, main_arg10, main_arg11, main_arg12, main_arg13, main_arg14, main_arg15]

theorem argsAt_congr (U U' : Valuation τ sig (Elt Ideal)) (h : ∀ r ∈ argRefs, U r = U' r) : argsAt U = argsAt U' := by
  unfold argsAt
  rw [h main_arg0 (by decide), h main_arg1 (by decide), h main_arg2 (by decide), h main_arg3 (by decide),
    h main_arg4 (by decide), h main_arg5 (by decide), h main_arg6 (by decide), h main_arg7 (by decide),
    h main_arg8 (by decide), h main_arg9 (by decide), h main_arg10 (by decide), h main_arg11 (by decide),
    h main_arg12 (by decide), h main_arg13 (by decide), h main_arg14 (by decide), h main_arg15 (by decide)]

variable (m : (ℓ : Loc nD τ sig) → Buf (Elt Ideal) ℓ) (c : Dev nD)

/-- The arguments as launched. -/
def args : Args := argsAt (V0 m c)

/-! ## Kept buffers -/

theorem arg_V2 (r : Ref sig .tc) (h : r ∈ argRefs) : V2 m c r = V0 m c r :=
  (V2_of m c r ((by decide : ∀ r ∈ argRefs, r ∉ hostOps0_1_W) r h)).trans
    (V1_of m c r ((by decide : ∀ r ∈ argRefs, r ∉ hostOps0_W) r h))
theorem arg_X0 (r : Ref sig .tc) (h : r ∈ argRefs) : X0 m c r = V0 m c r :=
  ((X0_of m c r ((by decide : ∀ r ∈ argRefs, r ∉ ([main_v45_0, main_v45_1, main_v45_2] : List (Ref sig .tc))) r h)).trans
    (V3_of m c r ((by decide : ∀ r ∈ argRefs, r ∉ hostOps0_2_W) r h))).trans (arg_V2 m c r h)
theorem E1_of (r : Ref sig .tc) (h : r ∉ hostOps1_W) : E1 m c r = X0 m c r := by unfold E1; exact kept1 _ r h
theorem E2_of (r : Ref sig .tc) (h : r ∉ hostOps2_W) : E2 m c r = X1 m c r := by unfold E2; exact kept2 _ r h
theorem E3_of (r : Ref sig .tc) (h : r ∉ hostOps3_W) : E3 m c r = X2 m c r := by unfold E3; exact kept3 _ r h
theorem Xend_of (r : Ref sig .tc) (h : r ∉ hostOps4_W) : Xend m c r = X3 m c r := by
  unfold Xend; exact StableHlo.after_of_writes_sub hostOps4 _ hostOps4_writes h
theorem arg_X1 (r : Ref sig .tc) (h : r ∈ argRefs) : X1 m c r = V0 m c r :=
  ((X1_of m c r ((by decide : ∀ r ∈ argRefs, r ∉ ([main_v90_0, main_v90_1] : List (Ref sig .tc))) r h)).trans
    (E1_of m c r ((by decide : ∀ r ∈ argRefs, r ∉ hostOps1_W) r h))).trans (arg_X0 m c r h)
theorem arg_X2 (r : Ref sig .tc) (h : r ∈ argRefs) : X2 m c r = V0 m c r :=
  ((X2_of m c r ((by decide : ∀ r ∈ argRefs, r ∉ ([main_v135_0, main_v135_1] : List (Ref sig .tc))) r h)).trans
    (E2_of m c r ((by decide : ∀ r ∈ argRefs, r ∉ hostOps2_W) r h))).trans (arg_X1 m c r h)
theorem arg_X3 (r : Ref sig .tc) (h : r ∈ argRefs) : X3 m c r = V0 m c r :=
  ((X3_of m c r ((by decide : ∀ r ∈ argRefs, r ∉ ([main_v180_0, main_v180_1] : List (Ref sig .tc))) r h)).trans
    (E3_of m c r ((by decide : ∀ r ∈ argRefs, r ∉ hostOps3_W) r h))).trans (arg_X2 m c r h)

/-! ## The padded conditioning -/

theorem pad_V2 (b) (q : Fin 16) (hq : q.val < 7) (k) :
    (V2 m c main_v0 : Vec Ideal S24x16x80 .i8) (ix3 b q k) = (args m c).cond b ⟨q.val, hq⟩ k := by
  rw [← show argsAt (V1 m c) = args m c from argsAt_congr _ _ fun r h => V1_of m c r ((by decide : ∀ r ∈ argRefs, r ∉ hostOps0_W) r h)]
  unfold V2
  generalize V1 m c = U
  after_reads_at
  exact dif_pos hq
theorem pad_X0 : X0 m c main_v0 = V2 m c main_v0 := (X0_of m c main_v0 (by decide)).trans (V3_of m c main_v0 (by decide))
theorem pad_X1 : X1 m c main_v0 = V2 m c main_v0 :=
  ((X1_of m c main_v0 (by decide)).trans (E1_of m c main_v0 (by decide))).trans (pad_X0 m c)
theorem pad_X2 : X2 m c main_v0 = V2 m c main_v0 :=
  ((X2_of m c main_v0 (by decide)).trans (E2_of m c main_v0 (by decide))).trans (pad_X1 m c)

/-! ## The four calls -/

theorem layer0 : Reads0 (E0 m) c ((args m c).lay 0 1 (args m c).x) := by
  have e : argsAt (V2 m c) = args m c := argsAt_congr _ _ (arg_V2 m c)
  have h := reads0 (V2 m c) (E0 m) c rfl (fun b q hq k => by rw [e]; exact pad_V2 m c b q hq k)
  rw [e, arg_V2 m c main_arg0 (by decide)] at h
  exact h

theorem layer1 : Reads1 (E1 m) c ((args m c).lay 1 4 (args m c).r1) ((args m c).add 0 1 (args m c).x) := by
  have e : argsAt (X0 m c) = args m c := argsAt_congr _ _ (arg_X0 m c)
  have h := reads1 (X0 m c) (E1 m) c (by unfold E1; rfl)
    (fun b q hq k => by rw [e, pad_X0]; exact pad_V2 m c b q hq k)
  rw [e, X0_main_v45_1, X0_main_v45_0, arr0_16 _ _ (layer0 m c), arr0_15 _ _ (layer0 m c)] at h
  exact h

theorem layer2 : Reads2 (E2 m) c ((args m c).lay 2 16 (args m c).r2)
    (fun b t o => (args m c).add 0 1 (args m c).x b t o + (args m c).add 1 4 (args m c).r1 b t o) := by
  have e : argsAt (X1 m c) = args m c := argsAt_congr _ _ (arg_X1 m c)
  have h := reads2 (X1 m c) (E2 m) c (by unfold E2; rfl)
    (fun b q hq k => by rw [e, pad_X1]; exact pad_V2 m c b q hq k)
  rw [e, X1_main_v90_1, X1_main_v90_0, arr1_17 _ _ (layer1 m c), arr1_16 _ _ (layer1 m c)] at h
  exact h

theorem layer3 : Reads3 (E3 m) c ((args m c).lay 3 64 (args m c).r3)
    (fun b t o => (args m c).add 0 1 (args m c).x b t o + (args m c).add 1 4 (args m c).r1 b t o
      + (args m c).add 2 16 (args m c).r2 b t o) := by
  have e : argsAt (X2 m c) = args m c := argsAt_congr _ _ (arg_X2 m c)
  have h := reads3 (X2 m c) (E3 m) c (by unfold E3; rfl)
    (fun b q hq k => by rw [e, pad_X2]; exact pad_V2 m c b q hq k)
  rw [e, X2_main_v135_1, X2_main_v135_0, arr2_17 _ _ (layer2 m c), arr2_16 _ _ (layer2 m c)] at h
  exact h

/-! ## The seven results -/

theorem end_skip : Xend m c main_v180_0 = (fun j => (args m c).sum (j 0) (j 1) (j 2) : Vec Ideal S24x2048x512 .f32) := by
  rw [Xend_of m c main_v180_0 (by decide), X3_main_v180_0, arr3_16 _ _ (layer3 m c)]
  rfl
theorem end_r : Xend m c main_v180_1 = (fun j => (args m c).r4 (j 0) (j 1) (j 2) : Vec Ideal S24x2048x768 .i8) := by
  rw [Xend_of m c main_v180_1 (by decide), X3_main_v180_1, arr3_17 _ _ (layer3 m c)]
  rfl
theorem end_of_X0 (r : Ref sig .tc) (h4 : r ∉ hostOps4_W) (h3 : r ∉ ([main_v180_0, main_v180_1] : List (Ref sig .tc)))
    (g3 : r ∉ hostOps3_W) (h2 : r ∉ ([main_v135_0, main_v135_1] : List (Ref sig .tc))) (g2 : r ∉ hostOps2_W)
    (h1 : r ∉ ([main_v90_0, main_v90_1] : List (Ref sig .tc))) (g1 : r ∉ hostOps1_W) : Xend m c r = X0 m c r :=
  (Xend_of m c r h4).trans <| (X3_of m c r h3).trans <| (E3_of m c r g3).trans <| (X2_of m c r h2).trans <|
    (E2_of m c r g2).trans <| (X1_of m c r h1).trans <| E1_of m c r g1
theorem end_gate : Xend m c main_v45_2 = (fun j => (args m c).z 0 1 (args m c).x (j 0) (j 1) (j 2) : Vec Ideal S24x2048x1536 .i8) := by
  rw [end_of_X0 m c main_v45_2 (by decide) (by decide) (by decide) (by decide) (by decide) (by decide) (by decide),
    X0_main_v45_2, arr0_17 _ _ (layer0 m c)]
  rfl
theorem end_res : Xend m c main_v45_1 = (fun j => (args m c).r1 (j 0) (j 1) (j 2) : Vec Ideal S24x2048x768 .i8) := by
  rw [end_of_X0 m c main_v45_1 (by decide) (by decide) (by decide) (by decide) (by decide) (by decide) (by decide),
    X0_main_v45_1, arr0_16 _ _ (layer0 m c)]
  rfl
theorem args_X3 : argsAt (X3 m c) = args m c := argsAt_congr _ _ (arg_X3 m c)
theorem end_s4 : Xend m c main_v182 = (fun _ => (args m c).ars 4 : Vec Ideal S_ .f32) := by
  rw [← args_X3]
  unfold Xend
  generalize X3 m c = U
  funext (j : S_.Idx)
  obtain rfl : j = ix0 := Subsingleton.elim _ _
  after_reads_at
  rfl
theorem end_g0 : Xend m c main_v184 = (fun _ => (args m c).ags 0 : Vec Ideal S_ .f32) := by
  rw [← args_X3]
  unfold Xend
  generalize X3 m c = U
  funext (j : S_.Idx)
  obtain rfl : j = ix0 := Subsingleton.elim _ _
  after_reads_at
  rfl
theorem end_s1 : Xend m c main_v186 = (fun _ => (args m c).ars 1 : Vec Ideal S_ .f32) := by
  rw [← args_X3]
  unfold Xend
  generalize X3 m c = U
  funext (j : S_.Idx)
  obtain rfl : j = ix0 := Subsingleton.elim _ _
  after_reads_at
  rfl

/-- Every final state's results, over the arguments. -/
theorem results (ρ : Dev nD → PrngReg) : θ_run defs (onTc (τ := τ) (main (F := Ideal))) ⟨m, fun _ => 0, ρ⟩ (fun r => ∀ c : Dev nD,
      r.2.mem ((c.tc : Thread nD τ).loc main_v180_0) = (fun j => (args m c).sum (j 0) (j 1) (j 2) : Vec Ideal S24x2048x512 .f32)
      ∧ r.2.mem ((c.tc : Thread nD τ).loc main_v180_1) = (fun j => (args m c).r4 (j 0) (j 1) (j 2) : Vec Ideal S24x2048x768 .i8)
      ∧ r.2.mem ((c.tc : Thread nD τ).loc main_v182) = (fun _ => (args m c).ars 4 : Vec Ideal S_ .f32)
      ∧ r.2.mem ((c.tc : Thread nD τ).loc main_v45_2) = (fun j => (args m c).z 0 1 (args m c).x (j 0) (j 1) (j 2) : Vec Ideal S24x2048x1536 .i8)
      ∧ r.2.mem ((c.tc : Thread nD τ).loc main_v184) = (fun _ => (args m c).ags 0 : Vec Ideal S_ .f32)
      ∧ r.2.mem ((c.tc : Thread nD τ).loc main_v45_1) = (fun j => (args m c).r1 (j 0) (j 1) (j 2) : Vec Ideal S24x2048x768 .i8)
      ∧ r.2.mem ((c.tc : Thread nD τ).loc main_v186) = (fun _ => (args m c).ars 1 : Vec Ideal S_ .f32)) :=
  (θ_run defs _ _).mono (fun r h c => ⟨
    (h.1 c _ (Finset.mem_filter.mpr ⟨StableHlo.devRef_mem_tcRefs main_v180_0, by decide⟩)).trans (end_skip m c),
    (h.1 c _ (Finset.mem_filter.mpr ⟨StableHlo.devRef_mem_tcRefs main_v180_1, by decide⟩)).trans (end_r m c),
    (h.1 c _ (Finset.mem_filter.mpr ⟨StableHlo.devRef_mem_tcRefs main_v182, by decide⟩)).trans (end_s4 m c),
    (h.1 c _ (Finset.mem_filter.mpr ⟨StableHlo.devRef_mem_tcRefs main_v45_2, by decide⟩)).trans (end_gate m c),
    (h.1 c _ (Finset.mem_filter.mpr ⟨StableHlo.devRef_mem_tcRefs main_v184, by decide⟩)).trans (end_g0 m c),
    (h.1 c _ (Finset.mem_filter.mpr ⟨StableHlo.devRef_mem_tcRefs main_v45_1, by decide⟩)).trans (end_res m c),
    (h.1 c _ (Finset.mem_filter.mpr ⟨StableHlo.devRef_mem_tcRefs main_v186, by decide⟩)).trans (end_s1 m c)⟩) (run_main m ρ)

end Cert.KernelIdeal.Layer
-- ==== Proof.Value.Reference.lean ====
/- The reference's four outputs, read at an index, are the network's of Proof/Value/Spec.lean. -/
module
public import proofs.«01_k».proof.Proof.Gen.ReferenceIdeal.Frame
public import Idealize.ShloMosaic.Lib.Pipeline.ValueKit
public import proofs.«01_k».proof.Proof.Value.Spec
@[expose] public section
set_option maxHeartbeats 0
set_option maxRecDepth 20000
noncomputable section
namespace Cert.ReferenceIdeal.Layer
open Idealize.ShloMosaic Idealize.SL.Sem Cert.ReferenceIdeal.Gen Cert.Spec

variable (x0 : Vec Ideal S24x2048x768 .i8) (x1 : Vec Ideal S5 .f32) (x2 : Vec Ideal S4 .f32)
  (x3 : Vec Ideal S4x2x768x3072 .i8) (x4 x5 : Vec Ideal S4x3072 .f32) (x6 : Vec Ideal S4x1536x768 .i8)
  (x7 x8 : Vec Ideal S4x768 .f32) (x9 : Vec Ideal S4x1536x512 .i8) (x10 x11 : Vec Ideal S4x512 .f32)
  (x12 : Vec Ideal S24x7x80 .i8) (x13 : Vec Ideal S1 .f32) (x14 : Vec Ideal S4x80x3072 .i8)
  (x15 : Vec Ideal S4x3072 .f32)

/-- The arguments by coordinates. -/
def argsOf : Args where
  x b t k := x0 (ix3 b t k)
  ars l := x1 (ix1 l)
  ags l := x2 (ix1 l)
  wd l p k o := x3 (ix4 l p k o)
  dsc l o := x4 (ix2 l o)
  db l o := x5 (ix2 l o)
  wr l k o := x6 (ix3 l k o)
  rsc l o := x7 (ix2 l o)
  rb l o := x8 (ix2 l o)
  wk l k o := x9 (ix3 l k o)
  ksc l o := x10 (ix2 l o)
  kb l o := x11 (ix2 l o)
  cond b f k := x12 (ix3 b f k)
  cs := x13 (ix1 0)
  wc l k o := x14 (ix3 l k o)
  csc l o := x15 (ix2 l o)

/-- A code array by coordinates. -/
abbrev co (r : IVec S24x2048x768 8) : Seq 768 (BitVec 8) := fun b t k => r (ix3 b t k)

/-- Layer 0's gate codes. -/
theorem z0 : k0_pay6 (View.ld x1 r0_2) (View.ld x2 r0_3) (k0_pay39 x0 x1 x2 x3 x4 x5 x6 x7 x8 x9 x10 x11 x12 x13 x14 x15) (k0_pay40 x0 x1 x2 x3 x4 x5 x6 x7 x8 x9 x10 x11 x12 x13 x14 x15) (k0_pay41 x0 x1 x2 x3 x4 x5 x6 x7 x8 x9 x10 x11 x12 x13 x14 x15) (View.ld x4 r0_9) (View.ld x5 r0_9) =
    fun j => (argsOf x0 x1 x2 x3 x4 x5 x6 x7 x8 x9 x10 x11 x12 x13 x14 x15).z 0 1 (co x0) (j 0) (j 1) (j 2) := by
  funext j
  unfold k0_pay39 k0_pay40 k0_pay41
  pointwise [k0_pay6, k0_pay3, k0_pay4, k0_pay5, k0_pay1]
  rfl

/-- The same as numbers. -/
theorem zb0 : k0_pay7 (View.ld x1 r0_2) (View.ld x2 r0_3) (k0_pay39 x0 x1 x2 x3 x4 x5 x6 x7 x8 x9 x10 x11 x12 x13 x14 x15) (k0_pay40 x0 x1 x2 x3 x4 x5 x6 x7 x8 x9 x10 x11 x12 x13 x14 x15) (k0_pay41 x0 x1 x2 x3 x4 x5 x6 x7 x8 x9 x10 x11 x12 x13 x14 x15) (View.ld x4 r0_9) (View.ld x5 r0_9) =
    fun j => num ((argsOf x0 x1 x2 x3 x4 x5 x6 x7 x8 x9 x10 x11 x12 x13 x14 x15).z 0 1 (co x0) (j 0) (j 1) (j 2)) := by
  unfold k0_pay7; rw [z0]; rfl

/-- The codes after layer 0. -/
theorem n0 : k0_pay46 x0 x1 x2 x3 x4 x5 x6 x7 x8 x9 x10 x11 x12 x13 x14 x15 =
    fun j => (argsOf x0 x1 x2 x3 x4 x5 x6 x7 x8 x9 x10 x11 x12 x13 x14 x15).next 0 1 (co x0) (j 0) (j 1) (j 2) := by
  funext j
  obtain ⟨b, t, d, rfl⟩ : ∃ b t d, j = ix3 b t d := ⟨_, _, _, eq_ix3 j⟩
  unfold k0_pay46 k0_pay42 k0_pay43 k0_pay44 k0_pay45 k0_pay8
  rw [zb0]
  pointwise [k0_pay12, k0_pay9, k0_pay10, k0_pay11]
  rfl

/-- The skip sum after layer 0. -/
theorem s0 : k0_pay13 (k0_pay2 (F := Ideal)) (View.ld x2 r0_3) (k0_pay7 (View.ld x1 r0_2) (View.ld x2 r0_3) (k0_pay39 x0 x1 x2 x3 x4 x5 x6 x7 x8 x9 x10 x11 x12 x13 x14 x15) (k0_pay40 x0 x1 x2 x3 x4 x5 x6 x7 x8 x9 x10 x11 x12 x13 x14 x15) (k0_pay41 x0 x1 x2 x3 x4 x5 x6 x7 x8 x9 x10 x11 x12 x13 x14 x15) (View.ld x4 r0_9) (View.ld x5 r0_9)) (View.ld x9 r0_12) (View.ld x10 r0_13) (View.ld x11 r0_13) =
    fun j => (argsOf x0 x1 x2 x3 x4 x5 x6 x7 x8 x9 x10 x11 x12 x13 x14 x15).add 0 1 (co x0) (j 0) (j 1) (j 2) := by
  funext j
  rw [zb0]
  pointwise [k0_pay13, k0_pay2]
  rfl

/-- Layer 1's gate codes as numbers. -/
theorem zb1 : k0_pay17 (View.ld x1 r0_4) (View.ld x2 r0_15) (k0_pay47 x0 x1 x2 x3 x4 x5 x6 x7 x8 x9 x10 x11 x12 x13 x14 x15) (k0_pay48 x0 x1 x2 x3 x4 x5 x6 x7 x8 x9 x10 x11 x12 x13 x14 x15) (k0_pay49 x0 x1 x2 x3 x4 x5 x6 x7 x8 x9 x10 x11 x12 x13 x14 x15) (View.ld x5 r0_20) =
    fun j => num ((argsOf x0 x1 x2 x3 x4 x5 x6 x7 x8 x9 x10 x11 x12 x13 x14 x15).z 1 4 (co (k0_pay46 x0 x1 x2 x3 x4 x5 x6 x7 x8 x9 x10 x11 x12 x13 x14 x15)) (j 0) (j 1) (j 2)) := by
  funext j
  unfold k0_pay47 k0_pay48 k0_pay49 k0_pay38
  generalize k0_pay46 x0 x1 x2 x3 x4 x5 x6 x7 x8 x9 x10 x11 x12 x13 x14 x15 = r
  pointwise [k0_pay17, k0_pay14, k0_pay15, k0_pay16, k0_pay1]
  rfl

/-- The codes after layer 1. -/
theorem n1 : k0_pay20 (View.ld x1 r0_16) (k0_pay50 x0 x1 x2 x3 x4 x5 x6 x7 x8 x9 x10 x11 x12 x13 x14 x15) (k0_pay51 x0 x1 x2 x3 x4 x5 x6 x7 x8 x9 x10 x11 x12 x13 x14 x15) =
    fun j => (argsOf x0 x1 x2 x3 x4 x5 x6 x7 x8 x9 x10 x11 x12 x13 x14 x15).next 1 4 (co (k0_pay46 x0 x1 x2 x3 x4 x5 x6 x7 x8 x9 x10 x11 x12 x13 x14 x15)) (j 0) (j 1) (j 2) := by
  funext j
  obtain ⟨b, t, d, rfl⟩ : ∃ b t d, j = ix3 b t d := ⟨_, _, _, eq_ix3 j⟩
  unfold k0_pay50 k0_pay51 k0_pay18
  rw [zb1]
  generalize k0_pay46 x0 x1 x2 x3 x4 x5 x6 x7 x8 x9 x10 x11 x12 x13 x14 x15 = r
  pointwise [k0_pay20, k0_pay19]
  rfl

/-- The skip sum after layer 1. -/
theorem s1 (s : FVec Ideal S24x2048x512 .f32) : k0_pay21 s (View.ld x2 r0_15) (k0_pay17 (View.ld x1 r0_4) (View.ld x2 r0_15) (k0_pay47 x0 x1 x2 x3 x4 x5 x6 x7 x8 x9 x10 x11 x12 x13 x14 x15) (k0_pay48 x0 x1 x2 x3 x4 x5 x6 x7 x8 x9 x10 x11 x12 x13 x14 x15) (k0_pay49 x0 x1 x2 x3 x4 x5 x6 x7 x8 x9 x10 x11 x12 x13 x14 x15) (View.ld x5 r0_20)) (View.ld x9 r0_23) (View.ld x10 r0_24) (View.ld x11 r0_24) =
    fun j => s j + (argsOf x0 x1 x2 x3 x4 x5 x6 x7 x8 x9 x10 x11 x12 x13 x14 x15).add 1 4 (co (k0_pay46 x0 x1 x2 x3 x4 x5 x6 x7 x8 x9 x10 x11 x12 x13 x14 x15)) (j 0) (j 1) (j 2) := by
  funext j
  rw [zb1]
  pointwise [k0_pay21]
  rfl

/-- Layer 2's gate codes as numbers. -/
theorem zb2 : k0_pay25 (k0_pay52 x0 x1 x2 x3 x4 x5 x6 x7 x8 x9 x10 x11 x12 x13 x14 x15) =
    fun j => num ((argsOf x0 x1 x2 x3 x4 x5 x6 x7 x8 x9 x10 x11 x12 x13 x14 x15).z 2 16 (co (k0_pay20 (View.ld x1 r0_16) (k0_pay50 x0 x1 x2 x3 x4 x5 x6 x7 x8 x9 x10 x11 x12 x13 x14 x15) (k0_pay51 x0 x1 x2 x3 x4 x5 x6 x7 x8 x9 x10 x11 x12 x13 x14 x15))) (j 0) (j 1) (j 2)) := by
  funext j
  unfold k0_pay52 k0_pay22 k0_pay23 k0_pay38
  generalize k0_pay20 (F := Ideal) _ _ _ = r
  pointwise [k0_pay25, k0_pay24, k0_pay1]
  rfl

/-- The codes after layer 2. -/
theorem n2 : k0_pay53 x0 x1 x2 x3 x4 x5 x6 x7 x8 x9 x10 x11 x12 x13 x14 x15 =
    fun j => (argsOf x0 x1 x2 x3 x4 x5 x6 x7 x8 x9 x10 x11 x12 x13 x14 x15).next 2 16 (co (k0_pay20 (View.ld x1 r0_16) (k0_pay50 x0 x1 x2 x3 x4 x5 x6 x7 x8 x9 x10 x11 x12 x13 x14 x15) (k0_pay51 x0 x1 x2 x3 x4 x5 x6 x7 x8 x9 x10 x11 x12 x13 x14 x15))) (j 0) (j 1) (j 2) := by
  funext j
  obtain ⟨b, t, d, rfl⟩ : ∃ b t d, j = ix3 b t d := ⟨_, _, _, eq_ix3 j⟩
  unfold k0_pay53 k0_pay26
  rw [zb2]
  generalize k0_pay20 (F := Ideal) _ _ _ = r
  pointwise []
  rfl

/-- The skip sum after layer 2. -/
theorem s2 (s : FVec Ideal S24x2048x512 .f32) : k0_pay28 s (View.ld x2 r0_25) (k0_pay25 (k0_pay52 x0 x1 x2 x3 x4 x5 x6 x7 x8 x9 x10 x11 x12 x13 x14 x15)) (k0_pay27 (View.ld x9 r0_33)) (constant S24x2048x512 .f32 0x00000000#32) (View.ld x10 r0_34) (View.ld x11 r0_34) =
    fun j => s j + (argsOf x0 x1 x2 x3 x4 x5 x6 x7 x8 x9 x10 x11 x12 x13 x14 x15).add 2 16 (co (k0_pay20 (View.ld x1 r0_16) (k0_pay50 x0 x1 x2 x3 x4 x5 x6 x7 x8 x9 x10 x11 x12 x13 x14 x15) (k0_pay51 x0 x1 x2 x3 x4 x5 x6 x7 x8 x9 x10 x11 x12 x13 x14 x15))) (j 0) (j 1) (j 2) := by
  funext j
  rw [zb2]
  pointwise [k0_pay28, k0_pay27]
  rfl

/-- Layer 3's gate codes as numbers. -/
theorem zb3 : k0_pay32 (View.ld x1 r0_26) (View.ld x2 r0_35) (k0_pay54 x0 x1 x2 x3 x4 x5 x6 x7 x8 x9 x10 x11 x12 x13 x14 x15) (k0_pay55 x0 x1 x2 x3 x4 x5 x6 x7 x8 x9 x10 x11 x12 x13 x14 x15) (k0_pay56 x0 x1 x2 x3 x4 x5 x6 x7 x8 x9 x10 x11 x12 x13 x14 x15) (View.ld x15 r0_40) (View.ld x4 r0_40) (View.ld x5 r0_40) =
    fun j => num ((argsOf x0 x1 x2 x3 x4 x5 x6 x7 x8 x9 x10 x11 x12 x13 x14 x15).z 3 64 (co (k0_pay53 x0 x1 x2 x3 x4 x5 x6 x7 x8 x9 x10 x11 x12 x13 x14 x15)) (j 0) (j 1) (j 2)) := by
  funext j
  unfold k0_pay54 k0_pay55 k0_pay56 k0_pay38
  generalize k0_pay53 x0 x1 x2 x3 x4 x5 x6 x7 x8 x9 x10 x11 x12 x13 x14 x15 = r
  pointwise [k0_pay32, k0_pay29, k0_pay30, k0_pay31, k0_pay1]
  rfl

/-- The codes after layer 3. -/
theorem n3 : k0_pay36 (View.ld x2 r0_35) (View.ld x1 r0_36) (k0_pay33 (View.ld x1 r0_26) (View.ld x2 r0_35) (k0_pay54 x0 x1 x2 x3 x4 x5 x6 x7 x8 x9 x10 x11 x12 x13 x14 x15) (k0_pay55 x0 x1 x2 x3 x4 x5 x6 x7 x8 x9 x10 x11 x12 x13 x14 x15) (k0_pay56 x0 x1 x2 x3 x4 x5 x6 x7 x8 x9 x10 x11 x12 x13 x14 x15) (View.ld x15 r0_40) (View.ld x4 r0_40) (View.ld x5 r0_40) (View.ld x6 r0_41)) (k0_pay34 (F := Ideal) (k0_pay53 x0 x1 x2 x3 x4 x5 x6 x7 x8 x9 x10 x11 x12 x13 x14 x15)) (k0_pay35 (View.ld x1 r0_26)) (View.ld x7 r0_42) (View.ld x8 r0_42) =
    fun j => (argsOf x0 x1 x2 x3 x4 x5 x6 x7 x8 x9 x10 x11 x12 x13 x14 x15).next 3 64 (co (k0_pay53 x0 x1 x2 x3 x4 x5 x6 x7 x8 x9 x10 x11 x12 x13 x14 x15)) (j 0) (j 1) (j 2) := by
  funext j
  obtain ⟨b, t, d, rfl⟩ : ∃ b t d, j = ix3 b t d := ⟨_, _, _, eq_ix3 j⟩
  unfold k0_pay33
  rw [zb3]
  generalize k0_pay53 x0 x1 x2 x3 x4 x5 x6 x7 x8 x9 x10 x11 x12 x13 x14 x15 = r
  pointwise [k0_pay36, k0_pay34, k0_pay35]
  rfl

/-- The skip sum after layer 3. -/
theorem s3 (s : FVec Ideal S24x2048x512 .f32) : k0_pay37 s (View.ld x2 r0_35) (k0_pay32 (View.ld x1 r0_26) (View.ld x2 r0_35) (k0_pay54 x0 x1 x2 x3 x4 x5 x6 x7 x8 x9 x10 x11 x12 x13 x14 x15) (k0_pay55 x0 x1 x2 x3 x4 x5 x6 x7 x8 x9 x10 x11 x12 x13 x14 x15) (k0_pay56 x0 x1 x2 x3 x4 x5 x6 x7 x8 x9 x10 x11 x12 x13 x14 x15) (View.ld x15 r0_40) (View.ld x4 r0_40) (View.ld x5 r0_40)) (View.ld x9 r0_43) (View.ld x10 r0_44) (View.ld x11 r0_44) =
    fun j => s j + (argsOf x0 x1 x2 x3 x4 x5 x6 x7 x8 x9 x10 x11 x12 x13 x14 x15).add 3 64 (co (k0_pay53 x0 x1 x2 x3 x4 x5 x6 x7 x8 x9 x10 x11 x12 x13 x14 x15)) (j 0) (j 1) (j 2) := by
  funext j
  rw [zb3]
  pointwise [k0_pay37]
  rfl

theorem co_x : co x0 = (argsOf x0 x1 x2 x3 x4 x5 x6 x7 x8 x9 x10 x11 x12 x13 x14 x15).x := rfl

theorem co_r1 : (co (k0_pay46 x0 x1 x2 x3 x4 x5 x6 x7 x8 x9 x10 x11 x12 x13 x14 x15)) = (argsOf x0 x1 x2 x3 x4 x5 x6 x7 x8 x9 x10 x11 x12 x13 x14 x15).r1 := by rw [n0]; rfl

theorem co_r2 : (co (k0_pay20 (View.ld x1 r0_16) (k0_pay50 x0 x1 x2 x3 x4 x5 x6 x7 x8 x9 x10 x11 x12 x13 x14 x15) (k0_pay51 x0 x1 x2 x3 x4 x5 x6 x7 x8 x9 x10 x11 x12 x13 x14 x15))) = (argsOf x0 x1 x2 x3 x4 x5 x6 x7 x8 x9 x10 x11 x12 x13 x14 x15).r2 := by rw [n1, co_r1]; rfl

theorem co_r3 : (co (k0_pay53 x0 x1 x2 x3 x4 x5 x6 x7 x8 x9 x10 x11 x12 x13 x14 x15)) = (argsOf x0 x1 x2 x3 x4 x5 x6 x7 x8 x9 x10 x11 x12 x13 x14 x15).r3 := by rw [n2, co_r2]; rfl

/-- The first output: the skip sum. -/
theorem out16_apply (j) : out0_16 x0 x1 x2 x3 x4 x5 x6 x7 x8 x9 x10 x11 x12 x13 x14 x15 j = (argsOf x0 x1 x2 x3 x4 x5 x6 x7 x8 x9 x10 x11 x12 x13 x14 x15).sum (j 0) (j 1) (j 2) := by
  unfold out0_16
  rw [s3, s2, s1, s0, co_r3, co_r2, co_r1, co_x x0 x1 x2 x3 x4 x5 x6 x7 x8 x9 x10 x11 x12 x13 x14 x15]
  exact congrFun (View.canon_cons_unit_lit _ _ [] (by decide)) j

/-- The second output: the codes after four layers. -/
theorem out17_apply (j) : out0_17 x0 x1 x2 x3 x4 x5 x6 x7 x8 x9 x10 x11 x12 x13 x14 x15 j = (argsOf x0 x1 x2 x3 x4 x5 x6 x7 x8 x9 x10 x11 x12 x13 x14 x15).r4 (j 0) (j 1) (j 2) := by
  unfold out0_17
  rw [n3, co_r3]
  exact congrFun (View.canon_cons_unit_lit _ _ [] (by decide)) j

/-- The third output: the first layer's gate codes. -/
theorem out18_apply (j) : out0_18 x0 x1 x2 x3 x4 x5 x6 x7 x8 x9 x10 x11 x12 x13 x14 x15 j = (argsOf x0 x1 x2 x3 x4 x5 x6 x7 x8 x9 x10 x11 x12 x13 x14 x15).z 0 1 (argsOf x0 x1 x2 x3 x4 x5 x6 x7 x8 x9 x10 x11 x12 x13 x14 x15).x (j 0) (j 1) (j 2) := by
  unfold out0_18
  rw [z0]
  exact congrFun (View.canon_cons_unit_lit _ _ [] (by decide)) j

/-- The fourth output: the codes after one layer. -/
theorem out19_apply (j) : out0_19 x0 x1 x2 x3 x4 x5 x6 x7 x8 x9 x10 x11 x12 x13 x14 x15 j = (argsOf x0 x1 x2 x3 x4 x5 x6 x7 x8 x9 x10 x11 x12 x13 x14 x15).r1 (j 0) (j 1) (j 2) := by
  have h := n0 x0 x1 x2 x3 x4 x5 x6 x7 x8 x9 x10 x11 x12 x13 x14 x15
  unfold k0_pay46 at h
  unfold out0_19
  rw [h]
  exact congrFun (View.canon_cons_unit_lit _ _ [] (by decide)) j

end Cert.ReferenceIdeal.Layer
-- ==== Proof.Value.RefEnd.lean ====
/- What the reference's result buffers hold at the end, over its arguments. -/
module

public import proofs.«01_k».proof.Proof.Value.Reference
public import Idealize.ShloMosaic.Lib.StableHlo.ReadAt

@[expose] public section

set_option maxRecDepth 16384
set_option maxHeartbeats 0

noncomputable section

namespace Cert.ReferenceIdeal.Layer

open Idealize.ShloMosaic Idealize.ShloMosaic.TcCoe Idealize.ShloMosaic.Tactic Idealize.SL.Sem
open Cert.ReferenceIdeal.Gen Cert.Spec

variable (m : (ℓ : Loc nD τ sig) → Buf (Elt Ideal) ℓ) (ρ : Dev nD → PrngReg) (c : Dev nD)

/-- The arguments as launched. -/
def args : Args := argsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (fun _ => (m ((c.tc : Thread nD τ).loc main_arg13) : Vec Ideal S_ .f32) ix0) (m ((c.tc : Thread nD τ).loc main_arg14)) (m ((c.tc : Thread nD τ).loc main_arg15))

/-- Every window's block is its whole array. -/
theorem idx : ∀ t : Fin cfg0.N, (cfg0.win 0).index t = ![0, 0, 0] ∧ (cfg0.win 1).index t = ![0] ∧ (cfg0.win 2).index t = ![0] ∧ (cfg0.win 3).index t = ![0, 0, 0, 0] ∧ (cfg0.win 4).index t = ![0, 0] ∧ (cfg0.win 5).index t = ![0, 0] ∧ (cfg0.win 6).index t = ![0, 0, 0] ∧ (cfg0.win 7).index t = ![0, 0] ∧ (cfg0.win 8).index t = ![0, 0] ∧ (cfg0.win 9).index t = ![0, 0, 0] ∧ (cfg0.win 10).index t = ![0, 0] ∧ (cfg0.win 11).index t = ![0, 0] ∧ (cfg0.win 12).index t = ![0, 0, 0] ∧ (cfg0.win 13).index t = ![0] ∧ (cfg0.win 14).index t = ![0, 0, 0] ∧ (cfg0.win 15).index t = ![0, 0] ∧ (cfg0.win 16).index t = ![0, 0, 0] ∧ (cfg0.win 17).index t = ![0, 0, 0] ∧ (cfg0.win 18).index t = ![0, 0, 0] ∧ (cfg0.win 19).index t = ![0, 0, 0] := by
  decide +kernel

theorem block0 (t : Fin cfg0.N) : (iblk m c 0 t : Vec Ideal S24x2048x768 .i8) = m ((c.tc : Thread nD τ).loc main_arg0) := by
  refine Eq.trans ?_ (V_main_arg0 m c)
  unfold iblk
  obtain ⟨h0, h1, h2, h3, h4, h5, h6, h7, h8, h9, h10, h11, h12, h13, h14, h15, h16, h17, h18, h19⟩ := idx t
  funext (j : S24x2048x768.Idx)
  obtain ⟨a, b, d, rfl⟩ : ∃ a b d, j = ix3 a b d := ⟨_, _, _, eq_ix3 j⟩
  blk_ext [h0]
theorem block1 (t : Fin cfg0.N) : (iblk m c 1 t : Vec Ideal S5 .f32) = m ((c.tc : Thread nD τ).loc main_arg1) := by
  refine Eq.trans ?_ (V_main_arg1 m c)
  unfold iblk
  obtain ⟨h0, h1, h2, h3, h4, h5, h6, h7, h8, h9, h10, h11, h12, h13, h14, h15, h16, h17, h18, h19⟩ := idx t
  funext (j : S5.Idx)
  obtain ⟨a, rfl⟩ : ∃ a, j = ix1 a := ⟨_, eq_ix1 j⟩
  blk_ext [h1]
theorem block2 (t : Fin cfg0.N) : (iblk m c 2 t : Vec Ideal S4 .f32) = m ((c.tc : Thread nD τ).loc main_arg2) := by
  refine Eq.trans ?_ (V_main_arg2 m c)
  unfold iblk
  obtain ⟨h0, h1, h2, h3, h4, h5, h6, h7, h8, h9, h10, h11, h12, h13, h14, h15, h16, h17, h18, h19⟩ := idx t
  funext (j : S4.Idx)
  obtain ⟨a, rfl⟩ : ∃ a, j = ix1 a := ⟨_, eq_ix1 j⟩
  blk_ext [h2]
theorem block3 (t : Fin cfg0.N) : (iblk m c 3 t : Vec Ideal S4x2x768x3072 .i8) = m ((c.tc : Thread nD τ).loc main_arg3) := by
  refine Eq.trans ?_ (V_main_arg3 m c)
  unfold iblk
  obtain ⟨h0, h1, h2, h3, h4, h5, h6, h7, h8, h9, h10, h11, h12, h13, h14, h15, h16, h17, h18, h19⟩ := idx t
  funext (j : S4x2x768x3072.Idx)
  obtain ⟨a, b, d, e, rfl⟩ : ∃ a b d e, j = ix4 a b d e := ⟨_, _, _, _, eq_ix4 j⟩
  blk_ext [h3]
theorem block4 (t : Fin cfg0.N) : (iblk m c 4 t : Vec Ideal S4x3072 .f32) = m ((c.tc : Thread nD τ).loc main_arg4) := by
  refine Eq.trans ?_ (V_main_arg4 m c)
  unfold iblk
  obtain ⟨h0, h1, h2, h3, h4, h5, h6, h7, h8, h9, h10, h11, h12, h13, h14, h15, h16, h17, h18, h19⟩ := idx t
  funext (j : S4x3072.Idx)
  obtain ⟨a, b, rfl⟩ : ∃ a b, j = ix2 a b := ⟨_, _, eq_ix2 j⟩
  blk_ext [h4]
theorem block5 (t : Fin cfg0.N) : (iblk m c 5 t : Vec Ideal S4x3072 .f32) = m ((c.tc : Thread nD τ).loc main_arg5) := by
  refine Eq.trans ?_ (V_main_arg5 m c)
  unfold iblk
  obtain ⟨h0, h1, h2, h3, h4, h5, h6, h7, h8, h9, h10, h11, h12, h13, h14, h15, h16, h17, h18, h19⟩ := idx t
  funext (j : S4x3072.Idx)
  obtain ⟨a, b, rfl⟩ : ∃ a b, j = ix2 a b := ⟨_, _, eq_ix2 j⟩
  blk_ext [h5]
theorem block6 (t : Fin cfg0.N) : (iblk m c 6 t : Vec Ideal S4x1536x768 .i8) = m ((c.tc : Thread nD τ).loc main_arg6) := by
  refine Eq.trans ?_ (V_main_arg6 m c)
  unfold iblk
  obtain ⟨h0, h1, h2, h3, h4, h5, h6, h7, h8, h9, h10, h11, h12, h13, h14, h15, h16, h17, h18, h19⟩ := idx t
  funext (j : S4x1536x768.Idx)
  obtain ⟨a, b, d, rfl⟩ : ∃ a b d, j = ix3 a b d := ⟨_, _, _, eq_ix3 j⟩
  blk_ext [h6]
theorem block7 (t : Fin cfg0.N) : (iblk m c 7 t : Vec Ideal S4x768 .f32) = m ((c.tc : Thread nD τ).loc main_arg7) := by
  refine Eq.trans ?_ (V_main_arg7 m c)
  unfold iblk
  obtain ⟨h0, h1, h2, h3, h4, h5, h6, h7, h8, h9, h10, h11, h12, h13, h14, h15, h16, h17, h18, h19⟩ := idx t
  funext (j : S4x768.Idx)
  obtain ⟨a, b, rfl⟩ : ∃ a b, j = ix2 a b := ⟨_, _, eq_ix2 j⟩
  blk_ext [h7]
theorem block8 (t : Fin cfg0.N) : (iblk m c 8 t : Vec Ideal S4x768 .f32) = m ((c.tc : Thread nD τ).loc main_arg8) := by
  refine Eq.trans ?_ (V_main_arg8 m c)
  unfold iblk
  obtain ⟨h0, h1, h2, h3, h4, h5, h6, h7, h8, h9, h10, h11, h12, h13, h14, h15, h16, h17, h18, h19⟩ := idx t
  funext (j : S4x768.Idx)
  obtain ⟨a, b, rfl⟩ : ∃ a b, j = ix2 a b := ⟨_, _, eq_ix2 j⟩
  blk_ext [h8]
theorem block9 (t : Fin cfg0.N) : (iblk m c 9 t : Vec Ideal S4x1536x512 .i8) = m ((c.tc : Thread nD τ).loc main_arg9) := by
  refine Eq.trans ?_ (V_main_arg9 m c)
  unfold iblk
  obtain ⟨h0, h1, h2, h3, h4, h5, h6, h7, h8, h9, h10, h11, h12, h13, h14, h15, h16, h17, h18, h19⟩ := idx t
  funext (j : S4x1536x512.Idx)
  obtain ⟨a, b, d, rfl⟩ : ∃ a b d, j = ix3 a b d := ⟨_, _, _, eq_ix3 j⟩
  blk_ext [h9]
theorem block10 (t : Fin cfg0.N) : (iblk m c 10 t : Vec Ideal S4x512 .f32) = m ((c.tc : Thread nD τ).loc main_arg10) := by
  refine Eq.trans ?_ (V_main_arg10 m c)
  unfold iblk
  obtain ⟨h0, h1, h2, h3, h4, h5, h6, h7, h8, h9, h10, h11, h12, h13, h14, h15, h16, h17, h18, h19⟩ := idx t
  funext (j : S4x512.Idx)
  obtain ⟨a, b, rfl⟩ : ∃ a b, j = ix2 a b := ⟨_, _, eq_ix2 j⟩
  blk_ext [h10]
theorem block11 (t : Fin cfg0.N) : (iblk m c 11 t : Vec Ideal S4x512 .f32) = m ((c.tc : Thread nD τ).loc main_arg11) := by
  refine Eq.trans ?_ (V_main_arg11 m c)
  unfold iblk
  obtain ⟨h0, h1, h2, h3, h4, h5, h6, h7, h8, h9, h10, h11, h12, h13, h14, h15, h16, h17, h18, h19⟩ := idx t
  funext (j : S4x512.Idx)
  obtain ⟨a, b, rfl⟩ : ∃ a b, j = ix2 a b := ⟨_, _, eq_ix2 j⟩
  blk_ext [h11]
theorem block12 (t : Fin cfg0.N) : (iblk m c 12 t : Vec Ideal S24x7x80 .i8) = m ((c.tc : Thread nD τ).loc main_arg12) := by
  refine Eq.trans ?_ (V_main_arg12 m c)
  unfold iblk
  obtain ⟨h0, h1, h2, h3, h4, h5, h6, h7, h8, h9, h10, h11, h12, h13, h14, h15, h16, h17, h18, h19⟩ := idx t
  funext (j : S24x7x80.Idx)
  obtain ⟨a, b, d, rfl⟩ : ∃ a b d, j = ix3 a b d := ⟨_, _, _, eq_ix3 j⟩
  blk_ext [h12]
theorem block13 (t : Fin cfg0.N) : (iblk m c 13 t : Vec Ideal S1 .f32) = fun _ => (m ((c.tc : Thread nD τ).loc main_arg13) : Vec Ideal S_ .f32) ix0 := by
  refine Eq.trans (b := (V m c main_v0 : Vec Ideal S1 .f32)) ?_ (by
    funext (j : S1.Idx)
    obtain ⟨a, rfl⟩ : ∃ a, j = ix1 a := ⟨_, eq_ix1 j⟩
    unfold V V0
    after_reads_at)
  unfold iblk
  obtain ⟨h0, h1, h2, h3, h4, h5, h6, h7, h8, h9, h10, h11, h12, h13, h14, h15, h16, h17, h18, h19⟩ := idx t
  funext (j : S1.Idx)
  obtain ⟨a, rfl⟩ : ∃ a, j = ix1 a := ⟨_, eq_ix1 j⟩
  blk_ext [h13]
theorem block14 (t : Fin cfg0.N) : (iblk m c 14 t : Vec Ideal S4x80x3072 .i8) = m ((c.tc : Thread nD τ).loc main_arg14) := by
  refine Eq.trans ?_ (V_main_arg14 m c)
  unfold iblk
  obtain ⟨h0, h1, h2, h3, h4, h5, h6, h7, h8, h9, h10, h11, h12, h13, h14, h15, h16, h17, h18, h19⟩ := idx t
  funext (j : S4x80x3072.Idx)
  obtain ⟨a, b, d, rfl⟩ : ∃ a b d, j = ix3 a b d := ⟨_, _, _, eq_ix3 j⟩
  blk_ext [h14]
theorem block15 (t : Fin cfg0.N) : (iblk m c 15 t : Vec Ideal S4x3072 .f32) = m ((c.tc : Thread nD τ).loc main_arg15) := by
  refine Eq.trans ?_ (V_main_arg15 m c)
  unfold iblk
  obtain ⟨h0, h1, h2, h3, h4, h5, h6, h7, h8, h9, h10, h11, h12, h13, h14, h15, h16, h17, h18, h19⟩ := idx t
  funext (j : S4x3072.Idx)
  obtain ⟨a, b, rfl⟩ : ∃ a b, j = ix2 a b := ⟨_, _, eq_ix2 j⟩
  blk_ext [h15]

/-- Output array 16 ends as the skip sum. -/
theorem arr16 : (dats m 0 c).arrAt 16 cfg0.N = (fun j => (args m c).sum (j 0) (j 1) (j 2) : Vec Ideal S24x2048x512 .f32) := by
  refine (dats m 0 c).arrAt_eq_of_covers 16 _ (by decide +kernel) fun t hf y => ?_
  blk_simp
  rw [after0_16, block0, block1, block2, block3, block4, block5, block6, block7, block8, block9, block10, block11, block12, block13, block14, block15]
  refine (out16_apply _ _ _ _ _ _ _ _ _ _ _ _ _ _ _ _ y).trans ?_
  obtain ⟨h0, h1, h2, h3, h4, h5, h6, h7, h8, h9, h10, h11, h12, h13, h14, h15, h16, h17, h18, h19⟩ := idx t
  have c0 : y 0 = ((win0_16.blk t).view.emb y) 0 := Fin.ext (by blk_simp [h16])
  have c1 : y 1 = ((win0_16.blk t).view.emb y) 1 := Fin.ext (by blk_simp [h16])
  have c2 : y 2 = ((win0_16.blk t).view.emb y) 2 := Fin.ext (by blk_simp [h16])
  exact congr (congrArg₂ (fun (b : Fin 24) (t : Fin 2048) o => (args m c).sum b t o) c0 c1) c2

/-- Output array 17 ends as the residual codes. -/
theorem arr17 : (dats m 0 c).arrAt 17 cfg0.N = (fun j => (args m c).r4 (j 0) (j 1) (j 2) : Vec Ideal S24x2048x768 .i8) := by
  refine (dats m 0 c).arrAt_eq_of_covers 17 _ (by decide +kernel) fun t hf y => ?_
  blk_simp
  rw [after0_17, block0, block1, block2, block3, block4, block5, block6, block7, block8, block9, block10, block11, block12, block13, block14, block15]
  refine (out17_apply _ _ _ _ _ _ _ _ _ _ _ _ _ _ _ _ y).trans ?_
  obtain ⟨h0, h1, h2, h3, h4, h5, h6, h7, h8, h9, h10, h11, h12, h13, h14, h15, h16, h17, h18, h19⟩ := idx t
  have c0 : y 0 = ((win0_17.blk t).view.emb y) 0 := Fin.ext (by blk_simp [h17])
  have c1 : y 1 = ((win0_17.blk t).view.emb y) 1 := Fin.ext (by blk_simp [h17])
  have c2 : y 2 = ((win0_17.blk t).view.emb y) 2 := Fin.ext (by blk_simp [h17])
  exact congr (congrArg₂ (fun (b : Fin 24) (t : Fin 2048) o => (args m c).r4 b t o) c0 c1) c2

/-- Output array 18 ends as the first gate codes. -/
theorem arr18 : (dats m 0 c).arrAt 18 cfg0.N = (fun j => (args m c).z 0 1 (args m c).x (j 0) (j 1) (j 2) : Vec Ideal S24x2048x1536 .i8) := by
  refine (dats m 0 c).arrAt_eq_of_covers 18 _ (by decide +kernel) fun t hf y => ?_
  blk_simp
  rw [after0_18, block0, block1, block2, block3, block4, block5, block6, block7, block8, block9, block10, block11, block12, block13, block14, block15]
  refine (out18_apply _ _ _ _ _ _ _ _ _ _ _ _ _ _ _ _ y).trans ?_
  obtain ⟨h0, h1, h2, h3, h4, h5, h6, h7, h8, h9, h10, h11, h12, h13, h14, h15, h16, h17, h18, h19⟩ := idx t
  have c0 : y 0 = ((win0_18.blk t).view.emb y) 0 := Fin.ext (by blk_simp [h18])
  have c1 : y 1 = ((win0_18.blk t).view.emb y) 1 := Fin.ext (by blk_simp [h18])
  have c2 : y 2 = ((win0_18.blk t).view.emb y) 2 := Fin.ext (by blk_simp [h18])
  exact congr (congrArg₂ (fun (b : Fin 24) (t : Fin 2048) o => (args m c).z 0 1 (args m c).x b t o) c0 c1) c2

/-- Output array 19 ends as the first residual codes. -/
theorem arr19 : (dats m 0 c).arrAt 19 cfg0.N = (fun j => (args m c).r1 (j 0) (j 1) (j 2) : Vec Ideal S24x2048x768 .i8) := by
  refine (dats m 0 c).arrAt_eq_of_covers 19 _ (by decide +kernel) fun t hf y => ?_
  blk_simp
  rw [after0_19, block0, block1, block2, block3, block4, block5, block6, block7, block8, block9, block10, block11, block12, block13, block14, block15]
  refine (out19_apply _ _ _ _ _ _ _ _ _ _ _ _ _ _ _ _ y).trans ?_
  obtain ⟨h0, h1, h2, h3, h4, h5, h6, h7, h8, h9, h10, h11, h12, h13, h14, h15, h16, h17, h18, h19⟩ := idx t
  have c0 : y 0 = ((win0_19.blk t).view.emb y) 0 := Fin.ext (by blk_simp [h19])
  have c1 : y 1 = ((win0_19.blk t).view.emb y) 1 := Fin.ext (by blk_simp [h19])
  have c2 : y 2 = ((win0_19.blk t).view.emb y) 2 := Fin.ext (by blk_simp [h19])
  exact congr (congrArg₂ (fun (b : Fin 24) (t : Fin 2048) o => (args m c).r1 b t o) c0 c1) c2

/-! ## The scalars -/

theorem kept_arg1 : Pipeline.withArrays (cfgs 0).spec c (V0 m c) (fun w => (dats m 0 c).arrAt w (cfgs 0).N) (Proc.devRef .tc main_arg1) =
    m ((c.tc : Thread nD τ).loc main_arg1) :=
  (Pipeline.withArrays_arr spec0 (by decide) c _ _ 1).trans
    (((dats m 0 c).arrAt_in 1 rfl _).trans ((A_eq m c 1).trans (V_main_arg1 m c)))
theorem kept_arg2 : Pipeline.withArrays (cfgs 0).spec c (V0 m c) (fun w => (dats m 0 c).arrAt w (cfgs 0).N) (Proc.devRef .tc main_arg2) =
    m ((c.tc : Thread nD τ).loc main_arg2) :=
  (Pipeline.withArrays_arr spec0 (by decide) c _ _ 2).trans
    (((dats m 0 c).arrAt_in 2 rfl _).trans ((A_eq m c 2).trans (V_main_arg2 m c)))

theorem end_s4 : Pipeline.afterTail₀ cfgs (dats m) 0 (V0 m) [hostOps1] c main_v3 = (fun _ => (args m c).ars 4 : Vec Ideal S_ .f32) := by
  have e := kept_arg1 m c
  unfold Pipeline.afterTail₀
  generalize (Pipeline.withArrays (cfgs 0).spec c (V0 m c) fun w => (dats m 0 c).arrAt w (cfgs 0).N) = U at e ⊢
  funext (j : S_.Idx)
  obtain rfl : j = ix0 := Subsingleton.elim _ _
  simp only [List.flatten_cons, List.flatten_nil, List.append_nil]
  after_reads_at
  rw [e]
  rfl

theorem end_g0 : Pipeline.afterTail₀ cfgs (dats m) 0 (V0 m) [hostOps1] c main_v5 = (fun _ => (args m c).ags 0 : Vec Ideal S_ .f32) := by
  have e := kept_arg2 m c
  unfold Pipeline.afterTail₀
  generalize (Pipeline.withArrays (cfgs 0).spec c (V0 m c) fun w => (dats m 0 c).arrAt w (cfgs 0).N) = U at e ⊢
  funext (j : S_.Idx)
  obtain rfl : j = ix0 := Subsingleton.elim _ _
  simp only [List.flatten_cons, List.flatten_nil, List.append_nil]
  after_reads_at
  rw [e]
  rfl

theorem end_s1 : Pipeline.afterTail₀ cfgs (dats m) 0 (V0 m) [hostOps1] c main_v7 = (fun _ => (args m c).ars 1 : Vec Ideal S_ .f32) := by
  have e := kept_arg1 m c
  unfold Pipeline.afterTail₀
  generalize (Pipeline.withArrays (cfgs 0).spec c (V0 m c) fun w => (dats m 0 c).arrAt w (cfgs 0).N) = U at e ⊢
  funext (j : S_.Idx)
  obtain rfl : j = ix0 := Subsingleton.elim _ _
  simp only [List.flatten_cons, List.flatten_nil, List.append_nil]
  after_reads_at
  rw [e]
  rfl

/-- Every final state's results, over the arguments. -/
theorem results : θ_run defs (onTc (τ := τ) (main (F := Ideal))) ⟨m, fun _ => 0, ρ⟩ (fun r => ∀ c : Dev nD,
      r.2.mem ((c.tc : Thread nD τ).loc main_v1_0) = (fun j => (args m c).sum (j 0) (j 1) (j 2) : Vec Ideal S24x2048x512 .f32)
      ∧ r.2.mem ((c.tc : Thread nD τ).loc main_v1_1) = (fun j => (args m c).r4 (j 0) (j 1) (j 2) : Vec Ideal S24x2048x768 .i8)
      ∧ r.2.mem ((c.tc : Thread nD τ).loc main_v3) = (fun _ => (args m c).ars 4 : Vec Ideal S_ .f32)
      ∧ r.2.mem ((c.tc : Thread nD τ).loc main_v1_2) = (fun j => (args m c).z 0 1 (args m c).x (j 0) (j 1) (j 2) : Vec Ideal S24x2048x1536 .i8)
      ∧ r.2.mem ((c.tc : Thread nD τ).loc main_v5) = (fun _ => (args m c).ags 0 : Vec Ideal S_ .f32)
      ∧ r.2.mem ((c.tc : Thread nD τ).loc main_v1_3) = (fun j => (args m c).r1 (j 0) (j 1) (j 2) : Vec Ideal S24x2048x768 .i8)
      ∧ r.2.mem ((c.tc : Thread nD τ).loc main_v7) = (fun _ => (args m c).ars 1 : Vec Ideal S_ .f32)) :=
  (θ_run defs _ _).mono (fun _ h c => ⟨
    ((h c).1 16).trans (arr16 m c),
    ((h c).1 17).trans (arr17 m c),
    ((h c).2 main_v3 (Pipeline.mem_restRefs_of main_v3 (by decide) (by decide))).trans (end_s4 m c),
    ((h c).1 18).trans (arr18 m c),
    ((h c).2 main_v5 (Pipeline.mem_restRefs_of main_v5 (by decide) (by decide))).trans (end_g0 m c),
    ((h c).1 19).trans (arr19 m c),
    ((h c).2 main_v7 (Pipeline.mem_restRefs_of main_v7 (by decide) (by decide))).trans (end_s1 m c)⟩) (run_main m ρ)

end Cert.ReferenceIdeal.Layer
-- ==== Proof.Value.Algebra.lean ====
/- Both programs, started on the same arguments, end with the same seven results. -/
module

public import proofs.«01_k».proof.Defs
public import proofs.«01_k».proof.Proof.Frames
public import proofs.«01_k».proof.Proof.Value.Chain
public import proofs.«01_k».proof.Proof.Value.RefEnd

@[expose] public section

set_option maxHeartbeats 0

noncomputable section

namespace Cert.Layer

open Idealize.ShloMosaic Idealize.SL.Sem Cert.Spec

/-- On equal arguments every run of either program ends with the network's seven results and the arguments as they were. -/
theorem algebraic : algebraic_KernelIdeal_ReferenceIdeal (hKernelIdeal := Cert.KernelIdeal.Gen.facts)
    (hReferenceIdeal := Cert.ReferenceIdeal.Gen.facts) := by
  intro m g m' g' _ h
  have e : ∀ c, Cert.ReferenceIdeal.Layer.args m' c = Cert.KernelIdeal.Layer.args m c := fun c => by
    obtain ⟨h0, h1, h2, h3, h4, h5, h6, h7, h8, h9, h10, h11, h12, h13, h14, h15⟩ := h c
    unfold Cert.ReferenceIdeal.Layer.args
    rw [h0, h1, h2, h3, h4, h5, h6, h7, h8, h9, h10, h11, h12, h13, h14, h15]
    rfl
  refine ⟨fun c => (fun j => (Cert.KernelIdeal.Layer.args m c).sum (j 0) (j 1) (j 2) : Vec Ideal Cert.KernelIdeal.S24x2048x512 .f32),
    fun c => (fun j => (Cert.KernelIdeal.Layer.args m c).r4 (j 0) (j 1) (j 2) : Vec Ideal Cert.KernelIdeal.S24x2048x768 .i8),
    fun c => (fun _ => (Cert.KernelIdeal.Layer.args m c).ars 4 : Vec Ideal Cert.KernelIdeal.S_ .f32),
    fun c => (fun j => (Cert.KernelIdeal.Layer.args m c).z 0 1 (Cert.KernelIdeal.Layer.args m c).x (j 0) (j 1) (j 2) : Vec Ideal Cert.KernelIdeal.S24x2048x1536 .i8),
    fun c => (fun _ => (Cert.KernelIdeal.Layer.args m c).ags 0 : Vec Ideal Cert.KernelIdeal.S_ .f32),
    fun c => (fun j => (Cert.KernelIdeal.Layer.args m c).r1 (j 0) (j 1) (j 2) : Vec Ideal Cert.KernelIdeal.S24x2048x768 .i8),
    fun c => (fun _ => (Cert.KernelIdeal.Layer.args m c).ars 1 : Vec Ideal Cert.KernelIdeal.S_ .f32), ?_, ?_⟩
  · refine (θ_run _ _ _).mono (fun r k c => ?_)
      (θ_run_and (Cert.KernelIdeal.Layer.results m g) (Cert.KernelIdeal.Layer.frame (F := Ideal) m g))
    obtain ⟨a0, a1, a2, a3, a4, a5, a6⟩ := k.1 c
    exact ⟨a0, a1, a2, a3, a4, a5, a6, k.2.1 c⟩
  · refine (θ_run _ _ _).mono (fun r k c => ?_)
      (θ_run_and (Cert.ReferenceIdeal.Layer.results m' g') (Cert.ReferenceIdeal.Gen.unchanged (F := Ideal) m' g'))
    obtain ⟨a0, a1, a2, a3, a4, a5, a6⟩ := k.1 c
    rw [e c] at a0 a1 a2 a3 a4 a5 a6
    exact ⟨a0, a1, a2, a3, a4, a5, a6, k.2 c⟩

end Cert.Layer
-- ==== Proof.lean ====
module

public import proofs.«01_k».proof.Defs
public import proofs.«01_k».proof.Proof.Frames
public import proofs.«01_k».proof.Proof.Kernel.Frames
public import proofs.«01_k».proof.Proof.Value.Algebra
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

/-- Both readings of the kernel and the reference run, leave their arguments as they were and every counter at zero;
    the kernel over the reals and the reference end with the same results. -/
theorem claim : Cert.Claim := ⟨Cert.Kernel.Gen.facts, Cert.KernelIdeal.Gen.facts, Cert.ReferenceIdeal.Gen.facts,
  fun m ρ _ => Cert.Kernel.Layer.frame m ρ, fun m ρ _ => Cert.KernelIdeal.Layer.frame m ρ,
  fun m ρ _ => Cert.ReferenceIdeal.Gen.frame m ρ, trivial, Cert.Layer.algebraic⟩

end Cert.Proof

end
